-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InCall (m : (ℓ : Loc Cert.InCall.nD Cert.InCall.τ Cert.InCall.sig) → Buf (Elt Bits) ℓ) : Prop :=
  True

def Pre_InCallIdeal (m : (ℓ : Loc Cert.InCallIdeal.nD Cert.InCallIdeal.τ Cert.InCallIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_UpCall (m : (ℓ : Loc Cert.UpCall.nD Cert.UpCall.τ Cert.UpCall.sig) → Buf (Elt Bits) ℓ) : Prop :=
  True

def Pre_UpCallIdeal (m : (ℓ : Loc Cert.UpCallIdeal.nD Cert.UpCallIdeal.τ Cert.UpCallIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownCall (m : (ℓ : Loc Cert.DownCall.nD Cert.DownCall.τ Cert.DownCall.sig) → Buf (Elt Bits) ℓ) : Prop :=
  True

def Pre_DownCallIdeal (m : (ℓ : Loc Cert.DownCallIdeal.nD Cert.DownCallIdeal.τ Cert.DownCallIdeal.sig) → Buf (Elt Ideal) ℓ) : Prop :=
  True

def Pre_DownCallIdeal_finite [hPre_finite : Cert.Pre_finite.Facts] (m : (ℓ : Loc Cert.DownCallIdeal.nD Cert.DownCallIdeal.τ Cert.DownCallIdeal.sig) → Buf (Elt Ideal) ℓ) : Prop :=
  ∀ c : Dev Cert.DownCallIdeal.nD,
    (Cert.Pre_finite.fn (F := Ideal) (m ((c.tc : Thread Cert.DownCallIdeal.nD Cert.DownCallIdeal.τ).loc Cert.DownCallIdeal.main_arg0)) (m ((c.tc : Thread Cert.DownCallIdeal.nD Cert.DownCallIdeal.τ).loc Cert.DownCallIdeal.main_arg1)) (m ((c.tc : Thread Cert.DownCallIdeal.nD Cert.DownCallIdeal.τ).loc Cert.DownCallIdeal.main_arg2)) (m ((c.tc : Thread Cert.DownCallIdeal.nD Cert.DownCallIdeal.τ).loc Cert.DownCallIdeal.main_arg3))).1 = (fun _ => 1#1)
    ∧ (Cert.Pre_finite.fn (F := Ideal) (m ((c.tc : Thread Cert.DownCallIdeal.nD Cert.DownCallIdeal.τ).loc Cert.DownCallIdeal.main_arg0)) (m ((c.tc : Thread Cert.DownCallIdeal.nD Cert.DownCallIdeal.τ).loc Cert.DownCallIdeal.main_arg1)) (m ((c.tc : Thread Cert.DownCallIdeal.nD Cert.DownCallIdeal.τ).loc Cert.DownCallIdeal.main_arg2)) (m ((c.tc : Thread Cert.DownCallIdeal.nD Cert.DownCallIdeal.τ).loc Cert.DownCallIdeal.main_arg3))).2.1 = (fun _ => 1#1)
    ∧ (Cert.Pre_finite.fn (F := Ideal) (m ((c.tc : Thread Cert.DownCallIdeal.nD Cert.DownCallIdeal.τ).loc Cert.DownCallIdeal.main_arg0)) (m ((c.tc : Thread Cert.DownCallIdeal.nD Cert.DownCallIdeal.τ).loc Cert.DownCallIdeal.main_arg1)) (m ((c.tc : Thread Cert.DownCallIdeal.nD Cert.DownCallIdeal.τ).loc Cert.DownCallIdeal.main_arg2)) (m ((c.tc : Thread Cert.DownCallIdeal.nD Cert.DownCallIdeal.τ).loc Cert.DownCallIdeal.main_arg3))).2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite [hPre_finite : Cert.Pre_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).1 = (fun _ => 1#1)
    ∧ (Cert.Pre_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.1 = (fun _ => 1#1)
    ∧ (Cert.Pre_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2 = (fun _ => 1#1)

def Pre_GateCall (m : (ℓ : Loc Cert.GateCall.nD Cert.GateCall.τ Cert.GateCall.sig) → Buf (Elt Bits) ℓ) : Prop :=
  True

def Pre_GateCallIdeal (m : (ℓ : Loc Cert.GateCallIdeal.nD Cert.GateCallIdeal.τ Cert.GateCallIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DwDownCall (m : (ℓ : Loc Cert.DwDownCall.nD Cert.DwDownCall.τ Cert.DwDownCall.sig) → Buf (Elt Bits) ℓ) : Prop :=
  True

def Pre_DwDownCallIdeal (m : (ℓ : Loc Cert.DwDownCallIdeal.nD Cert.DwDownCallIdeal.τ Cert.DwDownCallIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGateCall (m : (ℓ : Loc Cert.DwGateCall.nD Cert.DwGateCall.τ Cert.DwGateCall.sig) → Buf (Elt Bits) ℓ) : Prop :=
  True

def Pre_DwGateCallIdeal (m : (ℓ : Loc Cert.DwGateCallIdeal.nD Cert.DwGateCallIdeal.τ Cert.DwGateCallIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_HeadCall (m : (ℓ : Loc Cert.HeadCall.nD Cert.HeadCall.τ Cert.HeadCall.sig) → Buf (Elt Bits) ℓ) : Prop :=
  True

def Pre_HeadCallIdeal (m : (ℓ : Loc Cert.HeadCallIdeal.nD Cert.HeadCallIdeal.τ Cert.HeadCallIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_DwUpCall (m : (ℓ : Loc Cert.DwUpCall.nD Cert.DwUpCall.τ Cert.DwUpCall.sig) → Buf (Elt Bits) ℓ) : Prop :=
  True

def Pre_DwUpCallIdeal (m : (ℓ : Loc Cert.DwUpCallIdeal.nD Cert.DwUpCallIdeal.τ Cert.DwUpCallIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_ZGatesCall (m : (ℓ : Loc Cert.ZGatesCall.nD Cert.ZGatesCall.τ Cert.ZGatesCall.sig) → Buf (Elt Bits) ℓ) : Prop :=
  True

def Pre_ZGatesCallIdeal (m : (ℓ : Loc Cert.ZGatesCallIdeal.nD Cert.ZGatesCallIdeal.τ Cert.ZGatesCallIdeal.sig) → Buf (Elt Ideal) ℓ) : Prop :=
  True

def Pre_ZGatesRefIdeal (m : (ℓ : Loc Cert.ZGatesRefIdeal.nD Cert.ZGatesRefIdeal.τ Cert.ZGatesRefIdeal.sig) → Buf (Elt Ideal) ℓ) : Prop :=
  True

def Pre_DwQkvCall (m : (ℓ : Loc Cert.DwQkvCall.nD Cert.DwQkvCall.τ Cert.DwQkvCall.sig) → Buf (Elt Bits) ℓ) : Prop :=
  True

def Pre_DwQkvCallIdeal (m : (ℓ : Loc Cert.DwQkvCallIdeal.nD Cert.DwQkvCallIdeal.τ Cert.DwQkvCallIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_GluCall (m : (ℓ : Loc Cert.GluCall.nD Cert.GluCall.τ Cert.GluCall.sig) → Buf (Elt Bits) ℓ) : Prop :=
  True

def Pre_GluCallIdeal (m : (ℓ : Loc Cert.GluCallIdeal.nD Cert.GluCallIdeal.τ Cert.GluCallIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_OutProjCall (m : (ℓ : Loc Cert.OutProjCall.nD Cert.OutProjCall.τ Cert.OutProjCall.sig) → Buf (Elt Bits) ℓ) : Prop :=
  True

def Pre_OutProjCallIdeal (m : (ℓ : Loc Cert.OutProjCallIdeal.nD Cert.OutProjCallIdeal.τ Cert.OutProjCallIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DwOutCall (m : (ℓ : Loc Cert.DwOutCall.nD Cert.DwOutCall.τ Cert.DwOutCall.sig) → Buf (Elt Bits) ℓ) : Prop :=
  True

def Pre_DwOutCallIdeal (m : (ℓ : Loc Cert.DwOutCallIdeal.nD Cert.DwOutCallIdeal.τ Cert.DwOutCallIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwPgCall (m : (ℓ : Loc Cert.DwPgCall.nD Cert.DwPgCall.τ Cert.DwPgCall.sig) → Buf (Elt Bits) ℓ) : Prop :=
  True

def Pre_DwPgCallIdeal (m : (ℓ : Loc Cert.DwPgCallIdeal.nD Cert.DwPgCallIdeal.τ Cert.DwPgCallIdeal.sig) → Buf (Elt Ideal) ℓ) : Prop :=
  True

def Pre_DwPgRefIdeal (m : (ℓ : Loc Cert.DwPgRefIdeal.nD Cert.DwPgRefIdeal.τ Cert.DwPgRefIdeal.sig) → Buf (Elt Ideal) ℓ) : Prop :=
  True

def Pre_DwGaCall (m : (ℓ : Loc Cert.DwGaCall.nD Cert.DwGaCall.τ Cert.DwGaCall.sig) → Buf (Elt Bits) ℓ) : Prop :=
  True

def Pre_DwGaCallIdeal (m : (ℓ : Loc Cert.DwGaCallIdeal.nD Cert.DwGaCallIdeal.τ Cert.DwGaCallIdeal.sig) → Buf (Elt Ideal) ℓ) : Prop :=
  True

def Pre_DwGaRefIdeal (m : (ℓ : Loc Cert.DwGaRefIdeal.nD Cert.DwGaRefIdeal.τ Cert.DwGaRefIdeal.sig) → Buf (Elt Ideal) ℓ) : Prop :=
  True

def Pre_DwGbCall (m : (ℓ : Loc Cert.DwGbCall.nD Cert.DwGbCall.τ Cert.DwGbCall.sig) → Buf (Elt Bits) ℓ) : Prop :=
  True

def Pre_DwGbCallIdeal (m : (ℓ : Loc Cert.DwGbCallIdeal.nD Cert.DwGbCallIdeal.τ Cert.DwGbCallIdeal.sig) → Buf (Elt Ideal) ℓ) : Prop :=
  True

def Pre_DwGbRefIdeal (m : (ℓ : Loc Cert.DwGbRefIdeal.nD Cert.DwGbRefIdeal.τ Cert.DwGbRefIdeal.sig) → Buf (Elt Ideal) ℓ) : Prop :=
  True

def Pre_DwApCall (m : (ℓ : Loc Cert.DwApCall.nD Cert.DwApCall.τ Cert.DwApCall.sig) → Buf (Elt Bits) ℓ) : Prop :=
  True

def Pre_DwApCallIdeal (m : (ℓ : Loc Cert.DwApCallIdeal.nD Cert.DwApCallIdeal.τ Cert.DwApCallIdeal.sig) → Buf (Elt Ideal) ℓ) : Prop :=
  True

def Pre_DwApRefIdeal (m : (ℓ : Loc Cert.DwApRefIdeal.nD Cert.DwApRefIdeal.τ Cert.DwApRefIdeal.sig) → Buf (Elt Ideal) ℓ) : Prop :=
  True

def Pre_DwInGCall (m : (ℓ : Loc Cert.DwInGCall.nD Cert.DwInGCall.τ Cert.DwInGCall.sig) → Buf (Elt Bits) ℓ) : Prop :=
  True

def Pre_DwInGCallIdeal (m : (ℓ : Loc Cert.DwInGCallIdeal.nD Cert.DwInGCallIdeal.τ Cert.DwInGCallIdeal.sig) → Buf (Elt Ideal) ℓ) : Prop :=
  True

def Pre_DwInGRefIdeal (m : (ℓ : Loc Cert.DwInGRefIdeal.nD Cert.DwInGRefIdeal.τ Cert.DwInGRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InCall [hInCall : Cert.InCall.Facts] : Prop :=
  ∀ (m : (ℓ : Loc Cert.InCall.nD Cert.InCall.τ Cert.InCall.sig) → Buf (Elt Bits) ℓ) (g : Dev Cert.InCall.nD → PrngReg), Pre_InCall m →
    θ_run (Cert.InCall.defs (F := Bits)) (onTc (τ := Cert.InCall.τ) (Cert.InCall.main (F := Bits))) ⟨m, fun _ => 0, g⟩ (fun r => (∀ c : Dev Cert.InCall.nD,
      r.2.mem ((c.tc : Thread Cert.InCall.nD Cert.InCall.τ).loc Cert.InCall.main_arg0) = m ((c.tc : Thread Cert.InCall.nD Cert.InCall.τ).loc Cert.InCall.main_arg0)
      ∧ r.2.mem ((c.tc : Thread Cert.InCall.nD Cert.InCall.τ).loc Cert.InCall.main_arg1) = m ((c.tc : Thread Cert.InCall.nD Cert.InCall.τ).loc Cert.InCall.main_arg1)
      ∧ r.2.mem ((c.tc : Thread Cert.InCall.nD Cert.InCall.τ).loc Cert.InCall.main_arg2) = m ((c.tc : Thread Cert.InCall.nD Cert.InCall.τ).loc Cert.InCall.main_arg2)
      ∧ r.2.mem ((c.tc : Thread Cert.InCall.nD Cert.InCall.τ).loc Cert.InCall.main_arg3) = m ((c.tc : Thread Cert.InCall.nD Cert.InCall.τ).loc Cert.InCall.main_arg3)
      ∧ r.2.mem ((c.tc : Thread Cert.InCall.nD Cert.InCall.τ).loc Cert.InCall.main_arg4) = m ((c.tc : Thread Cert.InCall.nD Cert.InCall.τ).loc Cert.InCall.main_arg4))
      ∧ r.2.sem = fun _ => 0)

def quiescent_InCallIdeal [hInCallIdeal : Cert.InCallIdeal.Facts] : Prop :=
  ∀ (m : (ℓ : Loc Cert.InCallIdeal.nD Cert.InCallIdeal.τ Cert.InCallIdeal.sig) → Buf (Elt Ideal) ℓ) (g : Dev Cert.InCallIdeal.nD → PrngReg), Pre_InCallIdeal m →
    θ_run (Cert.InCallIdeal.defs (F := Ideal)) (onTc (τ := Cert.InCallIdeal.τ) (Cert.InCallIdeal.main (F := Ideal))) ⟨m, fun _ => 0, g⟩ (fun r => (∀ c : Dev Cert.InCallIdeal.nD,
      r.2.mem ((c.tc : Thread Cert.InCallIdeal.nD Cert.InCallIdeal.τ).loc Cert.InCallIdeal.main_arg0) = m ((c.tc : Thread Cert.InCallIdeal.nD Cert.InCallIdeal.τ).loc Cert.InCallIdeal.main_arg0)
      ∧ r.2.mem ((c.tc : Thread Cert.InCallIdeal.nD Cert.InCallIdeal.τ).loc Cert.InCallIdeal.main_arg1) = m ((c.tc : Thread Cert.InCallIdeal.nD Cert.InCallIdeal.τ).loc Cert.InCallIdeal.main_arg1)
      ∧ r.2.mem ((c.tc : Thread Cert.InCallIdeal.nD Cert.InCallIdeal.τ).loc Cert.InCallIdeal.main_arg2) = m ((c.tc : Thread Cert.InCallIdeal.nD Cert.InCallIdeal.τ).loc Cert.InCallIdeal.main_arg2)
      ∧ r.2.mem ((c.tc : Thread Cert.InCallIdeal.nD Cert.InCallIdeal.τ).loc Cert.InCallIdeal.main_arg3) = m ((c.tc : Thread Cert.InCallIdeal.nD Cert.InCallIdeal.τ).loc Cert.InCallIdeal.main_arg3)
      ∧ r.2.mem ((c.tc : Thread Cert.InCallIdeal.nD Cert.InCallIdeal.τ).loc Cert.InCallIdeal.main_arg4) = m ((c.tc : Thread Cert.InCallIdeal.nD Cert.InCallIdeal.τ).loc Cert.InCallIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_UpCall [hUpCall : Cert.UpCall.Facts] : Prop :=
  ∀ (m : (ℓ : Loc Cert.UpCall.nD Cert.UpCall.τ Cert.UpCall.sig) → Buf (Elt Bits) ℓ) (g : Dev Cert.UpCall.nD → PrngReg), Pre_UpCall m →
    θ_run (Cert.UpCall.defs (F := Bits)) (onTc (τ := Cert.UpCall.τ) (Cert.UpCall.main (F := Bits))) ⟨m, fun _ => 0, g⟩ (fun r => (∀ c : Dev Cert.UpCall.nD,
      r.2.mem ((c.tc : Thread Cert.UpCall.nD Cert.UpCall.τ).loc Cert.UpCall.main_arg0) = m ((c.tc : Thread Cert.UpCall.nD Cert.UpCall.τ).loc Cert.UpCall.main_arg0)
      ∧ r.2.mem ((c.tc : Thread Cert.UpCall.nD Cert.UpCall.τ).loc Cert.UpCall.main_arg1) = m ((c.tc : Thread Cert.UpCall.nD Cert.UpCall.τ).loc Cert.UpCall.main_arg1)
      ∧ r.2.mem ((c.tc : Thread Cert.UpCall.nD Cert.UpCall.τ).loc Cert.UpCall.main_arg2) = m ((c.tc : Thread Cert.UpCall.nD Cert.UpCall.τ).loc Cert.UpCall.main_arg2)
      ∧ r.2.mem ((c.tc : Thread Cert.UpCall.nD Cert.UpCall.τ).loc Cert.UpCall.main_arg3) = m ((c.tc : Thread Cert.UpCall.nD Cert.UpCall.τ).loc Cert.UpCall.main_arg3)
      ∧ r.2.mem ((c.tc : Thread Cert.UpCall.nD Cert.UpCall.τ).loc Cert.UpCall.main_arg4) = m ((c.tc : Thread Cert.UpCall.nD Cert.UpCall.τ).loc Cert.UpCall.main_arg4)
      ∧ r.2.mem ((c.tc : Thread Cert.UpCall.nD Cert.UpCall.τ).loc Cert.UpCall.main_arg5) = m ((c.tc : Thread Cert.UpCall.nD Cert.UpCall.τ).loc Cert.UpCall.main_arg5)
      ∧ r.2.mem ((c.tc : Thread Cert.UpCall.nD Cert.UpCall.τ).loc Cert.UpCall.main_arg6) = m ((c.tc : Thread Cert.UpCall.nD Cert.UpCall.τ).loc Cert.UpCall.main_arg6))
      ∧ r.2.sem = fun _ => 0)

def quiescent_UpCallIdeal [hUpCallIdeal : Cert.UpCallIdeal.Facts] : Prop :=
  ∀ (m : (ℓ : Loc Cert.UpCallIdeal.nD Cert.UpCallIdeal.τ Cert.UpCallIdeal.sig) → Buf (Elt Ideal) ℓ) (g : Dev Cert.UpCallIdeal.nD → PrngReg), Pre_UpCallIdeal m →
    θ_run (Cert.UpCallIdeal.defs (F := Ideal)) (onTc (τ := Cert.UpCallIdeal.τ) (Cert.UpCallIdeal.main (F := Ideal))) ⟨m, fun _ => 0, g⟩ (fun r => (∀ c : Dev Cert.UpCallIdeal.nD,
      r.2.mem ((c.tc : Thread Cert.UpCallIdeal.nD Cert.UpCallIdeal.τ).loc Cert.UpCallIdeal.main_arg0) = m ((c.tc : Thread Cert.UpCallIdeal.nD Cert.UpCallIdeal.τ).loc Cert.UpCallIdeal.main_arg0)
      ∧ r.2.mem ((c.tc : Thread Cert.UpCallIdeal.nD Cert.UpCallIdeal.τ).loc Cert.UpCallIdeal.main_arg1) = m ((c.tc : Thread Cert.UpCallIdeal.nD Cert.UpCallIdeal.τ).loc Cert.UpCallIdeal.main_arg1)
      ∧ r.2.mem ((c.tc : Thread Cert.UpCallIdeal.nD Cert.UpCallIdeal.τ).loc Cert.UpCallIdeal.main_arg2) = m ((c.tc : Thread Cert.UpCallIdeal.nD Cert.UpCallIdeal.τ).loc Cert.UpCallIdeal.main_arg2)
      ∧ r.2.mem ((c.tc : Thread Cert.UpCallIdeal.nD Cert.UpCallIdeal.τ).loc Cert.UpCallIdeal.main_arg3) = m ((c.tc : Thread Cert.UpCallIdeal.nD Cert.UpCallIdeal.τ).loc Cert.UpCallIdeal.main_arg3)
      ∧ r.2.mem ((c.tc : Thread Cert.UpCallIdeal.nD Cert.UpCallIdeal.τ).loc Cert.UpCallIdeal.main_arg4) = m ((c.tc : Thread Cert.UpCallIdeal.nD Cert.UpCallIdeal.τ).loc Cert.UpCallIdeal.main_arg4)
      ∧ r.2.mem ((c.tc : Thread Cert.UpCallIdeal.nD Cert.UpCallIdeal.τ).loc Cert.UpCallIdeal.main_arg5) = m ((c.tc : Thread Cert.UpCallIdeal.nD Cert.UpCallIdeal.τ).loc Cert.UpCallIdeal.main_arg5)
      ∧ r.2.mem ((c.tc : Thread Cert.UpCallIdeal.nD Cert.UpCallIdeal.τ).loc Cert.UpCallIdeal.main_arg6) = m ((c.tc : Thread Cert.UpCallIdeal.nD Cert.UpCallIdeal.τ).loc Cert.UpCallIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_DownCall [hDownCall : Cert.DownCall.Facts] : Prop :=
  ∀ (m : (ℓ : Loc Cert.DownCall.nD Cert.DownCall.τ Cert.DownCall.sig) → Buf (Elt Bits) ℓ) (g : Dev Cert.DownCall.nD → PrngReg), Pre_DownCall m →
    θ_run (Cert.DownCall.defs (F := Bits)) (onTc (τ := Cert.DownCall.τ) (Cert.DownCall.main (F := Bits))) ⟨m, fun _ => 0, g⟩ (fun r => (∀ c : Dev Cert.DownCall.nD,
      r.2.mem ((c.tc : Thread Cert.DownCall.nD Cert.DownCall.τ).loc Cert.DownCall.main_arg0) = m ((c.tc : Thread Cert.DownCall.nD Cert.DownCall.τ).loc Cert.DownCall.main_arg0)
      ∧ r.2.mem ((c.tc : Thread Cert.DownCall.nD Cert.DownCall.τ).loc Cert.DownCall.main_arg1) = m ((c.tc : Thread Cert.DownCall.nD Cert.DownCall.τ).loc Cert.DownCall.main_arg1)
      ∧ r.2.mem ((c.tc : Thread Cert.DownCall.nD Cert.DownCall.τ).loc Cert.DownCall.main_arg2) = m ((c.tc : Thread Cert.DownCall.nD Cert.DownCall.τ).loc Cert.DownCall.main_arg2)
      ∧ r.2.mem ((c.tc : Thread Cert.DownCall.nD Cert.DownCall.τ).loc Cert.DownCall.main_arg3) = m ((c.tc : Thread Cert.DownCall.nD Cert.DownCall.τ).loc Cert.DownCall.main_arg3))
      ∧ r.2.sem = fun _ => 0)

def quiescent_DownCallIdeal [hDownCallIdeal : Cert.DownCallIdeal.Facts] : Prop :=
  ∀ (m : (ℓ : Loc Cert.DownCallIdeal.nD Cert.DownCallIdeal.τ Cert.DownCallIdeal.sig) → Buf (Elt Ideal) ℓ) (g : Dev Cert.DownCallIdeal.nD → PrngReg), Pre_DownCallIdeal m →
    θ_run (Cert.DownCallIdeal.defs (F := Ideal)) (onTc (τ := Cert.DownCallIdeal.τ) (Cert.DownCallIdeal.main (F := Ideal))) ⟨m, fun _ => 0, g⟩ (fun r => (∀ c : Dev Cert.DownCallIdeal.nD,
      r.2.mem ((c.tc : Thread Cert.DownCallIdeal.nD Cert.DownCallIdeal.τ).loc Cert.DownCallIdeal.main_arg0) = m ((c.tc : Thread Cert.DownCallIdeal.nD Cert.DownCallIdeal.τ).loc Cert.DownCallIdeal.main_arg0)
      ∧ r.2.mem ((c.tc : Thread Cert.DownCallIdeal.nD Cert.DownCallIdeal.τ).loc Cert.DownCallIdeal.main_arg1) = m ((c.tc : Thread Cert.DownCallIdeal.nD Cert.DownCallIdeal.τ).loc Cert.DownCallIdeal.main_arg1)
      ∧ r.2.mem ((c.tc : Thread Cert.DownCallIdeal.nD Cert.DownCallIdeal.τ).loc Cert.DownCallIdeal.main_arg2) = m ((c.tc : Thread Cert.DownCallIdeal.nD Cert.DownCallIdeal.τ).loc Cert.DownCallIdeal.main_arg2)
      ∧ r.2.mem ((c.tc : Thread Cert.DownCallIdeal.nD Cert.DownCallIdeal.τ).loc Cert.DownCallIdeal.main_arg3) = m ((c.tc : Thread Cert.DownCallIdeal.nD Cert.DownCallIdeal.τ).loc Cert.DownCallIdeal.main_arg3))
      ∧ r.2.sem = fun _ => 0)

def quiescent_DownCallIdeal_pre_finite [hDownCallIdeal : Cert.DownCallIdeal.Facts] [hPre_finite : Cert.Pre_finite.Facts] : Prop :=
  ∀ (m : (ℓ : Loc Cert.DownCallIdeal.nD Cert.DownCallIdeal.τ Cert.DownCallIdeal.sig) → Buf (Elt Ideal) ℓ) (g : Dev Cert.DownCallIdeal.nD → PrngReg), Pre_DownCallIdeal_finite m →
    θ_run (Cert.DownCallIdeal.defs (F := Ideal)) (onTc (τ := Cert.DownCallIdeal.τ) (Cert.DownCallIdeal.main (F := Ideal))) ⟨m, fun _ => 0, g⟩ (fun r => (∀ c : Dev Cert.DownCallIdeal.nD,
      r.2.mem ((c.tc : Thread Cert.DownCallIdeal.nD Cert.DownCallIdeal.τ).loc Cert.DownCallIdeal.main_arg0) = m ((c.tc : Thread Cert.DownCallIdeal.nD Cert.DownCallIdeal.τ).loc Cert.DownCallIdeal.main_arg0)
      ∧ r.2.mem ((c.tc : Thread Cert.DownCallIdeal.nD Cert.DownCallIdeal.τ).loc Cert.DownCallIdeal.main_arg1) = m ((c.tc : Thread Cert.DownCallIdeal.nD Cert.DownCallIdeal.τ).loc Cert.DownCallIdeal.main_arg1)
      ∧ r.2.mem ((c.tc : Thread Cert.DownCallIdeal.nD Cert.DownCallIdeal.τ).loc Cert.DownCallIdeal.main_arg2) = m ((c.tc : Thread Cert.DownCallIdeal.nD Cert.DownCallIdeal.τ).loc Cert.DownCallIdeal.main_arg2)
      ∧ r.2.mem ((c.tc : Thread Cert.DownCallIdeal.nD Cert.DownCallIdeal.τ).loc Cert.DownCallIdeal.main_arg3) = m ((c.tc : Thread Cert.DownCallIdeal.nD Cert.DownCallIdeal.τ).loc Cert.DownCallIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_finite [hDownRefIdeal : Cert.DownRefIdeal.Facts] [hPre_finite : Cert.Pre_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_GateCall [hGateCall : Cert.GateCall.Facts] : Prop :=
  ∀ (m : (ℓ : Loc Cert.GateCall.nD Cert.GateCall.τ Cert.GateCall.sig) → Buf (Elt Bits) ℓ) (g : Dev Cert.GateCall.nD → PrngReg), Pre_GateCall m →
    θ_run (Cert.GateCall.defs (F := Bits)) (onTc (τ := Cert.GateCall.τ) (Cert.GateCall.main (F := Bits))) ⟨m, fun _ => 0, g⟩ (fun r => (∀ c : Dev Cert.GateCall.nD,
      r.2.mem ((c.tc : Thread Cert.GateCall.nD Cert.GateCall.τ).loc Cert.GateCall.main_arg0) = m ((c.tc : Thread Cert.GateCall.nD Cert.GateCall.τ).loc Cert.GateCall.main_arg0)
      ∧ r.2.mem ((c.tc : Thread Cert.GateCall.nD Cert.GateCall.τ).loc Cert.GateCall.main_arg1) = m ((c.tc : Thread Cert.GateCall.nD Cert.GateCall.τ).loc Cert.GateCall.main_arg1)
      ∧ r.2.mem ((c.tc : Thread Cert.GateCall.nD Cert.GateCall.τ).loc Cert.GateCall.main_arg2) = m ((c.tc : Thread Cert.GateCall.nD Cert.GateCall.τ).loc Cert.GateCall.main_arg2)
      ∧ r.2.mem ((c.tc : Thread Cert.GateCall.nD Cert.GateCall.τ).loc Cert.GateCall.main_arg3) = m ((c.tc : Thread Cert.GateCall.nD Cert.GateCall.τ).loc Cert.GateCall.main_arg3))
      ∧ r.2.sem = fun _ => 0)

def quiescent_GateCallIdeal [hGateCallIdeal : Cert.GateCallIdeal.Facts] : Prop :=
  ∀ (m : (ℓ : Loc Cert.GateCallIdeal.nD Cert.GateCallIdeal.τ Cert.GateCallIdeal.sig) → Buf (Elt Ideal) ℓ) (g : Dev Cert.GateCallIdeal.nD → PrngReg), Pre_GateCallIdeal m →
    θ_run (Cert.GateCallIdeal.defs (F := Ideal)) (onTc (τ := Cert.GateCallIdeal.τ) (Cert.GateCallIdeal.main (F := Ideal))) ⟨m, fun _ => 0, g⟩ (fun r => (∀ c : Dev Cert.GateCallIdeal.nD,
      r.2.mem ((c.tc : Thread Cert.GateCallIdeal.nD Cert.GateCallIdeal.τ).loc Cert.GateCallIdeal.main_arg0) = m ((c.tc : Thread Cert.GateCallIdeal.nD Cert.GateCallIdeal.τ).loc Cert.GateCallIdeal.main_arg0)
      ∧ r.2.mem ((c.tc : Thread Cert.GateCallIdeal.nD Cert.GateCallIdeal.τ).loc Cert.GateCallIdeal.main_arg1) = m ((c.tc : Thread Cert.GateCallIdeal.nD Cert.GateCallIdeal.τ).loc Cert.GateCallIdeal.main_arg1)
      ∧ r.2.mem ((c.tc : Thread Cert.GateCallIdeal.nD Cert.GateCallIdeal.τ).loc Cert.GateCallIdeal.main_arg2) = m ((c.tc : Thread Cert.GateCallIdeal.nD Cert.GateCallIdeal.τ).loc Cert.GateCallIdeal.main_arg2)
      ∧ r.2.mem ((c.tc : Thread Cert.GateCallIdeal.nD Cert.GateCallIdeal.τ).loc Cert.GateCallIdeal.main_arg3) = m ((c.tc : Thread Cert.GateCallIdeal.nD Cert.GateCallIdeal.τ).loc Cert.GateCallIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_DwDownCall [hDwDownCall : Cert.DwDownCall.Facts] : Prop :=
  ∀ (m : (ℓ : Loc Cert.DwDownCall.nD Cert.DwDownCall.τ Cert.DwDownCall.sig) → Buf (Elt Bits) ℓ) (g : Dev Cert.DwDownCall.nD → PrngReg), Pre_DwDownCall m →
    θ_run (Cert.DwDownCall.defs (F := Bits)) (onTc (τ := Cert.DwDownCall.τ) (Cert.DwDownCall.main (F := Bits))) ⟨m, fun _ => 0, g⟩ (fun r => (∀ c : Dev Cert.DwDownCall.nD,
      r.2.mem ((c.tc : Thread Cert.DwDownCall.nD Cert.DwDownCall.τ).loc Cert.DwDownCall.main_arg0) = m ((c.tc : Thread Cert.DwDownCall.nD Cert.DwDownCall.τ).loc Cert.DwDownCall.main_arg0)
      ∧ r.2.mem ((c.tc : Thread Cert.DwDownCall.nD Cert.DwDownCall.τ).loc Cert.DwDownCall.main_arg1) = m ((c.tc : Thread Cert.DwDownCall.nD Cert.DwDownCall.τ).loc Cert.DwDownCall.main_arg1)
      ∧ r.2.mem ((c.tc : Thread Cert.DwDownCall.nD Cert.DwDownCall.τ).loc Cert.DwDownCall.main_arg2) = m ((c.tc : Thread Cert.DwDownCall.nD Cert.DwDownCall.τ).loc Cert.DwDownCall.main_arg2))
      ∧ r.2.sem = fun _ => 0)

def quiescent_DwDownCallIdeal [hDwDownCallIdeal : Cert.DwDownCallIdeal.Facts] : Prop :=
  ∀ (m : (ℓ : Loc Cert.DwDownCallIdeal.nD Cert.DwDownCallIdeal.τ Cert.DwDownCallIdeal.sig) → Buf (Elt Ideal) ℓ) (g : Dev Cert.DwDownCallIdeal.nD → PrngReg), Pre_DwDownCallIdeal m →
    θ_run (Cert.DwDownCallIdeal.defs (F := Ideal)) (onTc (τ := Cert.DwDownCallIdeal.τ) (Cert.DwDownCallIdeal.main (F := Ideal))) ⟨m, fun _ => 0, g⟩ (fun r => (∀ c : Dev Cert.DwDownCallIdeal.nD,
      r.2.mem ((c.tc : Thread Cert.DwDownCallIdeal.nD Cert.DwDownCallIdeal.τ).loc Cert.DwDownCallIdeal.main_arg0) = m ((c.tc : Thread Cert.DwDownCallIdeal.nD Cert.DwDownCallIdeal.τ).loc Cert.DwDownCallIdeal.main_arg0)
      ∧ r.2.mem ((c.tc : Thread Cert.DwDownCallIdeal.nD Cert.DwDownCallIdeal.τ).loc Cert.DwDownCallIdeal.main_arg1) = m ((c.tc : Thread Cert.DwDownCallIdeal.nD Cert.DwDownCallIdeal.τ).loc Cert.DwDownCallIdeal.main_arg1)
      ∧ r.2.mem ((c.tc : Thread Cert.DwDownCallIdeal.nD Cert.DwDownCallIdeal.τ).loc Cert.DwDownCallIdeal.main_arg2) = m ((c.tc : Thread Cert.DwDownCallIdeal.nD Cert.DwDownCallIdeal.τ).loc Cert.DwDownCallIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_DwGateCall [hDwGateCall : Cert.DwGateCall.Facts] : Prop :=
  ∀ (m : (ℓ : Loc Cert.DwGateCall.nD Cert.DwGateCall.τ Cert.DwGateCall.sig) → Buf (Elt Bits) ℓ) (g : Dev Cert.DwGateCall.nD → PrngReg), Pre_DwGateCall m →
    θ_run (Cert.DwGateCall.defs (F := Bits)) (onTc (τ := Cert.DwGateCall.τ) (Cert.DwGateCall.main (F := Bits))) ⟨m, fun _ => 0, g⟩ (fun r => (∀ c : Dev Cert.DwGateCall.nD,
      r.2.mem ((c.tc : Thread Cert.DwGateCall.nD Cert.DwGateCall.τ).loc Cert.DwGateCall.main_arg0) = m ((c.tc : Thread Cert.DwGateCall.nD Cert.DwGateCall.τ).loc Cert.DwGateCall.main_arg0)
      ∧ r.2.mem ((c.tc : Thread Cert.DwGateCall.nD Cert.DwGateCall.τ).loc Cert.DwGateCall.main_arg1) = m ((c.tc : Thread Cert.DwGateCall.nD Cert.DwGateCall.τ).loc Cert.DwGateCall.main_arg1)
      ∧ r.2.mem ((c.tc : Thread Cert.DwGateCall.nD Cert.DwGateCall.τ).loc Cert.DwGateCall.main_arg2) = m ((c.tc : Thread Cert.DwGateCall.nD Cert.DwGateCall.τ).loc Cert.DwGateCall.main_arg2))
      ∧ r.2.sem = fun _ => 0)

def quiescent_DwGateCallIdeal [hDwGateCallIdeal : Cert.DwGateCallIdeal.Facts] : Prop :=
  ∀ (m : (ℓ : Loc Cert.DwGateCallIdeal.nD Cert.DwGateCallIdeal.τ Cert.DwGateCallIdeal.sig) → Buf (Elt Ideal) ℓ) (g : Dev Cert.DwGateCallIdeal.nD → PrngReg), Pre_DwGateCallIdeal m →
    θ_run (Cert.DwGateCallIdeal.defs (F := Ideal)) (onTc (τ := Cert.DwGateCallIdeal.τ) (Cert.DwGateCallIdeal.main (F := Ideal))) ⟨m, fun _ => 0, g⟩ (fun r => (∀ c : Dev Cert.DwGateCallIdeal.nD,
      r.2.mem ((c.tc : Thread Cert.DwGateCallIdeal.nD Cert.DwGateCallIdeal.τ).loc Cert.DwGateCallIdeal.main_arg0) = m ((c.tc : Thread Cert.DwGateCallIdeal.nD Cert.DwGateCallIdeal.τ).loc Cert.DwGateCallIdeal.main_arg0)
      ∧ r.2.mem ((c.tc : Thread Cert.DwGateCallIdeal.nD Cert.DwGateCallIdeal.τ).loc Cert.DwGateCallIdeal.main_arg1) = m ((c.tc : Thread Cert.DwGateCallIdeal.nD Cert.DwGateCallIdeal.τ).loc Cert.DwGateCallIdeal.main_arg1)
      ∧ r.2.mem ((c.tc : Thread Cert.DwGateCallIdeal.nD Cert.DwGateCallIdeal.τ).loc Cert.DwGateCallIdeal.main_arg2) = m ((c.tc : Thread Cert.DwGateCallIdeal.nD Cert.DwGateCallIdeal.τ).loc Cert.DwGateCallIdeal.main_arg2))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2))
      ∧ r.2.sem = fun _ => 0)

def quiescent_HeadCall [hHeadCall : Cert.HeadCall.Facts] : Prop :=
  ∀ (m : (ℓ : Loc Cert.HeadCall.nD Cert.HeadCall.τ Cert.HeadCall.sig) → Buf (Elt Bits) ℓ) (g : Dev Cert.HeadCall.nD → PrngReg), Pre_HeadCall m →
    θ_run (Cert.HeadCall.defs (F := Bits)) (onTc (τ := Cert.HeadCall.τ) (Cert.HeadCall.main (F := Bits))) ⟨m, fun _ => 0, g⟩ (fun r => (∀ c : Dev Cert.HeadCall.nD,
      r.2.mem ((c.tc : Thread Cert.HeadCall.nD Cert.HeadCall.τ).loc Cert.HeadCall.main_arg0) = m ((c.tc : Thread Cert.HeadCall.nD Cert.HeadCall.τ).loc Cert.HeadCall.main_arg0)
      ∧ r.2.mem ((c.tc : Thread Cert.HeadCall.nD Cert.HeadCall.τ).loc Cert.HeadCall.main_arg1) = m ((c.tc : Thread Cert.HeadCall.nD Cert.HeadCall.τ).loc Cert.HeadCall.main_arg1)
      ∧ r.2.mem ((c.tc : Thread Cert.HeadCall.nD Cert.HeadCall.τ).loc Cert.HeadCall.main_arg2) = m ((c.tc : Thread Cert.HeadCall.nD Cert.HeadCall.τ).loc Cert.HeadCall.main_arg2)
      ∧ r.2.mem ((c.tc : Thread Cert.HeadCall.nD Cert.HeadCall.τ).loc Cert.HeadCall.main_arg3) = m ((c.tc : Thread Cert.HeadCall.nD Cert.HeadCall.τ).loc Cert.HeadCall.main_arg3)
      ∧ r.2.mem ((c.tc : Thread Cert.HeadCall.nD Cert.HeadCall.τ).loc Cert.HeadCall.main_arg4) = m ((c.tc : Thread Cert.HeadCall.nD Cert.HeadCall.τ).loc Cert.HeadCall.main_arg4)
      ∧ r.2.mem ((c.tc : Thread Cert.HeadCall.nD Cert.HeadCall.τ).loc Cert.HeadCall.main_arg5) = m ((c.tc : Thread Cert.HeadCall.nD Cert.HeadCall.τ).loc Cert.HeadCall.main_arg5)
      ∧ r.2.mem ((c.tc : Thread Cert.HeadCall.nD Cert.HeadCall.τ).loc Cert.HeadCall.main_arg6) = m ((c.tc : Thread Cert.HeadCall.nD Cert.HeadCall.τ).loc Cert.HeadCall.main_arg6)
      ∧ r.2.mem ((c.tc : Thread Cert.HeadCall.nD Cert.HeadCall.τ).loc Cert.HeadCall.main_arg7) = m ((c.tc : Thread Cert.HeadCall.nD Cert.HeadCall.τ).loc Cert.HeadCall.main_arg7))
      ∧ r.2.sem = fun _ => 0)

def quiescent_HeadCallIdeal [hHeadCallIdeal : Cert.HeadCallIdeal.Facts] : Prop :=
  ∀ (m : (ℓ : Loc Cert.HeadCallIdeal.nD Cert.HeadCallIdeal.τ Cert.HeadCallIdeal.sig) → Buf (Elt Ideal) ℓ) (g : Dev Cert.HeadCallIdeal.nD → PrngReg), Pre_HeadCallIdeal m →
    θ_run (Cert.HeadCallIdeal.defs (F := Ideal)) (onTc (τ := Cert.HeadCallIdeal.τ) (Cert.HeadCallIdeal.main (F := Ideal))) ⟨m, fun _ => 0, g⟩ (fun r => (∀ c : Dev Cert.HeadCallIdeal.nD,
      r.2.mem ((c.tc : Thread Cert.HeadCallIdeal.nD Cert.HeadCallIdeal.τ).loc Cert.HeadCallIdeal.main_arg0) = m ((c.tc : Thread Cert.HeadCallIdeal.nD Cert.HeadCallIdeal.τ).loc Cert.HeadCallIdeal.main_arg0)
      ∧ r.2.mem ((c.tc : Thread Cert.HeadCallIdeal.nD Cert.HeadCallIdeal.τ).loc Cert.HeadCallIdeal.main_arg1) = m ((c.tc : Thread Cert.HeadCallIdeal.nD Cert.HeadCallIdeal.τ).loc Cert.HeadCallIdeal.main_arg1)
      ∧ r.2.mem ((c.tc : Thread Cert.HeadCallIdeal.nD Cert.HeadCallIdeal.τ).loc Cert.HeadCallIdeal.main_arg2) = m ((c.tc : Thread Cert.HeadCallIdeal.nD Cert.HeadCallIdeal.τ).loc Cert.HeadCallIdeal.main_arg2)
      ∧ r.2.mem ((c.tc : Thread Cert.HeadCallIdeal.nD Cert.HeadCallIdeal.τ).loc Cert.HeadCallIdeal.main_arg3) = m ((c.tc : Thread Cert.HeadCallIdeal.nD Cert.HeadCallIdeal.τ).loc Cert.HeadCallIdeal.main_arg3)
      ∧ r.2.mem ((c.tc : Thread Cert.HeadCallIdeal.nD Cert.HeadCallIdeal.τ).loc Cert.HeadCallIdeal.main_arg4) = m ((c.tc : Thread Cert.HeadCallIdeal.nD Cert.HeadCallIdeal.τ).loc Cert.HeadCallIdeal.main_arg4)
      ∧ r.2.mem ((c.tc : Thread Cert.HeadCallIdeal.nD Cert.HeadCallIdeal.τ).loc Cert.HeadCallIdeal.main_arg5) = m ((c.tc : Thread Cert.HeadCallIdeal.nD Cert.HeadCallIdeal.τ).loc Cert.HeadCallIdeal.main_arg5)
      ∧ r.2.mem ((c.tc : Thread Cert.HeadCallIdeal.nD Cert.HeadCallIdeal.τ).loc Cert.HeadCallIdeal.main_arg6) = m ((c.tc : Thread Cert.HeadCallIdeal.nD Cert.HeadCallIdeal.τ).loc Cert.HeadCallIdeal.main_arg6)
      ∧ r.2.mem ((c.tc : Thread Cert.HeadCallIdeal.nD Cert.HeadCallIdeal.τ).loc Cert.HeadCallIdeal.main_arg7) = m ((c.tc : Thread Cert.HeadCallIdeal.nD Cert.HeadCallIdeal.τ).loc Cert.HeadCallIdeal.main_arg7))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7))
      ∧ r.2.sem = fun _ => 0)

def quiescent_DwUpCall [hDwUpCall : Cert.DwUpCall.Facts] : Prop :=
  ∀ (m : (ℓ : Loc Cert.DwUpCall.nD Cert.DwUpCall.τ Cert.DwUpCall.sig) → Buf (Elt Bits) ℓ) (g : Dev Cert.DwUpCall.nD → PrngReg), Pre_DwUpCall m →
    θ_run (Cert.DwUpCall.defs (F := Bits)) (onTc (τ := Cert.DwUpCall.τ) (Cert.DwUpCall.main (F := Bits))) ⟨m, fun _ => 0, g⟩ (fun r => (∀ c : Dev Cert.DwUpCall.nD,
      r.2.mem ((c.tc : Thread Cert.DwUpCall.nD Cert.DwUpCall.τ).loc Cert.DwUpCall.main_arg0) = m ((c.tc : Thread Cert.DwUpCall.nD Cert.DwUpCall.τ).loc Cert.DwUpCall.main_arg0)
      ∧ r.2.mem ((c.tc : Thread Cert.DwUpCall.nD Cert.DwUpCall.τ).loc Cert.DwUpCall.main_arg1) = m ((c.tc : Thread Cert.DwUpCall.nD Cert.DwUpCall.τ).loc Cert.DwUpCall.main_arg1)
      ∧ r.2.mem ((c.tc : Thread Cert.DwUpCall.nD Cert.DwUpCall.τ).loc Cert.DwUpCall.main_arg2) = m ((c.tc : Thread Cert.DwUpCall.nD Cert.DwUpCall.τ).loc Cert.DwUpCall.main_arg2))
      ∧ r.2.sem = fun _ => 0)

def quiescent_DwUpCallIdeal [hDwUpCallIdeal : Cert.DwUpCallIdeal.Facts] : Prop :=
  ∀ (m : (ℓ : Loc Cert.DwUpCallIdeal.nD Cert.DwUpCallIdeal.τ Cert.DwUpCallIdeal.sig) → Buf (Elt Ideal) ℓ) (g : Dev Cert.DwUpCallIdeal.nD → PrngReg), Pre_DwUpCallIdeal m →
    θ_run (Cert.DwUpCallIdeal.defs (F := Ideal)) (onTc (τ := Cert.DwUpCallIdeal.τ) (Cert.DwUpCallIdeal.main (F := Ideal))) ⟨m, fun _ => 0, g⟩ (fun r => (∀ c : Dev Cert.DwUpCallIdeal.nD,
      r.2.mem ((c.tc : Thread Cert.DwUpCallIdeal.nD Cert.DwUpCallIdeal.τ).loc Cert.DwUpCallIdeal.main_arg0) = m ((c.tc : Thread Cert.DwUpCallIdeal.nD Cert.DwUpCallIdeal.τ).loc Cert.DwUpCallIdeal.main_arg0)
      ∧ r.2.mem ((c.tc : Thread Cert.DwUpCallIdeal.nD Cert.DwUpCallIdeal.τ).loc Cert.DwUpCallIdeal.main_arg1) = m ((c.tc : Thread Cert.DwUpCallIdeal.nD Cert.DwUpCallIdeal.τ).loc Cert.DwUpCallIdeal.main_arg1)
      ∧ r.2.mem ((c.tc : Thread Cert.DwUpCallIdeal.nD Cert.DwUpCallIdeal.τ).loc Cert.DwUpCallIdeal.main_arg2) = m ((c.tc : Thread Cert.DwUpCallIdeal.nD Cert.DwUpCallIdeal.τ).loc Cert.DwUpCallIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_ZGatesCall [hZGatesCall : Cert.ZGatesCall.Facts] : Prop :=
  ∀ (m : (ℓ : Loc Cert.ZGatesCall.nD Cert.ZGatesCall.τ Cert.ZGatesCall.sig) → Buf (Elt Bits) ℓ) (g : Dev Cert.ZGatesCall.nD → PrngReg), Pre_ZGatesCall m →
    θ_run (Cert.ZGatesCall.defs (F := Bits)) (onTc (τ := Cert.ZGatesCall.τ) (Cert.ZGatesCall.main (F := Bits))) ⟨m, fun _ => 0, g⟩ (fun r => (∀ c : Dev Cert.ZGatesCall.nD,
      r.2.mem ((c.tc : Thread Cert.ZGatesCall.nD Cert.ZGatesCall.τ).loc Cert.ZGatesCall.main_arg0) = m ((c.tc : Thread Cert.ZGatesCall.nD Cert.ZGatesCall.τ).loc Cert.ZGatesCall.main_arg0)
      ∧ r.2.mem ((c.tc : Thread Cert.ZGatesCall.nD Cert.ZGatesCall.τ).loc Cert.ZGatesCall.main_arg1) = m ((c.tc : Thread Cert.ZGatesCall.nD Cert.ZGatesCall.τ).loc Cert.ZGatesCall.main_arg1)
      ∧ r.2.mem ((c.tc : Thread Cert.ZGatesCall.nD Cert.ZGatesCall.τ).loc Cert.ZGatesCall.main_arg2) = m ((c.tc : Thread Cert.ZGatesCall.nD Cert.ZGatesCall.τ).loc Cert.ZGatesCall.main_arg2))
      ∧ r.2.sem = fun _ => 0)

def quiescent_ZGatesCallIdeal [hZGatesCallIdeal : Cert.ZGatesCallIdeal.Facts] : Prop :=
  ∀ (m : (ℓ : Loc Cert.ZGatesCallIdeal.nD Cert.ZGatesCallIdeal.τ Cert.ZGatesCallIdeal.sig) → Buf (Elt Ideal) ℓ) (g : Dev Cert.ZGatesCallIdeal.nD → PrngReg), Pre_ZGatesCallIdeal m →
    θ_run (Cert.ZGatesCallIdeal.defs (F := Ideal)) (onTc (τ := Cert.ZGatesCallIdeal.τ) (Cert.ZGatesCallIdeal.main (F := Ideal))) ⟨m, fun _ => 0, g⟩ (fun r => (∀ c : Dev Cert.ZGatesCallIdeal.nD,
      r.2.mem ((c.tc : Thread Cert.ZGatesCallIdeal.nD Cert.ZGatesCallIdeal.τ).loc Cert.ZGatesCallIdeal.main_arg0) = m ((c.tc : Thread Cert.ZGatesCallIdeal.nD Cert.ZGatesCallIdeal.τ).loc Cert.ZGatesCallIdeal.main_arg0)
      ∧ r.2.mem ((c.tc : Thread Cert.ZGatesCallIdeal.nD Cert.ZGatesCallIdeal.τ).loc Cert.ZGatesCallIdeal.main_arg1) = m ((c.tc : Thread Cert.ZGatesCallIdeal.nD Cert.ZGatesCallIdeal.τ).loc Cert.ZGatesCallIdeal.main_arg1)
      ∧ r.2.mem ((c.tc : Thread Cert.ZGatesCallIdeal.nD Cert.ZGatesCallIdeal.τ).loc Cert.ZGatesCallIdeal.main_arg2) = m ((c.tc : Thread Cert.ZGatesCallIdeal.nD Cert.ZGatesCallIdeal.τ).loc Cert.ZGatesCallIdeal.main_arg2))
      ∧ r.2.sem = fun _ => 0)

def quiescent_ZGatesRefIdeal [hZGatesRefIdeal : Cert.ZGatesRefIdeal.Facts] : Prop :=
  ∀ (m : (ℓ : Loc Cert.ZGatesRefIdeal.nD Cert.ZGatesRefIdeal.τ Cert.ZGatesRefIdeal.sig) → Buf (Elt Ideal) ℓ) (g : Dev Cert.ZGatesRefIdeal.nD → PrngReg), Pre_ZGatesRefIdeal m →
    θ_run (Cert.ZGatesRefIdeal.defs (F := Ideal)) (onTc (τ := Cert.ZGatesRefIdeal.τ) (Cert.ZGatesRefIdeal.main (F := Ideal))) ⟨m, fun _ => 0, g⟩ (fun r => (∀ c : Dev Cert.ZGatesRefIdeal.nD,
      r.2.mem ((c.tc : Thread Cert.ZGatesRefIdeal.nD Cert.ZGatesRefIdeal.τ).loc Cert.ZGatesRefIdeal.main_arg0) = m ((c.tc : Thread Cert.ZGatesRefIdeal.nD Cert.ZGatesRefIdeal.τ).loc Cert.ZGatesRefIdeal.main_arg0)
      ∧ r.2.mem ((c.tc : Thread Cert.ZGatesRefIdeal.nD Cert.ZGatesRefIdeal.τ).loc Cert.ZGatesRefIdeal.main_arg1) = m ((c.tc : Thread Cert.ZGatesRefIdeal.nD Cert.ZGatesRefIdeal.τ).loc Cert.ZGatesRefIdeal.main_arg1)
      ∧ r.2.mem ((c.tc : Thread Cert.ZGatesRefIdeal.nD Cert.ZGatesRefIdeal.τ).loc Cert.ZGatesRefIdeal.main_arg2) = m ((c.tc : Thread Cert.ZGatesRefIdeal.nD Cert.ZGatesRefIdeal.τ).loc Cert.ZGatesRefIdeal.main_arg2))
      ∧ r.2.sem = fun _ => 0)

def quiescent_DwQkvCall [hDwQkvCall : Cert.DwQkvCall.Facts] : Prop :=
  ∀ (m : (ℓ : Loc Cert.DwQkvCall.nD Cert.DwQkvCall.τ Cert.DwQkvCall.sig) → Buf (Elt Bits) ℓ) (g : Dev Cert.DwQkvCall.nD → PrngReg), Pre_DwQkvCall m →
    θ_run (Cert.DwQkvCall.defs (F := Bits)) (onTc (τ := Cert.DwQkvCall.τ) (Cert.DwQkvCall.main (F := Bits))) ⟨m, fun _ => 0, g⟩ (fun r => (∀ c : Dev Cert.DwQkvCall.nD,
      r.2.mem ((c.tc : Thread Cert.DwQkvCall.nD Cert.DwQkvCall.τ).loc Cert.DwQkvCall.main_arg0) = m ((c.tc : Thread Cert.DwQkvCall.nD Cert.DwQkvCall.τ).loc Cert.DwQkvCall.main_arg0)
      ∧ r.2.mem ((c.tc : Thread Cert.DwQkvCall.nD Cert.DwQkvCall.τ).loc Cert.DwQkvCall.main_arg1) = m ((c.tc : Thread Cert.DwQkvCall.nD Cert.DwQkvCall.τ).loc Cert.DwQkvCall.main_arg1)
      ∧ r.2.mem ((c.tc : Thread Cert.DwQkvCall.nD Cert.DwQkvCall.τ).loc Cert.DwQkvCall.main_arg2) = m ((c.tc : Thread Cert.DwQkvCall.nD Cert.DwQkvCall.τ).loc Cert.DwQkvCall.main_arg2))
      ∧ r.2.sem = fun _ => 0)

def quiescent_DwQkvCallIdeal [hDwQkvCallIdeal : Cert.DwQkvCallIdeal.Facts] : Prop :=
  ∀ (m : (ℓ : Loc Cert.DwQkvCallIdeal.nD Cert.DwQkvCallIdeal.τ Cert.DwQkvCallIdeal.sig) → Buf (Elt Ideal) ℓ) (g : Dev Cert.DwQkvCallIdeal.nD → PrngReg), Pre_DwQkvCallIdeal m →
    θ_run (Cert.DwQkvCallIdeal.defs (F := Ideal)) (onTc (τ := Cert.DwQkvCallIdeal.τ) (Cert.DwQkvCallIdeal.main (F := Ideal))) ⟨m, fun _ => 0, g⟩ (fun r => (∀ c : Dev Cert.DwQkvCallIdeal.nD,
      r.2.mem ((c.tc : Thread Cert.DwQkvCallIdeal.nD Cert.DwQkvCallIdeal.τ).loc Cert.DwQkvCallIdeal.main_arg0) = m ((c.tc : Thread Cert.DwQkvCallIdeal.nD Cert.DwQkvCallIdeal.τ).loc Cert.DwQkvCallIdeal.main_arg0)
      ∧ r.2.mem ((c.tc : Thread Cert.DwQkvCallIdeal.nD Cert.DwQkvCallIdeal.τ).loc Cert.DwQkvCallIdeal.main_arg1) = m ((c.tc : Thread Cert.DwQkvCallIdeal.nD Cert.DwQkvCallIdeal.τ).loc Cert.DwQkvCallIdeal.main_arg1)
      ∧ r.2.mem ((c.tc : Thread Cert.DwQkvCallIdeal.nD Cert.DwQkvCallIdeal.τ).loc Cert.DwQkvCallIdeal.main_arg2) = m ((c.tc : Thread Cert.DwQkvCallIdeal.nD Cert.DwQkvCallIdeal.τ).loc Cert.DwQkvCallIdeal.main_arg2))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2))
      ∧ r.2.sem = fun _ => 0)

def quiescent_GluCall [hGluCall : Cert.GluCall.Facts] : Prop :=
  ∀ (m : (ℓ : Loc Cert.GluCall.nD Cert.GluCall.τ Cert.GluCall.sig) → Buf (Elt Bits) ℓ) (g : Dev Cert.GluCall.nD → PrngReg), Pre_GluCall m →
    θ_run (Cert.GluCall.defs (F := Bits)) (onTc (τ := Cert.GluCall.τ) (Cert.GluCall.main (F := Bits))) ⟨m, fun _ => 0, g⟩ (fun r => (∀ c : Dev Cert.GluCall.nD,
      r.2.mem ((c.tc : Thread Cert.GluCall.nD Cert.GluCall.τ).loc Cert.GluCall.main_arg0) = m ((c.tc : Thread Cert.GluCall.nD Cert.GluCall.τ).loc Cert.GluCall.main_arg0)
      ∧ r.2.mem ((c.tc : Thread Cert.GluCall.nD Cert.GluCall.τ).loc Cert.GluCall.main_arg1) = m ((c.tc : Thread Cert.GluCall.nD Cert.GluCall.τ).loc Cert.GluCall.main_arg1)
      ∧ r.2.mem ((c.tc : Thread Cert.GluCall.nD Cert.GluCall.τ).loc Cert.GluCall.main_arg2) = m ((c.tc : Thread Cert.GluCall.nD Cert.GluCall.τ).loc Cert.GluCall.main_arg2)
      ∧ r.2.mem ((c.tc : Thread Cert.GluCall.nD Cert.GluCall.τ).loc Cert.GluCall.main_arg3) = m ((c.tc : Thread Cert.GluCall.nD Cert.GluCall.τ).loc Cert.GluCall.main_arg3)
      ∧ r.2.mem ((c.tc : Thread Cert.GluCall.nD Cert.GluCall.τ).loc Cert.GluCall.main_arg4) = m ((c.tc : Thread Cert.GluCall.nD Cert.GluCall.τ).loc Cert.GluCall.main_arg4)
      ∧ r.2.mem ((c.tc : Thread Cert.GluCall.nD Cert.GluCall.τ).loc Cert.GluCall.main_arg5) = m ((c.tc : Thread Cert.GluCall.nD Cert.GluCall.τ).loc Cert.GluCall.main_arg5))
      ∧ r.2.sem = fun _ => 0)

def quiescent_GluCallIdeal [hGluCallIdeal : Cert.GluCallIdeal.Facts] : Prop :=
  ∀ (m : (ℓ : Loc Cert.GluCallIdeal.nD Cert.GluCallIdeal.τ Cert.GluCallIdeal.sig) → Buf (Elt Ideal) ℓ) (g : Dev Cert.GluCallIdeal.nD → PrngReg), Pre_GluCallIdeal m →
    θ_run (Cert.GluCallIdeal.defs (F := Ideal)) (onTc (τ := Cert.GluCallIdeal.τ) (Cert.GluCallIdeal.main (F := Ideal))) ⟨m, fun _ => 0, g⟩ (fun r => (∀ c : Dev Cert.GluCallIdeal.nD,
      r.2.mem ((c.tc : Thread Cert.GluCallIdeal.nD Cert.GluCallIdeal.τ).loc Cert.GluCallIdeal.main_arg0) = m ((c.tc : Thread Cert.GluCallIdeal.nD Cert.GluCallIdeal.τ).loc Cert.GluCallIdeal.main_arg0)
      ∧ r.2.mem ((c.tc : Thread Cert.GluCallIdeal.nD Cert.GluCallIdeal.τ).loc Cert.GluCallIdeal.main_arg1) = m ((c.tc : Thread Cert.GluCallIdeal.nD Cert.GluCallIdeal.τ).loc Cert.GluCallIdeal.main_arg1)
      ∧ r.2.mem ((c.tc : Thread Cert.GluCallIdeal.nD Cert.GluCallIdeal.τ).loc Cert.GluCallIdeal.main_arg2) = m ((c.tc : Thread Cert.GluCallIdeal.nD Cert.GluCallIdeal.τ).loc Cert.GluCallIdeal.main_arg2)
      ∧ r.2.mem ((c.tc : Thread Cert.GluCallIdeal.nD Cert.GluCallIdeal.τ).loc Cert.GluCallIdeal.main_arg3) = m ((c.tc : Thread Cert.GluCallIdeal.nD Cert.GluCallIdeal.τ).loc Cert.GluCallIdeal.main_arg3)
      ∧ r.2.mem ((c.tc : Thread Cert.GluCallIdeal.nD Cert.GluCallIdeal.τ).loc Cert.GluCallIdeal.main_arg4) = m ((c.tc : Thread Cert.GluCallIdeal.nD Cert.GluCallIdeal.τ).loc Cert.GluCallIdeal.main_arg4)
      ∧ r.2.mem ((c.tc : Thread Cert.GluCallIdeal.nD Cert.GluCallIdeal.τ).loc Cert.GluCallIdeal.main_arg5) = m ((c.tc : Thread Cert.GluCallIdeal.nD Cert.GluCallIdeal.τ).loc Cert.GluCallIdeal.main_arg5))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_OutProjCall [hOutProjCall : Cert.OutProjCall.Facts] : Prop :=
  ∀ (m : (ℓ : Loc Cert.OutProjCall.nD Cert.OutProjCall.τ Cert.OutProjCall.sig) → Buf (Elt Bits) ℓ) (g : Dev Cert.OutProjCall.nD → PrngReg), Pre_OutProjCall m →
    θ_run (Cert.OutProjCall.defs (F := Bits)) (onTc (τ := Cert.OutProjCall.τ) (Cert.OutProjCall.main (F := Bits))) ⟨m, fun _ => 0, g⟩ (fun r => (∀ c : Dev Cert.OutProjCall.nD,
      r.2.mem ((c.tc : Thread Cert.OutProjCall.nD Cert.OutProjCall.τ).loc Cert.OutProjCall.main_arg0) = m ((c.tc : Thread Cert.OutProjCall.nD Cert.OutProjCall.τ).loc Cert.OutProjCall.main_arg0)
      ∧ r.2.mem ((c.tc : Thread Cert.OutProjCall.nD Cert.OutProjCall.τ).loc Cert.OutProjCall.main_arg1) = m ((c.tc : Thread Cert.OutProjCall.nD Cert.OutProjCall.τ).loc Cert.OutProjCall.main_arg1)
      ∧ r.2.mem ((c.tc : Thread Cert.OutProjCall.nD Cert.OutProjCall.τ).loc Cert.OutProjCall.main_arg2) = m ((c.tc : Thread Cert.OutProjCall.nD Cert.OutProjCall.τ).loc Cert.OutProjCall.main_arg2)
      ∧ r.2.mem ((c.tc : Thread Cert.OutProjCall.nD Cert.OutProjCall.τ).loc Cert.OutProjCall.main_arg3) = m ((c.tc : Thread Cert.OutProjCall.nD Cert.OutProjCall.τ).loc Cert.OutProjCall.main_arg3))
      ∧ r.2.sem = fun _ => 0)

def quiescent_OutProjCallIdeal [hOutProjCallIdeal : Cert.OutProjCallIdeal.Facts] : Prop :=
  ∀ (m : (ℓ : Loc Cert.OutProjCallIdeal.nD Cert.OutProjCallIdeal.τ Cert.OutProjCallIdeal.sig) → Buf (Elt Ideal) ℓ) (g : Dev Cert.OutProjCallIdeal.nD → PrngReg), Pre_OutProjCallIdeal m →
    θ_run (Cert.OutProjCallIdeal.defs (F := Ideal)) (onTc (τ := Cert.OutProjCallIdeal.τ) (Cert.OutProjCallIdeal.main (F := Ideal))) ⟨m, fun _ => 0, g⟩ (fun r => (∀ c : Dev Cert.OutProjCallIdeal.nD,
      r.2.mem ((c.tc : Thread Cert.OutProjCallIdeal.nD Cert.OutProjCallIdeal.τ).loc Cert.OutProjCallIdeal.main_arg0) = m ((c.tc : Thread Cert.OutProjCallIdeal.nD Cert.OutProjCallIdeal.τ).loc Cert.OutProjCallIdeal.main_arg0)
      ∧ r.2.mem ((c.tc : Thread Cert.OutProjCallIdeal.nD Cert.OutProjCallIdeal.τ).loc Cert.OutProjCallIdeal.main_arg1) = m ((c.tc : Thread Cert.OutProjCallIdeal.nD Cert.OutProjCallIdeal.τ).loc Cert.OutProjCallIdeal.main_arg1)
      ∧ r.2.mem ((c.tc : Thread Cert.OutProjCallIdeal.nD Cert.OutProjCallIdeal.τ).loc Cert.OutProjCallIdeal.main_arg2) = m ((c.tc : Thread Cert.OutProjCallIdeal.nD Cert.OutProjCallIdeal.τ).loc Cert.OutProjCallIdeal.main_arg2)
      ∧ r.2.mem ((c.tc : Thread Cert.OutProjCallIdeal.nD Cert.OutProjCallIdeal.τ).loc Cert.OutProjCallIdeal.main_arg3) = m ((c.tc : Thread Cert.OutProjCallIdeal.nD Cert.OutProjCallIdeal.τ).loc Cert.OutProjCallIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_DwOutCall [hDwOutCall : Cert.DwOutCall.Facts] : Prop :=
  ∀ (m : (ℓ : Loc Cert.DwOutCall.nD Cert.DwOutCall.τ Cert.DwOutCall.sig) → Buf (Elt Bits) ℓ) (g : Dev Cert.DwOutCall.nD → PrngReg), Pre_DwOutCall m →
    θ_run (Cert.DwOutCall.defs (F := Bits)) (onTc (τ := Cert.DwOutCall.τ) (Cert.DwOutCall.main (F := Bits))) ⟨m, fun _ => 0, g⟩ (fun r => (∀ c : Dev Cert.DwOutCall.nD,
      r.2.mem ((c.tc : Thread Cert.DwOutCall.nD Cert.DwOutCall.τ).loc Cert.DwOutCall.main_arg0) = m ((c.tc : Thread Cert.DwOutCall.nD Cert.DwOutCall.τ).loc Cert.DwOutCall.main_arg0)
      ∧ r.2.mem ((c.tc : Thread Cert.DwOutCall.nD Cert.DwOutCall.τ).loc Cert.DwOutCall.main_arg1) = m ((c.tc : Thread Cert.DwOutCall.nD Cert.DwOutCall.τ).loc Cert.DwOutCall.main_arg1))
      ∧ r.2.sem = fun _ => 0)

def quiescent_DwOutCallIdeal [hDwOutCallIdeal : Cert.DwOutCallIdeal.Facts] : Prop :=
  ∀ (m : (ℓ : Loc Cert.DwOutCallIdeal.nD Cert.DwOutCallIdeal.τ Cert.DwOutCallIdeal.sig) → Buf (Elt Ideal) ℓ) (g : Dev Cert.DwOutCallIdeal.nD → PrngReg), Pre_DwOutCallIdeal m →
    θ_run (Cert.DwOutCallIdeal.defs (F := Ideal)) (onTc (τ := Cert.DwOutCallIdeal.τ) (Cert.DwOutCallIdeal.main (F := Ideal))) ⟨m, fun _ => 0, g⟩ (fun r => (∀ c : Dev Cert.DwOutCallIdeal.nD,
      r.2.mem ((c.tc : Thread Cert.DwOutCallIdeal.nD Cert.DwOutCallIdeal.τ).loc Cert.DwOutCallIdeal.main_arg0) = m ((c.tc : Thread Cert.DwOutCallIdeal.nD Cert.DwOutCallIdeal.τ).loc Cert.DwOutCallIdeal.main_arg0)
      ∧ r.2.mem ((c.tc : Thread Cert.DwOutCallIdeal.nD Cert.DwOutCallIdeal.τ).loc Cert.DwOutCallIdeal.main_arg1) = m ((c.tc : Thread Cert.DwOutCallIdeal.nD Cert.DwOutCallIdeal.τ).loc Cert.DwOutCallIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwPgCall [hDwPgCall : Cert.DwPgCall.Facts] : Prop :=
  ∀ (m : (ℓ : Loc Cert.DwPgCall.nD Cert.DwPgCall.τ Cert.DwPgCall.sig) → Buf (Elt Bits) ℓ) (g : Dev Cert.DwPgCall.nD → PrngReg), Pre_DwPgCall m →
    θ_run (Cert.DwPgCall.defs (F := Bits)) (onTc (τ := Cert.DwPgCall.τ) (Cert.DwPgCall.main (F := Bits))) ⟨m, fun _ => 0, g⟩ (fun r => (∀ c : Dev Cert.DwPgCall.nD,
      r.2.mem ((c.tc : Thread Cert.DwPgCall.nD Cert.DwPgCall.τ).loc Cert.DwPgCall.main_arg0) = m ((c.tc : Thread Cert.DwPgCall.nD Cert.DwPgCall.τ).loc Cert.DwPgCall.main_arg0)
      ∧ r.2.mem ((c.tc : Thread Cert.DwPgCall.nD Cert.DwPgCall.τ).loc Cert.DwPgCall.main_arg1) = m ((c.tc : Thread Cert.DwPgCall.nD Cert.DwPgCall.τ).loc Cert.DwPgCall.main_arg1))
      ∧ r.2.sem = fun _ => 0)

def quiescent_DwPgCallIdeal [hDwPgCallIdeal : Cert.DwPgCallIdeal.Facts] : Prop :=
  ∀ (m : (ℓ : Loc Cert.DwPgCallIdeal.nD Cert.DwPgCallIdeal.τ Cert.DwPgCallIdeal.sig) → Buf (Elt Ideal) ℓ) (g : Dev Cert.DwPgCallIdeal.nD → PrngReg), Pre_DwPgCallIdeal m →
    θ_run (Cert.DwPgCallIdeal.defs (F := Ideal)) (onTc (τ := Cert.DwPgCallIdeal.τ) (Cert.DwPgCallIdeal.main (F := Ideal))) ⟨m, fun _ => 0, g⟩ (fun r => (∀ c : Dev Cert.DwPgCallIdeal.nD,
      r.2.mem ((c.tc : Thread Cert.DwPgCallIdeal.nD Cert.DwPgCallIdeal.τ).loc Cert.DwPgCallIdeal.main_arg0) = m ((c.tc : Thread Cert.DwPgCallIdeal.nD Cert.DwPgCallIdeal.τ).loc Cert.DwPgCallIdeal.main_arg0)
      ∧ r.2.mem ((c.tc : Thread Cert.DwPgCallIdeal.nD Cert.DwPgCallIdeal.τ).loc Cert.DwPgCallIdeal.main_arg1) = m ((c.tc : Thread Cert.DwPgCallIdeal.nD Cert.DwPgCallIdeal.τ).loc Cert.DwPgCallIdeal.main_arg1))
      ∧ r.2.sem = fun _ => 0)

def quiescent_DwPgRefIdeal [hDwPgRefIdeal : Cert.DwPgRefIdeal.Facts] : Prop :=
  ∀ (m : (ℓ : Loc Cert.DwPgRefIdeal.nD Cert.DwPgRefIdeal.τ Cert.DwPgRefIdeal.sig) → Buf (Elt Ideal) ℓ) (g : Dev Cert.DwPgRefIdeal.nD → PrngReg), Pre_DwPgRefIdeal m →
    θ_run (Cert.DwPgRefIdeal.defs (F := Ideal)) (onTc (τ := Cert.DwPgRefIdeal.τ) (Cert.DwPgRefIdeal.main (F := Ideal))) ⟨m, fun _ => 0, g⟩ (fun r => (∀ c : Dev Cert.DwPgRefIdeal.nD,
      r.2.mem ((c.tc : Thread Cert.DwPgRefIdeal.nD Cert.DwPgRefIdeal.τ).loc Cert.DwPgRefIdeal.main_arg0) = m ((c.tc : Thread Cert.DwPgRefIdeal.nD Cert.DwPgRefIdeal.τ).loc Cert.DwPgRefIdeal.main_arg0)
      ∧ r.2.mem ((c.tc : Thread Cert.DwPgRefIdeal.nD Cert.DwPgRefIdeal.τ).loc Cert.DwPgRefIdeal.main_arg1) = m ((c.tc : Thread Cert.DwPgRefIdeal.nD Cert.DwPgRefIdeal.τ).loc Cert.DwPgRefIdeal.main_arg1))
      ∧ r.2.sem = fun _ => 0)

def quiescent_DwGaCall [hDwGaCall : Cert.DwGaCall.Facts] : Prop :=
  ∀ (m : (ℓ : Loc Cert.DwGaCall.nD Cert.DwGaCall.τ Cert.DwGaCall.sig) → Buf (Elt Bits) ℓ) (g : Dev Cert.DwGaCall.nD → PrngReg), Pre_DwGaCall m →
    θ_run (Cert.DwGaCall.defs (F := Bits)) (onTc (τ := Cert.DwGaCall.τ) (Cert.DwGaCall.main (F := Bits))) ⟨m, fun _ => 0, g⟩ (fun r => (∀ c : Dev Cert.DwGaCall.nD,
      r.2.mem ((c.tc : Thread Cert.DwGaCall.nD Cert.DwGaCall.τ).loc Cert.DwGaCall.main_arg0) = m ((c.tc : Thread Cert.DwGaCall.nD Cert.DwGaCall.τ).loc Cert.DwGaCall.main_arg0)
      ∧ r.2.mem ((c.tc : Thread Cert.DwGaCall.nD Cert.DwGaCall.τ).loc Cert.DwGaCall.main_arg1) = m ((c.tc : Thread Cert.DwGaCall.nD Cert.DwGaCall.τ).loc Cert.DwGaCall.main_arg1))
      ∧ r.2.sem = fun _ => 0)

def quiescent_DwGaCallIdeal [hDwGaCallIdeal : Cert.DwGaCallIdeal.Facts] : Prop :=
  ∀ (m : (ℓ : Loc Cert.DwGaCallIdeal.nD Cert.DwGaCallIdeal.τ Cert.DwGaCallIdeal.sig) → Buf (Elt Ideal) ℓ) (g : Dev Cert.DwGaCallIdeal.nD → PrngReg), Pre_DwGaCallIdeal m →
    θ_run (Cert.DwGaCallIdeal.defs (F := Ideal)) (onTc (τ := Cert.DwGaCallIdeal.τ) (Cert.DwGaCallIdeal.main (F := Ideal))) ⟨m, fun _ => 0, g⟩ (fun r => (∀ c : Dev Cert.DwGaCallIdeal.nD,
      r.2.mem ((c.tc : Thread Cert.DwGaCallIdeal.nD Cert.DwGaCallIdeal.τ).loc Cert.DwGaCallIdeal.main_arg0) = m ((c.tc : Thread Cert.DwGaCallIdeal.nD Cert.DwGaCallIdeal.τ).loc Cert.DwGaCallIdeal.main_arg0)
      ∧ r.2.mem ((c.tc : Thread Cert.DwGaCallIdeal.nD Cert.DwGaCallIdeal.τ).loc Cert.DwGaCallIdeal.main_arg1) = m ((c.tc : Thread Cert.DwGaCallIdeal.nD Cert.DwGaCallIdeal.τ).loc Cert.DwGaCallIdeal.main_arg1))
      ∧ r.2.sem = fun _ => 0)

def quiescent_DwGaRefIdeal [hDwGaRefIdeal : Cert.DwGaRefIdeal.Facts] : Prop :=
  ∀ (m : (ℓ : Loc Cert.DwGaRefIdeal.nD Cert.DwGaRefIdeal.τ Cert.DwGaRefIdeal.sig) → Buf (Elt Ideal) ℓ) (g : Dev Cert.DwGaRefIdeal.nD → PrngReg), Pre_DwGaRefIdeal m →
    θ_run (Cert.DwGaRefIdeal.defs (F := Ideal)) (onTc (τ := Cert.DwGaRefIdeal.τ) (Cert.DwGaRefIdeal.main (F := Ideal))) ⟨m, fun _ => 0, g⟩ (fun r => (∀ c : Dev Cert.DwGaRefIdeal.nD,
      r.2.mem ((c.tc : Thread Cert.DwGaRefIdeal.nD Cert.DwGaRefIdeal.τ).loc Cert.DwGaRefIdeal.main_arg0) = m ((c.tc : Thread Cert.DwGaRefIdeal.nD Cert.DwGaRefIdeal.τ).loc Cert.DwGaRefIdeal.main_arg0)
      ∧ r.2.mem ((c.tc : Thread Cert.DwGaRefIdeal.nD Cert.DwGaRefIdeal.τ).loc Cert.DwGaRefIdeal.main_arg1) = m ((c.tc : Thread Cert.DwGaRefIdeal.nD Cert.DwGaRefIdeal.τ).loc Cert.DwGaRefIdeal.main_arg1))
      ∧ r.2.sem = fun _ => 0)

def quiescent_DwGbCall [hDwGbCall : Cert.DwGbCall.Facts] : Prop :=
  ∀ (m : (ℓ : Loc Cert.DwGbCall.nD Cert.DwGbCall.τ Cert.DwGbCall.sig) → Buf (Elt Bits) ℓ) (g : Dev Cert.DwGbCall.nD → PrngReg), Pre_DwGbCall m →
    θ_run (Cert.DwGbCall.defs (F := Bits)) (onTc (τ := Cert.DwGbCall.τ) (Cert.DwGbCall.main (F := Bits))) ⟨m, fun _ => 0, g⟩ (fun r => (∀ c : Dev Cert.DwGbCall.nD,
      r.2.mem ((c.tc : Thread Cert.DwGbCall.nD Cert.DwGbCall.τ).loc Cert.DwGbCall.main_arg0) = m ((c.tc : Thread Cert.DwGbCall.nD Cert.DwGbCall.τ).loc Cert.DwGbCall.main_arg0)
      ∧ r.2.mem ((c.tc : Thread Cert.DwGbCall.nD Cert.DwGbCall.τ).loc Cert.DwGbCall.main_arg1) = m ((c.tc : Thread Cert.DwGbCall.nD Cert.DwGbCall.τ).loc Cert.DwGbCall.main_arg1))
      ∧ r.2.sem = fun _ => 0)

def quiescent_DwGbCallIdeal [hDwGbCallIdeal : Cert.DwGbCallIdeal.Facts] : Prop :=
  ∀ (m : (ℓ : Loc Cert.DwGbCallIdeal.nD Cert.DwGbCallIdeal.τ Cert.DwGbCallIdeal.sig) → Buf (Elt Ideal) ℓ) (g : Dev Cert.DwGbCallIdeal.nD → PrngReg), Pre_DwGbCallIdeal m →
    θ_run (Cert.DwGbCallIdeal.defs (F := Ideal)) (onTc (τ := Cert.DwGbCallIdeal.τ) (Cert.DwGbCallIdeal.main (F := Ideal))) ⟨m, fun _ => 0, g⟩ (fun r => (∀ c : Dev Cert.DwGbCallIdeal.nD,
      r.2.mem ((c.tc : Thread Cert.DwGbCallIdeal.nD Cert.DwGbCallIdeal.τ).loc Cert.DwGbCallIdeal.main_arg0) = m ((c.tc : Thread Cert.DwGbCallIdeal.nD Cert.DwGbCallIdeal.τ).loc Cert.DwGbCallIdeal.main_arg0)
      ∧ r.2.mem ((c.tc : Thread Cert.DwGbCallIdeal.nD Cert.DwGbCallIdeal.τ).loc Cert.DwGbCallIdeal.main_arg1) = m ((c.tc : Thread Cert.DwGbCallIdeal.nD Cert.DwGbCallIdeal.τ).loc Cert.DwGbCallIdeal.main_arg1))
      ∧ r.2.sem = fun _ => 0)

def quiescent_DwGbRefIdeal [hDwGbRefIdeal : Cert.DwGbRefIdeal.Facts] : Prop :=
  ∀ (m : (ℓ : Loc Cert.DwGbRefIdeal.nD Cert.DwGbRefIdeal.τ Cert.DwGbRefIdeal.sig) → Buf (Elt Ideal) ℓ) (g : Dev Cert.DwGbRefIdeal.nD → PrngReg), Pre_DwGbRefIdeal m →
    θ_run (Cert.DwGbRefIdeal.defs (F := Ideal)) (onTc (τ := Cert.DwGbRefIdeal.τ) (Cert.DwGbRefIdeal.main (F := Ideal))) ⟨m, fun _ => 0, g⟩ (fun r => (∀ c : Dev Cert.DwGbRefIdeal.nD,
      r.2.mem ((c.tc : Thread Cert.DwGbRefIdeal.nD Cert.DwGbRefIdeal.τ).loc Cert.DwGbRefIdeal.main_arg0) = m ((c.tc : Thread Cert.DwGbRefIdeal.nD Cert.DwGbRefIdeal.τ).loc Cert.DwGbRefIdeal.main_arg0)
      ∧ r.2.mem ((c.tc : Thread Cert.DwGbRefIdeal.nD Cert.DwGbRefIdeal.τ).loc Cert.DwGbRefIdeal.main_arg1) = m ((c.tc : Thread Cert.DwGbRefIdeal.nD Cert.DwGbRefIdeal.τ).loc Cert.DwGbRefIdeal.main_arg1))
      ∧ r.2.sem = fun _ => 0)

def quiescent_DwApCall [hDwApCall : Cert.DwApCall.Facts] : Prop :=
  ∀ (m : (ℓ : Loc Cert.DwApCall.nD Cert.DwApCall.τ Cert.DwApCall.sig) → Buf (Elt Bits) ℓ) (g : Dev Cert.DwApCall.nD → PrngReg), Pre_DwApCall m →
    θ_run (Cert.DwApCall.defs (F := Bits)) (onTc (τ := Cert.DwApCall.τ) (Cert.DwApCall.main (F := Bits))) ⟨m, fun _ => 0, g⟩ (fun r => (∀ c : Dev Cert.DwApCall.nD,
      r.2.mem ((c.tc : Thread Cert.DwApCall.nD Cert.DwApCall.τ).loc Cert.DwApCall.main_arg0) = m ((c.tc : Thread Cert.DwApCall.nD Cert.DwApCall.τ).loc Cert.DwApCall.main_arg0)
      ∧ r.2.mem ((c.tc : Thread Cert.DwApCall.nD Cert.DwApCall.τ).loc Cert.DwApCall.main_arg1) = m ((c.tc : Thread Cert.DwApCall.nD Cert.DwApCall.τ).loc Cert.DwApCall.main_arg1))
      ∧ r.2.sem = fun _ => 0)

def quiescent_DwApCallIdeal [hDwApCallIdeal : Cert.DwApCallIdeal.Facts] : Prop :=
  ∀ (m : (ℓ : Loc Cert.DwApCallIdeal.nD Cert.DwApCallIdeal.τ Cert.DwApCallIdeal.sig) → Buf (Elt Ideal) ℓ) (g : Dev Cert.DwApCallIdeal.nD → PrngReg), Pre_DwApCallIdeal m →
    θ_run (Cert.DwApCallIdeal.defs (F := Ideal)) (onTc (τ := Cert.DwApCallIdeal.τ) (Cert.DwApCallIdeal.main (F := Ideal))) ⟨m, fun _ => 0, g⟩ (fun r => (∀ c : Dev Cert.DwApCallIdeal.nD,
      r.2.mem ((c.tc : Thread Cert.DwApCallIdeal.nD Cert.DwApCallIdeal.τ).loc Cert.DwApCallIdeal.main_arg0) = m ((c.tc : Thread Cert.DwApCallIdeal.nD Cert.DwApCallIdeal.τ).loc Cert.DwApCallIdeal.main_arg0)
      ∧ r.2.mem ((c.tc : Thread Cert.DwApCallIdeal.nD Cert.DwApCallIdeal.τ).loc Cert.DwApCallIdeal.main_arg1) = m ((c.tc : Thread Cert.DwApCallIdeal.nD Cert.DwApCallIdeal.τ).loc Cert.DwApCallIdeal.main_arg1))
      ∧ r.2.sem = fun _ => 0)

def quiescent_DwApRefIdeal [hDwApRefIdeal : Cert.DwApRefIdeal.Facts] : Prop :=
  ∀ (m : (ℓ : Loc Cert.DwApRefIdeal.nD Cert.DwApRefIdeal.τ Cert.DwApRefIdeal.sig) → Buf (Elt Ideal) ℓ) (g : Dev Cert.DwApRefIdeal.nD → PrngReg), Pre_DwApRefIdeal m →
    θ_run (Cert.DwApRefIdeal.defs (F := Ideal)) (onTc (τ := Cert.DwApRefIdeal.τ) (Cert.DwApRefIdeal.main (F := Ideal))) ⟨m, fun _ => 0, g⟩ (fun r => (∀ c : Dev Cert.DwApRefIdeal.nD,
      r.2.mem ((c.tc : Thread Cert.DwApRefIdeal.nD Cert.DwApRefIdeal.τ).loc Cert.DwApRefIdeal.main_arg0) = m ((c.tc : Thread Cert.DwApRefIdeal.nD Cert.DwApRefIdeal.τ).loc Cert.DwApRefIdeal.main_arg0)
      ∧ r.2.mem ((c.tc : Thread Cert.DwApRefIdeal.nD Cert.DwApRefIdeal.τ).loc Cert.DwApRefIdeal.main_arg1) = m ((c.tc : Thread Cert.DwApRefIdeal.nD Cert.DwApRefIdeal.τ).loc Cert.DwApRefIdeal.main_arg1))
      ∧ r.2.sem = fun _ => 0)

def quiescent_DwInGCall [hDwInGCall : Cert.DwInGCall.Facts] : Prop :=
  ∀ (m : (ℓ : Loc Cert.DwInGCall.nD Cert.DwInGCall.τ Cert.DwInGCall.sig) → Buf (Elt Bits) ℓ) (g : Dev Cert.DwInGCall.nD → PrngReg), Pre_DwInGCall m →
    θ_run (Cert.DwInGCall.defs (F := Bits)) (onTc (τ := Cert.DwInGCall.τ) (Cert.DwInGCall.main (F := Bits))) ⟨m, fun _ => 0, g⟩ (fun r => (∀ c : Dev Cert.DwInGCall.nD,
      r.2.mem ((c.tc : Thread Cert.DwInGCall.nD Cert.DwInGCall.τ).loc Cert.DwInGCall.main_arg0) = m ((c.tc : Thread Cert.DwInGCall.nD Cert.DwInGCall.τ).loc Cert.DwInGCall.main_arg0)
      ∧ r.2.mem ((c.tc : Thread Cert.DwInGCall.nD Cert.DwInGCall.τ).loc Cert.DwInGCall.main_arg1) = m ((c.tc : Thread Cert.DwInGCall.nD Cert.DwInGCall.τ).loc Cert.DwInGCall.main_arg1)
      ∧ r.2.mem ((c.tc : Thread Cert.DwInGCall.nD Cert.DwInGCall.τ).loc Cert.DwInGCall.main_arg2) = m ((c.tc : Thread Cert.DwInGCall.nD Cert.DwInGCall.τ).loc Cert.DwInGCall.main_arg2)
      ∧ r.2.mem ((c.tc : Thread Cert.DwInGCall.nD Cert.DwInGCall.τ).loc Cert.DwInGCall.main_arg3) = m ((c.tc : Thread Cert.DwInGCall.nD Cert.DwInGCall.τ).loc Cert.DwInGCall.main_arg3))
      ∧ r.2.sem = fun _ => 0)

def quiescent_DwInGCallIdeal [hDwInGCallIdeal : Cert.DwInGCallIdeal.Facts] : Prop :=
  ∀ (m : (ℓ : Loc Cert.DwInGCallIdeal.nD Cert.DwInGCallIdeal.τ Cert.DwInGCallIdeal.sig) → Buf (Elt Ideal) ℓ) (g : Dev Cert.DwInGCallIdeal.nD → PrngReg), Pre_DwInGCallIdeal m →
    θ_run (Cert.DwInGCallIdeal.defs (F := Ideal)) (onTc (τ := Cert.DwInGCallIdeal.τ) (Cert.DwInGCallIdeal.main (F := Ideal))) ⟨m, fun _ => 0, g⟩ (fun r => (∀ c : Dev Cert.DwInGCallIdeal.nD,
      r.2.mem ((c.tc : Thread Cert.DwInGCallIdeal.nD Cert.DwInGCallIdeal.τ).loc Cert.DwInGCallIdeal.main_arg0) = m ((c.tc : Thread Cert.DwInGCallIdeal.nD Cert.DwInGCallIdeal.τ).loc Cert.DwInGCallIdeal.main_arg0)
      ∧ r.2.mem ((c.tc : Thread Cert.DwInGCallIdeal.nD Cert.DwInGCallIdeal.τ).loc Cert.DwInGCallIdeal.main_arg1) = m ((c.tc : Thread Cert.DwInGCallIdeal.nD Cert.DwInGCallIdeal.τ).loc Cert.DwInGCallIdeal.main_arg1)
      ∧ r.2.mem ((c.tc : Thread Cert.DwInGCallIdeal.nD Cert.DwInGCallIdeal.τ).loc Cert.DwInGCallIdeal.main_arg2) = m ((c.tc : Thread Cert.DwInGCallIdeal.nD Cert.DwInGCallIdeal.τ).loc Cert.DwInGCallIdeal.main_arg2)
      ∧ r.2.mem ((c.tc : Thread Cert.DwInGCallIdeal.nD Cert.DwInGCallIdeal.τ).loc Cert.DwInGCallIdeal.main_arg3) = m ((c.tc : Thread Cert.DwInGCallIdeal.nD Cert.DwInGCallIdeal.τ).loc Cert.DwInGCallIdeal.main_arg3))
      ∧ r.2.sem = fun _ => 0)

def quiescent_DwInGRefIdeal [hDwInGRefIdeal : Cert.DwInGRefIdeal.Facts] : Prop :=
  ∀ (m : (ℓ : Loc Cert.DwInGRefIdeal.nD Cert.DwInGRefIdeal.τ Cert.DwInGRefIdeal.sig) → Buf (Elt Ideal) ℓ) (g : Dev Cert.DwInGRefIdeal.nD → PrngReg), Pre_DwInGRefIdeal m →
    θ_run (Cert.DwInGRefIdeal.defs (F := Ideal)) (onTc (τ := Cert.DwInGRefIdeal.τ) (Cert.DwInGRefIdeal.main (F := Ideal))) ⟨m, fun _ => 0, g⟩ (fun r => (∀ c : Dev Cert.DwInGRefIdeal.nD,
      r.2.mem ((c.tc : Thread Cert.DwInGRefIdeal.nD Cert.DwInGRefIdeal.τ).loc Cert.DwInGRefIdeal.main_arg0) = m ((c.tc : Thread Cert.DwInGRefIdeal.nD Cert.DwInGRefIdeal.τ).loc Cert.DwInGRefIdeal.main_arg0)
      ∧ r.2.mem ((c.tc : Thread Cert.DwInGRefIdeal.nD Cert.DwInGRefIdeal.τ).loc Cert.DwInGRefIdeal.main_arg1) = m ((c.tc : Thread Cert.DwInGRefIdeal.nD Cert.DwInGRefIdeal.τ).loc Cert.DwInGRefIdeal.main_arg1)
      ∧ r.2.mem ((c.tc : Thread Cert.DwInGRefIdeal.nD Cert.DwInGRefIdeal.τ).loc Cert.DwInGRefIdeal.main_arg2) = m ((c.tc : Thread Cert.DwInGRefIdeal.nD Cert.DwInGRefIdeal.τ).loc Cert.DwInGRefIdeal.main_arg2)
      ∧ r.2.mem ((c.tc : Thread Cert.DwInGRefIdeal.nD Cert.DwInGRefIdeal.τ).loc Cert.DwInGRefIdeal.main_arg3) = m ((c.tc : Thread Cert.DwInGRefIdeal.nD Cert.DwInGRefIdeal.τ).loc Cert.DwInGRefIdeal.main_arg3))
      ∧ r.2.sem = fun _ => 0)

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)
      ∧ m' ((c.tc : Thread Cert.MergeRefIdeal.nD Cert.MergeRefIdeal.τ).loc Cert.MergeRefIdeal.main_arg4) = m ((c.tc : Thread Cert.MergeBwdIdeal.nD Cert.MergeBwdIdeal.τ).loc Cert.MergeBwdIdeal.main_arg4)
      ∧ m' ((c.tc : Thread Cert.MergeRefIdeal.nD Cert.MergeRefIdeal.τ).loc Cert.MergeRefIdeal.main_arg5) = m ((c.tc : Thread Cert.MergeBwdIdeal.nD Cert.MergeBwdIdeal.τ).loc Cert.MergeBwdIdeal.main_arg5)
      ∧ m' ((c.tc : Thread Cert.MergeRefIdeal.nD Cert.MergeRefIdeal.τ).loc Cert.MergeRefIdeal.main_arg6) = m ((c.tc : Thread Cert.MergeBwdIdeal.nD Cert.MergeBwdIdeal.τ).loc Cert.MergeBwdIdeal.main_arg6)
      ∧ m' ((c.tc : Thread Cert.MergeRefIdeal.nD Cert.MergeRefIdeal.τ).loc Cert.MergeRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v21_0)) (v1 : (c : Dev Cert.MergeBwdIdeal.nD) → Buf (Elt Ideal) ((c.tc : Thread Cert.MergeBwdIdeal.nD Cert.MergeBwdIdeal.τ).loc Cert.MergeBwdIdeal.main_v21_1)) (v2 : (c : Dev Cert.MergeBwdIdeal.nD) → Buf (Elt Ideal) ((c.tc : Thread Cert.MergeBwdIdeal.nD Cert.MergeBwdIdeal.τ).loc Cert.MergeBwdIdeal.main_v21_2)) (v3 : (c : Dev Cert.MergeBwdIdeal.nD) → Buf (Elt Ideal) ((c.tc : Thread Cert.MergeBwdIdeal.nD Cert.MergeBwdIdeal.τ).loc Cert.MergeBwdIdeal.main_v21_3)) (v4 : (c : Dev Cert.MergeBwdIdeal.nD) → Buf (Elt Ideal) ((c.tc : Thread Cert.MergeBwdIdeal.nD Cert.MergeBwdIdeal.τ).loc Cert.MergeBwdIdeal.main_v21_4)) (v5 : (c : Dev Cert.MergeBwdIdeal.nD) → Buf (Elt Ideal) ((c.tc : Thread Cert.MergeBwdIdeal.nD Cert.MergeBwdIdeal.τ).loc Cert.MergeBwdIdeal.main_v21_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v21_0) = v0 c
          ∧ r.2.mem ((c.tc : Thread Cert.MergeBwdIdeal.nD Cert.MergeBwdIdeal.τ).loc Cert.MergeBwdIdeal.main_v21_1) = v1 c
          ∧ r.2.mem ((c.tc : Thread Cert.MergeBwdIdeal.nD Cert.MergeBwdIdeal.τ).loc Cert.MergeBwdIdeal.main_v21_2) = v2 c
          ∧ r.2.mem ((c.tc : Thread Cert.MergeBwdIdeal.nD Cert.MergeBwdIdeal.τ).loc Cert.MergeBwdIdeal.main_v21_3) = v3 c
          ∧ r.2.mem ((c.tc : Thread Cert.MergeBwdIdeal.nD Cert.MergeBwdIdeal.τ).loc Cert.MergeBwdIdeal.main_v21_4) = v4 c
          ∧ r.2.mem ((c.tc : Thread Cert.MergeBwdIdeal.nD Cert.MergeBwdIdeal.τ).loc Cert.MergeBwdIdeal.main_v21_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v54) = v0 c
          ∧ r.2.mem ((c.tc : Thread Cert.MergeRefIdeal.nD Cert.MergeRefIdeal.τ).loc Cert.MergeRefIdeal.main_v55) = v1 c
          ∧ r.2.mem ((c.tc : Thread Cert.MergeRefIdeal.nD Cert.MergeRefIdeal.τ).loc Cert.MergeRefIdeal.main_v56) = v2 c
          ∧ r.2.mem ((c.tc : Thread Cert.MergeRefIdeal.nD Cert.MergeRefIdeal.τ).loc Cert.MergeRefIdeal.main_v57) = v3 c
          ∧ r.2.mem ((c.tc : Thread Cert.MergeRefIdeal.nD Cert.MergeRefIdeal.τ).loc Cert.MergeRefIdeal.main_v52) = v4 c
          ∧ r.2.mem ((c.tc : Thread Cert.MergeRefIdeal.nD Cert.MergeRefIdeal.τ).loc Cert.MergeRefIdeal.main_v53) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InCall_InCallIdeal : Prop :=
  True

def algebraic_InCallIdeal_InRefIdeal [hInCallIdeal : Cert.InCallIdeal.Facts] [hInRefIdeal : Cert.InRefIdeal.Facts] : Prop :=
  ∀ (m : (ℓ : Loc Cert.InCallIdeal.nD Cert.InCallIdeal.τ Cert.InCallIdeal.sig) → Buf (Elt Ideal) ℓ) (g : Dev Cert.InCallIdeal.nD → PrngReg)
    (m' : (ℓ : Loc Cert.InRefIdeal.nD Cert.InRefIdeal.τ Cert.InRefIdeal.sig) → Buf (Elt Ideal) ℓ) (g' : Dev Cert.InRefIdeal.nD → PrngReg), Pre_InCallIdeal m →
    (∀ c : Dev Cert.InCallIdeal.nD,
      m' ((c.tc : Thread Cert.InRefIdeal.nD Cert.InRefIdeal.τ).loc Cert.InRefIdeal.main_arg0) = m ((c.tc : Thread Cert.InCallIdeal.nD Cert.InCallIdeal.τ).loc Cert.InCallIdeal.main_arg0)
      ∧ m' ((c.tc : Thread Cert.InRefIdeal.nD Cert.InRefIdeal.τ).loc Cert.InRefIdeal.main_arg1) = m ((c.tc : Thread Cert.InCallIdeal.nD Cert.InCallIdeal.τ).loc Cert.InCallIdeal.main_arg1)
      ∧ m' ((c.tc : Thread Cert.InRefIdeal.nD Cert.InRefIdeal.τ).loc Cert.InRefIdeal.main_arg2) = m ((c.tc : Thread Cert.InCallIdeal.nD Cert.InCallIdeal.τ).loc Cert.InCallIdeal.main_arg2)
      ∧ m' ((c.tc : Thread Cert.InRefIdeal.nD Cert.InRefIdeal.τ).loc Cert.InRefIdeal.main_arg3) = m ((c.tc : Thread Cert.InCallIdeal.nD Cert.InCallIdeal.τ).loc Cert.InCallIdeal.main_arg3)
      ∧ m' ((c.tc : Thread Cert.InRefIdeal.nD Cert.InRefIdeal.τ).loc Cert.InRefIdeal.main_arg4) = m ((c.tc : Thread Cert.InCallIdeal.nD Cert.InCallIdeal.τ).loc Cert.InCallIdeal.main_arg4)) →
    ∃ (v0 : (c : Dev Cert.InCallIdeal.nD) → Buf (Elt Ideal) ((c.tc : Thread Cert.InCallIdeal.nD Cert.InCallIdeal.τ).loc Cert.InCallIdeal.main_v6_0)) (v1 : (c : Dev Cert.InCallIdeal.nD) → Buf (Elt Ideal) ((c.tc : Thread Cert.InCallIdeal.nD Cert.InCallIdeal.τ).loc Cert.InCallIdeal.main_v6_1)),
      θ_run (Cert.InCallIdeal.defs (F := Ideal)) (onTc (τ := Cert.InCallIdeal.τ) (Cert.InCallIdeal.main (F := Ideal))) ⟨m, fun _ => 0, g⟩ (fun r => ∀ c : Dev Cert.InCallIdeal.nD,
          r.2.mem ((c.tc : Thread Cert.InCallIdeal.nD Cert.InCallIdeal.τ).loc Cert.InCallIdeal.main_v6_0) = v0 c
          ∧ r.2.mem ((c.tc : Thread Cert.InCallIdeal.nD Cert.InCallIdeal.τ).loc Cert.InCallIdeal.main_v6_1) = v1 c
          ∧ r.2.mem ((c.tc : Thread Cert.InCallIdeal.nD Cert.InCallIdeal.τ).loc Cert.InCallIdeal.main_arg0) = m ((c.tc : Thread Cert.InCallIdeal.nD Cert.InCallIdeal.τ).loc Cert.InCallIdeal.main_arg0)
          ∧ r.2.mem ((c.tc : Thread Cert.InCallIdeal.nD Cert.InCallIdeal.τ).loc Cert.InCallIdeal.main_arg1) = m ((c.tc : Thread Cert.InCallIdeal.nD Cert.InCallIdeal.τ).loc Cert.InCallIdeal.main_arg1)
          ∧ r.2.mem ((c.tc : Thread Cert.InCallIdeal.nD Cert.InCallIdeal.τ).loc Cert.InCallIdeal.main_arg2) = m ((c.tc : Thread Cert.InCallIdeal.nD Cert.InCallIdeal.τ).loc Cert.InCallIdeal.main_arg2)
          ∧ r.2.mem ((c.tc : Thread Cert.InCallIdeal.nD Cert.InCallIdeal.τ).loc Cert.InCallIdeal.main_arg3) = m ((c.tc : Thread Cert.InCallIdeal.nD Cert.InCallIdeal.τ).loc Cert.InCallIdeal.main_arg3)
          ∧ r.2.mem ((c.tc : Thread Cert.InCallIdeal.nD Cert.InCallIdeal.τ).loc Cert.InCallIdeal.main_arg4) = m ((c.tc : Thread Cert.InCallIdeal.nD Cert.InCallIdeal.τ).loc Cert.InCallIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v38) = v0 c
          ∧ r.2.mem ((c.tc : Thread Cert.InRefIdeal.nD Cert.InRefIdeal.τ).loc Cert.InRefIdeal.main_v39) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_UpCall_UpCallIdeal : Prop :=
  True

def algebraic_UpCallIdeal_UpRefIdeal [hUpCallIdeal : Cert.UpCallIdeal.Facts] [hUpRefIdeal : Cert.UpRefIdeal.Facts] : Prop :=
  ∀ (m : (ℓ : Loc Cert.UpCallIdeal.nD Cert.UpCallIdeal.τ Cert.UpCallIdeal.sig) → Buf (Elt Ideal) ℓ) (g : Dev Cert.UpCallIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpCallIdeal m →
    (∀ c : Dev Cert.UpCallIdeal.nD,
      m' ((c.tc : Thread Cert.UpRefIdeal.nD Cert.UpRefIdeal.τ).loc Cert.UpRefIdeal.main_arg0) = m ((c.tc : Thread Cert.UpCallIdeal.nD Cert.UpCallIdeal.τ).loc Cert.UpCallIdeal.main_arg0)
      ∧ m' ((c.tc : Thread Cert.UpRefIdeal.nD Cert.UpRefIdeal.τ).loc Cert.UpRefIdeal.main_arg1) = m ((c.tc : Thread Cert.UpCallIdeal.nD Cert.UpCallIdeal.τ).loc Cert.UpCallIdeal.main_arg1)
      ∧ m' ((c.tc : Thread Cert.UpRefIdeal.nD Cert.UpRefIdeal.τ).loc Cert.UpRefIdeal.main_arg2) = m ((c.tc : Thread Cert.UpCallIdeal.nD Cert.UpCallIdeal.τ).loc Cert.UpCallIdeal.main_arg2)
      ∧ m' ((c.tc : Thread Cert.UpRefIdeal.nD Cert.UpRefIdeal.τ).loc Cert.UpRefIdeal.main_arg3) = m ((c.tc : Thread Cert.UpCallIdeal.nD Cert.UpCallIdeal.τ).loc Cert.UpCallIdeal.main_arg3)
      ∧ m' ((c.tc : Thread Cert.UpRefIdeal.nD Cert.UpRefIdeal.τ).loc Cert.UpRefIdeal.main_arg4) = m ((c.tc : Thread Cert.UpCallIdeal.nD Cert.UpCallIdeal.τ).loc Cert.UpCallIdeal.main_arg4)
      ∧ m' ((c.tc : Thread Cert.UpRefIdeal.nD Cert.UpRefIdeal.τ).loc Cert.UpRefIdeal.main_arg5) = m ((c.tc : Thread Cert.UpCallIdeal.nD Cert.UpCallIdeal.τ).loc Cert.UpCallIdeal.main_arg5)
      ∧ m' ((c.tc : Thread Cert.UpRefIdeal.nD Cert.UpRefIdeal.τ).loc Cert.UpRefIdeal.main_arg6) = m ((c.tc : Thread Cert.UpCallIdeal.nD Cert.UpCallIdeal.τ).loc Cert.UpCallIdeal.main_arg6)) →
    ∃ (v0 : (c : Dev Cert.UpCallIdeal.nD) → Buf (Elt Ideal) ((c.tc : Thread Cert.UpCallIdeal.nD Cert.UpCallIdeal.τ).loc Cert.UpCallIdeal.main_v5_0)) (v1 : (c : Dev Cert.UpCallIdeal.nD) → Buf (Elt Ideal) ((c.tc : Thread Cert.UpCallIdeal.nD Cert.UpCallIdeal.τ).loc Cert.UpCallIdeal.main_v5_1)) (v2 : (c : Dev Cert.UpCallIdeal.nD) → Buf (Elt Ideal) ((c.tc : Thread Cert.UpCallIdeal.nD Cert.UpCallIdeal.τ).loc Cert.UpCallIdeal.main_v5_2)),
      θ_run (Cert.UpCallIdeal.defs (F := Ideal)) (onTc (τ := Cert.UpCallIdeal.τ) (Cert.UpCallIdeal.main (F := Ideal))) ⟨m, fun _ => 0, g⟩ (fun r => ∀ c : Dev Cert.UpCallIdeal.nD,
          r.2.mem ((c.tc : Thread Cert.UpCallIdeal.nD Cert.UpCallIdeal.τ).loc Cert.UpCallIdeal.main_v5_0) = v0 c
          ∧ r.2.mem ((c.tc : Thread Cert.UpCallIdeal.nD Cert.UpCallIdeal.τ).loc Cert.UpCallIdeal.main_v5_1) = v1 c
          ∧ r.2.mem ((c.tc : Thread Cert.UpCallIdeal.nD Cert.UpCallIdeal.τ).loc Cert.UpCallIdeal.main_v5_2) = v2 c
          ∧ r.2.mem ((c.tc : Thread Cert.UpCallIdeal.nD Cert.UpCallIdeal.τ).loc Cert.UpCallIdeal.main_arg0) = m ((c.tc : Thread Cert.UpCallIdeal.nD Cert.UpCallIdeal.τ).loc Cert.UpCallIdeal.main_arg0)
          ∧ r.2.mem ((c.tc : Thread Cert.UpCallIdeal.nD Cert.UpCallIdeal.τ).loc Cert.UpCallIdeal.main_arg1) = m ((c.tc : Thread Cert.UpCallIdeal.nD Cert.UpCallIdeal.τ).loc Cert.UpCallIdeal.main_arg1)
          ∧ r.2.mem ((c.tc : Thread Cert.UpCallIdeal.nD Cert.UpCallIdeal.τ).loc Cert.UpCallIdeal.main_arg2) = m ((c.tc : Thread Cert.UpCallIdeal.nD Cert.UpCallIdeal.τ).loc Cert.UpCallIdeal.main_arg2)
          ∧ r.2.mem ((c.tc : Thread Cert.UpCallIdeal.nD Cert.UpCallIdeal.τ).loc Cert.UpCallIdeal.main_arg3) = m ((c.tc : Thread Cert.UpCallIdeal.nD Cert.UpCallIdeal.τ).loc Cert.UpCallIdeal.main_arg3)
          ∧ r.2.mem ((c.tc : Thread Cert.UpCallIdeal.nD Cert.UpCallIdeal.τ).loc Cert.UpCallIdeal.main_arg4) = m ((c.tc : Thread Cert.UpCallIdeal.nD Cert.UpCallIdeal.τ).loc Cert.UpCallIdeal.main_arg4)
          ∧ r.2.mem ((c.tc : Thread Cert.UpCallIdeal.nD Cert.UpCallIdeal.τ).loc Cert.UpCallIdeal.main_arg5) = m ((c.tc : Thread Cert.UpCallIdeal.nD Cert.UpCallIdeal.τ).loc Cert.UpCallIdeal.main_arg5)
          ∧ r.2.mem ((c.tc : Thread Cert.UpCallIdeal.nD Cert.UpCallIdeal.τ).loc Cert.UpCallIdeal.main_arg6) = m ((c.tc : Thread Cert.UpCallIdeal.nD Cert.UpCallIdeal.τ).loc Cert.UpCallIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v41) = v0 c
          ∧ r.2.mem ((c.tc : Thread Cert.UpRefIdeal.nD Cert.UpRefIdeal.τ).loc Cert.UpRefIdeal.main_v42) = v1 c
          ∧ r.2.mem ((c.tc : Thread Cert.UpRefIdeal.nD Cert.UpRefIdeal.τ).loc Cert.UpRefIdeal.main_v43) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_DownCall_DownCallIdeal : Prop :=
  True

def algebraic_DownCallIdeal_DownRefIdeal_pre_finite [hDownCallIdeal : Cert.DownCallIdeal.Facts] [hDownRefIdeal : Cert.DownRefIdeal.Facts] [hPre_finite : Cert.Pre_finite.Facts] : Prop :=
  ∀ (m : (ℓ : Loc Cert.DownCallIdeal.nD Cert.DownCallIdeal.τ Cert.DownCallIdeal.sig) → Buf (Elt Ideal) ℓ) (g : Dev Cert.DownCallIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownCallIdeal_finite m →
    (∀ c : Dev Cert.DownCallIdeal.nD,
      m' ((c.tc : Thread Cert.DownRefIdeal.nD Cert.DownRefIdeal.τ).loc Cert.DownRefIdeal.main_arg0) = m ((c.tc : Thread Cert.DownCallIdeal.nD Cert.DownCallIdeal.τ).loc Cert.DownCallIdeal.main_arg0)
      ∧ m' ((c.tc : Thread Cert.DownRefIdeal.nD Cert.DownRefIdeal.τ).loc Cert.DownRefIdeal.main_arg1) = m ((c.tc : Thread Cert.DownCallIdeal.nD Cert.DownCallIdeal.τ).loc Cert.DownCallIdeal.main_arg1)
      ∧ m' ((c.tc : Thread Cert.DownRefIdeal.nD Cert.DownRefIdeal.τ).loc Cert.DownRefIdeal.main_arg2) = m ((c.tc : Thread Cert.DownCallIdeal.nD Cert.DownCallIdeal.τ).loc Cert.DownCallIdeal.main_arg2)
      ∧ m' ((c.tc : Thread Cert.DownRefIdeal.nD Cert.DownRefIdeal.τ).loc Cert.DownRefIdeal.main_arg3) = m ((c.tc : Thread Cert.DownCallIdeal.nD Cert.DownCallIdeal.τ).loc Cert.DownCallIdeal.main_arg3)) →
    ∃ (v0 : (c : Dev Cert.DownCallIdeal.nD) → Buf (Elt Ideal) ((c.tc : Thread Cert.DownCallIdeal.nD Cert.DownCallIdeal.τ).loc Cert.DownCallIdeal.main_v4_0)) (v1 : (c : Dev Cert.DownCallIdeal.nD) → Buf (Elt Ideal) ((c.tc : Thread Cert.DownCallIdeal.nD Cert.DownCallIdeal.τ).loc Cert.DownCallIdeal.main_v4_1)),
      θ_run (Cert.DownCallIdeal.defs (F := Ideal)) (onTc (τ := Cert.DownCallIdeal.τ) (Cert.DownCallIdeal.main (F := Ideal))) ⟨m, fun _ => 0, g⟩ (fun r => ∀ c : Dev Cert.DownCallIdeal.nD,
          r.2.mem ((c.tc : Thread Cert.DownCallIdeal.nD Cert.DownCallIdeal.τ).loc Cert.DownCallIdeal.main_v4_0) = v0 c
          ∧ r.2.mem ((c.tc : Thread Cert.DownCallIdeal.nD Cert.DownCallIdeal.τ).loc Cert.DownCallIdeal.main_v4_1) = v1 c
          ∧ r.2.mem ((c.tc : Thread Cert.DownCallIdeal.nD Cert.DownCallIdeal.τ).loc Cert.DownCallIdeal.main_arg0) = m ((c.tc : Thread Cert.DownCallIdeal.nD Cert.DownCallIdeal.τ).loc Cert.DownCallIdeal.main_arg0)
          ∧ r.2.mem ((c.tc : Thread Cert.DownCallIdeal.nD Cert.DownCallIdeal.τ).loc Cert.DownCallIdeal.main_arg1) = m ((c.tc : Thread Cert.DownCallIdeal.nD Cert.DownCallIdeal.τ).loc Cert.DownCallIdeal.main_arg1)
          ∧ r.2.mem ((c.tc : Thread Cert.DownCallIdeal.nD Cert.DownCallIdeal.τ).loc Cert.DownCallIdeal.main_arg2) = m ((c.tc : Thread Cert.DownCallIdeal.nD Cert.DownCallIdeal.τ).loc Cert.DownCallIdeal.main_arg2)
          ∧ r.2.mem ((c.tc : Thread Cert.DownCallIdeal.nD Cert.DownCallIdeal.τ).loc Cert.DownCallIdeal.main_arg3) = m ((c.tc : Thread Cert.DownCallIdeal.nD Cert.DownCallIdeal.τ).loc Cert.DownCallIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_v8) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_GateCall_GateCallIdeal : Prop :=
  True

def algebraic_GateCallIdeal_GateRefIdeal [hGateCallIdeal : Cert.GateCallIdeal.Facts] [hGateRefIdeal : Cert.GateRefIdeal.Facts] : Prop :=
  ∀ (m : (ℓ : Loc Cert.GateCallIdeal.nD Cert.GateCallIdeal.τ Cert.GateCallIdeal.sig) → Buf (Elt Ideal) ℓ) (g : Dev Cert.GateCallIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateCallIdeal m →
    (∀ c : Dev Cert.GateCallIdeal.nD,
      m' ((c.tc : Thread Cert.GateRefIdeal.nD Cert.GateRefIdeal.τ).loc Cert.GateRefIdeal.main_arg0) = m ((c.tc : Thread Cert.GateCallIdeal.nD Cert.GateCallIdeal.τ).loc Cert.GateCallIdeal.main_arg0)
      ∧ m' ((c.tc : Thread Cert.GateRefIdeal.nD Cert.GateRefIdeal.τ).loc Cert.GateRefIdeal.main_arg1) = m ((c.tc : Thread Cert.GateCallIdeal.nD Cert.GateCallIdeal.τ).loc Cert.GateCallIdeal.main_arg1)
      ∧ m' ((c.tc : Thread Cert.GateRefIdeal.nD Cert.GateRefIdeal.τ).loc Cert.GateRefIdeal.main_arg2) = m ((c.tc : Thread Cert.GateCallIdeal.nD Cert.GateCallIdeal.τ).loc Cert.GateCallIdeal.main_arg2)
      ∧ m' ((c.tc : Thread Cert.GateRefIdeal.nD Cert.GateRefIdeal.τ).loc Cert.GateRefIdeal.main_arg3) = m ((c.tc : Thread Cert.GateCallIdeal.nD Cert.GateCallIdeal.τ).loc Cert.GateCallIdeal.main_arg3)) →
    ∃ (v0 : (c : Dev Cert.GateCallIdeal.nD) → Buf (Elt Ideal) ((c.tc : Thread Cert.GateCallIdeal.nD Cert.GateCallIdeal.τ).loc Cert.GateCallIdeal.main_v16_0)) (v1 : (c : Dev Cert.GateCallIdeal.nD) → Buf (Elt Ideal) ((c.tc : Thread Cert.GateCallIdeal.nD Cert.GateCallIdeal.τ).loc Cert.GateCallIdeal.main_v16_1)) (v2 : (c : Dev Cert.GateCallIdeal.nD) → Buf (Elt Ideal) ((c.tc : Thread Cert.GateCallIdeal.nD Cert.GateCallIdeal.τ).loc Cert.GateCallIdeal.main_v16_2)),
      θ_run (Cert.GateCallIdeal.defs (F := Ideal)) (onTc (τ := Cert.GateCallIdeal.τ) (Cert.GateCallIdeal.main (F := Ideal))) ⟨m, fun _ => 0, g⟩ (fun r => ∀ c : Dev Cert.GateCallIdeal.nD,
          r.2.mem ((c.tc : Thread Cert.GateCallIdeal.nD Cert.GateCallIdeal.τ).loc Cert.GateCallIdeal.main_v16_0) = v0 c
          ∧ r.2.mem ((c.tc : Thread Cert.GateCallIdeal.nD Cert.GateCallIdeal.τ).loc Cert.GateCallIdeal.main_v16_1) = v1 c
          ∧ r.2.mem ((c.tc : Thread Cert.GateCallIdeal.nD Cert.GateCallIdeal.τ).loc Cert.GateCallIdeal.main_v16_2) = v2 c
          ∧ r.2.mem ((c.tc : Thread Cert.GateCallIdeal.nD Cert.GateCallIdeal.τ).loc Cert.GateCallIdeal.main_arg0) = m ((c.tc : Thread Cert.GateCallIdeal.nD Cert.GateCallIdeal.τ).loc Cert.GateCallIdeal.main_arg0)
          ∧ r.2.mem ((c.tc : Thread Cert.GateCallIdeal.nD Cert.GateCallIdeal.τ).loc Cert.GateCallIdeal.main_arg1) = m ((c.tc : Thread Cert.GateCallIdeal.nD Cert.GateCallIdeal.τ).loc Cert.GateCallIdeal.main_arg1)
          ∧ r.2.mem ((c.tc : Thread Cert.GateCallIdeal.nD Cert.GateCallIdeal.τ).loc Cert.GateCallIdeal.main_arg2) = m ((c.tc : Thread Cert.GateCallIdeal.nD Cert.GateCallIdeal.τ).loc Cert.GateCallIdeal.main_arg2)
          ∧ r.2.mem ((c.tc : Thread Cert.GateCallIdeal.nD Cert.GateCallIdeal.τ).loc Cert.GateCallIdeal.main_arg3) = m ((c.tc : Thread Cert.GateCallIdeal.nD Cert.GateCallIdeal.τ).loc Cert.GateCallIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_v18) = v1 c
          ∧ r.2.mem ((c.tc : Thread Cert.GateRefIdeal.nD Cert.GateRefIdeal.τ).loc Cert.GateRefIdeal.main_v19) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_DwDownCall_DwDownCallIdeal : Prop :=
  True

def algebraic_DwDownCallIdeal_DwDownRefIdeal [hDwDownCallIdeal : Cert.DwDownCallIdeal.Facts] [hDwDownRefIdeal : Cert.DwDownRefIdeal.Facts] : Prop :=
  ∀ (m : (ℓ : Loc Cert.DwDownCallIdeal.nD Cert.DwDownCallIdeal.τ Cert.DwDownCallIdeal.sig) → Buf (Elt Ideal) ℓ) (g : Dev Cert.DwDownCallIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownCallIdeal m →
    (∀ c : Dev Cert.DwDownCallIdeal.nD,
      m' ((c.tc : Thread Cert.DwDownRefIdeal.nD Cert.DwDownRefIdeal.τ).loc Cert.DwDownRefIdeal.main_arg0) = m ((c.tc : Thread Cert.DwDownCallIdeal.nD Cert.DwDownCallIdeal.τ).loc Cert.DwDownCallIdeal.main_arg0)
      ∧ m' ((c.tc : Thread Cert.DwDownRefIdeal.nD Cert.DwDownRefIdeal.τ).loc Cert.DwDownRefIdeal.main_arg1) = m ((c.tc : Thread Cert.DwDownCallIdeal.nD Cert.DwDownCallIdeal.τ).loc Cert.DwDownCallIdeal.main_arg1)
      ∧ m' ((c.tc : Thread Cert.DwDownRefIdeal.nD Cert.DwDownRefIdeal.τ).loc Cert.DwDownRefIdeal.main_arg2) = m ((c.tc : Thread Cert.DwDownCallIdeal.nD Cert.DwDownCallIdeal.τ).loc Cert.DwDownCallIdeal.main_arg2)) →
    ∃ (v0 : (c : Dev Cert.DwDownCallIdeal.nD) → Buf (Elt Ideal) ((c.tc : Thread Cert.DwDownCallIdeal.nD Cert.DwDownCallIdeal.τ).loc Cert.DwDownCallIdeal.main_v4)),
      θ_run (Cert.DwDownCallIdeal.defs (F := Ideal)) (onTc (τ := Cert.DwDownCallIdeal.τ) (Cert.DwDownCallIdeal.main (F := Ideal))) ⟨m, fun _ => 0, g⟩ (fun r => ∀ c : Dev Cert.DwDownCallIdeal.nD,
          r.2.mem ((c.tc : Thread Cert.DwDownCallIdeal.nD Cert.DwDownCallIdeal.τ).loc Cert.DwDownCallIdeal.main_v4) = v0 c
          ∧ r.2.mem ((c.tc : Thread Cert.DwDownCallIdeal.nD Cert.DwDownCallIdeal.τ).loc Cert.DwDownCallIdeal.main_arg0) = m ((c.tc : Thread Cert.DwDownCallIdeal.nD Cert.DwDownCallIdeal.τ).loc Cert.DwDownCallIdeal.main_arg0)
          ∧ r.2.mem ((c.tc : Thread Cert.DwDownCallIdeal.nD Cert.DwDownCallIdeal.τ).loc Cert.DwDownCallIdeal.main_arg1) = m ((c.tc : Thread Cert.DwDownCallIdeal.nD Cert.DwDownCallIdeal.τ).loc Cert.DwDownCallIdeal.main_arg1)
          ∧ r.2.mem ((c.tc : Thread Cert.DwDownCallIdeal.nD Cert.DwDownCallIdeal.τ).loc Cert.DwDownCallIdeal.main_arg2) = m ((c.tc : Thread Cert.DwDownCallIdeal.nD Cert.DwDownCallIdeal.τ).loc Cert.DwDownCallIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_DwGateCall_DwGateCallIdeal : Prop :=
  True

def algebraic_DwGateCallIdeal_DwGateRefIdeal [hDwGateCallIdeal : Cert.DwGateCallIdeal.Facts] [hDwGateRefIdeal : Cert.DwGateRefIdeal.Facts] : Prop :=
  ∀ (m : (ℓ : Loc Cert.DwGateCallIdeal.nD Cert.DwGateCallIdeal.τ Cert.DwGateCallIdeal.sig) → Buf (Elt Ideal) ℓ) (g : Dev Cert.DwGateCallIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateCallIdeal m →
    (∀ c : Dev Cert.DwGateCallIdeal.nD,
      m' ((c.tc : Thread Cert.DwGateRefIdeal.nD Cert.DwGateRefIdeal.τ).loc Cert.DwGateRefIdeal.main_arg0) = m ((c.tc : Thread Cert.DwGateCallIdeal.nD Cert.DwGateCallIdeal.τ).loc Cert.DwGateCallIdeal.main_arg0)
      ∧ m' ((c.tc : Thread Cert.DwGateRefIdeal.nD Cert.DwGateRefIdeal.τ).loc Cert.DwGateRefIdeal.main_arg1) = m ((c.tc : Thread Cert.DwGateCallIdeal.nD Cert.DwGateCallIdeal.τ).loc Cert.DwGateCallIdeal.main_arg1)
      ∧ m' ((c.tc : Thread Cert.DwGateRefIdeal.nD Cert.DwGateRefIdeal.τ).loc Cert.DwGateRefIdeal.main_arg2) = m ((c.tc : Thread Cert.DwGateCallIdeal.nD Cert.DwGateCallIdeal.τ).loc Cert.DwGateCallIdeal.main_arg2)) →
    ∃ (v0 : (c : Dev Cert.DwGateCallIdeal.nD) → Buf (Elt Ideal) ((c.tc : Thread Cert.DwGateCallIdeal.nD Cert.DwGateCallIdeal.τ).loc Cert.DwGateCallIdeal.main_v15)),
      θ_run (Cert.DwGateCallIdeal.defs (F := Ideal)) (onTc (τ := Cert.DwGateCallIdeal.τ) (Cert.DwGateCallIdeal.main (F := Ideal))) ⟨m, fun _ => 0, g⟩ (fun r => ∀ c : Dev Cert.DwGateCallIdeal.nD,
          r.2.mem ((c.tc : Thread Cert.DwGateCallIdeal.nD Cert.DwGateCallIdeal.τ).loc Cert.DwGateCallIdeal.main_v15) = v0 c
          ∧ r.2.mem ((c.tc : Thread Cert.DwGateCallIdeal.nD Cert.DwGateCallIdeal.τ).loc Cert.DwGateCallIdeal.main_arg0) = m ((c.tc : Thread Cert.DwGateCallIdeal.nD Cert.DwGateCallIdeal.τ).loc Cert.DwGateCallIdeal.main_arg0)
          ∧ r.2.mem ((c.tc : Thread Cert.DwGateCallIdeal.nD Cert.DwGateCallIdeal.τ).loc Cert.DwGateCallIdeal.main_arg1) = m ((c.tc : Thread Cert.DwGateCallIdeal.nD Cert.DwGateCallIdeal.τ).loc Cert.DwGateCallIdeal.main_arg1)
          ∧ r.2.mem ((c.tc : Thread Cert.DwGateCallIdeal.nD Cert.DwGateCallIdeal.τ).loc Cert.DwGateCallIdeal.main_arg2) = m ((c.tc : Thread Cert.DwGateCallIdeal.nD Cert.DwGateCallIdeal.τ).loc Cert.DwGateCallIdeal.main_arg2))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v17) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2))

def preserves_HeadCall_HeadCallIdeal : Prop :=
  True

def algebraic_HeadCallIdeal_HeadRefIdeal [hHeadCallIdeal : Cert.HeadCallIdeal.Facts] [hHeadRefIdeal : Cert.HeadRefIdeal.Facts] : Prop :=
  ∀ (m : (ℓ : Loc Cert.HeadCallIdeal.nD Cert.HeadCallIdeal.τ Cert.HeadCallIdeal.sig) → Buf (Elt Ideal) ℓ) (g : Dev Cert.HeadCallIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadCallIdeal m →
    (∀ c : Dev Cert.HeadCallIdeal.nD,
      m' ((c.tc : Thread Cert.HeadRefIdeal.nD Cert.HeadRefIdeal.τ).loc Cert.HeadRefIdeal.main_arg0) = m ((c.tc : Thread Cert.HeadCallIdeal.nD Cert.HeadCallIdeal.τ).loc Cert.HeadCallIdeal.main_arg0)
      ∧ m' ((c.tc : Thread Cert.HeadRefIdeal.nD Cert.HeadRefIdeal.τ).loc Cert.HeadRefIdeal.main_arg1) = m ((c.tc : Thread Cert.HeadCallIdeal.nD Cert.HeadCallIdeal.τ).loc Cert.HeadCallIdeal.main_arg1)
      ∧ m' ((c.tc : Thread Cert.HeadRefIdeal.nD Cert.HeadRefIdeal.τ).loc Cert.HeadRefIdeal.main_arg2) = m ((c.tc : Thread Cert.HeadCallIdeal.nD Cert.HeadCallIdeal.τ).loc Cert.HeadCallIdeal.main_arg2)
      ∧ m' ((c.tc : Thread Cert.HeadRefIdeal.nD Cert.HeadRefIdeal.τ).loc Cert.HeadRefIdeal.main_arg3) = m ((c.tc : Thread Cert.HeadCallIdeal.nD Cert.HeadCallIdeal.τ).loc Cert.HeadCallIdeal.main_arg3)
      ∧ m' ((c.tc : Thread Cert.HeadRefIdeal.nD Cert.HeadRefIdeal.τ).loc Cert.HeadRefIdeal.main_arg4) = m ((c.tc : Thread Cert.HeadCallIdeal.nD Cert.HeadCallIdeal.τ).loc Cert.HeadCallIdeal.main_arg4)
      ∧ m' ((c.tc : Thread Cert.HeadRefIdeal.nD Cert.HeadRefIdeal.τ).loc Cert.HeadRefIdeal.main_arg5) = m ((c.tc : Thread Cert.HeadCallIdeal.nD Cert.HeadCallIdeal.τ).loc Cert.HeadCallIdeal.main_arg5)
      ∧ m' ((c.tc : Thread Cert.HeadRefIdeal.nD Cert.HeadRefIdeal.τ).loc Cert.HeadRefIdeal.main_arg6) = m ((c.tc : Thread Cert.HeadCallIdeal.nD Cert.HeadCallIdeal.τ).loc Cert.HeadCallIdeal.main_arg6)
      ∧ m' ((c.tc : Thread Cert.HeadRefIdeal.nD Cert.HeadRefIdeal.τ).loc Cert.HeadRefIdeal.main_arg7) = m ((c.tc : Thread Cert.HeadCallIdeal.nD Cert.HeadCallIdeal.τ).loc Cert.HeadCallIdeal.main_arg7)) →
    ∃ (v0 : (c : Dev Cert.HeadCallIdeal.nD) → Buf (Elt Ideal) ((c.tc : Thread Cert.HeadCallIdeal.nD Cert.HeadCallIdeal.τ).loc Cert.HeadCallIdeal.main_v5_0)) (v1 : (c : Dev Cert.HeadCallIdeal.nD) → Buf (Elt Ideal) ((c.tc : Thread Cert.HeadCallIdeal.nD Cert.HeadCallIdeal.τ).loc Cert.HeadCallIdeal.main_v5_1)) (v2 : (c : Dev Cert.HeadCallIdeal.nD) → Buf (Elt Ideal) ((c.tc : Thread Cert.HeadCallIdeal.nD Cert.HeadCallIdeal.τ).loc Cert.HeadCallIdeal.main_v5_2)) (v3 : (c : Dev Cert.HeadCallIdeal.nD) → Buf (Elt Ideal) ((c.tc : Thread Cert.HeadCallIdeal.nD Cert.HeadCallIdeal.τ).loc Cert.HeadCallIdeal.main_v5_3)) (v4 : (c : Dev Cert.HeadCallIdeal.nD) → Buf (Elt Ideal) ((c.tc : Thread Cert.HeadCallIdeal.nD Cert.HeadCallIdeal.τ).loc Cert.HeadCallIdeal.main_v5_4)) (v5 : (c : Dev Cert.HeadCallIdeal.nD) → Buf (Elt Ideal) ((c.tc : Thread Cert.HeadCallIdeal.nD Cert.HeadCallIdeal.τ).loc Cert.HeadCallIdeal.main_v5_5)) (v6 : (c : Dev Cert.HeadCallIdeal.nD) → Buf (Elt Ideal) ((c.tc : Thread Cert.HeadCallIdeal.nD Cert.HeadCallIdeal.τ).loc Cert.HeadCallIdeal.main_v5_6)),
      θ_run (Cert.HeadCallIdeal.defs (F := Ideal)) (onTc (τ := Cert.HeadCallIdeal.τ) (Cert.HeadCallIdeal.main (F := Ideal))) ⟨m, fun _ => 0, g⟩ (fun r => ∀ c : Dev Cert.HeadCallIdeal.nD,
          r.2.mem ((c.tc : Thread Cert.HeadCallIdeal.nD Cert.HeadCallIdeal.τ).loc Cert.HeadCallIdeal.main_v5_0) = v0 c
          ∧ r.2.mem ((c.tc : Thread Cert.HeadCallIdeal.nD Cert.HeadCallIdeal.τ).loc Cert.HeadCallIdeal.main_v5_1) = v1 c
          ∧ r.2.mem ((c.tc : Thread Cert.HeadCallIdeal.nD Cert.HeadCallIdeal.τ).loc Cert.HeadCallIdeal.main_v5_2) = v2 c
          ∧ r.2.mem ((c.tc : Thread Cert.HeadCallIdeal.nD Cert.HeadCallIdeal.τ).loc Cert.HeadCallIdeal.main_v5_3) = v3 c
          ∧ r.2.mem ((c.tc : Thread Cert.HeadCallIdeal.nD Cert.HeadCallIdeal.τ).loc Cert.HeadCallIdeal.main_v5_4) = v4 c
          ∧ r.2.mem ((c.tc : Thread Cert.HeadCallIdeal.nD Cert.HeadCallIdeal.τ).loc Cert.HeadCallIdeal.main_v5_5) = v5 c
          ∧ r.2.mem ((c.tc : Thread Cert.HeadCallIdeal.nD Cert.HeadCallIdeal.τ).loc Cert.HeadCallIdeal.main_v5_6) = v6 c
          ∧ r.2.mem ((c.tc : Thread Cert.HeadCallIdeal.nD Cert.HeadCallIdeal.τ).loc Cert.HeadCallIdeal.main_arg0) = m ((c.tc : Thread Cert.HeadCallIdeal.nD Cert.HeadCallIdeal.τ).loc Cert.HeadCallIdeal.main_arg0)
          ∧ r.2.mem ((c.tc : Thread Cert.HeadCallIdeal.nD Cert.HeadCallIdeal.τ).loc Cert.HeadCallIdeal.main_arg1) = m ((c.tc : Thread Cert.HeadCallIdeal.nD Cert.HeadCallIdeal.τ).loc Cert.HeadCallIdeal.main_arg1)
          ∧ r.2.mem ((c.tc : Thread Cert.HeadCallIdeal.nD Cert.HeadCallIdeal.τ).loc Cert.HeadCallIdeal.main_arg2) = m ((c.tc : Thread Cert.HeadCallIdeal.nD Cert.HeadCallIdeal.τ).loc Cert.HeadCallIdeal.main_arg2)
          ∧ r.2.mem ((c.tc : Thread Cert.HeadCallIdeal.nD Cert.HeadCallIdeal.τ).loc Cert.HeadCallIdeal.main_arg3) = m ((c.tc : Thread Cert.HeadCallIdeal.nD Cert.HeadCallIdeal.τ).loc Cert.HeadCallIdeal.main_arg3)
          ∧ r.2.mem ((c.tc : Thread Cert.HeadCallIdeal.nD Cert.HeadCallIdeal.τ).loc Cert.HeadCallIdeal.main_arg4) = m ((c.tc : Thread Cert.HeadCallIdeal.nD Cert.HeadCallIdeal.τ).loc Cert.HeadCallIdeal.main_arg4)
          ∧ r.2.mem ((c.tc : Thread Cert.HeadCallIdeal.nD Cert.HeadCallIdeal.τ).loc Cert.HeadCallIdeal.main_arg5) = m ((c.tc : Thread Cert.HeadCallIdeal.nD Cert.HeadCallIdeal.τ).loc Cert.HeadCallIdeal.main_arg5)
          ∧ r.2.mem ((c.tc : Thread Cert.HeadCallIdeal.nD Cert.HeadCallIdeal.τ).loc Cert.HeadCallIdeal.main_arg6) = m ((c.tc : Thread Cert.HeadCallIdeal.nD Cert.HeadCallIdeal.τ).loc Cert.HeadCallIdeal.main_arg6)
          ∧ r.2.mem ((c.tc : Thread Cert.HeadCallIdeal.nD Cert.HeadCallIdeal.τ).loc Cert.HeadCallIdeal.main_arg7) = m ((c.tc : Thread Cert.HeadCallIdeal.nD Cert.HeadCallIdeal.τ).loc Cert.HeadCallIdeal.main_arg7))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v72) = v0 c
          ∧ r.2.mem ((c.tc : Thread Cert.HeadRefIdeal.nD Cert.HeadRefIdeal.τ).loc Cert.HeadRefIdeal.main_v73) = v1 c
          ∧ r.2.mem ((c.tc : Thread Cert.HeadRefIdeal.nD Cert.HeadRefIdeal.τ).loc Cert.HeadRefIdeal.main_v71) = v2 c
          ∧ r.2.mem ((c.tc : Thread Cert.HeadRefIdeal.nD Cert.HeadRefIdeal.τ).loc Cert.HeadRefIdeal.main_v74) = v3 c
          ∧ r.2.mem ((c.tc : Thread Cert.HeadRefIdeal.nD Cert.HeadRefIdeal.τ).loc Cert.HeadRefIdeal.main_v75) = v4 c
          ∧ r.2.mem ((c.tc : Thread Cert.HeadRefIdeal.nD Cert.HeadRefIdeal.τ).loc Cert.HeadRefIdeal.main_v76) = v5 c
          ∧ r.2.mem ((c.tc : Thread Cert.HeadRefIdeal.nD Cert.HeadRefIdeal.τ).loc Cert.HeadRefIdeal.main_v77) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7))

def preserves_DwUpCall_DwUpCallIdeal : Prop :=
  True

def algebraic_DwUpCallIdeal_DwUpRefIdeal [hDwUpCallIdeal : Cert.DwUpCallIdeal.Facts] [hDwUpRefIdeal : Cert.DwUpRefIdeal.Facts] : Prop :=
  ∀ (m : (ℓ : Loc Cert.DwUpCallIdeal.nD Cert.DwUpCallIdeal.τ Cert.DwUpCallIdeal.sig) → Buf (Elt Ideal) ℓ) (g : Dev Cert.DwUpCallIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpCallIdeal m →
    (∀ c : Dev Cert.DwUpCallIdeal.nD,
      m' ((c.tc : Thread Cert.DwUpRefIdeal.nD Cert.DwUpRefIdeal.τ).loc Cert.DwUpRefIdeal.main_arg0) = m ((c.tc : Thread Cert.DwUpCallIdeal.nD Cert.DwUpCallIdeal.τ).loc Cert.DwUpCallIdeal.main_arg0)
      ∧ m' ((c.tc : Thread Cert.DwUpRefIdeal.nD Cert.DwUpRefIdeal.τ).loc Cert.DwUpRefIdeal.main_arg1) = m ((c.tc : Thread Cert.DwUpCallIdeal.nD Cert.DwUpCallIdeal.τ).loc Cert.DwUpCallIdeal.main_arg1)
      ∧ m' ((c.tc : Thread Cert.DwUpRefIdeal.nD Cert.DwUpRefIdeal.τ).loc Cert.DwUpRefIdeal.main_arg2) = m ((c.tc : Thread Cert.DwUpCallIdeal.nD Cert.DwUpCallIdeal.τ).loc Cert.DwUpCallIdeal.main_arg2)) →
    ∃ (v0 : (c : Dev Cert.DwUpCallIdeal.nD) → Buf (Elt Ideal) ((c.tc : Thread Cert.DwUpCallIdeal.nD Cert.DwUpCallIdeal.τ).loc Cert.DwUpCallIdeal.main_v15)),
      θ_run (Cert.DwUpCallIdeal.defs (F := Ideal)) (onTc (τ := Cert.DwUpCallIdeal.τ) (Cert.DwUpCallIdeal.main (F := Ideal))) ⟨m, fun _ => 0, g⟩ (fun r => ∀ c : Dev Cert.DwUpCallIdeal.nD,
          r.2.mem ((c.tc : Thread Cert.DwUpCallIdeal.nD Cert.DwUpCallIdeal.τ).loc Cert.DwUpCallIdeal.main_v15) = v0 c
          ∧ r.2.mem ((c.tc : Thread Cert.DwUpCallIdeal.nD Cert.DwUpCallIdeal.τ).loc Cert.DwUpCallIdeal.main_arg0) = m ((c.tc : Thread Cert.DwUpCallIdeal.nD Cert.DwUpCallIdeal.τ).loc Cert.DwUpCallIdeal.main_arg0)
          ∧ r.2.mem ((c.tc : Thread Cert.DwUpCallIdeal.nD Cert.DwUpCallIdeal.τ).loc Cert.DwUpCallIdeal.main_arg1) = m ((c.tc : Thread Cert.DwUpCallIdeal.nD Cert.DwUpCallIdeal.τ).loc Cert.DwUpCallIdeal.main_arg1)
          ∧ r.2.mem ((c.tc : Thread Cert.DwUpCallIdeal.nD Cert.DwUpCallIdeal.τ).loc Cert.DwUpCallIdeal.main_arg2) = m ((c.tc : Thread Cert.DwUpCallIdeal.nD Cert.DwUpCallIdeal.τ).loc Cert.DwUpCallIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v17) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_ZGatesCall_ZGatesCallIdeal : Prop :=
  True

def algebraic_ZGatesCallIdeal_ZGatesRefIdeal [hZGatesCallIdeal : Cert.ZGatesCallIdeal.Facts] [hZGatesRefIdeal : Cert.ZGatesRefIdeal.Facts] : Prop :=
  ∀ (m : (ℓ : Loc Cert.ZGatesCallIdeal.nD Cert.ZGatesCallIdeal.τ Cert.ZGatesCallIdeal.sig) → Buf (Elt Ideal) ℓ) (g : Dev Cert.ZGatesCallIdeal.nD → PrngReg)
    (m' : (ℓ : Loc Cert.ZGatesRefIdeal.nD Cert.ZGatesRefIdeal.τ Cert.ZGatesRefIdeal.sig) → Buf (Elt Ideal) ℓ) (g' : Dev Cert.ZGatesRefIdeal.nD → PrngReg), Pre_ZGatesCallIdeal m →
    (∀ c : Dev Cert.ZGatesCallIdeal.nD,
      m' ((c.tc : Thread Cert.ZGatesRefIdeal.nD Cert.ZGatesRefIdeal.τ).loc Cert.ZGatesRefIdeal.main_arg0) = m ((c.tc : Thread Cert.ZGatesCallIdeal.nD Cert.ZGatesCallIdeal.τ).loc Cert.ZGatesCallIdeal.main_arg0)
      ∧ m' ((c.tc : Thread Cert.ZGatesRefIdeal.nD Cert.ZGatesRefIdeal.τ).loc Cert.ZGatesRefIdeal.main_arg1) = m ((c.tc : Thread Cert.ZGatesCallIdeal.nD Cert.ZGatesCallIdeal.τ).loc Cert.ZGatesCallIdeal.main_arg1)
      ∧ m' ((c.tc : Thread Cert.ZGatesRefIdeal.nD Cert.ZGatesRefIdeal.τ).loc Cert.ZGatesRefIdeal.main_arg2) = m ((c.tc : Thread Cert.ZGatesCallIdeal.nD Cert.ZGatesCallIdeal.τ).loc Cert.ZGatesCallIdeal.main_arg2)) →
    ∃ (v0 : (c : Dev Cert.ZGatesCallIdeal.nD) → Buf (Elt Ideal) ((c.tc : Thread Cert.ZGatesCallIdeal.nD Cert.ZGatesCallIdeal.τ).loc Cert.ZGatesCallIdeal.main_v15)),
      θ_run (Cert.ZGatesCallIdeal.defs (F := Ideal)) (onTc (τ := Cert.ZGatesCallIdeal.τ) (Cert.ZGatesCallIdeal.main (F := Ideal))) ⟨m, fun _ => 0, g⟩ (fun r => ∀ c : Dev Cert.ZGatesCallIdeal.nD,
          r.2.mem ((c.tc : Thread Cert.ZGatesCallIdeal.nD Cert.ZGatesCallIdeal.τ).loc Cert.ZGatesCallIdeal.main_v15) = v0 c
          ∧ r.2.mem ((c.tc : Thread Cert.ZGatesCallIdeal.nD Cert.ZGatesCallIdeal.τ).loc Cert.ZGatesCallIdeal.main_arg0) = m ((c.tc : Thread Cert.ZGatesCallIdeal.nD Cert.ZGatesCallIdeal.τ).loc Cert.ZGatesCallIdeal.main_arg0)
          ∧ r.2.mem ((c.tc : Thread Cert.ZGatesCallIdeal.nD Cert.ZGatesCallIdeal.τ).loc Cert.ZGatesCallIdeal.main_arg1) = m ((c.tc : Thread Cert.ZGatesCallIdeal.nD Cert.ZGatesCallIdeal.τ).loc Cert.ZGatesCallIdeal.main_arg1)
          ∧ r.2.mem ((c.tc : Thread Cert.ZGatesCallIdeal.nD Cert.ZGatesCallIdeal.τ).loc Cert.ZGatesCallIdeal.main_arg2) = m ((c.tc : Thread Cert.ZGatesCallIdeal.nD Cert.ZGatesCallIdeal.τ).loc Cert.ZGatesCallIdeal.main_arg2))
      ∧ θ_run (Cert.ZGatesRefIdeal.defs (F := Ideal)) (onTc (τ := Cert.ZGatesRefIdeal.τ) (Cert.ZGatesRefIdeal.main (F := Ideal))) ⟨m', fun _ => 0, g'⟩ (fun r => ∀ c : Dev Cert.ZGatesRefIdeal.nD,
          r.2.mem ((c.tc : Thread Cert.ZGatesRefIdeal.nD Cert.ZGatesRefIdeal.τ).loc Cert.ZGatesRefIdeal.main_v15) = v0 c
          ∧ r.2.mem ((c.tc : Thread Cert.ZGatesRefIdeal.nD Cert.ZGatesRefIdeal.τ).loc Cert.ZGatesRefIdeal.main_arg0) = m' ((c.tc : Thread Cert.ZGatesRefIdeal.nD Cert.ZGatesRefIdeal.τ).loc Cert.ZGatesRefIdeal.main_arg0)
          ∧ r.2.mem ((c.tc : Thread Cert.ZGatesRefIdeal.nD Cert.ZGatesRefIdeal.τ).loc Cert.ZGatesRefIdeal.main_arg1) = m' ((c.tc : Thread Cert.ZGatesRefIdeal.nD Cert.ZGatesRefIdeal.τ).loc Cert.ZGatesRefIdeal.main_arg1)
          ∧ r.2.mem ((c.tc : Thread Cert.ZGatesRefIdeal.nD Cert.ZGatesRefIdeal.τ).loc Cert.ZGatesRefIdeal.main_arg2) = m' ((c.tc : Thread Cert.ZGatesRefIdeal.nD Cert.ZGatesRefIdeal.τ).loc Cert.ZGatesRefIdeal.main_arg2))

def preserves_DwQkvCall_DwQkvCallIdeal : Prop :=
  True

def algebraic_DwQkvCallIdeal_DwQkvRefIdeal_on_qkv_columns [hDwQkvCallIdeal : Cert.DwQkvCallIdeal.Facts] [hDwQkvRefIdeal : Cert.DwQkvRefIdeal.Facts] [hOn_qkv_columns : Cert.On_qkv_columns.Facts] : Prop :=
  ∀ (m : (ℓ : Loc Cert.DwQkvCallIdeal.nD Cert.DwQkvCallIdeal.τ Cert.DwQkvCallIdeal.sig) → Buf (Elt Ideal) ℓ) (g : Dev Cert.DwQkvCallIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvCallIdeal m →
    (∀ c : Dev Cert.DwQkvCallIdeal.nD,
      m' ((c.tc : Thread Cert.DwQkvRefIdeal.nD Cert.DwQkvRefIdeal.τ).loc Cert.DwQkvRefIdeal.main_arg0) = m ((c.tc : Thread Cert.DwQkvCallIdeal.nD Cert.DwQkvCallIdeal.τ).loc Cert.DwQkvCallIdeal.main_arg0)
      ∧ m' ((c.tc : Thread Cert.DwQkvRefIdeal.nD Cert.DwQkvRefIdeal.τ).loc Cert.DwQkvRefIdeal.main_arg1) = m ((c.tc : Thread Cert.DwQkvCallIdeal.nD Cert.DwQkvCallIdeal.τ).loc Cert.DwQkvCallIdeal.main_arg1)
      ∧ m' ((c.tc : Thread Cert.DwQkvRefIdeal.nD Cert.DwQkvRefIdeal.τ).loc Cert.DwQkvRefIdeal.main_arg2) = m ((c.tc : Thread Cert.DwQkvCallIdeal.nD Cert.DwQkvCallIdeal.τ).loc Cert.DwQkvCallIdeal.main_arg2)) →
    ∃ (v0 : (c : Dev Cert.DwQkvCallIdeal.nD) → Buf (Elt Ideal) ((c.tc : Thread Cert.DwQkvCallIdeal.nD Cert.DwQkvCallIdeal.τ).loc Cert.DwQkvCallIdeal.main_v15)),
      θ_run (Cert.DwQkvCallIdeal.defs (F := Ideal)) (onTc (τ := Cert.DwQkvCallIdeal.τ) (Cert.DwQkvCallIdeal.main (F := Ideal))) ⟨m, fun _ => 0, g⟩ (fun r => ∀ c : Dev Cert.DwQkvCallIdeal.nD,
          (∀ i : (⟨2, ![1024, 7168]⟩ : Shape).Idx, (Cert.On_qkv_columns.fn (F := Ideal) (m ((c.tc : Thread Cert.DwQkvCallIdeal.nD Cert.DwQkvCallIdeal.τ).loc Cert.DwQkvCallIdeal.main_arg0)) (m ((c.tc : Thread Cert.DwQkvCallIdeal.nD Cert.DwQkvCallIdeal.τ).loc Cert.DwQkvCallIdeal.main_arg1)) (m ((c.tc : Thread Cert.DwQkvCallIdeal.nD Cert.DwQkvCallIdeal.τ).loc Cert.DwQkvCallIdeal.main_arg2))) i = 1#1 → r.2.mem ((c.tc : Thread Cert.DwQkvCallIdeal.nD Cert.DwQkvCallIdeal.τ).loc Cert.DwQkvCallIdeal.main_v15) i = v0 c i)
          ∧ r.2.mem ((c.tc : Thread Cert.DwQkvCallIdeal.nD Cert.DwQkvCallIdeal.τ).loc Cert.DwQkvCallIdeal.main_arg0) = m ((c.tc : Thread Cert.DwQkvCallIdeal.nD Cert.DwQkvCallIdeal.τ).loc Cert.DwQkvCallIdeal.main_arg0)
          ∧ r.2.mem ((c.tc : Thread Cert.DwQkvCallIdeal.nD Cert.DwQkvCallIdeal.τ).loc Cert.DwQkvCallIdeal.main_arg1) = m ((c.tc : Thread Cert.DwQkvCallIdeal.nD Cert.DwQkvCallIdeal.τ).loc Cert.DwQkvCallIdeal.main_arg1)
          ∧ r.2.mem ((c.tc : Thread Cert.DwQkvCallIdeal.nD Cert.DwQkvCallIdeal.τ).loc Cert.DwQkvCallIdeal.main_arg2) = m ((c.tc : Thread Cert.DwQkvCallIdeal.nD Cert.DwQkvCallIdeal.τ).loc Cert.DwQkvCallIdeal.main_arg2))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          (∀ i : (⟨2, ![1024, 7168]⟩ : Shape).Idx, (Cert.On_qkv_columns.fn (F := Ideal) (m ((c.tc : Thread Cert.DwQkvCallIdeal.nD Cert.DwQkvCallIdeal.τ).loc Cert.DwQkvCallIdeal.main_arg0)) (m ((c.tc : Thread Cert.DwQkvCallIdeal.nD Cert.DwQkvCallIdeal.τ).loc Cert.DwQkvCallIdeal.main_arg1)) (m ((c.tc : Thread Cert.DwQkvCallIdeal.nD Cert.DwQkvCallIdeal.τ).loc Cert.DwQkvCallIdeal.main_arg2))) i = 1#1 → r.2.mem ((c.tc : Thread Cert.DwQkvRefIdeal.nD Cert.DwQkvRefIdeal.τ).loc Cert.DwQkvRefIdeal.main_v19) i = v0 c i)
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2))

def preserves_GluCall_GluCallIdeal : Prop :=
  True

def algebraic_GluCallIdeal_GluRefIdeal [hGluCallIdeal : Cert.GluCallIdeal.Facts] [hGluRefIdeal : Cert.GluRefIdeal.Facts] : Prop :=
  ∀ (m : (ℓ : Loc Cert.GluCallIdeal.nD Cert.GluCallIdeal.τ Cert.GluCallIdeal.sig) → Buf (Elt Ideal) ℓ) (g : Dev Cert.GluCallIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluCallIdeal m →
    (∀ c : Dev Cert.GluCallIdeal.nD,
      m' ((c.tc : Thread Cert.GluRefIdeal.nD Cert.GluRefIdeal.τ).loc Cert.GluRefIdeal.main_arg0) = m ((c.tc : Thread Cert.GluCallIdeal.nD Cert.GluCallIdeal.τ).loc Cert.GluCallIdeal.main_arg0)
      ∧ m' ((c.tc : Thread Cert.GluRefIdeal.nD Cert.GluRefIdeal.τ).loc Cert.GluRefIdeal.main_arg1) = m ((c.tc : Thread Cert.GluCallIdeal.nD Cert.GluCallIdeal.τ).loc Cert.GluCallIdeal.main_arg1)
      ∧ m' ((c.tc : Thread Cert.GluRefIdeal.nD Cert.GluRefIdeal.τ).loc Cert.GluRefIdeal.main_arg2) = m ((c.tc : Thread Cert.GluCallIdeal.nD Cert.GluCallIdeal.τ).loc Cert.GluCallIdeal.main_arg2)
      ∧ m' ((c.tc : Thread Cert.GluRefIdeal.nD Cert.GluRefIdeal.τ).loc Cert.GluRefIdeal.main_arg3) = m ((c.tc : Thread Cert.GluCallIdeal.nD Cert.GluCallIdeal.τ).loc Cert.GluCallIdeal.main_arg3)
      ∧ m' ((c.tc : Thread Cert.GluRefIdeal.nD Cert.GluRefIdeal.τ).loc Cert.GluRefIdeal.main_arg4) = m ((c.tc : Thread Cert.GluCallIdeal.nD Cert.GluCallIdeal.τ).loc Cert.GluCallIdeal.main_arg4)
      ∧ m' ((c.tc : Thread Cert.GluRefIdeal.nD Cert.GluRefIdeal.τ).loc Cert.GluRefIdeal.main_arg5) = m ((c.tc : Thread Cert.GluCallIdeal.nD Cert.GluCallIdeal.τ).loc Cert.GluCallIdeal.main_arg5)) →
    ∃ (v0 : (c : Dev Cert.GluCallIdeal.nD) → Buf (Elt Ideal) ((c.tc : Thread Cert.GluCallIdeal.nD Cert.GluCallIdeal.τ).loc Cert.GluCallIdeal.main_v6_0)) (v1 : (c : Dev Cert.GluCallIdeal.nD) → Buf (Elt Ideal) ((c.tc : Thread Cert.GluCallIdeal.nD Cert.GluCallIdeal.τ).loc Cert.GluCallIdeal.main_v6_1)) (v2 : (c : Dev Cert.GluCallIdeal.nD) → Buf (Elt Ideal) ((c.tc : Thread Cert.GluCallIdeal.nD Cert.GluCallIdeal.τ).loc Cert.GluCallIdeal.main_v6_2)) (v3 : (c : Dev Cert.GluCallIdeal.nD) → Buf (Elt Ideal) ((c.tc : Thread Cert.GluCallIdeal.nD Cert.GluCallIdeal.τ).loc Cert.GluCallIdeal.main_v6_3)),
      θ_run (Cert.GluCallIdeal.defs (F := Ideal)) (onTc (τ := Cert.GluCallIdeal.τ) (Cert.GluCallIdeal.main (F := Ideal))) ⟨m, fun _ => 0, g⟩ (fun r => ∀ c : Dev Cert.GluCallIdeal.nD,
          r.2.mem ((c.tc : Thread Cert.GluCallIdeal.nD Cert.GluCallIdeal.τ).loc Cert.GluCallIdeal.main_v6_0) = v0 c
          ∧ r.2.mem ((c.tc : Thread Cert.GluCallIdeal.nD Cert.GluCallIdeal.τ).loc Cert.GluCallIdeal.main_v6_1) = v1 c
          ∧ r.2.mem ((c.tc : Thread Cert.GluCallIdeal.nD Cert.GluCallIdeal.τ).loc Cert.GluCallIdeal.main_v6_2) = v2 c
          ∧ r.2.mem ((c.tc : Thread Cert.GluCallIdeal.nD Cert.GluCallIdeal.τ).loc Cert.GluCallIdeal.main_v6_3) = v3 c
          ∧ r.2.mem ((c.tc : Thread Cert.GluCallIdeal.nD Cert.GluCallIdeal.τ).loc Cert.GluCallIdeal.main_arg0) = m ((c.tc : Thread Cert.GluCallIdeal.nD Cert.GluCallIdeal.τ).loc Cert.GluCallIdeal.main_arg0)
          ∧ r.2.mem ((c.tc : Thread Cert.GluCallIdeal.nD Cert.GluCallIdeal.τ).loc Cert.GluCallIdeal.main_arg1) = m ((c.tc : Thread Cert.GluCallIdeal.nD Cert.GluCallIdeal.τ).loc Cert.GluCallIdeal.main_arg1)
          ∧ r.2.mem ((c.tc : Thread Cert.GluCallIdeal.nD Cert.GluCallIdeal.τ).loc Cert.GluCallIdeal.main_arg2) = m ((c.tc : Thread Cert.GluCallIdeal.nD Cert.GluCallIdeal.τ).loc Cert.GluCallIdeal.main_arg2)
          ∧ r.2.mem ((c.tc : Thread Cert.GluCallIdeal.nD Cert.GluCallIdeal.τ).loc Cert.GluCallIdeal.main_arg3) = m ((c.tc : Thread Cert.GluCallIdeal.nD Cert.GluCallIdeal.τ).loc Cert.GluCallIdeal.main_arg3)
          ∧ r.2.mem ((c.tc : Thread Cert.GluCallIdeal.nD Cert.GluCallIdeal.τ).loc Cert.GluCallIdeal.main_arg4) = m ((c.tc : Thread Cert.GluCallIdeal.nD Cert.GluCallIdeal.τ).loc Cert.GluCallIdeal.main_arg4)
          ∧ r.2.mem ((c.tc : Thread Cert.GluCallIdeal.nD Cert.GluCallIdeal.τ).loc Cert.GluCallIdeal.main_arg5) = m ((c.tc : Thread Cert.GluCallIdeal.nD Cert.GluCallIdeal.τ).loc Cert.GluCallIdeal.main_arg5))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v27) = v0 c
          ∧ r.2.mem ((c.tc : Thread Cert.GluRefIdeal.nD Cert.GluRefIdeal.τ).loc Cert.GluRefIdeal.main_v28) = v1 c
          ∧ r.2.mem ((c.tc : Thread Cert.GluRefIdeal.nD Cert.GluRefIdeal.τ).loc Cert.GluRefIdeal.main_v29) = v2 c
          ∧ r.2.mem ((c.tc : Thread Cert.GluRefIdeal.nD Cert.GluRefIdeal.τ).loc Cert.GluRefIdeal.main_v30) = v3 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5))

def preserves_OutProjCall_OutProjCallIdeal : Prop :=
  True

def algebraic_OutProjCallIdeal_OutProjRefIdeal [hOutProjCallIdeal : Cert.OutProjCallIdeal.Facts] [hOutProjRefIdeal : Cert.OutProjRefIdeal.Facts] : Prop :=
  ∀ (m : (ℓ : Loc Cert.OutProjCallIdeal.nD Cert.OutProjCallIdeal.τ Cert.OutProjCallIdeal.sig) → Buf (Elt Ideal) ℓ) (g : Dev Cert.OutProjCallIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjCallIdeal m →
    (∀ c : Dev Cert.OutProjCallIdeal.nD,
      m' ((c.tc : Thread Cert.OutProjRefIdeal.nD Cert.OutProjRefIdeal.τ).loc Cert.OutProjRefIdeal.main_arg0) = m ((c.tc : Thread Cert.OutProjCallIdeal.nD Cert.OutProjCallIdeal.τ).loc Cert.OutProjCallIdeal.main_arg0)
      ∧ m' ((c.tc : Thread Cert.OutProjRefIdeal.nD Cert.OutProjRefIdeal.τ).loc Cert.OutProjRefIdeal.main_arg1) = m ((c.tc : Thread Cert.OutProjCallIdeal.nD Cert.OutProjCallIdeal.τ).loc Cert.OutProjCallIdeal.main_arg1)
      ∧ m' ((c.tc : Thread Cert.OutProjRefIdeal.nD Cert.OutProjRefIdeal.τ).loc Cert.OutProjRefIdeal.main_arg2) = m ((c.tc : Thread Cert.OutProjCallIdeal.nD Cert.OutProjCallIdeal.τ).loc Cert.OutProjCallIdeal.main_arg2)
      ∧ m' ((c.tc : Thread Cert.OutProjRefIdeal.nD Cert.OutProjRefIdeal.τ).loc Cert.OutProjRefIdeal.main_arg3) = m ((c.tc : Thread Cert.OutProjCallIdeal.nD Cert.OutProjCallIdeal.τ).loc Cert.OutProjCallIdeal.main_arg3)) →
    ∃ (v0 : (c : Dev Cert.OutProjCallIdeal.nD) → Buf (Elt Ideal) ((c.tc : Thread Cert.OutProjCallIdeal.nD Cert.OutProjCallIdeal.τ).loc Cert.OutProjCallIdeal.main_v3_0)) (v1 : (c : Dev Cert.OutProjCallIdeal.nD) → Buf (Elt Ideal) ((c.tc : Thread Cert.OutProjCallIdeal.nD Cert.OutProjCallIdeal.τ).loc Cert.OutProjCallIdeal.main_v3_1)),
      θ_run (Cert.OutProjCallIdeal.defs (F := Ideal)) (onTc (τ := Cert.OutProjCallIdeal.τ) (Cert.OutProjCallIdeal.main (F := Ideal))) ⟨m, fun _ => 0, g⟩ (fun r => ∀ c : Dev Cert.OutProjCallIdeal.nD,
          r.2.mem ((c.tc : Thread Cert.OutProjCallIdeal.nD Cert.OutProjCallIdeal.τ).loc Cert.OutProjCallIdeal.main_v3_0) = v0 c
          ∧ r.2.mem ((c.tc : Thread Cert.OutProjCallIdeal.nD Cert.OutProjCallIdeal.τ).loc Cert.OutProjCallIdeal.main_v3_1) = v1 c
          ∧ r.2.mem ((c.tc : Thread Cert.OutProjCallIdeal.nD Cert.OutProjCallIdeal.τ).loc Cert.OutProjCallIdeal.main_arg0) = m ((c.tc : Thread Cert.OutProjCallIdeal.nD Cert.OutProjCallIdeal.τ).loc Cert.OutProjCallIdeal.main_arg0)
          ∧ r.2.mem ((c.tc : Thread Cert.OutProjCallIdeal.nD Cert.OutProjCallIdeal.τ).loc Cert.OutProjCallIdeal.main_arg1) = m ((c.tc : Thread Cert.OutProjCallIdeal.nD Cert.OutProjCallIdeal.τ).loc Cert.OutProjCallIdeal.main_arg1)
          ∧ r.2.mem ((c.tc : Thread Cert.OutProjCallIdeal.nD Cert.OutProjCallIdeal.τ).loc Cert.OutProjCallIdeal.main_arg2) = m ((c.tc : Thread Cert.OutProjCallIdeal.nD Cert.OutProjCallIdeal.τ).loc Cert.OutProjCallIdeal.main_arg2)
          ∧ r.2.mem ((c.tc : Thread Cert.OutProjCallIdeal.nD Cert.OutProjCallIdeal.τ).loc Cert.OutProjCallIdeal.main_arg3) = m ((c.tc : Thread Cert.OutProjCallIdeal.nD Cert.OutProjCallIdeal.τ).loc Cert.OutProjCallIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_DwOutCall_DwOutCallIdeal : Prop :=
  True

def algebraic_DwOutCallIdeal_DwOutRefIdeal [hDwOutCallIdeal : Cert.DwOutCallIdeal.Facts] [hDwOutRefIdeal : Cert.DwOutRefIdeal.Facts] : Prop :=
  ∀ (m : (ℓ : Loc Cert.DwOutCallIdeal.nD Cert.DwOutCallIdeal.τ Cert.DwOutCallIdeal.sig) → Buf (Elt Ideal) ℓ) (g : Dev Cert.DwOutCallIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutCallIdeal m →
    (∀ c : Dev Cert.DwOutCallIdeal.nD,
      m' ((c.tc : Thread Cert.DwOutRefIdeal.nD Cert.DwOutRefIdeal.τ).loc Cert.DwOutRefIdeal.main_arg0) = m ((c.tc : Thread Cert.DwOutCallIdeal.nD Cert.DwOutCallIdeal.τ).loc Cert.DwOutCallIdeal.main_arg0)
      ∧ m' ((c.tc : Thread Cert.DwOutRefIdeal.nD Cert.DwOutRefIdeal.τ).loc Cert.DwOutRefIdeal.main_arg1) = m ((c.tc : Thread Cert.DwOutCallIdeal.nD Cert.DwOutCallIdeal.τ).loc Cert.DwOutCallIdeal.main_arg1)) →
    ∃ (v0 : (c : Dev Cert.DwOutCallIdeal.nD) → Buf (Elt Ideal) ((c.tc : Thread Cert.DwOutCallIdeal.nD Cert.DwOutCallIdeal.τ).loc Cert.DwOutCallIdeal.main_v2)),
      θ_run (Cert.DwOutCallIdeal.defs (F := Ideal)) (onTc (τ := Cert.DwOutCallIdeal.τ) (Cert.DwOutCallIdeal.main (F := Ideal))) ⟨m, fun _ => 0, g⟩ (fun r => ∀ c : Dev Cert.DwOutCallIdeal.nD,
          r.2.mem ((c.tc : Thread Cert.DwOutCallIdeal.nD Cert.DwOutCallIdeal.τ).loc Cert.DwOutCallIdeal.main_v2) = v0 c
          ∧ r.2.mem ((c.tc : Thread Cert.DwOutCallIdeal.nD Cert.DwOutCallIdeal.τ).loc Cert.DwOutCallIdeal.main_arg0) = m ((c.tc : Thread Cert.DwOutCallIdeal.nD Cert.DwOutCallIdeal.τ).loc Cert.DwOutCallIdeal.main_arg0)
          ∧ r.2.mem ((c.tc : Thread Cert.DwOutCallIdeal.nD Cert.DwOutCallIdeal.τ).loc Cert.DwOutCallIdeal.main_arg1) = m ((c.tc : Thread Cert.DwOutCallIdeal.nD Cert.DwOutCallIdeal.τ).loc Cert.DwOutCallIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwPgCall_DwPgCallIdeal : Prop :=
  True

def algebraic_DwPgCallIdeal_DwPgRefIdeal [hDwPgCallIdeal : Cert.DwPgCallIdeal.Facts] [hDwPgRefIdeal : Cert.DwPgRefIdeal.Facts] : Prop :=
  ∀ (m : (ℓ : Loc Cert.DwPgCallIdeal.nD Cert.DwPgCallIdeal.τ Cert.DwPgCallIdeal.sig) → Buf (Elt Ideal) ℓ) (g : Dev Cert.DwPgCallIdeal.nD → PrngReg)
    (m' : (ℓ : Loc Cert.DwPgRefIdeal.nD Cert.DwPgRefIdeal.τ Cert.DwPgRefIdeal.sig) → Buf (Elt Ideal) ℓ) (g' : Dev Cert.DwPgRefIdeal.nD → PrngReg), Pre_DwPgCallIdeal m →
    (∀ c : Dev Cert.DwPgCallIdeal.nD,
      m' ((c.tc : Thread Cert.DwPgRefIdeal.nD Cert.DwPgRefIdeal.τ).loc Cert.DwPgRefIdeal.main_arg0) = m ((c.tc : Thread Cert.DwPgCallIdeal.nD Cert.DwPgCallIdeal.τ).loc Cert.DwPgCallIdeal.main_arg0)
      ∧ m' ((c.tc : Thread Cert.DwPgRefIdeal.nD Cert.DwPgRefIdeal.τ).loc Cert.DwPgRefIdeal.main_arg1) = m ((c.tc : Thread Cert.DwPgCallIdeal.nD Cert.DwPgCallIdeal.τ).loc Cert.DwPgCallIdeal.main_arg1)) →
    ∃ (v0 : (c : Dev Cert.DwPgCallIdeal.nD) → Buf (Elt Ideal) ((c.tc : Thread Cert.DwPgCallIdeal.nD Cert.DwPgCallIdeal.τ).loc Cert.DwPgCallIdeal.main_v2)),
      θ_run (Cert.DwPgCallIdeal.defs (F := Ideal)) (onTc (τ := Cert.DwPgCallIdeal.τ) (Cert.DwPgCallIdeal.main (F := Ideal))) ⟨m, fun _ => 0, g⟩ (fun r => ∀ c : Dev Cert.DwPgCallIdeal.nD,
          r.2.mem ((c.tc : Thread Cert.DwPgCallIdeal.nD Cert.DwPgCallIdeal.τ).loc Cert.DwPgCallIdeal.main_v2) = v0 c
          ∧ r.2.mem ((c.tc : Thread Cert.DwPgCallIdeal.nD Cert.DwPgCallIdeal.τ).loc Cert.DwPgCallIdeal.main_arg0) = m ((c.tc : Thread Cert.DwPgCallIdeal.nD Cert.DwPgCallIdeal.τ).loc Cert.DwPgCallIdeal.main_arg0)
          ∧ r.2.mem ((c.tc : Thread Cert.DwPgCallIdeal.nD Cert.DwPgCallIdeal.τ).loc Cert.DwPgCallIdeal.main_arg1) = m ((c.tc : Thread Cert.DwPgCallIdeal.nD Cert.DwPgCallIdeal.τ).loc Cert.DwPgCallIdeal.main_arg1))
      ∧ θ_run (Cert.DwPgRefIdeal.defs (F := Ideal)) (onTc (τ := Cert.DwPgRefIdeal.τ) (Cert.DwPgRefIdeal.main (F := Ideal))) ⟨m', fun _ => 0, g'⟩ (fun r => ∀ c : Dev Cert.DwPgRefIdeal.nD,
          r.2.mem ((c.tc : Thread Cert.DwPgRefIdeal.nD Cert.DwPgRefIdeal.τ).loc Cert.DwPgRefIdeal.main_v4) = v0 c
          ∧ r.2.mem ((c.tc : Thread Cert.DwPgRefIdeal.nD Cert.DwPgRefIdeal.τ).loc Cert.DwPgRefIdeal.main_arg0) = m' ((c.tc : Thread Cert.DwPgRefIdeal.nD Cert.DwPgRefIdeal.τ).loc Cert.DwPgRefIdeal.main_arg0)
          ∧ r.2.mem ((c.tc : Thread Cert.DwPgRefIdeal.nD Cert.DwPgRefIdeal.τ).loc Cert.DwPgRefIdeal.main_arg1) = m' ((c.tc : Thread Cert.DwPgRefIdeal.nD Cert.DwPgRefIdeal.τ).loc Cert.DwPgRefIdeal.main_arg1))

def preserves_DwGaCall_DwGaCallIdeal : Prop :=
  True

def algebraic_DwGaCallIdeal_DwGaRefIdeal [hDwGaCallIdeal : Cert.DwGaCallIdeal.Facts] [hDwGaRefIdeal : Cert.DwGaRefIdeal.Facts] : Prop :=
  ∀ (m : (ℓ : Loc Cert.DwGaCallIdeal.nD Cert.DwGaCallIdeal.τ Cert.DwGaCallIdeal.sig) → Buf (Elt Ideal) ℓ) (g : Dev Cert.DwGaCallIdeal.nD → PrngReg)
    (m' : (ℓ : Loc Cert.DwGaRefIdeal.nD Cert.DwGaRefIdeal.τ Cert.DwGaRefIdeal.sig) → Buf (Elt Ideal) ℓ) (g' : Dev Cert.DwGaRefIdeal.nD → PrngReg), Pre_DwGaCallIdeal m →
    (∀ c : Dev Cert.DwGaCallIdeal.nD,
      m' ((c.tc : Thread Cert.DwGaRefIdeal.nD Cert.DwGaRefIdeal.τ).loc Cert.DwGaRefIdeal.main_arg0) = m ((c.tc : Thread Cert.DwGaCallIdeal.nD Cert.DwGaCallIdeal.τ).loc Cert.DwGaCallIdeal.main_arg0)
      ∧ m' ((c.tc : Thread Cert.DwGaRefIdeal.nD Cert.DwGaRefIdeal.τ).loc Cert.DwGaRefIdeal.main_arg1) = m ((c.tc : Thread Cert.DwGaCallIdeal.nD Cert.DwGaCallIdeal.τ).loc Cert.DwGaCallIdeal.main_arg1)) →
    ∃ (v0 : (c : Dev Cert.DwGaCallIdeal.nD) → Buf (Elt Ideal) ((c.tc : Thread Cert.DwGaCallIdeal.nD Cert.DwGaCallIdeal.τ).loc Cert.DwGaCallIdeal.main_v2)),
      θ_run (Cert.DwGaCallIdeal.defs (F := Ideal)) (onTc (τ := Cert.DwGaCallIdeal.τ) (Cert.DwGaCallIdeal.main (F := Ideal))) ⟨m, fun _ => 0, g⟩ (fun r => ∀ c : Dev Cert.DwGaCallIdeal.nD,
          r.2.mem ((c.tc : Thread Cert.DwGaCallIdeal.nD Cert.DwGaCallIdeal.τ).loc Cert.DwGaCallIdeal.main_v2) = v0 c
          ∧ r.2.mem ((c.tc : Thread Cert.DwGaCallIdeal.nD Cert.DwGaCallIdeal.τ).loc Cert.DwGaCallIdeal.main_arg0) = m ((c.tc : Thread Cert.DwGaCallIdeal.nD Cert.DwGaCallIdeal.τ).loc Cert.DwGaCallIdeal.main_arg0)
          ∧ r.2.mem ((c.tc : Thread Cert.DwGaCallIdeal.nD Cert.DwGaCallIdeal.τ).loc Cert.DwGaCallIdeal.main_arg1) = m ((c.tc : Thread Cert.DwGaCallIdeal.nD Cert.DwGaCallIdeal.τ).loc Cert.DwGaCallIdeal.main_arg1))
      ∧ θ_run (Cert.DwGaRefIdeal.defs (F := Ideal)) (onTc (τ := Cert.DwGaRefIdeal.τ) (Cert.DwGaRefIdeal.main (F := Ideal))) ⟨m', fun _ => 0, g'⟩ (fun r => ∀ c : Dev Cert.DwGaRefIdeal.nD,
          r.2.mem ((c.tc : Thread Cert.DwGaRefIdeal.nD Cert.DwGaRefIdeal.τ).loc Cert.DwGaRefIdeal.main_v4) = v0 c
          ∧ r.2.mem ((c.tc : Thread Cert.DwGaRefIdeal.nD Cert.DwGaRefIdeal.τ).loc Cert.DwGaRefIdeal.main_arg0) = m' ((c.tc : Thread Cert.DwGaRefIdeal.nD Cert.DwGaRefIdeal.τ).loc Cert.DwGaRefIdeal.main_arg0)
          ∧ r.2.mem ((c.tc : Thread Cert.DwGaRefIdeal.nD Cert.DwGaRefIdeal.τ).loc Cert.DwGaRefIdeal.main_arg1) = m' ((c.tc : Thread Cert.DwGaRefIdeal.nD Cert.DwGaRefIdeal.τ).loc Cert.DwGaRefIdeal.main_arg1))

def preserves_DwGbCall_DwGbCallIdeal : Prop :=
  True

def algebraic_DwGbCallIdeal_DwGbRefIdeal [hDwGbCallIdeal : Cert.DwGbCallIdeal.Facts] [hDwGbRefIdeal : Cert.DwGbRefIdeal.Facts] : Prop :=
  ∀ (m : (ℓ : Loc Cert.DwGbCallIdeal.nD Cert.DwGbCallIdeal.τ Cert.DwGbCallIdeal.sig) → Buf (Elt Ideal) ℓ) (g : Dev Cert.DwGbCallIdeal.nD → PrngReg)
    (m' : (ℓ : Loc Cert.DwGbRefIdeal.nD Cert.DwGbRefIdeal.τ Cert.DwGbRefIdeal.sig) → Buf (Elt Ideal) ℓ) (g' : Dev Cert.DwGbRefIdeal.nD → PrngReg), Pre_DwGbCallIdeal m →
    (∀ c : Dev Cert.DwGbCallIdeal.nD,
      m' ((c.tc : Thread Cert.DwGbRefIdeal.nD Cert.DwGbRefIdeal.τ).loc Cert.DwGbRefIdeal.main_arg0) = m ((c.tc : Thread Cert.DwGbCallIdeal.nD Cert.DwGbCallIdeal.τ).loc Cert.DwGbCallIdeal.main_arg0)
      ∧ m' ((c.tc : Thread Cert.DwGbRefIdeal.nD Cert.DwGbRefIdeal.τ).loc Cert.DwGbRefIdeal.main_arg1) = m ((c.tc : Thread Cert.DwGbCallIdeal.nD Cert.DwGbCallIdeal.τ).loc Cert.DwGbCallIdeal.main_arg1)) →
    ∃ (v0 : (c : Dev Cert.DwGbCallIdeal.nD) → Buf (Elt Ideal) ((c.tc : Thread Cert.DwGbCallIdeal.nD Cert.DwGbCallIdeal.τ).loc Cert.DwGbCallIdeal.main_v2)),
      θ_run (Cert.DwGbCallIdeal.defs (F := Ideal)) (onTc (τ := Cert.DwGbCallIdeal.τ) (Cert.DwGbCallIdeal.main (F := Ideal))) ⟨m, fun _ => 0, g⟩ (fun r => ∀ c : Dev Cert.DwGbCallIdeal.nD,
          r.2.mem ((c.tc : Thread Cert.DwGbCallIdeal.nD Cert.DwGbCallIdeal.τ).loc Cert.DwGbCallIdeal.main_v2) = v0 c
          ∧ r.2.mem ((c.tc : Thread Cert.DwGbCallIdeal.nD Cert.DwGbCallIdeal.τ).loc Cert.DwGbCallIdeal.main_arg0) = m ((c.tc : Thread Cert.DwGbCallIdeal.nD Cert.DwGbCallIdeal.τ).loc Cert.DwGbCallIdeal.main_arg0)
          ∧ r.2.mem ((c.tc : Thread Cert.DwGbCallIdeal.nD Cert.DwGbCallIdeal.τ).loc Cert.DwGbCallIdeal.main_arg1) = m ((c.tc : Thread Cert.DwGbCallIdeal.nD Cert.DwGbCallIdeal.τ).loc Cert.DwGbCallIdeal.main_arg1))
      ∧ θ_run (Cert.DwGbRefIdeal.defs (F := Ideal)) (onTc (τ := Cert.DwGbRefIdeal.τ) (Cert.DwGbRefIdeal.main (F := Ideal))) ⟨m', fun _ => 0, g'⟩ (fun r => ∀ c : Dev Cert.DwGbRefIdeal.nD,
          r.2.mem ((c.tc : Thread Cert.DwGbRefIdeal.nD Cert.DwGbRefIdeal.τ).loc Cert.DwGbRefIdeal.main_v4) = v0 c
          ∧ r.2.mem ((c.tc : Thread Cert.DwGbRefIdeal.nD Cert.DwGbRefIdeal.τ).loc Cert.DwGbRefIdeal.main_arg0) = m' ((c.tc : Thread Cert.DwGbRefIdeal.nD Cert.DwGbRefIdeal.τ).loc Cert.DwGbRefIdeal.main_arg0)
          ∧ r.2.mem ((c.tc : Thread Cert.DwGbRefIdeal.nD Cert.DwGbRefIdeal.τ).loc Cert.DwGbRefIdeal.main_arg1) = m' ((c.tc : Thread Cert.DwGbRefIdeal.nD Cert.DwGbRefIdeal.τ).loc Cert.DwGbRefIdeal.main_arg1))

def preserves_DwApCall_DwApCallIdeal : Prop :=
  True

def algebraic_DwApCallIdeal_DwApRefIdeal [hDwApCallIdeal : Cert.DwApCallIdeal.Facts] [hDwApRefIdeal : Cert.DwApRefIdeal.Facts] : Prop :=
  ∀ (m : (ℓ : Loc Cert.DwApCallIdeal.nD Cert.DwApCallIdeal.τ Cert.DwApCallIdeal.sig) → Buf (Elt Ideal) ℓ) (g : Dev Cert.DwApCallIdeal.nD → PrngReg)
    (m' : (ℓ : Loc Cert.DwApRefIdeal.nD Cert.DwApRefIdeal.τ Cert.DwApRefIdeal.sig) → Buf (Elt Ideal) ℓ) (g' : Dev Cert.DwApRefIdeal.nD → PrngReg), Pre_DwApCallIdeal m →
    (∀ c : Dev Cert.DwApCallIdeal.nD,
      m' ((c.tc : Thread Cert.DwApRefIdeal.nD Cert.DwApRefIdeal.τ).loc Cert.DwApRefIdeal.main_arg0) = m ((c.tc : Thread Cert.DwApCallIdeal.nD Cert.DwApCallIdeal.τ).loc Cert.DwApCallIdeal.main_arg0)
      ∧ m' ((c.tc : Thread Cert.DwApRefIdeal.nD Cert.DwApRefIdeal.τ).loc Cert.DwApRefIdeal.main_arg1) = m ((c.tc : Thread Cert.DwApCallIdeal.nD Cert.DwApCallIdeal.τ).loc Cert.DwApCallIdeal.main_arg1)) →
    ∃ (v0 : (c : Dev Cert.DwApCallIdeal.nD) → Buf (Elt Ideal) ((c.tc : Thread Cert.DwApCallIdeal.nD Cert.DwApCallIdeal.τ).loc Cert.DwApCallIdeal.main_v2)),
      θ_run (Cert.DwApCallIdeal.defs (F := Ideal)) (onTc (τ := Cert.DwApCallIdeal.τ) (Cert.DwApCallIdeal.main (F := Ideal))) ⟨m, fun _ => 0, g⟩ (fun r => ∀ c : Dev Cert.DwApCallIdeal.nD,
          r.2.mem ((c.tc : Thread Cert.DwApCallIdeal.nD Cert.DwApCallIdeal.τ).loc Cert.DwApCallIdeal.main_v2) = v0 c
          ∧ r.2.mem ((c.tc : Thread Cert.DwApCallIdeal.nD Cert.DwApCallIdeal.τ).loc Cert.DwApCallIdeal.main_arg0) = m ((c.tc : Thread Cert.DwApCallIdeal.nD Cert.DwApCallIdeal.τ).loc Cert.DwApCallIdeal.main_arg0)
          ∧ r.2.mem ((c.tc : Thread Cert.DwApCallIdeal.nD Cert.DwApCallIdeal.τ).loc Cert.DwApCallIdeal.main_arg1) = m ((c.tc : Thread Cert.DwApCallIdeal.nD Cert.DwApCallIdeal.τ).loc Cert.DwApCallIdeal.main_arg1))
      ∧ θ_run (Cert.DwApRefIdeal.defs (F := Ideal)) (onTc (τ := Cert.DwApRefIdeal.τ) (Cert.DwApRefIdeal.main (F := Ideal))) ⟨m', fun _ => 0, g'⟩ (fun r => ∀ c : Dev Cert.DwApRefIdeal.nD,
          r.2.mem ((c.tc : Thread Cert.DwApRefIdeal.nD Cert.DwApRefIdeal.τ).loc Cert.DwApRefIdeal.main_v4) = v0 c
          ∧ r.2.mem ((c.tc : Thread Cert.DwApRefIdeal.nD Cert.DwApRefIdeal.τ).loc Cert.DwApRefIdeal.main_arg0) = m' ((c.tc : Thread Cert.DwApRefIdeal.nD Cert.DwApRefIdeal.τ).loc Cert.DwApRefIdeal.main_arg0)
          ∧ r.2.mem ((c.tc : Thread Cert.DwApRefIdeal.nD Cert.DwApRefIdeal.τ).loc Cert.DwApRefIdeal.main_arg1) = m' ((c.tc : Thread Cert.DwApRefIdeal.nD Cert.DwApRefIdeal.τ).loc Cert.DwApRefIdeal.main_arg1))

def preserves_DwInGCall_DwInGCallIdeal : Prop :=
  True

def algebraic_DwInGCallIdeal_DwInGRefIdeal [hDwInGCallIdeal : Cert.DwInGCallIdeal.Facts] [hDwInGRefIdeal : Cert.DwInGRefIdeal.Facts] : Prop :=
  ∀ (m : (ℓ : Loc Cert.DwInGCallIdeal.nD Cert.DwInGCallIdeal.τ Cert.DwInGCallIdeal.sig) → Buf (Elt Ideal) ℓ) (g : Dev Cert.DwInGCallIdeal.nD → PrngReg)
    (m' : (ℓ : Loc Cert.DwInGRefIdeal.nD Cert.DwInGRefIdeal.τ Cert.DwInGRefIdeal.sig) → Buf (Elt Ideal) ℓ) (g' : Dev Cert.DwInGRefIdeal.nD → PrngReg), Pre_DwInGCallIdeal m →
    (∀ c : Dev Cert.DwInGCallIdeal.nD,
      m' ((c.tc : Thread Cert.DwInGRefIdeal.nD Cert.DwInGRefIdeal.τ).loc Cert.DwInGRefIdeal.main_arg0) = m ((c.tc : Thread Cert.DwInGCallIdeal.nD Cert.DwInGCallIdeal.τ).loc Cert.DwInGCallIdeal.main_arg0)
      ∧ m' ((c.tc : Thread Cert.DwInGRefIdeal.nD Cert.DwInGRefIdeal.τ).loc Cert.DwInGRefIdeal.main_arg1) = m ((c.tc : Thread Cert.DwInGCallIdeal.nD Cert.DwInGCallIdeal.τ).loc Cert.DwInGCallIdeal.main_arg1)
      ∧ m' ((c.tc : Thread Cert.DwInGRefIdeal.nD Cert.DwInGRefIdeal.τ).loc Cert.DwInGRefIdeal.main_arg2) = m ((c.tc : Thread Cert.DwInGCallIdeal.nD Cert.DwInGCallIdeal.τ).loc Cert.DwInGCallIdeal.main_arg2)
      ∧ m' ((c.tc : Thread Cert.DwInGRefIdeal.nD Cert.DwInGRefIdeal.τ).loc Cert.DwInGRefIdeal.main_arg3) = m ((c.tc : Thread Cert.DwInGCallIdeal.nD Cert.DwInGCallIdeal.τ).loc Cert.DwInGCallIdeal.main_arg3)) →
    ∃ (v0 : (c : Dev Cert.DwInGCallIdeal.nD) → Buf (Elt Ideal) ((c.tc : Thread Cert.DwInGCallIdeal.nD Cert.DwInGCallIdeal.τ).loc Cert.DwInGCallIdeal.main_v16)),
      θ_run (Cert.DwInGCallIdeal.defs (F := Ideal)) (onTc (τ := Cert.DwInGCallIdeal.τ) (Cert.DwInGCallIdeal.main (F := Ideal))) ⟨m, fun _ => 0, g⟩ (fun r => ∀ c : Dev Cert.DwInGCallIdeal.nD,
          r.2.mem ((c.tc : Thread Cert.DwInGCallIdeal.nD Cert.DwInGCallIdeal.τ).loc Cert.DwInGCallIdeal.main_v16) = v0 c
          ∧ r.2.mem ((c.tc : Thread Cert.DwInGCallIdeal.nD Cert.DwInGCallIdeal.τ).loc Cert.DwInGCallIdeal.main_arg0) = m ((c.tc : Thread Cert.DwInGCallIdeal.nD Cert.DwInGCallIdeal.τ).loc Cert.DwInGCallIdeal.main_arg0)
          ∧ r.2.mem ((c.tc : Thread Cert.DwInGCallIdeal.nD Cert.DwInGCallIdeal.τ).loc Cert.DwInGCallIdeal.main_arg1) = m ((c.tc : Thread Cert.DwInGCallIdeal.nD Cert.DwInGCallIdeal.τ).loc Cert.DwInGCallIdeal.main_arg1)
          ∧ r.2.mem ((c.tc : Thread Cert.DwInGCallIdeal.nD Cert.DwInGCallIdeal.τ).loc Cert.DwInGCallIdeal.main_arg2) = m ((c.tc : Thread Cert.DwInGCallIdeal.nD Cert.DwInGCallIdeal.τ).loc Cert.DwInGCallIdeal.main_arg2)
          ∧ r.2.mem ((c.tc : Thread Cert.DwInGCallIdeal.nD Cert.DwInGCallIdeal.τ).loc Cert.DwInGCallIdeal.main_arg3) = m ((c.tc : Thread Cert.DwInGCallIdeal.nD Cert.DwInGCallIdeal.τ).loc Cert.DwInGCallIdeal.main_arg3))
      ∧ θ_run (Cert.DwInGRefIdeal.defs (F := Ideal)) (onTc (τ := Cert.DwInGRefIdeal.τ) (Cert.DwInGRefIdeal.main (F := Ideal))) ⟨m', fun _ => 0, g'⟩ (fun r => ∀ c : Dev Cert.DwInGRefIdeal.nD,
          r.2.mem ((c.tc : Thread Cert.DwInGRefIdeal.nD Cert.DwInGRefIdeal.τ).loc Cert.DwInGRefIdeal.main_v19) = v0 c
          ∧ r.2.mem ((c.tc : Thread Cert.DwInGRefIdeal.nD Cert.DwInGRefIdeal.τ).loc Cert.DwInGRefIdeal.main_arg0) = m' ((c.tc : Thread Cert.DwInGRefIdeal.nD Cert.DwInGRefIdeal.τ).loc Cert.DwInGRefIdeal.main_arg0)
          ∧ r.2.mem ((c.tc : Thread Cert.DwInGRefIdeal.nD Cert.DwInGRefIdeal.τ).loc Cert.DwInGRefIdeal.main_arg1) = m' ((c.tc : Thread Cert.DwInGRefIdeal.nD Cert.DwInGRefIdeal.τ).loc Cert.DwInGRefIdeal.main_arg1)
          ∧ r.2.mem ((c.tc : Thread Cert.DwInGRefIdeal.nD Cert.DwInGRefIdeal.τ).loc Cert.DwInGRefIdeal.main_arg2) = m' ((c.tc : Thread Cert.DwInGRefIdeal.nD Cert.DwInGRefIdeal.τ).loc Cert.DwInGRefIdeal.main_arg2)
          ∧ r.2.mem ((c.tc : Thread Cert.DwInGRefIdeal.nD Cert.DwInGRefIdeal.τ).loc Cert.DwInGRefIdeal.main_arg3) = m' ((c.tc : Thread Cert.DwInGRefIdeal.nD Cert.DwInGRefIdeal.τ).loc Cert.DwInGRefIdeal.main_arg3))

def Claim : Prop :=
  ∃ (hMergeBwd : Cert.MergeBwd.Facts) (hMergeBwdIdeal : Cert.MergeBwdIdeal.Facts) (hMergeRefIdeal : Cert.MergeRefIdeal.Facts) (hInCall : Cert.InCall.Facts) (hInCallIdeal : Cert.InCallIdeal.Facts) (hInRefIdeal : Cert.InRefIdeal.Facts) (hUpCall : Cert.UpCall.Facts) (hUpCallIdeal : Cert.UpCallIdeal.Facts) (hUpRefIdeal : Cert.UpRefIdeal.Facts) (hDownCall : Cert.DownCall.Facts) (hDownCallIdeal : Cert.DownCallIdeal.Facts) (hDownRefIdeal : Cert.DownRefIdeal.Facts) (hGateCall : Cert.GateCall.Facts) (hGateCallIdeal : Cert.GateCallIdeal.Facts) (hGateRefIdeal : Cert.GateRefIdeal.Facts) (hDwDownCall : Cert.DwDownCall.Facts) (hDwDownCallIdeal : Cert.DwDownCallIdeal.Facts) (hDwDownRefIdeal : Cert.DwDownRefIdeal.Facts) (hDwGateCall : Cert.DwGateCall.Facts) (hDwGateCallIdeal : Cert.DwGateCallIdeal.Facts) (hDwGateRefIdeal : Cert.DwGateRefIdeal.Facts) (hHeadCall : Cert.HeadCall.Facts) (hHeadCallIdeal : Cert.HeadCallIdeal.Facts) (hHeadRefIdeal : Cert.HeadRefIdeal.Facts) (hDwUpCall : Cert.DwUpCall.Facts) (hDwUpCallIdeal : Cert.DwUpCallIdeal.Facts) (hDwUpRefIdeal : Cert.DwUpRefIdeal.Facts) (hZGatesCall : Cert.ZGatesCall.Facts) (hZGatesCallIdeal : Cert.ZGatesCallIdeal.Facts) (hZGatesRefIdeal : Cert.ZGatesRefIdeal.Facts) (hDwQkvCall : Cert.DwQkvCall.Facts) (hDwQkvCallIdeal : Cert.DwQkvCallIdeal.Facts) (hDwQkvRefIdeal : Cert.DwQkvRefIdeal.Facts) (hGluCall : Cert.GluCall.Facts) (hGluCallIdeal : Cert.GluCallIdeal.Facts) (hGluRefIdeal : Cert.GluRefIdeal.Facts) (hOutProjCall : Cert.OutProjCall.Facts) (hOutProjCallIdeal : Cert.OutProjCallIdeal.Facts) (hOutProjRefIdeal : Cert.OutProjRefIdeal.Facts) (hDwOutCall : Cert.DwOutCall.Facts) (hDwOutCallIdeal : Cert.DwOutCallIdeal.Facts) (hDwOutRefIdeal : Cert.DwOutRefIdeal.Facts) (hDwPgCall : Cert.DwPgCall.Facts) (hDwPgCallIdeal : Cert.DwPgCallIdeal.Facts) (hDwPgRefIdeal : Cert.DwPgRefIdeal.Facts) (hDwGaCall : Cert.DwGaCall.Facts) (hDwGaCallIdeal : Cert.DwGaCallIdeal.Facts) (hDwGaRefIdeal : Cert.DwGaRefIdeal.Facts) (hDwGbCall : Cert.DwGbCall.Facts) (hDwGbCallIdeal : Cert.DwGbCallIdeal.Facts) (hDwGbRefIdeal : Cert.DwGbRefIdeal.Facts) (hDwApCall : Cert.DwApCall.Facts) (hDwApCallIdeal : Cert.DwApCallIdeal.Facts) (hDwApRefIdeal : Cert.DwApRefIdeal.Facts) (hDwInGCall : Cert.DwInGCall.Facts) (hDwInGCallIdeal : Cert.DwInGCallIdeal.Facts) (hDwInGRefIdeal : Cert.DwInGRefIdeal.Facts) (hPre_finite : Cert.Pre_finite.Facts) (hOn_qkv_columns : Cert.On_qkv_columns.Facts),
    quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_InCall (hInCall := hInCall)
    ∧ quiescent_InCallIdeal (hInCallIdeal := hInCallIdeal)
    ∧ quiescent_InRefIdeal (hInRefIdeal := hInRefIdeal)
    ∧ quiescent_UpCall (hUpCall := hUpCall)
    ∧ quiescent_UpCallIdeal (hUpCallIdeal := hUpCallIdeal)
    ∧ quiescent_UpRefIdeal (hUpRefIdeal := hUpRefIdeal)
    ∧ quiescent_DownCall (hDownCall := hDownCall)
    ∧ quiescent_DownCallIdeal (hDownCallIdeal := hDownCallIdeal)
    ∧ quiescent_DownCallIdeal_pre_finite (hDownCallIdeal := hDownCallIdeal) (hPre_finite := hPre_finite)
    ∧ quiescent_DownRefIdeal (hDownRefIdeal := hDownRefIdeal)
    ∧ quiescent_DownRefIdeal_pre_finite (hDownRefIdeal := hDownRefIdeal) (hPre_finite := hPre_finite)
    ∧ quiescent_GateCall (hGateCall := hGateCall)
    ∧ quiescent_GateCallIdeal (hGateCallIdeal := hGateCallIdeal)
    ∧ quiescent_GateRefIdeal (hGateRefIdeal := hGateRefIdeal)
    ∧ quiescent_DwDownCall (hDwDownCall := hDwDownCall)
    ∧ quiescent_DwDownCallIdeal (hDwDownCallIdeal := hDwDownCallIdeal)
    ∧ quiescent_DwDownRefIdeal (hDwDownRefIdeal := hDwDownRefIdeal)
    ∧ quiescent_DwGateCall (hDwGateCall := hDwGateCall)
    ∧ quiescent_DwGateCallIdeal (hDwGateCallIdeal := hDwGateCallIdeal)
    ∧ quiescent_DwGateRefIdeal (hDwGateRefIdeal := hDwGateRefIdeal)
    ∧ quiescent_HeadCall (hHeadCall := hHeadCall)
    ∧ quiescent_HeadCallIdeal (hHeadCallIdeal := hHeadCallIdeal)
    ∧ quiescent_HeadRefIdeal (hHeadRefIdeal := hHeadRefIdeal)
    ∧ quiescent_DwUpCall (hDwUpCall := hDwUpCall)
    ∧ quiescent_DwUpCallIdeal (hDwUpCallIdeal := hDwUpCallIdeal)
    ∧ quiescent_DwUpRefIdeal (hDwUpRefIdeal := hDwUpRefIdeal)
    ∧ quiescent_ZGatesCall (hZGatesCall := hZGatesCall)
    ∧ quiescent_ZGatesCallIdeal (hZGatesCallIdeal := hZGatesCallIdeal)
    ∧ quiescent_ZGatesRefIdeal (hZGatesRefIdeal := hZGatesRefIdeal)
    ∧ quiescent_DwQkvCall (hDwQkvCall := hDwQkvCall)
    ∧ quiescent_DwQkvCallIdeal (hDwQkvCallIdeal := hDwQkvCallIdeal)
    ∧ quiescent_DwQkvRefIdeal (hDwQkvRefIdeal := hDwQkvRefIdeal)
    ∧ quiescent_GluCall (hGluCall := hGluCall)
    ∧ quiescent_GluCallIdeal (hGluCallIdeal := hGluCallIdeal)
    ∧ quiescent_GluRefIdeal (hGluRefIdeal := hGluRefIdeal)
    ∧ quiescent_OutProjCall (hOutProjCall := hOutProjCall)
    ∧ quiescent_OutProjCallIdeal (hOutProjCallIdeal := hOutProjCallIdeal)
    ∧ quiescent_OutProjRefIdeal (hOutProjRefIdeal := hOutProjRefIdeal)
    ∧ quiescent_DwOutCall (hDwOutCall := hDwOutCall)
    ∧ quiescent_DwOutCallIdeal (hDwOutCallIdeal := hDwOutCallIdeal)
    ∧ quiescent_DwOutRefIdeal (hDwOutRefIdeal := hDwOutRefIdeal)
    ∧ quiescent_DwPgCall (hDwPgCall := hDwPgCall)
    ∧ quiescent_DwPgCallIdeal (hDwPgCallIdeal := hDwPgCallIdeal)
    ∧ quiescent_DwPgRefIdeal (hDwPgRefIdeal := hDwPgRefIdeal)
    ∧ quiescent_DwGaCall (hDwGaCall := hDwGaCall)
    ∧ quiescent_DwGaCallIdeal (hDwGaCallIdeal := hDwGaCallIdeal)
    ∧ quiescent_DwGaRefIdeal (hDwGaRefIdeal := hDwGaRefIdeal)
    ∧ quiescent_DwGbCall (hDwGbCall := hDwGbCall)
    ∧ quiescent_DwGbCallIdeal (hDwGbCallIdeal := hDwGbCallIdeal)
    ∧ quiescent_DwGbRefIdeal (hDwGbRefIdeal := hDwGbRefIdeal)
    ∧ quiescent_DwApCall (hDwApCall := hDwApCall)
    ∧ quiescent_DwApCallIdeal (hDwApCallIdeal := hDwApCallIdeal)
    ∧ quiescent_DwApRefIdeal (hDwApRefIdeal := hDwApRefIdeal)
    ∧ quiescent_DwInGCall (hDwInGCall := hDwInGCall)
    ∧ quiescent_DwInGCallIdeal (hDwInGCallIdeal := hDwInGCallIdeal)
    ∧ quiescent_DwInGRefIdeal (hDwInGRefIdeal := hDwInGRefIdeal)
    ∧ preserves_MergeBwd_MergeBwdIdeal
    ∧ algebraic_MergeBwdIdeal_MergeRefIdeal (hMergeBwdIdeal := hMergeBwdIdeal) (hMergeRefIdeal := hMergeRefIdeal)
    ∧ preserves_InCall_InCallIdeal
    ∧ algebraic_InCallIdeal_InRefIdeal (hInCallIdeal := hInCallIdeal) (hInRefIdeal := hInRefIdeal)
    ∧ preserves_UpCall_UpCallIdeal
    ∧ algebraic_UpCallIdeal_UpRefIdeal (hUpCallIdeal := hUpCallIdeal) (hUpRefIdeal := hUpRefIdeal)
    ∧ preserves_DownCall_DownCallIdeal
    ∧ algebraic_DownCallIdeal_DownRefIdeal_pre_finite (hDownCallIdeal := hDownCallIdeal) (hDownRefIdeal := hDownRefIdeal) (hPre_finite := hPre_finite)
    ∧ preserves_GateCall_GateCallIdeal
    ∧ algebraic_GateCallIdeal_GateRefIdeal (hGateCallIdeal := hGateCallIdeal) (hGateRefIdeal := hGateRefIdeal)
    ∧ preserves_DwDownCall_DwDownCallIdeal
    ∧ algebraic_DwDownCallIdeal_DwDownRefIdeal (hDwDownCallIdeal := hDwDownCallIdeal) (hDwDownRefIdeal := hDwDownRefIdeal)
    ∧ preserves_DwGateCall_DwGateCallIdeal
    ∧ algebraic_DwGateCallIdeal_DwGateRefIdeal (hDwGateCallIdeal := hDwGateCallIdeal) (hDwGateRefIdeal := hDwGateRefIdeal)
    ∧ preserves_HeadCall_HeadCallIdeal
    ∧ algebraic_HeadCallIdeal_HeadRefIdeal (hHeadCallIdeal := hHeadCallIdeal) (hHeadRefIdeal := hHeadRefIdeal)
    ∧ preserves_DwUpCall_DwUpCallIdeal
    ∧ algebraic_DwUpCallIdeal_DwUpRefIdeal (hDwUpCallIdeal := hDwUpCallIdeal) (hDwUpRefIdeal := hDwUpRefIdeal)
    ∧ preserves_ZGatesCall_ZGatesCallIdeal
    ∧ algebraic_ZGatesCallIdeal_ZGatesRefIdeal (hZGatesCallIdeal := hZGatesCallIdeal) (hZGatesRefIdeal := hZGatesRefIdeal)
    ∧ preserves_DwQkvCall_DwQkvCallIdeal
    ∧ algebraic_DwQkvCallIdeal_DwQkvRefIdeal_on_qkv_columns (hDwQkvCallIdeal := hDwQkvCallIdeal) (hDwQkvRefIdeal := hDwQkvRefIdeal) (hOn_qkv_columns := hOn_qkv_columns)
    ∧ preserves_GluCall_GluCallIdeal
    ∧ algebraic_GluCallIdeal_GluRefIdeal (hGluCallIdeal := hGluCallIdeal) (hGluRefIdeal := hGluRefIdeal)
    ∧ preserves_OutProjCall_OutProjCallIdeal
    ∧ algebraic_OutProjCallIdeal_OutProjRefIdeal (hOutProjCallIdeal := hOutProjCallIdeal) (hOutProjRefIdeal := hOutProjRefIdeal)
    ∧ preserves_DwOutCall_DwOutCallIdeal
    ∧ algebraic_DwOutCallIdeal_DwOutRefIdeal (hDwOutCallIdeal := hDwOutCallIdeal) (hDwOutRefIdeal := hDwOutRefIdeal)
    ∧ preserves_DwPgCall_DwPgCallIdeal
    ∧ algebraic_DwPgCallIdeal_DwPgRefIdeal (hDwPgCallIdeal := hDwPgCallIdeal) (hDwPgRefIdeal := hDwPgRefIdeal)
    ∧ preserves_DwGaCall_DwGaCallIdeal
    ∧ algebraic_DwGaCallIdeal_DwGaRefIdeal (hDwGaCallIdeal := hDwGaCallIdeal) (hDwGaRefIdeal := hDwGaRefIdeal)
    ∧ preserves_DwGbCall_DwGbCallIdeal
    ∧ algebraic_DwGbCallIdeal_DwGbRefIdeal (hDwGbCallIdeal := hDwGbCallIdeal) (hDwGbRefIdeal := hDwGbRefIdeal)
    ∧ preserves_DwApCall_DwApCallIdeal
    ∧ algebraic_DwApCallIdeal_DwApRefIdeal (hDwApCallIdeal := hDwApCallIdeal) (hDwApRefIdeal := hDwApRefIdeal)
    ∧ preserves_DwInGCall_DwInGCallIdeal
    ∧ algebraic_DwInGCallIdeal_DwInGRefIdeal (hDwInGCallIdeal := hDwInGCallIdeal) (hDwInGRefIdeal := hDwInGRefIdeal)
-- ==== On_qkv_columns.lean ====
abbrev S16384x1024 : Shape := ⟨2, ![16384, 1024]⟩
abbrev S1024 : Shape := ⟨1, ![1024]⟩
abbrev S16384x4608 : Shape := ⟨2, ![16384, 4608]⟩
abbrev S1024x7168 : Shape := ⟨2, ![1024, 7168]⟩
abbrev S_ : Shape := ⟨0, ![]⟩

class Facts : Prop where
  bcast_S_S1024x7168 : S_.BroadcastsInDim S1024x7168 (![] : Fin 0 → Fin S1024x7168.rank)

variable [Facts]

def fn {F : FTy → Type} [FloatOps F] (main_arg0 : FVec F S16384x1024 .f32) (main_arg1 : FVec F S1024 .f32) (main_arg2 : FVec F S16384x4608 .f32) : IVec S1024x7168 1 :=
  let main_v0 : IVec S1024x7168 32 := iotaInDim S1024x7168 32 1
  let main_c : IVec S_ 32 := constantI S_ 32 4608#32
  let main_v1 : IVec S1024x7168 32 := broadcastInDim S1024x7168 ![] bcast_S_S1024x7168 main_c
  let main_v2 : IVec S1024x7168 1 := cmpi .slt main_v0 main_v1
  main_v2
-- ==== Pre_finite.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x2816 .f32) (main_arg1 : FVec F S16384x2816 .f32) (main_arg2 : FVec F S2816x1024 .f32) (main_arg3 : FVec F S16384x1024 .f32) : IVec S16384x2816 1 × IVec S2816x1024 1 × IVec S16384x1024 1 :=
  let main_v0 : FVec F S16384x2816 .f32 := Host.absf main_arg1
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S16384x1024 .f32 := Host.absf main_arg3
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== MergeBwd.lean ====
abbrev S16384x1024 : Shape := ⟨2, ![16384, 1024]⟩
abbrev S16384x2048 : Shape := ⟨2, ![16384, 2048]⟩
abbrev S16384x512 : Shape := ⟨2, ![16384, 512]⟩
abbrev S1024x1024 : Shape := ⟨2, ![1024, 1024]⟩
abbrev S512x1024 : Shape := ⟨2, ![512, 1024]⟩
abbrev S512x2048 : Shape := ⟨2, ![512, 2048]⟩
abbrev S512x512 : Shape := ⟨2, ![512, 512]⟩

abbrev nBuf : Space → Nat
  | .hbm => 35
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x512, .f32⟩
  | .hbm, ⟨3, _⟩ => ⟨S16384x512, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S16384x1024, .bf16⟩
  | .hbm, ⟨9, _⟩ => ⟨S16384x2048, .bf16⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S16384x512, .bf16⟩
  | .hbm, ⟨15, _⟩ => ⟨S16384x512, .f32⟩
  | .hbm, ⟨16, _⟩ => ⟨S512x1024, .f32⟩
  | .hbm, ⟨17, _⟩ => ⟨S16384x1024, .f32⟩
  | .hbm, ⟨18, _⟩ => ⟨S16384x1024, .bf16⟩
  | .hbm, ⟨19, _⟩ => ⟨S16384x512, .bf16⟩
  | .hbm, ⟨20, _⟩ => ⟨S16384x512, .f32⟩
  | .hbm, ⟨21, _⟩ => ⟨S512x1024, .f32⟩
  | .hbm, ⟨22, _⟩ => ⟨S16384x1024, .f32⟩
  | .hbm, ⟨23, _⟩ => ⟨S16384x1024, .bf16⟩
  | .hbm, ⟨24, _⟩ => ⟨S16384x512, .bf16⟩
  | .hbm, ⟨25, _⟩ => ⟨S16384x512, .f32⟩
  | .hbm, ⟨26, _⟩ => ⟨S512x1024, .f32⟩
  | .hbm, ⟨27, _⟩ => ⟨S16384x1024, .f32⟩
  | .hbm, ⟨28, _⟩ => ⟨S16384x1024, .bf16⟩
  | .hbm, ⟨29, _⟩ => ⟨S16384x2048, .bf16⟩
  | .hbm, ⟨30, _⟩ => ⟨S16384x1024, .bf16⟩
  | .hbm, ⟨31, _⟩ => ⟨S16384x1024, .bf16⟩
  | .hbm, ⟨32, _⟩ => ⟨S16384x1024, .bf16⟩
  | .hbm, ⟨33, _⟩ => ⟨S16384x512, .f32⟩
  | .hbm, ⟨34, _⟩ => ⟨S16384x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]
-- ==== MergeRefIdeal.lean ====
abbrev S16384x1024 : Shape := ⟨2, ![16384, 1024]⟩
abbrev S16384x2048 : Shape := ⟨2, ![16384, 2048]⟩
abbrev S16384x512 : Shape := ⟨2, ![16384, 512]⟩
abbrev S1024x1024 : Shape := ⟨2, ![1024, 1024]⟩
abbrev S512x1024 : Shape := ⟨2, ![512, 1024]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x512, .f32⟩
  | .hbm, ⟨3, _⟩ => ⟨S16384x512, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x2048, .f32⟩
  | .hbm, ⟨65, _⟩ => ⟨S16384x1024, .f32⟩
  | .hbm, ⟨66, _⟩ => ⟨S_, .f32⟩
  | .hbm, ⟨67, _⟩ => ⟨S16384x2048, .f32⟩
  | .hbm, ⟨68, _⟩ => ⟨S16384x2048, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x2048, .bf16⟩
  | .hbm, ⟨74, _⟩ => ⟨S16384x1024, .bf16⟩
  | .hbm, ⟨75, _⟩ => ⟨S16384x1024, .bf16⟩
  | .hbm, ⟨76, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== InCall.lean ====
abbrev S16384x1024 : Shape := ⟨2, ![16384, 1024]⟩
abbrev S1024 : Shape := ⟨1, ![1024]⟩
abbrev S1024x7168 : Shape := ⟨2, ![1024, 7168]⟩
abbrev S16384x7168 : Shape := ⟨2, ![16384, 7168]⟩
abbrev S16384x4608 : Shape := ⟨2, ![16384, 4608]⟩
abbrev S16384x512 : Shape := ⟨2, ![16384, 512]⟩
abbrev S16384x2048 : Shape := ⟨2, ![16384, 2048]⟩
abbrev S1x1024 : Shape := ⟨2, ![1, 1024]⟩
abbrev S512x4608 : Shape := ⟨2, ![512, 4608]⟩
abbrev S1024x4608 : Shape := ⟨2, ![1024, 4608]⟩
abbrev S512x512 : Shape := ⟨2, ![512, 512]⟩
abbrev S1024x512 : Shape := ⟨2, ![1024, 512]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S16384x7168, .f32⟩
  | .hbm, ⟨4, _⟩ => ⟨S16384x1024, .f32⟩
  | .hbm, ⟨5, _⟩ => ⟨S1024x7168, .bf16⟩
  | .hbm, ⟨6, _⟩ => ⟨S16384x7168, .bf16⟩
  | .hbm, ⟨7, _⟩ => ⟨S16384x4608, .bf16⟩
  | .hbm, ⟨8, _⟩ => ⟨S16384x512, .bf16⟩
  | .hbm, ⟨9, _⟩ => ⟨S16384x2048, .bf16⟩
  | .hbm, ⟨10, _⟩ => ⟨S1x1024, .f32⟩
  | .hbm, ⟨11, _⟩ => ⟨S16384x1024, .f32⟩
  | .hbm, ⟨12, _⟩ => ⟨S1x1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg0 : BitVec 32 := BitVec.ofNat 32 (i 0).val
  let c0_i32_33 : BitVec 32 := 0#32
  let v57 : BitVec 1 := Scalar.cmpi .sgt arg0 c0_i32_33
  let v58 : BitVec 32 := Scalar.extui v57
  let c0_i32_34 : BitVec 32 := 0#32
  let v59 : BitVec 1 := Scalar.cmpi .ne v58 c0_i32_34
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c9_i32 : BitVec 32 := 9#32
  let c0_i32_0 : BitVec 32 := 0#32
  ![c0_i32.toNat, c9_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![c0_i32.toNat, c5_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c6_i32 : BitVec 32 := 6#32
  let c0_i32_0 : BitVec 32 := 0#32
  ![c0_i32.toNat, c6_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== InRefIdeal.lean ====
abbrev S16384x1024 : Shape := ⟨2, ![16384, 1024]⟩
abbrev S1024 : Shape := ⟨1, ![1024]⟩
abbrev S1024x7168 : Shape := ⟨2, ![1024, 7168]⟩
abbrev S16384x7168 : Shape := ⟨2, ![16384, 7168]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S16384x7168, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x7168, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== UpCall.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S1024x2816, .bf16⟩
  | .hbm, ⟨8, _⟩ => ⟨S1024x2816, .bf16⟩
  | .hbm, ⟨9, _⟩ => ⟨S16384x2816, .bf16⟩
  | .hbm, ⟨10, _⟩ => ⟨S16384x2816, .bf16⟩
  | .hbm, ⟨11, _⟩ => ⟨S1x1024, .f32⟩
  | .hbm, ⟨12, _⟩ => ⟨S16384x1024, .f32⟩
  | .hbm, ⟨13, _⟩ => ⟨S16384x1024, .bf16⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_24 : BitVec 32 := 0#32
  let v46 : BitVec 1 := Scalar.cmpi .ne v45 c0_i32_24
  v46

def k0_cond2 (i : grid0.Coords) : BitVec 1 :=
  let arg0 : BitVec 32 := BitVec.ofNat 32 (i 0).val
  let c0_i32_25 : BitVec 32 := 0#32
  let v47 : BitVec 1 := Scalar.cmpi .sgt arg0 c0_i32_25
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== UpRefIdeal.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x2816, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .bf16⟩
  | .hbm, ⟨59, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== DownCall.lean ====
abbrev S16384x2816 : Shape := ⟨2, ![16384, 2816]⟩
abbrev S2816x1024 : Shape := ⟨2, ![2816, 1024]⟩
abbrev S16384x1024 : Shape := ⟨2, ![16384, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 10
  | .vmem => 12
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S2816x1024, .bf16⟩
  | .hbm, ⟨5, _⟩ => ⟨S16384x1024, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .hbm, ⟨9, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== GateCall.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 26
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1024x2816, .bf16⟩
  | .hbm, ⟨5, _⟩ => ⟨S1024x2816, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x2816, .bf16⟩
  | .hbm, ⟨24, _⟩ => ⟨S16384x2816, .bf16⟩
  | .hbm, ⟨25, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateRefIdeal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .bf16⟩
  | .hbm, ⟨33, _⟩ => ⟨S16384x2816, .bf16⟩
  | .hbm, ⟨34, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== DwDownCall.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 16
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S_, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .bf16⟩
  | .hbm, ⟨14, _⟩ => ⟨S16384x1024, .bf16⟩
  | .hbm, ⟨15, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwDownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S_, .f32⟩
  | .hbm, ⟨4, _⟩ => ⟨S2816x1024, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== DwGateCall.lean ====
abbrev S16384x1024 : Shape := ⟨2, ![16384, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x2816, .bf16⟩
  | .hbm, ⟨21, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwGateRefIdeal.lean ====
abbrev S16384x1024 : Shape := ⟨2, ![16384, 1024]⟩
abbrev S1024 : Shape := ⟨1, ![1024]⟩
abbrev S16384x2816 : Shape := ⟨2, ![16384, 2816]⟩
abbrev S_ : Shape := ⟨0, ![]⟩
abbrev S1024x2816 : Shape := ⟨2, ![1024, 2816]⟩
abbrev S16384 : Shape := ⟨1, ![16384]⟩
abbrev S16384x1 : Shape := ⟨2, ![16384, 1]⟩
abbrev S1x1024 : Shape := ⟨2, ![1, 1024]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x2816, .f32⟩
  | .hbm, ⟨3, _⟩ => ⟨S_, .f32⟩
  | .hbm, ⟨4, _⟩ => ⟨S1024x2816, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S2816x1024, .f32⟩
  | .hbm, ⟨23, _⟩ => ⟨S1024x2816, .f32⟩
  | .hbm, ⟨24, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== HeadCall.lean ====
abbrev S16384x1024 : Shape := ⟨2, ![16384, 1024]⟩
abbrev S16384x2816 : Shape := ⟨2, ![16384, 2816]⟩
abbrev S16384x256 : Shape := ⟨2, ![16384, 256]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S1x1 : Shape := ⟨2, ![1, 1]⟩
abbrev S512x2816 : Shape := ⟨2, ![512, 2816]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 20
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x256, .f32⟩
  | .hbm, ⟨3, _⟩ => ⟨S2816x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S16384x2816, .bf16⟩
  | .hbm, ⟨9, _⟩ => ⟨S2816x1024, .bf16⟩
  | .hbm, ⟨10, _⟩ => ⟨S256x1024, .bf16⟩
  | .hbm, ⟨11, _⟩ => ⟨S1024x1024, .bf16⟩
  | .hbm, ⟨12, _⟩ => ⟨S1x1024, .f32⟩
  | .hbm, ⟨13, _⟩ => ⟨S1x1, .f32⟩
  | .hbm, ⟨14, _⟩ => ⟨S1x1024, .f32⟩
  | .hbm, ⟨15, _⟩ => ⟨S16384x1024, .f32⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x256, .f32⟩
  | .local _ .vmem, ⟨4, _⟩ => ⟨S512x256, .f32⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1x1, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨3, ![32, 1, 1], ![false, false, false]⟩

def k0_cond5 (i : grid0.Coords) : BitVec 1 :=
  let arg0 : BitVec 32 := BitVec.ofNat 32 (i 0).val
  let c31_i32 : BitVec 32 := 31#32
  let v91 : BitVec 1 := Scalar.cmpi .eq arg0 c31_i32
  let v92 : BitVec 32 := Scalar.extui v91
  let c0_i32_49 : BitVec 32 := 0#32
  let v93 : BitVec 1 := Scalar.cmpi .ne v92 c0_i32_49
  v93

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_41 : BitVec 32 := 0#32
  let v78 : BitVec 1 := Scalar.cmpi .ne v77 c0_i32_41
  v78

def k0_cond2 (i : grid0.Coords) : BitVec 1 :=
  let arg0 : BitVec 32 := BitVec.ofNat 32 (i 0).val
  let c0_i32_42 : BitVec 32 := 0#32
  let v79 : BitVec 1 := Scalar.cmpi .sgt arg0 c0_i32_42
  let v80 : BitVec 32 := Scalar.extui v79
  let c0_i32_43 : BitVec 32 := 0#32
  let v81 : BitVec 1 := Scalar.cmpi .ne v80 c0_i32_43
  v81

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]
-- ==== HeadRefIdeal.lean ====
abbrev S16384x1024 : Shape := ⟨2, ![16384, 1024]⟩
abbrev S16384x2816 : Shape := ⟨2, ![16384, 2816]⟩
abbrev S16384x256 : Shape := ⟨2, ![16384, 256]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x256, .f32⟩
  | .hbm, ⟨3, _⟩ => ⟨S2816x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S1x1, .f32⟩
  | .hbm, ⟨101, _⟩ => ⟨S1x1024, .f32⟩
  | .hbm, ⟨102, _⟩ => ⟨S16384x1024, .bf16⟩
  | .hbm, ⟨103, _⟩ => ⟨S16384x1024, .bf16⟩
  | .hbm, ⟨104, _⟩ => ⟨S16384x1024, .bf16⟩
  | .hbm, ⟨105, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_cst_18 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== DwUpCall.lean ====
abbrev S16384x1024 : Shape := ⟨2, ![16384, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x2816, .bf16⟩
  | .hbm, ⟨21, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwUpRefIdeal.lean ====
abbrev S16384x1024 : Shape := ⟨2, ![16384, 1024]⟩
abbrev S1024 : Shape := ⟨1, ![1024]⟩
abbrev S16384x2816 : Shape := ⟨2, ![16384, 2816]⟩
abbrev S_ : Shape := ⟨0, ![]⟩
abbrev S1024x2816 : Shape := ⟨2, ![1024, 2816]⟩
abbrev S16384 : Shape := ⟨1, ![16384]⟩
abbrev S16384x1 : Shape := ⟨2, ![16384, 1]⟩
abbrev S1x1024 : Shape := ⟨2, ![1, 1024]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x2816, .f32⟩
  | .hbm, ⟨3, _⟩ => ⟨S_, .f32⟩
  | .hbm, ⟨4, _⟩ => ⟨S1024x2816, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S2816x1024, .f32⟩
  | .hbm, ⟨23, _⟩ => ⟨S1024x2816, .f32⟩
  | .hbm, ⟨24, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== ZGatesCall.lean ====
abbrev S16384x1024 : Shape := ⟨2, ![16384, 1024]⟩
abbrev S1024 : Shape := ⟨1, ![1024]⟩
abbrev S1024x7168 : Shape := ⟨2, ![1024, 7168]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1024x1024 : Shape := ⟨2, ![1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S1024x7168, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZGatesRefIdeal.lean ====
abbrev S16384x1024 : Shape := ⟨2, ![16384, 1024]⟩
abbrev S1024 : Shape := ⟨1, ![1024]⟩
abbrev S1024x7168 : Shape := ⟨2, ![1024, 7168]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7168 : Shape := ⟨2, ![16384, 7168]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x7168, .f32⟩
  | .hbm, ⟨20, _⟩ => ⟨S16384x2048, .f32⟩
  | .hbm, ⟨21, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DwQkvCall.lean ====
abbrev S16384x1024 : Shape := ⟨2, ![16384, 1024]⟩
abbrev S1024 : Shape := ⟨1, ![1024]⟩
abbrev S16384x4608 : Shape := ⟨2, ![16384, 4608]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x7168 : Shape := ⟨2, ![1024, 7168]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 22
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x4608, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x4608, .bf16⟩
  | .hbm, ⟨21, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwQkvRefIdeal.lean ====
abbrev S16384x1024 : Shape := ⟨2, ![16384, 1024]⟩
abbrev S1024 : Shape := ⟨1, ![1024]⟩
abbrev S16384x4608 : Shape := ⟨2, ![16384, 4608]⟩
abbrev S_ : Shape := ⟨0, ![]⟩
abbrev S1024x7168 : Shape := ⟨2, ![1024, 7168]⟩
abbrev S16384 : Shape := ⟨1, ![16384]⟩
abbrev S16384x1 : Shape := ⟨2, ![16384, 1]⟩
abbrev S1x1024 : Shape := ⟨2, ![1, 1024]⟩
abbrev S16384x7168 : Shape := ⟨2, ![16384, 7168]⟩
abbrev S7168x1024 : Shape := ⟨2, ![7168, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x4608, .f32⟩
  | .hbm, ⟨3, _⟩ => ⟨S_, .f32⟩
  | .hbm, ⟨4, _⟩ => ⟨S1024x7168, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x7168, .f32⟩
  | .hbm, ⟨22, _⟩ => ⟨S16384x4608, .f32⟩
  | .hbm, ⟨23, _⟩ => ⟨S_, .f32⟩
  | .hbm, ⟨24, _⟩ => ⟨S16384x7168, .f32⟩
  | .hbm, ⟨25, _⟩ => ⟨S7168x1024, .f32⟩
  | .hbm, ⟨26, _⟩ => ⟨S1024x7168, .f32⟩
  | .hbm, ⟨27, _⟩ => ⟨S1024x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== GluCall.lean ====
abbrev S16384x2048 : Shape := ⟨2, ![16384, 2048]⟩
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 16
  | .vmem => 21
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x2048, .bf16⟩
  | .hbm, ⟨7, _⟩ => ⟨S16384x512, .bf16⟩
  | .hbm, ⟨8, _⟩ => ⟨S16384x512, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== GluRefIdeal.lean ====
abbrev S16384x2048 : Shape := ⟨2, ![16384, 2048]⟩
abbrev S16384x512 : Shape := ⟨2, ![16384, 512]⟩
abbrev S512x1024 : Shape := ⟨2, ![512, 1024]⟩
abbrev S16384x1024 : Shape := ⟨2, ![16384, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x1024, .bf16⟩
  | .hbm, ⟨41, _⟩ => ⟨S16384x1024, .bf16⟩
  | .hbm, ⟨42, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OutProjCall.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OutProjRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== DwOutCall.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DwOutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwPgCall.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DwPgRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwGaCall.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .bf16⟩
  | .hbm, ⟨3, _⟩ => ⟨S16384x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DwGaRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwGbCall.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .bf16⟩
  | .hbm, ⟨3, _⟩ => ⟨S16384x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DwGbRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwApCall.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .bf16⟩
  | .hbm, ⟨3, _⟩ => ⟨S16384x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DwApRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwInGCall.lean ====
abbrev S16384x1024 : Shape := ⟨2, ![16384, 1024]⟩
abbrev S1024 : Shape := ⟨1, ![1024]⟩
abbrev S16384x2048 : Shape := ⟨2, ![16384, 2048]⟩
abbrev S1024x7168 : Shape := ⟨2, ![1024, 7168]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2048x1024 : Shape := ⟨2, ![2048, 1024]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x2048, .f32⟩
  | .hbm, ⟨3, _⟩ => ⟨S1024x7168, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x2048, .bf16⟩
  | .hbm, ⟨22, _⟩ => ⟨S1024x7168, .bf16⟩
  | .hbm, ⟨23, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  let c0_i32_0 : BitVec 32 := 0#32
  ![c0_i32.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwInGRefIdeal.lean ====
abbrev S16384x1024 : Shape := ⟨2, ![16384, 1024]⟩
abbrev S1024 : Shape := ⟨1, ![1024]⟩
abbrev S16384x2048 : Shape := ⟨2, ![16384, 2048]⟩
abbrev S1024x7168 : Shape := ⟨2, ![1024, 7168]⟩
abbrev S_ : Shape := ⟨0, ![]⟩
abbrev S1024x2048 : Shape := ⟨2, ![1024, 2048]⟩
abbrev S16384 : Shape := ⟨1, ![16384]⟩
abbrev S16384x1 : Shape := ⟨2, ![16384, 1]⟩
abbrev S1x1024 : Shape := ⟨2, ![1, 1024]⟩
abbrev S2048x1024 : Shape := ⟨2, ![2048, 1024]⟩
abbrev S1024x5120 : Shape := ⟨2, ![1024, 5120]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x2048, .f32⟩
  | .hbm, ⟨3, _⟩ => ⟨S1024x7168, .f32⟩
  | .hbm, ⟨4, _⟩ => ⟨S_, .f32⟩
  | .hbm, ⟨5, _⟩ => ⟨S1024x2048, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2048, .f32⟩
  | .hbm, ⟨23, _⟩ => ⟨S2048x1024, .f32⟩
  | .hbm, ⟨24, _⟩ => ⟨S1024x2048, .f32⟩
  | .hbm, ⟨25, _⟩ => ⟨S1024x5120, .f32⟩
  | .hbm, ⟨26, _⟩ => ⟨S1024x7168, .f32⟩
  | .hbm, ⟨27, _⟩ => ⟨S1024x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Scalars.lean ====
/- The scalar identities over the extended reals that the value claims use. -/
module

public import Idealize.ShloMosaic.Lib.Pointwise
public import Idealize.ShloMosaic.Lib.IdealHost

@[expose] public section

noncomputable section

namespace Cert.Proof.Scalars

open Idealize.ShloMosaic

/-- The float word of one half, over the extended reals. -/
theorem half_eq : Ideal.ofBits .f32 0x3F000000#32 = ((1 / 2 : ℝ) : EReal) := by
  simp [Ideal.ofBits, Ideal.ieee, -EReal.coe_mul]
  norm_num

/-- The kernel's sigmoid, `½·tanh(½·x) + ½`, is the logistic function at every extended real. -/
theorem half_tanh (x : EReal) :
    Ideal.ofBits .f32 0x3F000000#32 * Ideal.tanh (Ideal.ofBits .f32 0x3F000000#32 * x) + Ideal.ofBits .f32 0x3F000000#32
      = Ideal.logistic x := by
  rw [half_eq]
  induction x using EReal.rec with
  | bot =>
    rw [EReal.coe_mul_bot_of_pos (by norm_num), Ideal.tanh_bot, Ideal.logistic_bot,
      show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    norm_cast; norm_num
  | coe r =>
    rw [Ideal.logistic_coe, ← EReal.coe_mul, Ideal.tanh_coe]
    norm_cast
    rw [Real.tanh_eq_sinh_div_cosh, Real.sinh_eq, Real.cosh_eq]
    have h : Real.exp (1 / 2 * r) = Real.exp (-(1 / 2 * r)) * Real.exp r := by
      rw [← Real.exp_add]; congr 1; ring
    have h2 : Real.exp (-r) = Real.exp (-(1 / 2 * r)) * Real.exp (-(1 / 2 * r)) := by
      rw [← Real.exp_add]; congr 1; ring
    have h3 : Real.exp r * (Real.exp (-(1 / 2 * r)) * Real.exp (-(1 / 2 * r))) = 1 := by
      rw [← h2, ← Real.exp_add]; simp
    have p1 := Real.exp_pos (-(1 / 2 * r))
    have p2 := Real.exp_pos r
    rw [h2, h]
    generalize Real.exp (-(1 / 2 * r)) = a at *
    generalize Real.exp r = b at *
    have q1 : a * b + a ≠ 0 := by positivity
    have q2 : 1 + a * a ≠ 0 := by positivity
    field_simp
    nlinarith [h3]

/-- The logistic function has real values, between zero and one. -/
theorem logistic_real (x : EReal) : ∃ s : ℝ, Ideal.logistic x = (s : EReal) := by
  induction x using EReal.rec with
  | bot => exact ⟨0, by rw [Ideal.logistic_bot, EReal.coe_zero]⟩
  | top => exact ⟨1, by rw [Ideal.logistic_top, EReal.coe_one]⟩
  | coe r => exact ⟨_, Ideal.logistic_coe r⟩

/-- The derivative of `x · logistic x` times a real number `a`, in the kernel's form and in the product rule's: they agree
at every extended real `x`. -/
theorem silu_bwd (a : ℝ) (x : EReal) :
    (a : EReal) * Ideal.logistic x * (1 + x * (1 - Ideal.logistic x))
      = (a : EReal) * Ideal.logistic x + x * (a : EReal) * (Ideal.logistic x * (1 - Ideal.logistic x)) := by
  induction x using EReal.rec with
  | bot => rw [Ideal.logistic_bot]; simp
  | top =>
    have h : (1 : EReal) - 1 = 0 := by rw [← EReal.coe_one, ← EReal.coe_sub, sub_self, EReal.coe_zero]
    rw [Ideal.logistic_top, h]; simp
  | coe r =>
    obtain ⟨s, hs⟩ := logistic_real (r : EReal)
    rw [hs]
    norm_cast
    ring

/-- An extended real whose absolute value is below the infinity's float word is a real number. -/
theorem real_of_abs_lt {x : EReal} (h : max x (-x) < Ideal.ofBits .f32 0x7F800000#32) : ∃ r : ℝ, x = (r : EReal) := by
  have e : Ideal.ofBits .f32 0x7F800000#32 = ⊤ := by simp [Ideal.ofBits, Ideal.ieee]
  rw [e] at h
  induction x using EReal.rec with
  | bot => simp at h
  | top => simp at h
  | coe r => exact ⟨r, rfl⟩

/-- A finite sum of products of real numbers is a real number. -/
theorem sum_real {n : Nat} {f g : Fin n → EReal} (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  simp only [ha, hb, ← EReal.coe_mul]
  exact (map_sum (⟨⟨((↑) : ℝ → EReal), EReal.coe_zero⟩, EReal.coe_add⟩ : ℝ →+ EReal) _ _).symm

end Cert.Proof.Scalars
end
-- ==== Proof.MergeBlock.lean ====
/- The gated merge's backward call: what one grid point leaves in each output block. -/
module

public import proofs.«01_k».proof.Proof.Gen.MergeBwdIdeal.Value
public import Idealize.ShloMosaic.Lib.Pointwise
public import proofs.«01_k».proof.Proof.Scalars

@[expose] public section

set_option maxRecDepth 16384

noncomputable section

namespace Cert.Proof.Merge

open Cert.MergeBwdIdeal Cert.MergeBwdIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

variable (x0 : Vec Ideal S512x1024 .bf16) (x1 : Vec Ideal S1024x1024 .bf16)
  (x2 x3 x4 x5 x6 x7 x8 x9 : Vec Ideal S512x1024 .bf16)

/-- The gradient at the merged row: the cotangent times the output projection's transpose. -/
abbrev up (r : Fin 512) (l : Fin 1024) : EReal := ∑ k : Fin 1024, x0 (ix2 r k) * x1 (ix2 l k)

/-- The block of the attention projection's gradient. -/
theorem out11_apply (r : Fin 512) (l : Fin 1024) :
    out0_11 x0 x1 x2 x3 x4 x5 x6 x7 x8 x9 (ix2 r l) = up x0 x1 r l * Ideal.logistic (x2 (ix2 r l)) := by
  unfold_out out0_11
  rw [View.canon_unit_zero hz]
  unfold_payloads
  pointwise
  simp only [Scalars.half_tanh]

/-- The block of the linear unit's value's gradient. -/
theorem out12_apply (r : Fin 512) (l : Fin 1024) :
    out0_12 x0 x1 x2 x3 x4 x5 x6 x7 x8 x9 (ix2 r l)
      = up x0 x1 r l * Ideal.logistic (x3 (ix2 r l)) * Ideal.logistic (x6 (ix2 r l)) := by
  unfold_out out0_12
  rw [View.canon_unit_zero hz]
  unfold_payloads
  pointwise
  simp only [Scalars.half_tanh]

/-- The block of the linear unit's gate's gradient. -/
theorem out13_apply (r : Fin 512) (l : Fin 1024) :
    out0_13 x0 x1 x2 x3 x4 x5 x6 x7 x8 x9 (ix2 r l)
      = up x0 x1 r l * Ideal.logistic (x3 (ix2 r l)) * x5 (ix2 r l) * Ideal.logistic (x6 (ix2 r l))
        * (1 - Ideal.logistic (x6 (ix2 r l))) := by
  unfold_out out0_13
  rw [View.canon_unit_zero hz]
  unfold_payloads
  pointwise
  simp only [Scalars.half_tanh]

/-- The block of the state-space output's gradient, from the two blocks before it. -/
theorem out14_apply (r : Fin 512) (e : Fin 512) :
    out0_14 x0 x1 x2 x3 x4 x5 x6 x7 x8 x9 (ix2 r e)
      = (∑ l : Fin 1024, out0_12 x0 x1 x2 x3 x4 x5 x6 x7 x8 x9 (ix2 r l) * x7 (ix2 e l))
        + ∑ l : Fin 1024, out0_13 x0 x1 x2 x3 x4 x5 x6 x7 x8 x9 (ix2 r l) * x8 (ix2 e l) := by
  simp only [out12_apply, out13_apply]
  unfold_out out0_14
  rw [View.canon_unit_zero hz]
  unfold_payloads
  pointwise
  simp only [Scalars.half_tanh]

/-- The block of the attention output's gradient. -/
theorem out15_apply (r : Fin 512) (e : Fin 512) :
    out0_15 x0 x1 x2 x3 x4 x5 x6 x7 x8 x9 (ix2 r e)
      = ∑ l : Fin 1024, out0_11 x0 x1 x2 x3 x4 x5 x6 x7 x8 x9 (ix2 r l) * x9 (ix2 e l) := by
  simp only [out11_apply]
  unfold_out out0_15
  rw [View.canon_unit_zero hz]
  unfold_payloads
  pointwise
  simp only [Scalars.half_tanh]

/-- The value at column `l` of the block of the gates' gradients: the attention gate's in the left half, the
    state-space gate's in the right half. -/
abbrev dz (r : Fin 512) (l : Fin 2048) : EReal :=
  if h : l.val < 1024 then
    up x0 x1 r ⟨l.val, h⟩ * x4 (ix2 r ⟨l.val, h⟩) * Ideal.logistic (x2 (ix2 r ⟨l.val, h⟩))
      * (1 - Ideal.logistic (x2 (ix2 r ⟨l.val, h⟩)))
  else
    up x0 x1 r ⟨l.val - 1024, by omega⟩
      * (x5 (ix2 r ⟨l.val - 1024, by omega⟩) * Ideal.logistic (x6 (ix2 r ⟨l.val - 1024, by omega⟩)))
      * Ideal.logistic (x3 (ix2 r ⟨l.val - 1024, by omega⟩))
      * (1 - Ideal.logistic (x3 (ix2 r ⟨l.val - 1024, by omega⟩)))

/-- The block of the gates' gradients. -/
theorem out10_apply (r : Fin 512) (l : Fin 2048) :
    out0_10 x0 x1 x2 x3 x4 x5 x6 x7 x8 x9 (ix2 r l) = dz x0 x1 x2 x3 x4 x5 x6 r l := by
  unfold_out out0_10
  refine View.canon_apply_of_pieces (Val := Elt Ideal) (fun y => dz x0 x1 x2 x3 x4 x5 x6 (y 0) (y 1) : Vec Ideal S512x2048 .bf16) _ ?_ (ix2 r l)
    (cover0_10 _ _ _)
  intro pc hpc
  rcases List.mem_cons.mp hpc with rfl | hpc
  · intro x
    idx_vars x
    unfold_payloads
    pointwise
    simp only [Scalars.half_tanh]
    have e0 : r0_3.emb (ix2 x0 x1) 0 = x0 := Fin.ext (by show 0 + 1 * x0.val = x0.val; omega)
    have e1 : r0_3.emb (ix2 x0 x1) 1 = (⟨1024 + x1.val, by omega⟩ : Fin 2048) := Fin.ext (by show 1024 + 1 * x1.val = _; simp)
    rw [e0, e1, dz, dif_neg (by simp)]
    simp only [Nat.add_sub_cancel_left, Fin.eta]
  rcases List.mem_cons.mp hpc with rfl | hpc
  · intro x
    idx_vars x
    unfold_payloads
    pointwise
    simp only [Scalars.half_tanh]
    have e0 : r0_2.emb (ix2 x0 x1) 0 = x0 := Fin.ext (by show 0 + 1 * x0.val = x0.val; omega)
    have e1 : r0_2.emb (ix2 x0 x1) 1 = (⟨x1.val, by omega⟩ : Fin 2048) := Fin.ext (by show 0 + 1 * x1.val = _; simp)
    rw [e0, e1, dz, dif_pos x1.isLt]
  nomatch hpc

end Cert.Proof.Merge
end
-- ==== Proof.Arrays.lean ====
/- Whole arrays as functions of two coordinates. -/
module

public import Idealize.ShloMosaic.Lib.Pointwise
public import Idealize.ShloMosaic.Lib.Pipeline.ValueKit

@[expose] public section

noncomputable section

namespace Cert.Proof

open Idealize.ShloMosaic

/-- The array with entry `f i l` at row `i` and column `l`. -/
def arr2 {n k : Nat} (f : Fin n → Fin k → EReal) : (⟨2, ![n, k]⟩ : Shape).Idx → EReal := fun i => f (i 0) (i 1)

/-- A matrix as a function of its two coordinates. -/
abbrev at2 {n k : Nat} (a : (⟨2, ![n, k]⟩ : Shape).Idx → EReal) (i : Fin n) (l : Fin k) : EReal := a (ix2 i l)

/-- Two coordinates determine an index. -/
theorem two_eq {n k : Nat} {i : (⟨2, ![n, k]⟩ : Shape).Idx} {a : Fin n} {b : Fin k}
    (h0 : (i 0 : Nat) = a.val) (h1 : (i 1 : Nat) = b.val) : i = ix2 a b :=
  funext fun d => match d with
    | ⟨0, _⟩ => Fin.ext h0
    | ⟨1, _⟩ => Fin.ext h1

/-- A sum over `m + n` places is the sum over the first `m` and the sum over the last `n`. -/
theorem sum_split {L : Nat} (m n : Nat) (h : L = m + n) (f : Fin L → EReal) :
    ∑ k, f k = (∑ k : Fin m, f ⟨k.val, by omega⟩) + ∑ k : Fin n, f ⟨m + k.val, by omega⟩ := by
  subst h
  exact Fin.sum_univ_add f

end Cert.Proof
end
-- ==== Proof.MergeArray.lean ====
/- The gated merge's backward call: what its six result arrays hold, as functions of the arguments. -/
module

public import proofs.«01_k».proof.Proof.MergeBlock
public import proofs.«01_k».proof.Proof.Arrays

@[expose] public section

set_option maxRecDepth 16384

noncomputable section

namespace Cert.Proof.Merge

open Cert.MergeBwdIdeal Cert.MergeBwdIdeal.Gen Idealize.ShloMosaic Idealize.ShloMosaic.TcCoe Idealize.SL.Sem
open Idealize.ShloMosaic.Pipeline (Dat)

/-! ## The mathematics, on the whole arrays -/

section Spec

variable (dh : Vec Ideal S16384x1024 .f32) (zg : Vec Ideal S16384x2048 .f32) (y attn : Vec Ideal S16384x512 .f32)
  (wo : Vec Ideal S1024x1024 .f32) (wa wb wp : Vec Ideal S512x1024 .f32)

/-- The cotangent of the merged row: `dh · w_outᵀ`. -/
def G (i : Fin 16384) (l : Fin 1024) : EReal := ∑ k : Fin 1024, dh (ix2 i k) * wo (ix2 l k)

/-- A branch projected to the model width. -/
def proj (a : Vec Ideal S16384x512 .f32) (w : Vec Ideal S512x1024 .f32) (i : Fin 16384) (l : Fin 1024) : EReal :=
  ∑ k : Fin 512, a (ix2 i k) * w (ix2 k l)

/-- The attention branch's gate. -/
def sa (i : Fin 16384) (l : Fin 1024) : EReal := Ideal.logistic (zg (ix2 i ⟨l.val, by omega⟩))
/-- The state-space branch's gate. -/
def ss (i : Fin 16384) (l : Fin 1024) : EReal := Ideal.logistic (zg (ix2 i ⟨1024 + l.val, by omega⟩))
/-- The linear unit's own gate inside the state-space branch. -/
def sb (i : Fin 16384) (l : Fin 1024) : EReal := Ideal.logistic (proj y wb i l)

/-- The gradient of the attention branch's projection. -/
def dad (i : Fin 16384) (l : Fin 1024) : EReal := G dh wo i l * sa zg i l
/-- The gradient of the linear unit's value. -/
def dya (i : Fin 16384) (l : Fin 1024) : EReal := G dh wo i l * ss zg i l * sb y wb i l
/-- The gradient of the linear unit's gate before its sigmoid. -/
def dyb (i : Fin 16384) (l : Fin 1024) : EReal :=
  G dh wo i l * ss zg i l * proj y wa i l * sb y wb i l * (1 - sb y wb i l)

/-- The gradient of the attention gate before its sigmoid. -/
def dza (i : Fin 16384) (l : Fin 1024) : EReal :=
  G dh wo i l * proj attn wp i l * sa zg i l * (1 - sa zg i l)
/-- The gradient of the state-space gate before its sigmoid. -/
def dzs (i : Fin 16384) (l : Fin 1024) : EReal :=
  G dh wo i l * (proj y wa i l * sb y wb i l) * ss zg i l * (1 - ss zg i l)
/-- The two gates' gradients side by side. -/
def dzg (i : Fin 16384) (l : Fin 2048) : EReal :=
  if h : l.val < 1024 then dza dh zg attn wo wp i ⟨l.val, h⟩ else dzs dh zg y wo wa wb i ⟨l.val - 1024, by omega⟩

/-- The gradient of the state-space branch's output. -/
def dy (i : Fin 16384) (e : Fin 512) : EReal :=
  (∑ l : Fin 1024, dya dh zg y wo wb i l * wa (ix2 e l)) + ∑ l : Fin 1024, dyb dh zg y wo wa wb i l * wb (ix2 e l)
/-- The gradient of the attention branch's output. -/
def dat (i : Fin 16384) (e : Fin 512) : EReal := ∑ l : Fin 1024, dad dh zg wo i l * wp (ix2 e l)

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg0 := by unfold_abbrev_sides; after_results; rfl
theorem V_v1 : V m c main_v1 = A m c main_arg1 := by unfold_abbrev_sides; after_results; rfl
theorem V_v2 : V m c main_v2 = A m c main_arg4 := by unfold_abbrev_sides; after_results; rfl
theorem V_v3 : V m c main_v3 = A m c main_arg5 := by unfold_abbrev_sides; after_results; rfl
theorem V_v4 : V m c main_v4 = A m c main_arg6 := by unfold_abbrev_sides; after_results; rfl
theorem V_v5 : V m c main_v5 = A m c main_arg7 := by unfold_abbrev_sides; after_results; rfl
theorem V_v10 (i : Fin 16384) (l : Fin 1024) :
    V m c main_v10 (ix2 i l) = proj (A m c main_arg2) (A m c main_arg5) i l := by
  unfold_abbrev_sides; after_results; pointwise [proj]
theorem V_v15 (i : Fin 16384) (l : Fin 1024) :
    V m c main_v15 (ix2 i l) = proj (A m c main_arg2) (A m c main_arg6) i l := by
  unfold_abbrev_sides; after_results; pointwise [proj]
theorem V_v20 (i : Fin 16384) (l : Fin 1024) :
    V m c main_v20 (ix2 i l) = proj (A m c main_arg3) (A m c main_arg7) i l := by
  unfold_abbrev_sides; after_results; pointwise [proj]

end Cert.Proof.Merge
end
-- ==== Proof.MergeRun.lean ====
/- The gated merge's backward call: what each of its windows reads, and what its result arrays end holding. -/
module

public import proofs.«01_k».proof.Proof.MergeArray
public import Idealize.ShloMosaic.Lib.Pipeline.ValueKit

@[expose] public section

set_option maxRecDepth 16384

noncomputable section

namespace Cert.Proof.Merge

open Cert.MergeBwdIdeal Cert.MergeBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of point `t`'s block, as a row of the whole array. -/
def row (t : Fin cfg0.N) (r : Fin 512) : Fin 16384 :=
  ⟨t.val * 512 + r.val, by have h := t.isLt; have hN : cfg0.N = 32 := N_0; have := r.isLt; omega⟩

/-- Where the windows that move with the rows have their blocks at point `t`. -/
theorem at_rows : ∀ t : Fin grid0.N,
    (win0_0.index t 0 * win0_0.size 0 = t.val * 512 ∧ win0_0.index t 1 * win0_0.size 1 = 0)
    ∧ (win0_2.index t 0 * win0_2.size 0 = t.val * 512 ∧ win0_2.index t 1 * win0_2.size 1 = 0)
    ∧ (win0_3.index t 0 * win0_3.size 0 = t.val * 512 ∧ win0_3.index t 1 * win0_3.size 1 = 1024)
    ∧ (win0_4.index t 0 * win0_4.size 0 = t.val * 512 ∧ win0_4.index t 1 * win0_4.size 1 = 0)
    ∧ (win0_5.index t 0 * win0_5.size 0 = t.val * 512 ∧ win0_5.index t 1 * win0_5.size 1 = 0)
    ∧ (win0_6.index t 0 * win0_6.size 0 = t.val * 512 ∧ win0_6.index t 1 * win0_6.size 1 = 0)
    ∧ (win0_10.index t 0 * win0_10.size 0 = t.val * 512 ∧ win0_10.index t 1 * win0_10.size 1 = 0)
    ∧ (win0_11.index t 0 * win0_11.size 0 = t.val * 512 ∧ win0_11.index t 1 * win0_11.size 1 = 0)
    ∧ (win0_12.index t 0 * win0_12.size 0 = t.val * 512 ∧ win0_12.index t 1 * win0_12.size 1 = 0)
    ∧ (win0_13.index t 0 * win0_13.size 0 = t.val * 512 ∧ win0_13.index t 1 * win0_13.size 1 = 0)
    ∧ (win0_14.index t 0 * win0_14.size 0 = t.val * 512 ∧ win0_14.index t 1 * win0_14.size 1 = 0)
    ∧ (win0_15.index t 0 * win0_15.size 0 = t.val * 512 ∧ win0_15.index t 1 * win0_15.size 1 = 0) := by decide +kernel

/-- Where the windows of the weights have theirs: at the origin. -/
theorem at_zero : ∀ t : Fin grid0.N,
    (win0_1.index t 0 * win0_1.size 0 = 0 ∧ win0_1.index t 1 * win0_1.size 1 = 0)
    ∧ (win0_7.index t 0 * win0_7.size 0 = 0 ∧ win0_7.index t 1 * win0_7.size 1 = 0)
    ∧ (win0_8.index t 0 * win0_8.size 0 = 0 ∧ win0_8.index t 1 * win0_8.size 1 = 0)
    ∧ (win0_9.index t 0 * win0_9.size 0 = 0 ∧ win0_9.index t 1 * win0_9.size 1 = 0) := by decide +kernel

theorem iblk0 (t : Fin cfg0.N) (r : Fin 512) (l : Fin 1024) :
    (iblk m c 0 t : Vec Ideal S512x1024 .bf16) (ix2 r l) = A m c main_arg0 (ix2 (row t r) l) := by
  have e := (at_rows t).1
  refine (congrArg (V m c main_v0) (two_eq ?_ ?_)).trans (congrFun (V_v0 m c) _)
  · show win0_0.index t 0 * win0_0.size 0 + 1 * r.val = t.val * 512 + r.val
    rw [e.1]; omega
  · show win0_0.index t 1 * win0_0.size 1 + 1 * l.val = l.val
    rw [e.2]; omega

theorem iblk2 (t : Fin cfg0.N) (r : Fin 512) (l : Fin 1024) :
    (iblk m c 2 t : Vec Ideal S512x1024 .bf16) (ix2 r l) = A m c main_arg1 (ix2 (row t r) ⟨l.val, by omega⟩) := by
  have e := (at_rows t).2.1
  refine (congrArg (V m c main_v1) (two_eq ?_ ?_)).trans (congrFun (V_v1 m c) _)
  · show win0_2.index t 0 * win0_2.size 0 + 1 * r.val = t.val * 512 + r.val
    rw [e.1]; omega
  · show win0_2.index t 1 * win0_2.size 1 + 1 * l.val = l.val
    rw [e.2]; omega

theorem iblk3 (t : Fin cfg0.N) (r : Fin 512) (l : Fin 1024) :
    (iblk m c 3 t : Vec Ideal S512x1024 .bf16) (ix2 r l) = A m c main_arg1 (ix2 (row t r) ⟨1024 + l.val, by omega⟩) := by
  have e := (at_rows t).2.2.1
  refine (congrArg (V m c main_v1) (two_eq ?_ ?_)).trans (congrFun (V_v1 m c) _)
  · show win0_3.index t 0 * win0_3.size 0 + 1 * r.val = t.val * 512 + r.val
    rw [e.1]; omega
  · show win0_3.index t 1 * win0_3.size 1 + 1 * l.val = 1024 + l.val
    rw [e.2]; omega

theorem iblk4 (t : Fin cfg0.N) (r : Fin 512) (l : Fin 1024) :
    (iblk m c 4 t : Vec Ideal S512x1024 .bf16) (ix2 r l) = proj (A m c main_arg3) (A m c main_arg7) (row t r) l := by
  have e := (at_rows t).2.2.2.1
  refine (congrArg (V m c main_v20) (two_eq ?_ ?_)).trans (V_v20 m c _ _)
  · show win0_4.index t 0 * win0_4.size 0 + 1 * r.val = t.val * 512 + r.val
    rw [e.1]; omega
  · show win0_4.index t 1 * win0_4.size 1 + 1 * l.val = l.val
    rw [e.2]; omega

theorem iblk5 (t : Fin cfg0.N) (r : Fin 512) (l : Fin 1024) :
    (iblk m c 5 t : Vec Ideal S512x1024 .bf16) (ix2 r l) = proj (A m c main_arg2) (A m c main_arg5) (row t r) l := by
  have e := (at_rows t).2.2.2.2.1
  refine (congrArg (V m c main_v10) (two_eq ?_ ?_)).trans (V_v10 m c _ _)
  · show win0_5.index t 0 * win0_5.size 0 + 1 * r.val = t.val * 512 + r.val
    rw [e.1]; omega
  · show win0_5.index t 1 * win0_5.size 1 + 1 * l.val = l.val
    rw [e.2]; omega

theorem iblk6 (t : Fin cfg0.N) (r : Fin 512) (l : Fin 1024) :
    (iblk m c 6 t : Vec Ideal S512x1024 .bf16) (ix2 r l) = proj (A m c main_arg2) (A m c main_arg6) (row t r) l := by
  have e := (at_rows t).2.2.2.2.2.1
  refine (congrArg (V m c main_v15) (two_eq ?_ ?_)).trans (V_v15 m c _ _)
  · show win0_6.index t 0 * win0_6.size 0 + 1 * r.val = t.val * 512 + r.val
    rw [e.1]; omega
  · show win0_6.index t 1 * win0_6.size 1 + 1 * l.val = l.val
    rw [e.2]; omega

theorem iblk1 (t : Fin cfg0.N) (r : Fin 1024) (l : Fin 1024) :
    (iblk m c 1 t : Vec Ideal S1024x1024 .bf16) (ix2 r l) = A m c main_arg4 (ix2 r l) := by
  have e := (at_zero t).1
  refine (congrArg (V m c main_v2) (two_eq ?_ ?_)).trans (congrFun (V_v2 m c) _)
  · show win0_1.index t 0 * win0_1.size 0 + 1 * r.val = r.val
    rw [e.1]; omega
  · show win0_1.index t 1 * win0_1.size 1 + 1 * l.val = l.val
    rw [e.2]; omega

theorem iblk7 (t : Fin cfg0.N) (r : Fin 512) (l : Fin 1024) :
    (iblk m c 7 t : Vec Ideal S512x1024 .bf16) (ix2 r l) = A m c main_arg5 (ix2 r l) := by
  have e := (at_zero t).2.1
  refine (congrArg (V m c main_v3) (two_eq ?_ ?_)).trans (congrFun (V_v3 m c) _)
  · show win0_7.index t 0 * win0_7.size 0 + 1 * r.val = r.val
    rw [e.1]; omega
  · show win0_7.index t 1 * win0_7.size 1 + 1 * l.val = l.val
    rw [e.2]; omega

theorem iblk8 (t : Fin cfg0.N) (r : Fin 512) (l : Fin 1024) :
    (iblk m c 8 t : Vec Ideal S512x1024 .bf16) (ix2 r l) = A m c main_arg6 (ix2 r l) := by
  have e := (at_zero t).2.2.1
  refine (congrArg (V m c main_v4) (two_eq ?_ ?_)).trans (congrFun (V_v4 m c) _)
  · show win0_8.index t 0 * win0_8.size 0 + 1 * r.val = r.val
    rw [e.1]; omega
  · show win0_8.index t 1 * win0_8.size 1 + 1 * l.val = l.val
    rw [e.2]; omega

theorem iblk9 (t : Fin cfg0.N) (r : Fin 512) (l : Fin 1024) :
    (iblk m c 9 t : Vec Ideal S512x1024 .bf16) (ix2 r l) = A m c main_arg7 (ix2 r l) := by
  have e := (at_zero t).2.2.2
  refine (congrArg (V m c main_v5) (two_eq ?_ ?_)).trans (congrFun (V_v5 m c) _)
  · show win0_9.index t 0 * win0_9.size 0 + 1 * r.val = r.val
    rw [e.1]; omega
  · show win0_9.index t 1 * win0_9.size 1 + 1 * l.val = l.val
    rw [e.2]; omega

/-! ## What point `t` leaves in each result window -/

section Blocks

variable (t : Fin cfg0.N)

/-- Result window 11 at point `t`: the attention projection's gradient on the point's rows. -/
theorem block11 (r : Fin 512) (l : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r l)
      = dad (A m c main_arg0) (A m c main_arg1) (A m c main_arg4) (row t r) l := by
  rw [out11_apply]
  simp only [up, iblk0, iblk1, iblk2, iblk3, iblk5, iblk6, dad, dya, dyb, G, sa, ss, sb]

/-- Result window 12 at point `t`: the linear unit's value's gradient on the point's rows. -/
theorem block12 (r : Fin 512) (l : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r l)
      = dya (A m c main_arg0) (A m c main_arg1) (A m c main_arg2) (A m c main_arg4) (A m c main_arg6) (row t r) l := by
  rw [out12_apply]
  simp only [up, iblk0, iblk1, iblk2, iblk3, iblk5, iblk6, dad, dya, dyb, G, sa, ss, sb]

/-- Result window 13 at point `t`: the linear unit's gate's gradient on the point's rows. -/
theorem block13 (r : Fin 512) (l : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (ix2 r l)
      = dyb (A m c main_arg0) (A m c main_arg1) (A m c main_arg2) (A m c main_arg4) (A m c main_arg5) (A m c main_arg6) (row t r) l := by
  rw [out13_apply]
  simp only [up, iblk0, iblk1, iblk2, iblk3, iblk5, iblk6, dad, dya, dyb, G, sa, ss, sb]

/-- Result window 14 at point `t`: the state-space output's gradient on the point's rows. -/
theorem block14 (r : Fin 512) (l : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (ix2 r l)
      = dy (A m c main_arg0) (A m c main_arg1) (A m c main_arg2) (A m c main_arg4) (A m c main_arg5) (A m c main_arg6) (row t r) l := by
  rw [out14_apply]
  simp only [block12, block13, iblk7, iblk8, dy]

/-- Result window 15 at point `t`: the attention output's gradient on the point's rows. -/
theorem block15 (r : Fin 512) (l : Fin 512) :
    out0_15 (iblk m c 0 t) (iblk m c 1 t) (iblk m c 2 t) (iblk m c 3 t) (iblk m c 4 t) (iblk m c 5 t) (iblk m c 6 t) (iblk m c 7 t) (iblk m c 8 t) (iblk m c 9 t) (ix2 r l)
      = dat (A m c main_arg0) (A m c main_arg1) (A m c main_arg4) (A m c main_arg7) (row t r) l := by
  rw [out15_apply]
  simp only [block11, iblk9, dat]

/-- Result window 10 at point `t`: the gates' gradients on the point's rows. -/
theorem block10 (r : Fin 512) (l : Fin 2048) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r l)
      = dzg (A m c main_arg0) (A m c main_arg1) (A m c main_arg2) (A m c main_arg3) (A m c main_arg4) (A m c main_arg5) (A m c main_arg6) (A m c main_arg7) (row t r) l := by
  rw [out10_apply]
  simp only [dz, dzg, dza, dzs, up, iblk0, iblk1, iblk2, iblk3, iblk4, iblk5, iblk6, G, sa, ss, sb]

end Blocks

/-! ## The result arrays after the run -/

theorem final10 : (dats m 0 c).arrAt 10 cfg0.N
    = arr2 (dzg (A m c main_arg0) (A m c main_arg1) (A m c main_arg2) (A m c main_arg3) (A m c main_arg4) (A m c main_arg5) (A m c main_arg6) (A m c main_arg7)) := by
  refine (dats m 0 c).arrAt_eq_of_covers 10 _ (by decide +kernel) fun t hf y => ?_
  have e := (at_rows t).2.2.2.2.2.2.1
  idx_vars y
  refine (congrFun (after0_10 m c t) (ix2 y0 y1)).trans ((block10 m c t y0 y1).trans
    (congrArg₂ (dzg (A m c main_arg0) (A m c main_arg1) (A m c main_arg2) (A m c main_arg3) (A m c main_arg4) (A m c main_arg5) (A m c main_arg6) (A m c main_arg7)) (Fin.ext ?_) (Fin.ext ?_)))
  · show t.val * 512 + y0.val = win0_10.index t 0 * win0_10.size 0 + 1 * y0.val
    rw [e.1]; omega
  · show y1.val = win0_10.index t 1 * win0_10.size 1 + 1 * y1.val
    rw [e.2]; omega

theorem final11 : (dats m 0 c).arrAt 11 cfg0.N
    = arr2 (dad (A m c main_arg0) (A m c main_arg1) (A m c main_arg4)) := by
  refine (dats m 0 c).arrAt_eq_of_covers 11 _ (by decide +kernel) fun t hf y => ?_
  have e := (at_rows t).2.2.2.2.2.2.2.1
  idx_vars y
  refine (congrFun (after0_11 m c t) (ix2 y0 y1)).trans ((block11 m c t y0 y1).trans
    (congrArg₂ (dad (A m c main_arg0) (A m c main_arg1) (A m c main_arg4)) (Fin.ext ?_) (Fin.ext ?_)))
  · show t.val * 512 + y0.val = win0_11.index t 0 * win0_11.size 0 + 1 * y0.val
    rw [e.1]; omega
  · show y1.val = win0_11.index t 1 * win0_11.size 1 + 1 * y1.val
    rw [e.2]; omega

theorem final12 : (dats m 0 c).arrAt 12 cfg0.N
    = arr2 (dya (A m c main_arg0) (A m c main_arg1) (A m c main_arg2) (A m c main_arg4) (A m c main_arg6)) := by
  refine (dats m 0 c).arrAt_eq_of_covers 12 _ (by decide +kernel) fun t hf y => ?_
  have e := (at_rows t).2.2.2.2.2.2.2.2.1
  idx_vars y
  refine (congrFun (after0_12 m c t) (ix2 y0 y1)).trans ((block12 m c t y0 y1).trans
    (congrArg₂ (dya (A m c main_arg0) (A m c main_arg1) (A m c main_arg2) (A m c main_arg4) (A m c main_arg6)) (Fin.ext ?_) (Fin.ext ?_)))
  · show t.val * 512 + y0.val = win0_12.index t 0 * win0_12.size 0 + 1 * y0.val
    rw [e.1]; omega
  · show y1.val = win0_12.index t 1 * win0_12.size 1 + 1 * y1.val
    rw [e.2]; omega

theorem final13 : (dats m 0 c).arrAt 13 cfg0.N
    = arr2 (dyb (A m c main_arg0) (A m c main_arg1) (A m c main_arg2) (A m c main_arg4) (A m c main_arg5) (A m c main_arg6)) := by
  refine (dats m 0 c).arrAt_eq_of_covers 13 _ (by decide +kernel) fun t hf y => ?_
  have e := (at_rows t).2.2.2.2.2.2.2.2.2.1
  idx_vars y
  refine (congrFun (after0_13 m c t) (ix2 y0 y1)).trans ((block13 m c t y0 y1).trans
    (congrArg₂ (dyb (A m c main_arg0) (A m c main_arg1) (A m c main_arg2) (A m c main_arg4) (A m c main_arg5) (A m c main_arg6)) (Fin.ext ?_) (Fin.ext ?_)))
  · show t.val * 512 + y0.val = win0_13.index t 0 * win0_13.size 0 + 1 * y0.val
    rw [e.1]; omega
  · show y1.val = win0_13.index t 1 * win0_13.size 1 + 1 * y1.val
    rw [e.2]; omega

theorem final14 : (dats m 0 c).arrAt 14 cfg0.N
    = arr2 (dy (A m c main_arg0) (A m c main_arg1) (A m c main_arg2) (A m c main_arg4) (A m c main_arg5) (A m c main_arg6)) := by
  refine (dats m 0 c).arrAt_eq_of_covers 14 _ (by decide +kernel) fun t hf y => ?_
  have e := (at_rows t).2.2.2.2.2.2.2.2.2.2.1
  idx_vars y
  refine (congrFun (after0_14 m c t) (ix2 y0 y1)).trans ((block14 m c t y0 y1).trans
    (congrArg₂ (dy (A m c main_arg0) (A m c main_arg1) (A m c main_arg2) (A m c main_arg4) (A m c main_arg5) (A m c main_arg6)) (Fin.ext ?_) (Fin.ext ?_)))
  · show t.val * 512 + y0.val = win0_14.index t 0 * win0_14.size 0 + 1 * y0.val
    rw [e.1]; omega
  · show y1.val = win0_14.index t 1 * win0_14.size 1 + 1 * y1.val
    rw [e.2]; omega

theorem final15 : (dats m 0 c).arrAt 15 cfg0.N
    = arr2 (dat (A m c main_arg0) (A m c main_arg1) (A m c main_arg4) (A m c main_arg7)) := by
  refine (dats m 0 c).arrAt_eq_of_covers 15 _ (by decide +kernel) fun t hf y => ?_
  have e := (at_rows t).2.2.2.2.2.2.2.2.2.2.2
  idx_vars y
  refine (congrFun (after0_15 m c t) (ix2 y0 y1)).trans ((block15 m c t y0 y1).trans
    (congrArg₂ (dat (A m c main_arg0) (A m c main_arg1) (A m c main_arg4) (A m c main_arg7)) (Fin.ext ?_) (Fin.ext ?_)))
  · show t.val * 512 + y0.val = win0_15.index t 0 * win0_15.size 0 + 1 * y0.val
    rw [e.1]; omega
  · show y1.val = win0_15.index t 1 * win0_15.size 1 + 1 * y1.val
    rw [e.2]; omega

end Cert.Proof.Merge
end
-- ==== Proof.Corner.lean ====
/- Entries of an array in a block that has its corner at a known place. -/
module

public import proofs.«01_k».proof.Proof.Arrays

@[expose] public section

noncomputable section

namespace Cert.Proof

open Idealize.ShloMosaic

/-- Entry `r`, `l` of a block with its corner at `q0`, `q1` is the array's entry at the sums of the two. The window's corner
    is known as `p0`, `p1` and `p = q` is what was found of it. -/
theorem entry_at_corner {N K : Nat} {V : (⟨2, ![N, K]⟩ : Shape).Idx → EReal} {G : Fin N → Fin K → EReal}
    (hV : ∀ i l, V (ix2 i l) = G i l) {y : (⟨2, ![N, K]⟩ : Shape).Idx} {p0 p1 q0 q1 r l : Nat} {a : Fin N} {b : Fin K}
    (h : p0 = q0 ∧ p1 = q1) (h0 : (y 0 : Nat) = p0 + 1 * r) (h1 : (y 1 : Nat) = p1 + 1 * l)
    (ha : a.val = q0 + r) (hb : b.val = q1 + l) : V y = G a b := by
  obtain ⟨rfl, rfl⟩ := h
  exact (congrArg V (two_eq (by omega) (by omega))).trans (hV a b)

/-- An array is known by its entries. -/
theorem eq_arr2 {n k : Nat} {f : (⟨2, ![n, k]⟩ : Shape).Idx → EReal} {g : Fin n → Fin k → EReal}
    (h : ∀ i l, f (ix2 i l) = g i l) : f = arr2 g :=
  funext fun j => (congrArg f (two_eq rfl rfl)).trans (h (j 0) (j 1))

end Cert.Proof
end
-- ==== Proof.MergeReference.lean ====
/- The gated merge's reference: its six results are the same functions of the arguments. -/
module

public import proofs.«01_k».proof.Proof.Corner
public import proofs.«01_k».proof.Proof.MergeArray
public import proofs.«01_k».proof.Proof.Gen.MergeRefIdeal.Run
public import proofs.«01_k».proof.Proof.Gen.MergeRefIdeal.Read

@[expose] public section

set_option maxRecDepth 16384

noncomputable section

namespace Cert.Proof.MergeRef

open Cert.MergeRefIdeal Cert.MergeRefIdeal.Read Idealize.ShloMosaic Idealize.ShloMosaic.TcCoe Idealize.SL.Sem
open Cert.Proof.Merge (G proj sa ss sb dad dya dyb dza dzs dzg dy dat)

variable (x0 : Vec Ideal S16384x1024 .f32) (x1 : Vec Ideal S16384x2048 .f32) (x2 x3 : Vec Ideal S16384x512 .f32)
  (x4 : Vec Ideal S1024x1024 .f32) (x5 x6 x7 : Vec Ideal S512x1024 .f32)

/-- The reference spells the sigmoid as a quotient. -/
theorem v9_apply (i : Fin 16384) (l : Fin 1024) : val_main_v9 (F := Ideal) x1 (ix2 i l) = sa x1 i l := by
  unfold val_main_v9 val_main_v8 val_main_v7 val_main_v6 val_main_v5 val_main_v4 val_main_v3 val_main_cst_0 val_main_cst
  pointwise
  rfl

theorem v19_apply (i : Fin 16384) (l : Fin 1024) : val_main_v19 (F := Ideal) x1 (ix2 i l) = ss x1 i l := by
  unfold val_main_v19 val_main_v18 val_main_v17 val_main_v16 val_main_v15 val_main_v14 val_main_v13 val_main_cst_2 val_main_cst_3
  pointwise
  rfl

theorem v28_apply (i : Fin 16384) (l : Fin 1024) : val_main_v28 (F := Ideal) x2 x6 (ix2 i l) = sb x2 x6 i l := by
  unfold val_main_v28 val_main_v27 val_main_v26 val_main_v25 val_main_v24 val_main_v23 val_main_v2 val_main_cst_5 val_main_cst_6
  pointwise
  rfl

theorem v37_apply (i : Fin 16384) (l : Fin 1024) : val_main_v37 (F := Ideal) x0 x4 (ix2 i l) = G x0 x4 i l := by
  unfold val_main_v37
  pointwise [G]

theorem v0_apply (i : Fin 16384) (l : Fin 1024) : val_main_v0 (F := Ideal) x3 x7 (ix2 i l) = proj x3 x7 i l := by
  unfold val_main_v0
  pointwise [proj]

theorem v1_apply (i : Fin 16384) (l : Fin 1024) : val_main_v1 (F := Ideal) x2 x5 (ix2 i l) = proj x2 x5 i l := by
  unfold val_main_v1
  pointwise [proj]

theorem v40_apply (i : Fin 16384) (l : Fin 1024) :
    val_main_v40 (F := Ideal) x0 x1 x4 (ix2 i l) = dad x0 x1 x4 i l := by
  unfold val_main_v40
  pointwise [v9_apply, v37_apply]
  exact mul_comm _ _

theorem v43_apply (i : Fin 16384) (l : Fin 1024) :
    val_main_v43 (F := Ideal) x0 x1 x2 x4 x6 (ix2 i l) = dya x0 x1 x2 x4 x6 i l := by
  unfold val_main_v43 val_main_v38
  pointwise [v19_apply, v28_apply, v37_apply]
  rw [dya, mul_comm (ss x1 i l)]

theorem v44_apply (i : Fin 16384) (l : Fin 1024) :
    val_main_v44 (F := Ideal) x0 x1 x2 x4 x5 x6 (ix2 i l) = dyb x0 x1 x2 x4 x5 x6 i l := by
  unfold val_main_v44 val_main_v42 val_main_v38 val_main_v31 val_main_v30 val_main_v29 val_main_cst_7
  pointwise [v19_apply, v28_apply, v37_apply, v1_apply]
  rw [dyb, mul_comm (ss x1 i l), mul_comm (proj x2 x5 i l), ← mul_assoc]

theorem v45_apply (i : Fin 16384) (l : Fin 1024) :
    val_main_v45 (F := Ideal) x0 x1 x2 x4 x5 x6 (ix2 i l) = dzs x0 x1 x2 x4 x5 x6 i l := by
  unfold val_main_v45 val_main_v39 val_main_v32 val_main_v22 val_main_v21 val_main_v20 val_main_cst_4
  pointwise [v19_apply, v28_apply, v37_apply, v1_apply]
  rw [dzs, ← mul_assoc]

theorem v47_apply (i : Fin 16384) (l : Fin 1024) :
    val_main_v47 (F := Ideal) x0 x1 x3 x4 x7 (ix2 i l) = dza x0 x1 x3 x4 x7 i l := by
  unfold val_main_v47 val_main_v41 val_main_v12 val_main_v11 val_main_v10 val_main_cst_1
  pointwise [v9_apply, v37_apply, v0_apply]
  rw [dza, ← mul_assoc]

/-- The gates' gradients: each half padded with zeros, and the two added. -/
theorem v54_eq : val_main_v54 (F := Ideal) x0 x1 x2 x3 x4 x5 x6 x7
    = arr2 (dzg x0 x1 x2 x3 x4 x5 x6 x7) := by
  funext i
  idx_vars i
  unfold val_main_v54 val_main_v49 val_main_v48 val_main_v46 val_main_cst_8 val_main_cst_9
  pointwise [v45_apply, v47_apply]
  show _ = dzg x0 x1 x2 x3 x4 x5 x6 x7 i0 i1
  by_cases h : i1.val < 1024
  · rw [dzg, dif_pos h, dif_pos h, dif_neg (by omega), zero_add]
  · rw [dzg, dif_neg h, dif_neg h, dif_pos (by omega), add_zero]

theorem v55_eq : val_main_v55 (F := Ideal) x0 x1 x4 = arr2 (dad x0 x1 x4) :=
  eq_arr2 fun i l => by unfold val_main_v55; pointwise [v40_apply]

theorem v56_eq : val_main_v56 (F := Ideal) x0 x1 x2 x4 x6 = arr2 (dya x0 x1 x2 x4 x6) :=
  eq_arr2 fun i l => by unfold val_main_v56; pointwise [v43_apply]

theorem v57_eq : val_main_v57 (F := Ideal) x0 x1 x2 x4 x5 x6 = arr2 (dyb x0 x1 x2 x4 x5 x6) :=
  eq_arr2 fun i l => by unfold val_main_v57; pointwise [v44_apply]

theorem v52_eq : val_main_v52 (F := Ideal) x0 x1 x2 x4 x5 x6 = arr2 (dy x0 x1 x2 x4 x5 x6) := by
  funext i
  idx_vars i
  unfold val_main_v52 val_main_v50 val_main_v51
  pointwise [v43_apply, v44_apply]
  show _ = dy x0 x1 x2 x4 x5 x6 i0 i1
  rw [dy, add_comm]

theorem v53_eq : val_main_v53 (F := Ideal) x0 x1 x4 x7 = arr2 (dat x0 x1 x4 x7) :=
  eq_arr2 fun i l => by unfold val_main_v53 dat; pointwise [v40_apply]

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v54) = arr2 (dzg (B m c main_arg0) (B m c main_arg1) (B m c main_arg2) (B m c main_arg3) (B m c main_arg4) (B m c main_arg5) (B m c main_arg6) (B m c main_arg7))
      ∧ r.2.mem ((c.tc : Thread nD τ).loc main_v55) = arr2 (dad (B m c main_arg0) (B m c main_arg1) (B m c main_arg4))
      ∧ r.2.mem ((c.tc : Thread nD τ).loc main_v56) = arr2 (dya (B m c main_arg0) (B m c main_arg1) (B m c main_arg2) (B m c main_arg4) (B m c main_arg6))
      ∧ r.2.mem ((c.tc : Thread nD τ).loc main_v57) = arr2 (dyb (B m c main_arg0) (B m c main_arg1) (B m c main_arg2) (B m c main_arg4) (B m c main_arg5) (B m c main_arg6))
      ∧ r.2.mem ((c.tc : Thread nD τ).loc main_v52) = arr2 (dy (B m c main_arg0) (B m c main_arg1) (B m c main_arg2) (B m c main_arg4) (B m c main_arg5) (B m c main_arg6))
      ∧ r.2.mem ((c.tc : Thread nD τ).loc main_v53) = arr2 (dat (B m c main_arg0) (B m c main_arg1) (B m c main_arg4) (B m c main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.MergeRefIdeal.Value.run (F := Ideal) m ρ)
  obtain ⟨h54, h55, h56, h57, h52, h53, hargs⟩ := h c
  refine ⟨?_, ?_, ?_, ?_, ?_, ?_, hargs⟩
  · exact h54.trans ((val_main_v54_eq _ _ _ _ _ _ _ _).trans (v54_eq (B m c main_arg0) (B m c main_arg1) (B m c main_arg2) (B m c main_arg3) (B m c main_arg4) (B m c main_arg5) (B m c main_arg6) (B m c main_arg7)))
  · exact h55.trans ((val_main_v55_eq _ _ _).trans (v55_eq (B m c main_arg0) (B m c main_arg1) (B m c main_arg4)))
  · exact h56.trans ((val_main_v56_eq _ _ _ _ _).trans (v56_eq (B m c main_arg0) (B m c main_arg1) (B m c main_arg2) (B m c main_arg4) (B m c main_arg6)))
  · exact h57.trans ((val_main_v57_eq _ _ _ _ _ _).trans (v57_eq (B m c main_arg0) (B m c main_arg1) (B m c main_arg2) (B m c main_arg4) (B m c main_arg5) (B m c main_arg6)))
  · exact h52.trans ((val_main_v52_eq _ _ _ _ _ _).trans (v52_eq (B m c main_arg0) (B m c main_arg1) (B m c main_arg2) (B m c main_arg4) (B m c main_arg5) (B m c main_arg6)))
  · exact h53.trans ((val_main_v53_eq _ _ _ _).trans (v53_eq (B m c main_arg0) (B m c main_arg1) (B m c main_arg4) (B m c main_arg7)))

end Cert.Proof.MergeRef
end
-- ==== Proof.MergeClaim.lean ====
/- The gated merge's backward call computes the reference's gradients: the equation of the two programs. -/
module

public import proofs.«01_k».proof.Defs
public import proofs.«01_k».proof.Proof.MergeRun
public import proofs.«01_k».proof.Proof.MergeReference
public import Idealize.ShloMosaic.Lib.Quiescent

@[expose] public section

set_option maxRecDepth 16384

noncomputable section

namespace Cert.Proof.MergeClaim

open Idealize.ShloMosaic Idealize.ShloMosaic.TcCoe Idealize.SL.Sem Cert.Proof.Merge

/-- The reference leaves its arguments as they were, and every counter at zero. -/
theorem reference_frame : Cert.quiescent_MergeRefIdeal (hMergeRefIdeal := Cert.MergeRefIdeal.Gen.facts) :=
  fun m ρ _ => (θ_run Cert.MergeRefIdeal.defs _ _).mono
    (fun r h => ⟨fun c => (h c).2.2.2.2.2.2, Idealize.ShloMosaic.sem_eq_zero_of_no_sems (by decide) r.2⟩)
    (Cert.MergeRefIdeal.Value.run (F := Ideal) m ρ)

set_option maxHeartbeats 1000000 in
/-- The six result arrays of the kernel are the six of the reference. -/
theorem algebraic : Cert.algebraic_MergeBwdIdeal_MergeRefIdeal
    (hMergeBwdIdeal := Cert.MergeBwdIdeal.Gen.facts) (hMergeRefIdeal := Cert.MergeRefIdeal.Gen.facts) := by
  intro m g m' g' _ hagree
  refine ⟨fun c => (Cert.MergeBwdIdeal.Gen.dats m 0 c).arrAt 10 Cert.MergeBwdIdeal.cfg0.N,
    fun c => (Cert.MergeBwdIdeal.Gen.dats m 0 c).arrAt 11 Cert.MergeBwdIdeal.cfg0.N,
    fun c => (Cert.MergeBwdIdeal.Gen.dats m 0 c).arrAt 12 Cert.MergeBwdIdeal.cfg0.N,
    fun c => (Cert.MergeBwdIdeal.Gen.dats m 0 c).arrAt 13 Cert.MergeBwdIdeal.cfg0.N,
    fun c => (Cert.MergeBwdIdeal.Gen.dats m 0 c).arrAt 14 Cert.MergeBwdIdeal.cfg0.N,
    fun c => (Cert.MergeBwdIdeal.Gen.dats m 0 c).arrAt 15 Cert.MergeBwdIdeal.cfg0.N,
    Cert.MergeBwdIdeal.Value.run_blocks (F := Ideal) m g, ?_⟩
  refine (θ_run Cert.MergeRefIdeal.defs _ _).mono (fun r h c => ?_) (MergeRef.run m' g')
  obtain ⟨h54, h55, h56, h57, h52, h53, hargs⟩ := h c
  obtain ⟨a0, a1, a2, a3, a4, a5, a6, a7⟩ := hagree c
  have e0 : MergeRef.B m' c Cert.MergeRefIdeal.main_arg0 = A m c Cert.MergeBwdIdeal.main_arg0 := a0
  have e1 : MergeRef.B m' c Cert.MergeRefIdeal.main_arg1 = A m c Cert.MergeBwdIdeal.main_arg1 := a1
  have e2 : MergeRef.B m' c Cert.MergeRefIdeal.main_arg2 = A m c Cert.MergeBwdIdeal.main_arg2 := a2
  have e3 : MergeRef.B m' c Cert.MergeRefIdeal.main_arg3 = A m c Cert.MergeBwdIdeal.main_arg3 := a3
  have e4 : MergeRef.B m' c Cert.MergeRefIdeal.main_arg4 = A m c Cert.MergeBwdIdeal.main_arg4 := a4
  have e5 : MergeRef.B m' c Cert.MergeRefIdeal.main_arg5 = A m c Cert.MergeBwdIdeal.main_arg5 := a5
  have e6 : MergeRef.B m' c Cert.MergeRefIdeal.main_arg6 = A m c Cert.MergeBwdIdeal.main_arg6 := a6
  have e7 : MergeRef.B m' c Cert.MergeRefIdeal.main_arg7 = A m c Cert.MergeBwdIdeal.main_arg7 := a7
  refine ⟨?_, ?_, ?_, ?_, ?_, ?_, hargs⟩
  · refine h54.trans (Eq.trans ?_ (final10 m c).symm)
    rw [e0, e1, e2, e3, e4, e5, e6, e7]
  · refine h55.trans (Eq.trans ?_ (final11 m c).symm)
    rw [e0, e1, e4]
  · refine h56.trans (Eq.trans ?_ (final12 m c).symm)
    rw [e0, e1, e2, e4, e6]
  · refine h57.trans (Eq.trans ?_ (final13 m c).symm)
    rw [e0, e1, e2, e4, e5, e6]
  · refine h52.trans (Eq.trans ?_ (final14 m c).symm)
    rw [e0, e1, e2, e4, e5, e6]
  · refine h53.trans (Eq.trans ?_ (final15 m c).symm)
    rw [e0, e1, e4, e7]

end Cert.Proof.MergeClaim
end
-- ==== Proof.Rms.lean ====
/- The backward pass of the root-mean-square norm: the kernel's form, the reference's form, and their equality at every
   extended real. -/
module

public import Idealize.ShloMosaic.Lib.Pointwise
public import Idealize.ShloMosaic.Lib.IdealHost

@[expose] public section

noncomputable section

namespace Cert.Proof.Rms

open Idealize.ShloMosaic

/-- The norm's width, as the programs write it. -/
abbrev width : EReal := Ideal.ofBits .f32 0x44800000#32

/-- The small number added under the root, as the programs write it. -/
abbrev eps : EReal := Ideal.ofBits .f32 0x358637BD#32

/-- Minus one half, as the reference writes it. -/
abbrev minusHalf : EReal := Ideal.ofBits .f32 0xBF000000#32

theorem width_eq : width = ((1024 : ℝ) : EReal) := by
  simp [Ideal.ofBits, Ideal.ieee, -EReal.coe_mul]
  norm_num

theorem minusHalf_eq : minusHalf = ((-(1 / 2) : ℝ) : EReal) := by
  simp [Ideal.ofBits, Ideal.ieee, -EReal.coe_mul]
  norm_num

/-- The small number is a positive real. -/
theorem eps_pos : ∃ ε : ℝ, 0 < ε ∧ eps = (ε : EReal) := by
  refine ⟨8796093 / 2 ^ 43, by positivity, ?_⟩
  simp [Ideal.ofBits, Ideal.ieee, -EReal.coe_mul]
  norm_num

/-- Dividing by the width is multiplying by a positive real. -/
theorem div_width (a : EReal) : Ideal.div a width = a * ((1 / 1024 : ℝ) : EReal) := by
  rw [width_eq, Ideal.div, if_neg (by norm_num), ← EReal.coe_inv]
  norm_num

/-- A positive real distributes over any sum. -/
theorem pos_mul_add {R : ℝ} (h : 0 < R) (a b : EReal) : (R : EReal) * (a + b) = R * a + R * b :=
  EReal.left_distrib_of_nonneg_of_ne_top (by exact_mod_cast h.le) (EReal.coe_ne_top R) a b

/-- A positive real comes out of a finite sum. -/
theorem pos_mul_sum {ι : Type} (s : Finset ι) {R : ℝ} (h : 0 < R) (f : ι → EReal) :
    ∑ k ∈ s, (R : EReal) * f k = R * ∑ k ∈ s, f k := by
  classical
  induction s using Finset.induction_on with
  | empty => simp
  | insert a s ha ih => rw [Finset.sum_insert ha, Finset.sum_insert ha, ih, pos_mul_add h]

theorem square_nonneg (a : EReal) : 0 ≤ a * a := by
  induction a using EReal.rec with
  | bot => simp
  | top => simp
  | coe r => rw [← EReal.coe_mul]; exact_mod_cast mul_self_nonneg r

variable {n : Nat} (DY X : Fin n → Fin 1024 → EReal) (g : Fin 1024 → EReal) (H : Fin n → Fin 1024 → EReal)

/-- The mean square plus the small number. -/
def meanSq (i : Fin n) : EReal := Ideal.div (∑ l, X i l * X i l) width + eps

/-- The row's scale: the reciprocal root. -/
def rinv (i : Fin n) : EReal := Ideal.rsqrt (meanSq X i)

/-- The normed row, before the gain. -/
def xhat (i : Fin n) (l : Fin 1024) : EReal := X i l * rinv X i

/-- The gradient of the norm's input, with the residual's `H` added: the kernel's form. -/
def dx (i : Fin n) (l : Fin 1024) : EReal :=
  H i l + rinv X i * (DY i l * g l - xhat X i l * Ideal.div (∑ k, DY i k * g k * xhat X i k) width)

/-- The gradient of the norm's gain. -/
def dg (l : Fin 1024) : EReal := ∑ i, DY i l * xhat X i l

/-- What the reference multiplies the input by: half the mean square's gradient. -/
def half (i : Fin n) : EReal :=
  Ideal.div ((∑ k, X i k * (DY i k * g k)) * (minusHalf * Ideal.div (rinv X i) (meanSq X i))) width

/-- The mean square with its small number is infinite or a positive real. -/
theorem meanSq_cases (i : Fin n) : meanSq X i = ⊤ ∨ ∃ ρ : ℝ, 0 < ρ ∧ meanSq X i = (ρ : EReal) := by
  obtain ⟨ε, hε, he⟩ := eps_pos
  have h0 : 0 ≤ ∑ l, X i l * X i l := Finset.sum_nonneg fun l _ => square_nonneg _
  unfold meanSq
  rw [div_width, he]
  generalize (∑ l, X i l * X i l) = s at h0
  induction s using EReal.rec with
  | bot => simp at h0
  | top =>
    left
    rw [EReal.top_mul_coe_of_pos (by norm_num), EReal.top_add_coe]
  | coe s =>
    right
    have hs : 0 ≤ s := by exact_mod_cast h0
    exact ⟨s * (1 / 1024) + ε, by positivity, by push_cast; rfl⟩

/-- The reference's form of the input's gradient is the kernel's. -/
theorem dx_eq (i : Fin n) (l : Fin 1024) :
    H i l + DY i l * g l * rinv X i + X i l * half DY X g i + half DY X g i * X i l = dx DY X g H i l := by
  rcases meanSq_cases X i with h | ⟨ρ, hρ, h⟩
  · have hr : rinv X i = 0 := by rw [rinv, h]; rfl
    have hh : half DY X g i = 0 := by
      rw [half, div_width, hr, h, Ideal.div, if_neg EReal.top_ne_zero, zero_mul, mul_zero, mul_zero, zero_mul]
    rw [dx, hh, hr]
    simp
  · set R : ℝ := (Real.sqrt ρ)⁻¹ with hR
    have hRp : 0 < R := by positivity
    have hr : rinv X i = (R : EReal) := by
      rw [rinv, h, Ideal.rsqrt_coe, if_neg (not_lt.2 hρ.le), if_neg hρ.ne']
    have hRR : R * R = ρ⁻¹ := by
      rw [hR, ← mul_inv, Real.mul_self_sqrt hρ.le]
    generalize hS : (∑ k, X i k * (DY i k * g k)) = S
    have hsum : (∑ k, DY i k * g k * xhat X i k) = (R : EReal) * S := by
      rw [← hS, ← pos_mul_sum _ hRp]
      refine Finset.sum_congr rfl fun k _ => ?_
      rw [xhat, hr, mul_comm (X i k), mul_comm (X i k) (DY i k * g k), mul_left_comm]
    have hq : half DY X g i = S * ((-(1 / 2) * (R * ρ⁻¹) * (1 / 1024) : ℝ) : EReal) := by
      rw [half, div_width, hS, hr, h, Ideal.div, if_neg (by exact_mod_cast hρ.ne'), minusHalf_eq, ← EReal.coe_inv, mul_assoc]
      push_cast
      rfl
    rw [dx, hsum, hq, xhat, hr, div_width, sub_eq_add_neg, pos_mul_add hRp, add_assoc, add_assoc]
    congr 1
    rw [mul_comm (DY i l * g l)]
    congr 1
    generalize X i l = x
    have e1 : x * (S * ((-(1 / 2) * (R * ρ⁻¹) * (1 / 1024) : ℝ) : EReal))
        = ((R * ρ⁻¹ * (1 / 2048) : ℝ) : EReal) * -(x * S) := by
      rw [← mul_assoc, mul_comm, show (-(1 / 2) * (R * ρ⁻¹) * (1 / 1024) : ℝ) = -(R * ρ⁻¹ * (1 / 2048)) by ring,
        EReal.coe_neg, neg_mul, mul_neg]
    have e2 : (R : EReal) * -(x * R * (R * S * ((1 / 1024 : ℝ) : EReal)))
        = ((R * ρ⁻¹ * (1 / 1024) : ℝ) : EReal) * -(x * S) := by
      rw [mul_neg, mul_neg, ← hRR]
      push_cast
      congr 1
      ac_rfl
    have p0 : (0 : ℝ) ≤ R * ρ⁻¹ * (1 / 2048) := by positivity
    rw [mul_comm _ x, e1, e2, ← EReal.right_distrib_of_nonneg (by exact_mod_cast p0) (by exact_mod_cast p0), ← EReal.coe_add]
    congr 2
    ring

/-- The gradient at a row depends on that row alone. -/
theorem dx_congr {n n' : Nat} {DY X H : Fin n → Fin 1024 → EReal} {DY' X' H' : Fin n' → Fin 1024 → EReal}
    {g g' : Fin 1024 → EReal} {i : Fin n} {i' : Fin n'} (hd : ∀ l, DY i l = DY' i' l) (hx : ∀ l, X i l = X' i' l)
    (hh : ∀ l, H i l = H' i' l) (hg : ∀ l, g l = g' l) (l : Fin 1024) : dx DY X g H i l = dx DY' X' g' H' i' l := by
  unfold dx xhat rinv meanSq
  simp only [hd, hx, hh, hg]

/-- The normed row depends on that row alone. -/
theorem xhat_congr {n n' : Nat} {X : Fin n → Fin 1024 → EReal} {X' : Fin n' → Fin 1024 → EReal}
    {i : Fin n} {i' : Fin n'} (hx : ∀ l, X i l = X' i' l) (l : Fin 1024) : xhat X i l = xhat X' i' l := by
  unfold xhat rinv meanSq
  simp only [hx]

end Cert.Proof.Rms
end
-- ==== Proof.InBlock.lean ====
/- The input projection's backward call: what the body's payloads are at an index. -/
module

public import proofs.«01_k».proof.Proof.Gen.InCallIdeal.Value
public import Idealize.ShloMosaic.Lib.Pointwise
public import Idealize.ShloMosaic.Lib.Pipeline.ValueKit
public import proofs.«01_k».proof.Proof.Rms
public import proofs.«01_k».proof.Proof.Arrays

@[expose] public section

set_option maxRecDepth 16384

noncomputable section

namespace Cert.Proof.In

open Cert.InCallIdeal Cert.InCallIdeal.Gen Idealize.ShloMosaic Idealize.ShloMosaic.TcCoe Idealize.SL.Sem
open Idealize.ShloMosaic.Pipeline (Dat)

/-- The row scale. -/
theorem pay6_apply (x : Vec Ideal S512x1024 .f32) (r : Fin 512) (o : Fin 1) :
    k0_pay6 x (ix2 r o) = Rms.rinv (at2 x) r := by
  unfold_payloads
  pointwise
  rfl

/-- The four products' sum. -/
theorem pay5_apply (a : Vec Ideal S512x4608 .bf16) (wa : Vec Ideal S1024x4608 .bf16) (b : Vec Ideal S512x512 .bf16)
    (wb : Vec Ideal S1024x512 .bf16) (c : Vec Ideal S512x1024 .bf16) (wc : Vec Ideal S1024x1024 .bf16)
    (d : Vec Ideal S512x1024 .bf16) (wd : Vec Ideal S1024x1024 .bf16) (r : Fin 512) (l : Fin 1024) :
    k0_pay5 a wa b wb c wc d wd (ix2 r l)
      = (∑ k, a (ix2 r k) * wa (ix2 l k)) + (∑ k, b (ix2 r k) * wb (ix2 l k)) + (∑ k, c (ix2 r k) * wc (ix2 l k))
        + ∑ k, d (ix2 r k) * wd (ix2 l k) := by
  unfold_payloads
  pointwise

/-- The input's gradient, given the row scale. -/
theorem pay2_apply (dy x h : Vec Ideal S512x1024 .f32) (g : Vec Ideal S1x1024 .f32) (r : Fin 512) (l : Fin 1024) :
    k0_pay2 dy x (k0_pay6 x) g h (ix2 r l) = Rms.dx (at2 dy) (at2 x) (at2 g 0) (at2 h) r l := by
  unfold k0_pay2 k0_pay1
  pointwise [pay6_apply]
  rfl

/-- One block's share of the gain's gradient. -/
theorem pay3_apply (dy x : Vec Ideal S512x1024 .f32) (o : Fin 1) (l : Fin 1024) :
    k0_pay3 dy x (k0_pay6 x) (ix2 o l) = Rms.dg (at2 dy) (at2 x) l := by
  unfold k0_pay3 k0_pay1
  pointwise [pay6_apply]
  rfl

theorem pay4_apply (dy x : Vec Ideal S512x1024 .f32) (acc : Vec Ideal S1x1024 .f32) (o : Fin 1) (l : Fin 1024) :
    k0_pay4 dy x (k0_pay6 x) acc (ix2 o l) = acc (ix2 o l) + Rms.dg (at2 dy) (at2 x) l := by
  unfold k0_pay4
  pointwise [pay3_apply]

end Cert.Proof.In
end
-- ==== Proof.InArray.lean ====
/- The input projection's backward call: what its two result arrays end holding, as functions of the arguments. -/
module

public import proofs.«01_k».proof.Proof.Corner
public import proofs.«01_k».proof.Proof.InBlock

@[expose] public section

set_option maxRecDepth 16384

noncomputable section

namespace Cert.Proof.In

open Cert.InCallIdeal Cert.InCallIdeal.Gen Idealize.ShloMosaic Idealize.ShloMosaic.TcCoe Idealize.SL.Sem
open Idealize.ShloMosaic.Pipeline (Dat)

/-! ## The mathematics, on the whole arrays -/

section Spec

variable (x : Vec Ideal S16384x1024 .f32) (g : Vec Ideal S1024 .f32) (w : Vec Ideal S1024x7168 .f32)
  (dz : Vec Ideal S16384x7168 .f32) (dh : Vec Ideal S16384x1024 .f32)

/-- The cotangent of the normed rows: `dz · w_inᵀ`. -/
def dY (i : Fin 16384) (l : Fin 1024) : EReal := ∑ k : Fin 7168, dz (ix2 i k) * w (ix2 l k)

/-- The gradient of the step's input. -/
def gx : Fin 16384 → Fin 1024 → EReal := Rms.dx (dY w dz) (at2 x) (fun l => g (ix1 l)) (at2 dh)

/-- The gradient of the norm's gain. -/
def gg (_ : Fin 1) : Fin 1024 → EReal := Rms.dg (dY w dz) (at2 x)

/-- The product over the 7168 columns is the sum of the products over the four groups of columns. -/
theorem dY_split (i : Fin 16384) (l : Fin 1024) : dY w dz i l
    = (∑ k : Fin 4608, dz (ix2 i ⟨k.val, by omega⟩) * w (ix2 l ⟨k.val, by omega⟩))
      + (∑ k : Fin 512, dz (ix2 i ⟨4608 + k.val, by omega⟩) * w (ix2 l ⟨4608 + k.val, by omega⟩))
      + (∑ k : Fin 1024, dz (ix2 i ⟨5120 + k.val, by omega⟩) * w (ix2 l ⟨5120 + k.val, by omega⟩))
      + ∑ k : Fin 1024, dz (ix2 i ⟨6144 + k.val, by omega⟩) * w (ix2 l ⟨6144 + k.val, by omega⟩) := by
  unfold dY
  rw [sum_split 6144 1024 rfl, sum_split 5120 1024 rfl, sum_split 4608 512 rfl]

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg2 := by unfold_abbrev_sides; after_results; rfl
theorem V_v2 (i : Fin 16384) (k : Fin 4608) : V m c main_v2 (ix2 i k) = A m c main_arg3 (ix2 i ⟨k.val, by omega⟩) := by
  unfold_abbrev_sides; after_results; pointwise
theorem V_v3 (i : Fin 16384) (k : Fin 512) : V m c main_v3 (ix2 i k) = A m c main_arg3 (ix2 i ⟨4608 + k.val, by omega⟩) := by
  unfold_abbrev_sides; after_results; pointwise
theorem V_v4 (i : Fin 16384) (k : Fin 2048) : V m c main_v4 (ix2 i k) = A m c main_arg3 (ix2 i ⟨5120 + k.val, by omega⟩) := by
  unfold_abbrev_sides; after_results; pointwise
theorem V_v5 (o : Fin 1) (l : Fin 1024) : V m c main_v5 (ix2 o l) = A m c main_arg1 (ix1 l) := by
  unfold_abbrev_sides; after_results; pointwise

/-! ## What the windows read -/

/-- Row `r` of point `t`'s block, as a row of the whole array. -/
def row (t : Fin cfg0.N) (r : Fin 512) : Fin 16384 :=
  ⟨t.val * 512 + r.val, by have h := t.isLt; have hN : cfg0.N = 32 := N_0; have := r.isLt; omega⟩

/-- Where the windows that move with the rows have their blocks at point `t`. -/
theorem at_rows : ∀ t : Fin grid0.N,
    (win0_0.index t 0 * win0_0.size 0 = t.val * 512 ∧ win0_0.index t 1 * win0_0.size 1 = 0)
    ∧ (win0_2.index t 0 * win0_2.size 0 = t.val * 512 ∧ win0_2.index t 1 * win0_2.size 1 = 0)
    ∧ (win0_4.index t 0 * win0_4.size 0 = t.val * 512 ∧ win0_4.index t 1 * win0_4.size 1 = 0)
    ∧ (win0_6.index t 0 * win0_6.size 0 = t.val * 512 ∧ win0_6.index t 1 * win0_6.size 1 = 1024)
    ∧ (win0_8.index t 0 * win0_8.size 0 = t.val * 512 ∧ win0_8.index t 1 * win0_8.size 1 = 0)
    ∧ (win0_10.index t 0 * win0_10.size 0 = t.val * 512 ∧ win0_10.index t 1 * win0_10.size 1 = 0)
    ∧ (win0_11.index t 0 * win0_11.size 0 = t.val * 512 ∧ win0_11.index t 1 * win0_11.size 1 = 0) := by decide +kernel

/-- Where the windows of the weights have theirs. -/
theorem at_cols : ∀ t : Fin grid0.N,
    (win0_1.index t 0 * win0_1.size 0 = 0 ∧ win0_1.index t 1 * win0_1.size 1 = 0)
    ∧ (win0_3.index t 0 * win0_3.size 0 = 0 ∧ win0_3.index t 1 * win0_3.size 1 = 4608)
    ∧ (win0_5.index t 0 * win0_5.size 0 = 0 ∧ win0_5.index t 1 * win0_5.size 1 = 5120)
    ∧ (win0_7.index t 0 * win0_7.size 0 = 0 ∧ win0_7.index t 1 * win0_7.size 1 = 6144)
    ∧ (win0_9.index t 0 * win0_9.size 0 = 0 ∧ win0_9.index t 1 * win0_9.size 1 = 0) := by decide +kernel

theorem iblk0 (t : Fin cfg0.N) (r : Fin 512) (k : Fin 4608) :
    (iblk m c 0 t : Vec Ideal S512x4608 .bf16) (ix2 r k) = at2 (A m c main_arg3) (row t r) ⟨k.val, by omega⟩ :=
  entry_at_corner (V := V m c main_v2) (V_v2 m c) (r := r) (l := k)
    (at_rows t).1 rfl rfl rfl (Nat.zero_add _).symm

theorem iblk2 (t : Fin cfg0.N) (r : Fin 512) (k : Fin 512) :
    (iblk m c 2 t : Vec Ideal S512x512 .bf16) (ix2 r k) = at2 (A m c main_arg3) (row t r) ⟨4608 + k.val, by omega⟩ :=
  entry_at_corner (V := V m c main_v3) (V_v3 m c) (r := r) (l := k)
    (at_rows t).2.1 rfl rfl rfl (Nat.zero_add _).symm

theorem iblk4 (t : Fin cfg0.N) (r : Fin 512) (k : Fin 1024) :
    (iblk m c 4 t : Vec Ideal S512x1024 .bf16) (ix2 r k) = at2 (A m c main_arg3) (row t r) ⟨5120 + k.val, by omega⟩ :=
  entry_at_corner (V := V m c main_v4) (V_v4 m c) (b := ⟨k.val, by omega⟩) (r := r) (l := k)
    (at_rows t).2.2.1 rfl rfl rfl (Nat.zero_add _).symm

theorem iblk6 (t : Fin cfg0.N) (r : Fin 512) (k : Fin 1024) :
    (iblk m c 6 t : Vec Ideal S512x1024 .bf16) (ix2 r k) = A m c main_arg3 (ix2 (row t r) ⟨6144 + k.val, by omega⟩) := by
  have e := (at_rows t).2.2.2.1
  refine (congrArg (V m c main_v4) (two_eq (b := ⟨1024 + k.val, by omega⟩) ?_ ?_)).trans
    ((V_v4 m c (row t r) ⟨1024 + k.val, by omega⟩).trans (congrArg (A m c main_arg3) (two_eq rfl ?_)))
  · show win0_6.index t 0 * win0_6.size 0 + 1 * r.val = t.val * 512 + r.val
    rw [e.1]; omega
  · show win0_6.index t 1 * win0_6.size 1 + 1 * k.val = 1024 + k.val
    rw [e.2]; omega
  · show 5120 + (1024 + k.val) = 6144 + k.val
    omega

theorem iblk8 (t : Fin cfg0.N) (r : Fin 512) (l : Fin 1024) :
    (iblk m c 8 t : Vec Ideal S512x1024 .f32) (ix2 r l) = at2 (A m c main_arg0) (row t r) l :=
  entry_at_corner (V := V m c main_arg0) (fun i k => congrFun (V_main_arg0 m c) (ix2 i k)) (r := r) (l := l)
    (at_rows t).2.2.2.2.1 rfl rfl rfl (Nat.zero_add _).symm

theorem iblk10 (t : Fin cfg0.N) (r : Fin 512) (l : Fin 1024) :
    (iblk m c 10 t : Vec Ideal S512x1024 .f32) (ix2 r l) = at2 (A m c main_arg4) (row t r) l :=
  entry_at_corner (V := V m c main_arg4) (fun i k => congrFun (V_main_arg4 m c) (ix2 i k)) (r := r) (l := l)
    (at_rows t).2.2.2.2.2.1 rfl rfl rfl (Nat.zero_add _).symm

theorem iblk3 (t : Fin cfg0.N) (l : Fin 1024) (k : Fin 512) :
    (iblk m c 3 t : Vec Ideal S1024x512 .bf16) (ix2 l k) = at2 (A m c main_arg2) l ⟨4608 + k.val, by omega⟩ :=
  entry_at_corner (V := V m c main_v0) (fun i k => congrFun (V_v0 m c) (ix2 i k)) (r := l) (l := k)
    (at_cols t).2.1 rfl rfl (Nat.zero_add _).symm rfl

theorem iblk5 (t : Fin cfg0.N) (l : Fin 1024) (k : Fin 1024) :
    (iblk m c 5 t : Vec Ideal S1024x1024 .bf16) (ix2 l k) = at2 (A m c main_arg2) l ⟨5120 + k.val, by omega⟩ :=
  entry_at_corner (V := V m c main_v0) (fun i k => congrFun (V_v0 m c) (ix2 i k)) (r := l) (l := k)
    (at_cols t).2.2.1 rfl rfl (Nat.zero_add _).symm rfl

theorem iblk7 (t : Fin cfg0.N) (l : Fin 1024) (k : Fin 1024) :
    (iblk m c 7 t : Vec Ideal S1024x1024 .bf16) (ix2 l k) = at2 (A m c main_arg2) l ⟨6144 + k.val, by omega⟩ :=
  entry_at_corner (V := V m c main_v0) (fun i k => congrFun (V_v0 m c) (ix2 i k)) (r := l) (l := k)
    (at_cols t).2.2.2.1 rfl rfl (Nat.zero_add _).symm rfl

theorem iblk9 (t : Fin cfg0.N) (o : Fin 1) (l : Fin 1024) :
    (iblk m c 9 t : Vec Ideal S1x1024 .f32) (ix2 o l) = A m c main_arg1 (ix1 l) :=
  entry_at_corner (V := V m c main_v5) (V_v5 m c) (G := fun _ l => A m c main_arg1 (ix1 l)) (a := o) (b := l) (r := o) (l := l)
    (at_cols t).2.2.2.2 rfl rfl (Nat.zero_add _).symm (Nat.zero_add _).symm

/-- The first 4608 columns of the weight. -/
theorem X0_1_apply (t : Fin cfg0.N) (l : Fin 1024) (k : Fin 4608) :
    (X0_1 m c t : Vec Ideal S1024x4608 .bf16) (ix2 l k) = A m c main_arg2 (ix2 l ⟨k.val, by omega⟩) := by
  have e := (at_cols t).1
  unfold X0_1 Pipeline.Window.fill
  rw [dif_pos (moved0_1 t (ix2 l k))]
  refine (congrArg (V m c main_v0) (two_eq ?_ ?_)).trans (congrFun (V_v0 m c) _)
  · show win0_1.index t 0 * win0_1.size 0 + 1 * l.val = l.val
    rw [e.1]; omega
  · show win0_1.index t 1 * win0_1.size 1 + 1 * k.val = k.val
    rw [e.2]; omega

/-! ## What a grid point leaves in its output blocks -/

/-- The normed rows' cotangent at point `t`. -/
def dyB (t : Fin cfg0.N) : Vec Ideal S512x1024 .f32 :=
  k0_pay5 (iblk m c 0 t) (X0_1 m c t) (iblk m c 2 t) (iblk m c 3 t) (iblk m c 4 t) (iblk m c 5 t) (iblk m c 6 t) (iblk m c 7 t)

theorem dyB_apply (t : Fin cfg0.N) (r : Fin 512) (l : Fin 1024) :
    dyB m c t (ix2 r l) = dY (A m c main_arg2) (A m c main_arg3) (row t r) l := by
  unfold dyB
  rw [dY_split]
  refine (pay5_apply _ _ _ _ _ _ _ _ r l).trans ?_
  refine congrArg₂ (· + ·) (congrArg₂ (· + ·) (congrArg₂ (· + ·) ?_ ?_) ?_) ?_ <;>
    refine Finset.sum_congr rfl fun k _ => congrArg₂ (· * ·) ?_ ?_
  · exact iblk0 m c t r k
  · exact X0_1_apply m c t l k
  · exact iblk2 m c t r k
  · exact iblk3 m c t l k
  · exact iblk4 m c t r k
  · exact iblk5 m c t l k
  · exact iblk6 m c t r k
  · exact iblk7 m c t l k

/-- The block of the input's gradient. -/
theorem outs_fst (t : Fin cfg0.N) : (outsAt0 m c t.val t.isLt).1
    = k0_pay2 (dyB m c t) (iblk m c 8 t) (k0_pay6 (iblk m c 8 t)) (iblk m c 9 t) (iblk m c 10 t) := by
  have hN := t.isLt
  have hN' : cfg0.N = 32 := N_0
  by_cases h : t.val % 32 = 0
  · rw [outsAt0_A m c t h (by omega)]
    frame_out
    rfl
  · rw [outsAt0_B m c t h (by omega)]
    frame_out
    rfl

/-- One point's share of the gain's gradient. -/
def part (t : Fin cfg0.N) (j : S1x1024.Idx) : EReal := Rms.dg (at2 (dyB m c t)) (at2 (iblk m c 8 t : Vec Ideal S512x1024 .f32)) (j 1)

/-- The gain's gradient after the last point: the sum of the points' shares. -/
theorem outs_snd (t : Fin cfg0.N) (ht : t.val + 1 = cfg0.N) (j : S1x1024.Idx) : (outsAt0 m c t.val t.isLt).2 j
    = ∑ p, part m c p j := by
  have hN' : cfg0.N = 32 := N_0
  refine (Pipeline.eq_sum_fin_of_reset_step_apply_last (fun n h => (outsAt0 m c n h).2) 32 (fun _ => (0 : EReal)) (part m c)
    ?_ ?_ hN'.le t ht j).trans (zero_add _)
  · intro t h j
    have hN := t.isLt
    rw [outsAt0_A m c t h (by omega)]
    frame_out
    idx_vars j
    exact (pay3_apply (dyB m c t) (iblk m c 8 t) j0 j1).trans (zero_add _).symm
  · intro t h j
    rw [outsAt0_B m c t h (by omega)]
    frame_out
    idx_vars j
    exact pay4_apply (dyB m c t) (iblk m c 8 t) _ j0 j1

/-! ## The result arrays after the run -/

theorem final11 : (dats m 0 c).arrAt 11 cfg0.N
    = arr2 (gx (A m c main_arg0) (A m c main_arg1) (A m c main_arg2) (A m c main_arg3) (A m c main_arg4)) := by
  refine (dats m 0 c).arrAt_eq_of_covers 11 _ (by decide +kernel) fun t hf y => ?_
  have e := (at_rows t).2.2.2.2.2.2
  idx_vars y
  refine (congrFun (after0_11 m c t) (ix2 y0 y1)).trans ((congrFun (outs_fst m c t) (ix2 y0 y1)).trans
    ((pay2_apply _ _ _ _ y0 y1).trans ((Rms.dx_congr (i' := row t y0) (fun l => dyB_apply m c t y0 l) (fun l => iblk8 m c t y0 l)
      (fun l => iblk10 m c t y0 l) (fun l => iblk9 m c t 0 l) y1).trans
    (congrArg₂ (gx (A m c main_arg0) (A m c main_arg1) (A m c main_arg2) (A m c main_arg3) (A m c main_arg4)) (Fin.ext ?_) (Fin.ext ?_)))))
  · show t.val * 512 + y0.val = win0_11.index t 0 * win0_11.size 0 + 1 * y0.val
    rw [e.1]; omega
  · show y1.val = win0_11.index t 1 * win0_11.size 1 + 1 * y1.val
    rw [e.2]; omega

/-- The points' shares of the gain's gradient make up the sum over all rows. -/
theorem sum_part (o : Fin 1) (l : Fin 1024) : ∑ p, part m c p (ix2 o l)
    = gg (A m c main_arg0) (A m c main_arg2) (A m c main_arg3) o l := by
  refine Fin.sum_mul_add_congr (fun t r hl => ?_) (by rw [show cfg0.N = 32 from N_0])
  exact congrArg₂ (· * ·) (dyB_apply m c t r l) (Rms.xhat_congr (i' := row t r) (fun l => iblk8 m c t r l) l)

/-- The last grid point. -/
def last : Fin cfg0.N := ⟨31, by rw [show cfg0.N = 32 from N_0]; decide⟩

theorem final12 : (dats m 0 c).arrAt 12 cfg0.N
    = arr2 (gg (A m c main_arg0) (A m c main_arg2) (A m c main_arg3)) := by
  refine (dats m 0 c).arrAt_eq_of_after_last 12 last (by decide +kernel) _ fun j => ?_
  idx_vars j
  refine (congrFun (after0_12 m c last) (ix2 j0 j1)).trans ((outs_snd m c last (by decide) _).trans ?_)
  refine (sum_part m c j0 j1).trans (congrArg₂ (gg (A m c main_arg0) (A m c main_arg2) (A m c main_arg3)) (Fin.ext ?_) (Fin.ext ?_))
  · show j0.val = j0.val + 0
    omega
  · rfl

end Cert.Proof.In
end
-- ==== Proof.InReference.lean ====
/- The input projection's backward reference: its two results are the functions the kernel's arrays hold. -/
module

public import proofs.«01_k».proof.Proof.Gen.InRefIdeal.Read
public import proofs.«01_k».proof.Proof.InArray

@[expose] public section

set_option maxRecDepth 16384

noncomputable section

namespace Cert.Proof.InRef

open Cert.InRefIdeal Cert.InRefIdeal.Gen Cert.InRefIdeal.Read Idealize.ShloMosaic Idealize.ShloMosaic.TcCoe Idealize.SL.Sem
open Cert.Proof.In (dY gx gg)

variable (x0 : Vec Ideal S16384x1024 .f32) (x1 : Vec Ideal S1024 .f32) (x2 : Vec Ideal S1024x7168 .f32)
  (x3 : Vec Ideal S16384x7168 .f32) (x4 : Vec Ideal S16384x1024 .f32)

theorem v6_apply (i : Fin 16384) (o : Fin 1) : val_main_v6 (F := Ideal) x0 (ix2 i o) = Rms.meanSq (at2 x0) i := by
  unfold val_main_v6 val_main_v5 val_main_v4 val_main_v3 val_main_v2 val_main_v1 val_main_v0 val_main_cst val_main_cst_0 val_main_cst_1
  pointwise
  rfl

theorem v7_apply (i : Fin 16384) (o : Fin 1) : val_main_v7 (F := Ideal) x0 (ix2 i o) = Rms.rinv (at2 x0) i := by
  unfold val_main_v7
  pointwise [v6_apply]
  rfl

theorem v10_apply (i : Fin 16384) (o : Fin 1) : val_main_v10 (F := Ideal) x0 (ix2 i o)
    = Rms.minusHalf * Ideal.div (Rms.rinv (at2 x0) i) (Rms.meanSq (at2 x0) i) := by
  unfold val_main_v10 val_main_v9 val_main_v8 val_main_cst_2
  pointwise [v6_apply, v7_apply]

theorem v12_apply (i : Fin 16384) (l : Fin 1024) : val_main_v12 (F := Ideal) x0 (ix2 i l) = Rms.xhat (at2 x0) i l := by
  unfold val_main_v12 val_main_v11
  pointwise [v7_apply]
  rfl

theorem v17_apply (i : Fin 16384) (l : Fin 1024) : val_main_v17 (F := Ideal) x2 x3 (ix2 i l) = dY x2 x3 i l := by
  unfold val_main_v17
  pointwise
  rfl

theorem v19_apply (l : Fin 1024) : val_main_v19 (F := Ideal) x0 x2 x3 (ix1 l) = Rms.dg (dY x2 x3) (at2 x0) l := by
  unfold val_main_v19 val_main_v18 val_main_cst_3
  pointwise [v12_apply, v17_apply]
  exact Finset.sum_congr rfl fun i _ => mul_comm _ _

theorem v22_apply (i : Fin 16384) (l : Fin 1024) : val_main_v22 (F := Ideal) x1 x2 x3 (ix2 i l) = dY x2 x3 i l * x1 (ix1 l) := by
  unfold val_main_v22 val_main_v21 val_main_v13
  pointwise [v17_apply]

theorem v34_apply (i : Fin 16384) (l : Fin 1024) : val_main_v34 (F := Ideal) x0 x1 x2 x3 (ix2 i l)
    = Rms.half (dY x2 x3) (at2 x0) (fun l => x1 (ix1 l)) i := by
  unfold val_main_v34 val_main_v33 val_main_v32 val_main_v31 val_main_v30 val_main_v26 val_main_v25 val_main_v24 val_main_cst_5 val_main_cst_6 val_main_cst_7
  pointwise [v10_apply, v22_apply]
  exact Fin.sum_univ_one _

theorem v38_eq : val_main_v38 (F := Ideal) x0 x1 x2 x3 x4 = arr2 (gx x0 x1 x2 x3 x4) := by
  funext i
  idx_vars i
  unfold val_main_v38 val_main_v37 val_main_v36 val_main_v35 val_main_v29 val_main_v28 val_main_v27
  pointwise [v7_apply, v22_apply, v34_apply]
  exact Rms.dx_eq (dY x2 x3) (at2 x0) (fun l => x1 (ix1 l)) (at2 x4) i0 i1

theorem v39_eq : val_main_v39 (F := Ideal) x0 x2 x3 = arr2 (gg x0 x2 x3) := by
  funext i
  idx_vars i
  unfold val_main_v39 val_main_v23 val_main_v20 val_main_cst_4
  pointwise [v19_apply]
  exact Fin.sum_univ_one _

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v38) = arr2 (gx (B m c main_arg0) (B m c main_arg1) (B m c main_arg2) (B m c main_arg3) (B m c main_arg4))
      ∧ r.2.mem ((c.tc : Thread nD τ).loc main_v39) = arr2 (gg (B m c main_arg0) (B m c main_arg2) (B m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.InRefIdeal.Value.run (F := Ideal) m ρ)
  obtain ⟨h38, h39, hargs⟩ := h c
  refine ⟨?_, ?_, hargs⟩
  · exact h38.trans ((val_main_v38_eq m c).trans (v38_eq (B m c main_arg0) (B m c main_arg1) (B m c main_arg2) (B m c main_arg3) (B m c main_arg4)))
  · exact h39.trans ((val_main_v39_eq _ _ _).trans (v39_eq (B m c main_arg0) (B m c main_arg2) (B m c main_arg3)))

end Cert.Proof.InRef
end
-- ==== Proof.InClaim.lean ====
/- The input projection's backward call computes the reference's gradients: the equation of the two programs. -/
module

public import proofs.«01_k».proof.Defs
public import proofs.«01_k».proof.Proof.InReference
public import Idealize.ShloMosaic.Lib.Quiescent

@[expose] public section

set_option maxRecDepth 16384

noncomputable section

namespace Cert.Proof.InClaim

open Idealize.ShloMosaic Idealize.ShloMosaic.TcCoe Idealize.SL.Sem Cert.Proof.In

/-- The reference leaves its arguments as they were, and every counter at zero. -/
theorem reference_frame : Cert.quiescent_InRefIdeal (hInRefIdeal := Cert.InRefIdeal.Gen.facts) :=
  fun m ρ _ => (θ_run Cert.InRefIdeal.defs _ _).mono
    (fun r h => ⟨fun c => (h c).2.2, Idealize.ShloMosaic.sem_eq_zero_of_no_sems (by decide) r.2⟩)
    (Cert.InRefIdeal.Value.run (F := Ideal) m ρ)

set_option maxHeartbeats 1000000 in
/-- The two result arrays of the kernel are the two of the reference. -/
theorem algebraic : Cert.algebraic_InCallIdeal_InRefIdeal
    (hInCallIdeal := Cert.InCallIdeal.Gen.facts) (hInRefIdeal := Cert.InRefIdeal.Gen.facts) := by
  intro m g m' g' _ hagree
  refine ⟨fun c => (Cert.InCallIdeal.Gen.dats m 0 c).arrAt 11 Cert.InCallIdeal.cfg0.N,
    fun c => (Cert.InCallIdeal.Gen.dats m 0 c).arrAt 12 Cert.InCallIdeal.cfg0.N,
    Cert.InCallIdeal.Value.run_blocks (F := Ideal) m g, ?_⟩
  refine (θ_run Cert.InRefIdeal.defs _ _).mono (fun r h c => ?_) (InRef.run m' g')
  obtain ⟨h38, h39, hargs⟩ := h c
  obtain ⟨a0, a1, a2, a3, a4⟩ := hagree c
  have e0 : InRef.B m' c Cert.InRefIdeal.main_arg0 = A m c Cert.InCallIdeal.main_arg0 := a0
  have e1 : InRef.B m' c Cert.InRefIdeal.main_arg1 = A m c Cert.InCallIdeal.main_arg1 := a1
  have e2 : InRef.B m' c Cert.InRefIdeal.main_arg2 = A m c Cert.InCallIdeal.main_arg2 := a2
  have e3 : InRef.B m' c Cert.InRefIdeal.main_arg3 = A m c Cert.InCallIdeal.main_arg3 := a3
  have e4 : InRef.B m' c Cert.InRefIdeal.main_arg4 = A m c Cert.InCallIdeal.main_arg4 := a4
  refine ⟨?_, ?_, hargs⟩
  · refine h38.trans (Eq.trans ?_ (final11 m c).symm)
    rw [e0, e1, e2, e3, e4]
  · refine h39.trans (Eq.trans ?_ (final12 m c).symm)
    rw [e0, e2, e3]

end Cert.Proof.InClaim
end
-- ==== Proof.UpBlock.lean ====
/- The feed-forward projections' backward call: what the body's payloads are at an index. -/
module

public import proofs.«01_k».proof.Proof.Gen.UpCallIdeal.Value
public import Idealize.ShloMosaic.Lib.Pointwise
public import Idealize.ShloMosaic.Lib.Pipeline.ValueKit
public import proofs.«01_k».proof.Proof.Rms
public import proofs.«01_k».proof.Proof.Arrays

@[expose] public section

set_option maxRecDepth 16384

noncomputable section

namespace Cert.Proof.Up

open Cert.UpCallIdeal Cert.UpCallIdeal.Gen Idealize.ShloMosaic Idealize.ShloMosaic.TcCoe Idealize.SL.Sem
open Idealize.ShloMosaic.Pipeline (Dat)

/-- The row scale. -/
theorem pay6_apply (x : Vec Ideal S512x1024 .f32) (r : Fin 512) (o : Fin 1) :
    k0_pay6 x (ix2 r o) = Rms.rinv (at2 x) r := by
  unfold k0_pay6
  pointwise
  rfl

/-- The normed rows. -/
theorem pay7_apply (x : Vec Ideal S512x1024 .f32) (r : Fin 512) (l : Fin 1024) :
    k0_pay7 x (ix2 r l) = Rms.xhat (at2 x) r l := by
  unfold k0_pay7
  pointwise [pay6_apply]
  rfl

/-- The two products' sum. -/
theorem pay5_apply (a : Vec Ideal S512x2816 .bf16) (wa : Vec Ideal S1024x2816 .bf16) (b : Vec Ideal S512x2816 .bf16)
    (wb : Vec Ideal S1024x2816 .bf16) (r : Fin 512) (l : Fin 1024) :
    k0_pay5 a wa b wb (ix2 r l) = (∑ k, a (ix2 r k) * wa (ix2 l k)) + ∑ k, b (ix2 r k) * wb (ix2 l k) := by
  unfold k0_pay5
  pointwise

variable (a : Vec Ideal S512x2816 .bf16) (wa : Vec Ideal S1024x2816 .bf16) (b : Vec Ideal S512x2816 .bf16)
  (wb : Vec Ideal S1024x2816 .bf16) (x h : Vec Ideal S512x1024 .f32) (g : Vec Ideal S1x1024 .f32)

/-- The gradient of the norm's input. -/
theorem pay1_apply (r : Fin 512) (l : Fin 1024) : k0_pay1 h (k0_pay8 a wa b wb x g) (k0_pay9 x) (ix2 r l)
    = Rms.dx (at2 (k0_pay5 a wa b wb)) (at2 x) (at2 g 0) (at2 h) r l := by
  unfold k0_pay1 k0_pay8 k0_pay9
  pointwise [pay6_apply, pay7_apply]
  rfl

/-- Its copy in the narrower format. -/
theorem pay2_apply (r : Fin 512) (l : Fin 1024) : k0_pay2 h (k0_pay8 a wa b wb x g) (k0_pay9 x) (ix2 r l)
    = Rms.dx (at2 (k0_pay5 a wa b wb)) (at2 x) (at2 g 0) (at2 h) r l := by
  unfold k0_pay2
  pointwise [pay1_apply]

/-- One block's share of the gain's gradient. -/
theorem pay3_apply (dy x : Vec Ideal S512x1024 .f32) (o : Fin 1) (l : Fin 1024) :
    k0_pay3 dy (k0_pay7 x) (ix2 o l) = Rms.dg (at2 dy) (at2 x) l := by
  unfold k0_pay3
  pointwise [pay7_apply]
  rfl

theorem pay4_apply (dy x : Vec Ideal S512x1024 .f32) (acc : Vec Ideal S1x1024 .f32) (o : Fin 1) (l : Fin 1024) :
    k0_pay4 dy (k0_pay7 x) acc (ix2 o l) = acc (ix2 o l) + Rms.dg (at2 dy) (at2 x) l := by
  unfold k0_pay4
  pointwise [pay3_apply]

end Cert.Proof.Up
end
-- ==== Proof.UpArray.lean ====
/- The feed-forward projections' backward call: what its three result arrays end holding, as functions of the arguments. -/
module

public import proofs.«01_k».proof.Proof.Corner
public import proofs.«01_k».proof.Proof.UpBlock

@[expose] public section

set_option maxRecDepth 16384

noncomputable section

namespace Cert.Proof.Up

open Cert.UpCallIdeal Cert.UpCallIdeal.Gen Idealize.ShloMosaic Idealize.ShloMosaic.TcCoe Idealize.SL.Sem
open Idealize.ShloMosaic.Pipeline (Dat)

/-! ## The mathematics, on the whole arrays -/

section Spec

variable (x : Vec Ideal S16384x1024 .f32) (g : Vec Ideal S1024 .f32) (wg wu : Vec Ideal S1024x2816 .f32)
  (dg du : Vec Ideal S16384x2816 .f32) (dh : Vec Ideal S16384x1024 .f32)

/-- The cotangent of the normed rows: `d_gate · w_gateᵀ + d_up · w_upᵀ`. -/
def dY (i : Fin 16384) (l : Fin 1024) : EReal :=
  (∑ k : Fin 2816, dg (ix2 i k) * wg (ix2 l k)) + ∑ k : Fin 2816, du (ix2 i k) * wu (ix2 l k)

/-- The gradient of the norm's input. -/
def gx : Fin 16384 → Fin 1024 → EReal := Rms.dx (dY wg wu dg du) (at2 x) (fun l => g (ix1 l)) (at2 dh)

/-- The gradient of the norm's gain. -/
def gg (_ : Fin 1) : Fin 1024 → EReal := Rms.dg (dY wg wu dg du) (at2 x)

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg2 := by unfold_abbrev_sides; after_results; rfl
theorem V_v1 : V m c main_v1 = A m c main_arg3 := by unfold_abbrev_sides; after_results; rfl
theorem V_v2 : V m c main_v2 = A m c main_arg4 := by unfold_abbrev_sides; after_results; rfl
theorem V_v3 : V m c main_v3 = A m c main_arg5 := by unfold_abbrev_sides; after_results; rfl
theorem V_v4 (o : Fin 1) (l : Fin 1024) : V m c main_v4 (ix2 o l) = A m c main_arg1 (ix1 l) := by
  unfold_abbrev_sides; after_results; pointwise

/-! ## What the windows read -/

/-- Row `r` of point `t`'s block, as a row of the whole array. -/
def row (t : Fin cfg0.N) (r : Fin 512) : Fin 16384 :=
  ⟨t.val * 512 + r.val, by have h := t.isLt; have hN : cfg0.N = 32 := N_0; have := r.isLt; omega⟩

/-- Where the windows that move with the rows have their blocks at point `t`. -/
theorem at_rows : ∀ t : Fin grid0.N,
    (win0_0.index t 0 * win0_0.size 0 = t.val * 512 ∧ win0_0.index t 1 * win0_0.size 1 = 0)
    ∧ (win0_2.index t 0 * win0_2.size 0 = t.val * 512 ∧ win0_2.index t 1 * win0_2.size 1 = 0)
    ∧ (win0_4.index t 0 * win0_4.size 0 = t.val * 512 ∧ win0_4.index t 1 * win0_4.size 1 = 0)
    ∧ (win0_6.index t 0 * win0_6.size 0 = t.val * 512 ∧ win0_6.index t 1 * win0_6.size 1 = 0)
    ∧ (win0_7.index t 0 * win0_7.size 0 = t.val * 512 ∧ win0_7.index t 1 * win0_7.size 1 = 0)
    ∧ (win0_8.index t 0 * win0_8.size 0 = t.val * 512 ∧ win0_8.index t 1 * win0_8.size 1 = 0) := by decide +kernel

/-- Where the windows of the weights have theirs: at the origin. -/
theorem at_zero : ∀ t : Fin grid0.N,
    (win0_1.index t 0 * win0_1.size 0 = 0 ∧ win0_1.index t 1 * win0_1.size 1 = 0)
    ∧ (win0_3.index t 0 * win0_3.size 0 = 0 ∧ win0_3.index t 1 * win0_3.size 1 = 0)
    ∧ (win0_5.index t 0 * win0_5.size 0 = 0 ∧ win0_5.index t 1 * win0_5.size 1 = 0) := by decide +kernel

theorem iblk0 (t : Fin cfg0.N) (r : Fin 512) (k : Fin 2816) :
    (iblk m c 0 t : Vec Ideal S512x2816 .bf16) (ix2 r k) = at2 (A m c main_arg4) (row t r) k :=
  entry_at_corner (V := V m c main_v2) (fun i k => congrFun (V_v2 m c) (ix2 i k)) (r := r) (l := k)
    (at_rows t).1 rfl rfl rfl (Nat.zero_add _).symm

theorem iblk2 (t : Fin cfg0.N) (r : Fin 512) (k : Fin 2816) :
    (iblk m c 2 t : Vec Ideal S512x2816 .bf16) (ix2 r k) = at2 (A m c main_arg5) (row t r) k :=
  entry_at_corner (V := V m c main_v3) (fun i k => congrFun (V_v3 m c) (ix2 i k)) (r := r) (l := k)
    (at_rows t).2.1 rfl rfl rfl (Nat.zero_add _).symm

theorem iblk4 (t : Fin cfg0.N) (r : Fin 512) (l : Fin 1024) :
    (iblk m c 4 t : Vec Ideal S512x1024 .f32) (ix2 r l) = at2 (A m c main_arg0) (row t r) l :=
  entry_at_corner (V := V m c main_arg0) (fun i k => congrFun (V_main_arg0 m c) (ix2 i k)) (r := r) (l := l)
    (at_rows t).2.2.1 rfl rfl rfl (Nat.zero_add _).symm

theorem iblk6 (t : Fin cfg0.N) (r : Fin 512) (l : Fin 1024) :
    (iblk m c 6 t : Vec Ideal S512x1024 .f32) (ix2 r l) = at2 (A m c main_arg6) (row t r) l :=
  entry_at_corner (V := V m c main_arg6) (fun i k => congrFun (V_main_arg6 m c) (ix2 i k)) (r := r) (l := l)
    (at_rows t).2.2.2.1 rfl rfl rfl (Nat.zero_add _).symm

theorem iblk1 (t : Fin cfg0.N) (l : Fin 1024) (k : Fin 2816) :
    (iblk m c 1 t : Vec Ideal S1024x2816 .bf16) (ix2 l k) = at2 (A m c main_arg2) l k :=
  entry_at_corner (V := V m c main_v0) (fun i k => congrFun (V_v0 m c) (ix2 i k)) (r := l) (l := k)
    (at_zero t).1 rfl rfl (Nat.zero_add _).symm (Nat.zero_add _).symm

theorem iblk3 (t : Fin cfg0.N) (l : Fin 1024) (k : Fin 2816) :
    (iblk m c 3 t : Vec Ideal S1024x2816 .bf16) (ix2 l k) = at2 (A m c main_arg3) l k :=
  entry_at_corner (V := V m c main_v1) (fun i k => congrFun (V_v1 m c) (ix2 i k)) (r := l) (l := k)
    (at_zero t).2.1 rfl rfl (Nat.zero_add _).symm (Nat.zero_add _).symm

theorem iblk5 (t : Fin cfg0.N) (o : Fin 1) (l : Fin 1024) :
    (iblk m c 5 t : Vec Ideal S1x1024 .f32) (ix2 o l) = A m c main_arg1 (ix1 l) :=
  entry_at_corner (V := V m c main_v4) (V_v4 m c) (G := fun _ l => A m c main_arg1 (ix1 l)) (a := o) (b := l) (r := o) (l := l)
    (at_zero t).2.2 rfl rfl (Nat.zero_add _).symm (Nat.zero_add _).symm

/-! ## What a grid point leaves in its output blocks -/

/-- The normed rows' cotangent at point `t`. -/
def dyB (t : Fin cfg0.N) : Vec Ideal S512x1024 .f32 := k0_pay5 (iblk m c 0 t) (iblk m c 1 t) (iblk m c 2 t) (iblk m c 3 t)

theorem dyB_apply (t : Fin cfg0.N) (r : Fin 512) (l : Fin 1024) :
    dyB m c t (ix2 r l) = dY (A m c main_arg2) (A m c main_arg3) (A m c main_arg4) (A m c main_arg5) (row t r) l := by
  unfold dyB
  refine (pay5_apply _ _ _ _ r l).trans ?_
  refine congrArg₂ (· + ·) ?_ ?_ <;> refine Finset.sum_congr rfl fun k _ => congrArg₂ (· * ·) ?_ ?_
  · exact iblk0 m c t r k
  · exact iblk1 m c t l k
  · exact iblk2 m c t r k
  · exact iblk3 m c t l k

/-- The kernel's norm gradient at a row of point `t`'s block is the gradient at that row of the whole array. -/
theorem dx_block (t : Fin cfg0.N) (r : Fin 512) (l : Fin 1024) :
    Rms.dx (at2 (dyB m c t)) (at2 (iblk m c 4 t : Vec Ideal S512x1024 .f32)) (at2 (iblk m c 5 t : Vec Ideal S1x1024 .f32) 0)
      (at2 (iblk m c 6 t : Vec Ideal S512x1024 .f32)) r l
    = gx (A m c main_arg0) (A m c main_arg1) (A m c main_arg2) (A m c main_arg3) (A m c main_arg4) (A m c main_arg5) (A m c main_arg6)
      (row t r) l :=
  Rms.dx_congr (i' := row t r) (fun l => dyB_apply m c t r l) (fun l => iblk4 m c t r l) (fun l => iblk6 m c t r l)
    (fun l => iblk5 m c t 0 l) l

/-- The block of the gradient. -/
theorem outs_fst (t : Fin cfg0.N) : (outsAt0 m c t.val t.isLt).1
    = k0_pay1 (iblk m c 6 t) (k0_pay8 (iblk m c 0 t) (iblk m c 1 t) (iblk m c 2 t) (iblk m c 3 t) (iblk m c 4 t) (iblk m c 5 t))
      (k0_pay9 (iblk m c 4 t)) := by
  have hN := t.isLt
  have hN' : cfg0.N = 32 := N_0
  by_cases h : t.val % 32 = 0
  · rw [outsAt0_A m c t h (by omega)]
    frame_out
  · rw [outsAt0_B m c t h (by omega)]
    frame_out

/-- The block of its copy. -/
theorem outs_snd (t : Fin cfg0.N) : (outsAt0 m c t.val t.isLt).2.1
    = k0_pay2 (iblk m c 6 t) (k0_pay8 (iblk m c 0 t) (iblk m c 1 t) (iblk m c 2 t) (iblk m c 3 t) (iblk m c 4 t) (iblk m c 5 t))
      (k0_pay9 (iblk m c 4 t)) := by
  have hN := t.isLt
  have hN' : cfg0.N = 32 := N_0
  by_cases h : t.val % 32 = 0
  · rw [outsAt0_A m c t h (by omega)]
    frame_out
  · rw [outsAt0_B m c t h (by omega)]
    frame_out

/-- One point's share of the gain's gradient. -/
def part (t : Fin cfg0.N) (j : S1x1024.Idx) : EReal := Rms.dg (at2 (dyB m c t)) (at2 (iblk m c 4 t : Vec Ideal S512x1024 .f32)) (j 1)

/-- The gain's gradient after the last point: the sum of the points' shares. -/
theorem outs_thd (t : Fin cfg0.N) (ht : t.val + 1 = cfg0.N) (j : S1x1024.Idx) : (outsAt0 m c t.val t.isLt).2.2 j
    = ∑ p, part m c p j := by
  have hN' : cfg0.N = 32 := N_0
  refine (Pipeline.eq_sum_fin_of_reset_step_apply_last (fun n h => (outsAt0 m c n h).2.2) 32 (fun _ => (0 : EReal)) (part m c)
    ?_ ?_ hN'.le t ht j).trans (zero_add _)
  · intro t h j
    have hN := t.isLt
    rw [outsAt0_A m c t h (by omega)]
    frame_out
    idx_vars j
    exact (pay3_apply (dyB m c t) (iblk m c 4 t) j0 j1).trans (zero_add _).symm
  · intro t h j
    rw [outsAt0_B m c t h (by omega)]
    frame_out
    idx_vars j
    exact pay4_apply (dyB m c t) (iblk m c 4 t) _ j0 j1

/-! ## The result arrays after the run -/

theorem final7 : (dats m 0 c).arrAt 7 cfg0.N
    = arr2 (gx (A m c main_arg0) (A m c main_arg1) (A m c main_arg2) (A m c main_arg3) (A m c main_arg4) (A m c main_arg5) (A m c main_arg6)) := by
  refine (dats m 0 c).arrAt_eq_of_covers 7 _ (by decide +kernel) fun t hf y => ?_
  have e := (at_rows t).2.2.2.2.1
  idx_vars y
  refine (congrFun (after0_7 m c t) (ix2 y0 y1)).trans ((congrFun (outs_fst m c t) (ix2 y0 y1)).trans
    ((pay1_apply _ _ _ _ _ _ _ y0 y1).trans ((dx_block m c t y0 y1).trans
    (congrArg₂ (gx (A m c main_arg0) (A m c main_arg1) (A m c main_arg2) (A m c main_arg3) (A m c main_arg4) (A m c main_arg5) (A m c main_arg6)) (Fin.ext ?_) (Fin.ext ?_)))))
  · show t.val * 512 + y0.val = win0_7.index t 0 * win0_7.size 0 + 1 * y0.val
    rw [e.1]; omega
  · show y1.val = win0_7.index t 1 * win0_7.size 1 + 1 * y1.val
    rw [e.2]; omega

theorem final8 : (dats m 0 c).arrAt 8 cfg0.N
    = arr2 (gx (A m c main_arg0) (A m c main_arg1) (A m c main_arg2) (A m c main_arg3) (A m c main_arg4) (A m c main_arg5) (A m c main_arg6)) := by
  refine (dats m 0 c).arrAt_eq_of_covers 8 _ (by decide +kernel) fun t hf y => ?_
  have e := (at_rows t).2.2.2.2.2
  idx_vars y
  refine (congrFun (after0_8 m c t) (ix2 y0 y1)).trans ((congrFun (outs_snd m c t) (ix2 y0 y1)).trans
    ((pay2_apply _ _ _ _ _ _ _ y0 y1).trans ((dx_block m c t y0 y1).trans
    (congrArg₂ (gx (A m c main_arg0) (A m c main_arg1) (A m c main_arg2) (A m c main_arg3) (A m c main_arg4) (A m c main_arg5) (A m c main_arg6)) (Fin.ext ?_) (Fin.ext ?_)))))
  · show t.val * 512 + y0.val = win0_8.index t 0 * win0_8.size 0 + 1 * y0.val
    rw [e.1]; omega
  · show y1.val = win0_8.index t 1 * win0_8.size 1 + 1 * y1.val
    rw [e.2]; omega

/-- The points' shares of the gain's gradient make up the sum over all rows. -/
theorem sum_part (o : Fin 1) (l : Fin 1024) : ∑ p, part m c p (ix2 o l)
    = gg (A m c main_arg0) (A m c main_arg2) (A m c main_arg3) (A m c main_arg4) (A m c main_arg5) o l := by
  refine Fin.sum_mul_add_congr (fun t r hl => ?_) (by rw [show cfg0.N = 32 from N_0])
  exact congrArg₂ (· * ·) (dyB_apply m c t r l) (Rms.xhat_congr (i' := row t r) (fun l => iblk4 m c t r l) l)

/-- The last grid point. -/
def last : Fin cfg0.N := ⟨31, by rw [show cfg0.N = 32 from N_0]; decide⟩

theorem final9 : (dats m 0 c).arrAt 9 cfg0.N
    = arr2 (gg (A m c main_arg0) (A m c main_arg2) (A m c main_arg3) (A m c main_arg4) (A m c main_arg5)) := by
  refine (dats m 0 c).arrAt_eq_of_after_last 9 last (by decide +kernel) _ fun j => ?_
  idx_vars j
  refine (congrFun (after0_9 m c last) (ix2 j0 j1)).trans ((outs_thd m c last (by decide) _).trans ?_)
  refine (sum_part m c j0 j1).trans (congrArg₂ (gg (A m c main_arg0) (A m c main_arg2) (A m c main_arg3) (A m c main_arg4) (A m c main_arg5)) (Fin.ext ?_) (Fin.ext ?_))
  · show j0.val = j0.val + 0
    omega
  · rfl

end Cert.Proof.Up
end
-- ==== Proof.UpReference.lean ====
/- The feed-forward projections' backward reference: its three results are the functions the kernel's arrays hold. -/
module

public import proofs.«01_k».proof.Proof.Gen.UpRefIdeal.Read
public import proofs.«01_k».proof.Proof.UpArray

@[expose] public section

set_option maxRecDepth 16384

noncomputable section

namespace Cert.Proof.UpRef

open Cert.UpRefIdeal Cert.UpRefIdeal.Gen Cert.UpRefIdeal.Read Idealize.ShloMosaic Idealize.ShloMosaic.TcCoe Idealize.SL.Sem
open Cert.Proof.Up (dY gx gg)

variable (x0 : Vec Ideal S16384x1024 .f32) (x1 : Vec Ideal S1024 .f32) (x2 x3 : Vec Ideal S1024x2816 .f32)
  (x4 x5 : Vec Ideal S16384x2816 .f32) (x6 : Vec Ideal S16384x1024 .f32)

theorem v6_apply (i : Fin 16384) (o : Fin 1) : val_main_v6 (F := Ideal) x0 (ix2 i o) = Rms.meanSq (at2 x0) i := by
  unfold val_main_v6 val_main_v5 val_main_v4 val_main_v3 val_main_v2 val_main_v1 val_main_v0 val_main_cst val_main_cst_0 val_main_cst_1
  pointwise
  rfl

theorem v7_apply (i : Fin 16384) (o : Fin 1) : val_main_v7 (F := Ideal) x0 (ix2 i o) = Rms.rinv (at2 x0) i := by
  unfold val_main_v7
  pointwise [v6_apply]
  rfl

theorem v10_apply (i : Fin 16384) (o : Fin 1) : val_main_v10 (F := Ideal) x0 (ix2 i o)
    = Rms.minusHalf * Ideal.div (Rms.rinv (at2 x0) i) (Rms.meanSq (at2 x0) i) := by
  unfold val_main_v10 val_main_v9 val_main_v8 val_main_cst_2
  pointwise [v6_apply, v7_apply]

theorem v12_apply (i : Fin 16384) (l : Fin 1024) : val_main_v12 (F := Ideal) x0 (ix2 i l) = Rms.xhat (at2 x0) i l := by
  unfold val_main_v12 val_main_v11
  pointwise [v7_apply]
  rfl

theorem v20_apply (i : Fin 16384) (l : Fin 1024) : val_main_v20 (F := Ideal) x2 x3 x4 x5 (ix2 i l) = dY x2 x3 x4 x5 i l := by
  unfold val_main_v20 val_main_v19 val_main_v18
  pointwise
  exact add_comm _ _

theorem v22_apply (l : Fin 1024) : val_main_v22 (F := Ideal) x0 x2 x3 x4 x5 (ix1 l) = Rms.dg (dY x2 x3 x4 x5) (at2 x0) l := by
  unfold val_main_v22 val_main_v21 val_main_cst_3
  pointwise [v12_apply, v20_apply]
  exact Finset.sum_congr rfl fun i _ => mul_comm _ _

theorem v25_apply (i : Fin 16384) (l : Fin 1024) : val_main_v25 (F := Ideal) x1 x2 x3 x4 x5 (ix2 i l) = dY x2 x3 x4 x5 i l * x1 (ix1 l) := by
  unfold val_main_v25 val_main_v24 val_main_v13
  pointwise [v20_apply]

theorem v37_apply (i : Fin 16384) (l : Fin 1024) : val_main_v37 (F := Ideal) x0 x1 x2 x3 x4 x5 (ix2 i l)
    = Rms.half (dY x2 x3 x4 x5) (at2 x0) (fun l => x1 (ix1 l)) i := by
  unfold val_main_v37 val_main_v36 val_main_v35 val_main_v34 val_main_v33 val_main_v29 val_main_v28 val_main_v27 val_main_cst_5 val_main_cst_6 val_main_cst_7
  pointwise [v10_apply, v25_apply]
  exact Fin.sum_univ_one _

theorem v41_eq : val_main_v41 (F := Ideal) x0 x1 x2 x3 x4 x5 x6 = arr2 (gx x0 x1 x2 x3 x4 x5 x6) := by
  funext i
  idx_vars i
  unfold val_main_v41 val_main_v40 val_main_v39 val_main_v38 val_main_v32 val_main_v31 val_main_v30
  pointwise [v7_apply, v25_apply, v37_apply]
  exact Rms.dx_eq (dY x2 x3 x4 x5) (at2 x0) (fun l => x1 (ix1 l)) (at2 x6) i0 i1

theorem v42_eq : val_main_v42 (F := Ideal) x0 x1 x2 x3 x4 x5 x6 = arr2 (gx x0 x1 x2 x3 x4 x5 x6) := by
  funext i
  unfold val_main_v42
  exact congrFun (v41_eq x0 x1 x2 x3 x4 x5 x6) i

theorem v43_eq : val_main_v43 (F := Ideal) x0 x2 x3 x4 x5 = arr2 (gg x0 x2 x3 x4 x5) := by
  funext i
  idx_vars i
  unfold val_main_v43 val_main_v26 val_main_v23 val_main_cst_4
  pointwise [v22_apply]
  exact Fin.sum_univ_one _

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v41) = arr2 (gx (B m c main_arg0) (B m c main_arg1) (B m c main_arg2) (B m c main_arg3) (B m c main_arg4) (B m c main_arg5) (B m c main_arg6))
      ∧ r.2.mem ((c.tc : Thread nD τ).loc main_v42) = arr2 (gx (B m c main_arg0) (B m c main_arg1) (B m c main_arg2) (B m c main_arg3) (B m c main_arg4) (B m c main_arg5) (B m c main_arg6))
      ∧ r.2.mem ((c.tc : Thread nD τ).loc main_v43) = arr2 (gg (B m c main_arg0) (B m c main_arg2) (B m c main_arg3) (B m c main_arg4) (B m c main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.UpRefIdeal.Value.run (F := Ideal) m ρ)
  obtain ⟨h41, h42, h43, hargs⟩ := h c
  refine ⟨?_, ?_, ?_, hargs⟩
  · exact h41.trans ((val_main_v41_eq m c).trans (v41_eq (B m c main_arg0) (B m c main_arg1) (B m c main_arg2) (B m c main_arg3) (B m c main_arg4) (B m c main_arg5) (B m c main_arg6)))
  · exact h42.trans ((val_main_v42_eq m c).trans (v42_eq (B m c main_arg0) (B m c main_arg1) (B m c main_arg2) (B m c main_arg3) (B m c main_arg4) (B m c main_arg5) (B m c main_arg6)))
  · exact h43.trans ((val_main_v43_eq _ _ _ _ _).trans (v43_eq (B m c main_arg0) (B m c main_arg2) (B m c main_arg3) (B m c main_arg4) (B m c main_arg5)))

end Cert.Proof.UpRef
end
-- ==== Proof.UpClaim.lean ====
/- The feed-forward projections' backward call computes the reference's gradients: the equation of the two programs. -/
module

public import proofs.«01_k».proof.Defs
public import proofs.«01_k».proof.Proof.UpReference
public import Idealize.ShloMosaic.Lib.Quiescent

@[expose] public section

set_option maxRecDepth 16384

noncomputable section

namespace Cert.Proof.UpClaim

open Idealize.ShloMosaic Idealize.ShloMosaic.TcCoe Idealize.SL.Sem Cert.Proof.Up

/-- The reference leaves its arguments as they were, and every counter at zero. -/
theorem reference_frame : Cert.quiescent_UpRefIdeal (hUpRefIdeal := Cert.UpRefIdeal.Gen.facts) :=
  fun m ρ _ => (θ_run Cert.UpRefIdeal.defs _ _).mono
    (fun r h => ⟨fun c => (h c).2.2.2, Idealize.ShloMosaic.sem_eq_zero_of_no_sems (by decide) r.2⟩)
    (Cert.UpRefIdeal.Value.run (F := Ideal) m ρ)

set_option maxHeartbeats 1000000 in
/-- The three result arrays of the kernel are the three of the reference. -/
theorem algebraic : Cert.algebraic_UpCallIdeal_UpRefIdeal
    (hUpCallIdeal := Cert.UpCallIdeal.Gen.facts) (hUpRefIdeal := Cert.UpRefIdeal.Gen.facts) := by
  intro m g m' g' _ hagree
  refine ⟨fun c => (Cert.UpCallIdeal.Gen.dats m 0 c).arrAt 7 Cert.UpCallIdeal.cfg0.N,
    fun c => (Cert.UpCallIdeal.Gen.dats m 0 c).arrAt 8 Cert.UpCallIdeal.cfg0.N,
    fun c => (Cert.UpCallIdeal.Gen.dats m 0 c).arrAt 9 Cert.UpCallIdeal.cfg0.N,
    Cert.UpCallIdeal.Value.run_blocks (F := Ideal) m g, ?_⟩
  refine (θ_run Cert.UpRefIdeal.defs _ _).mono (fun r h c => ?_) (UpRef.run m' g')
  obtain ⟨h41, h42, h43, hargs⟩ := h c
  obtain ⟨a0, a1, a2, a3, a4, a5, a6⟩ := hagree c
  have e0 : UpRef.B m' c Cert.UpRefIdeal.main_arg0 = A m c Cert.UpCallIdeal.main_arg0 := a0
  have e1 : UpRef.B m' c Cert.UpRefIdeal.main_arg1 = A m c Cert.UpCallIdeal.main_arg1 := a1
  have e2 : UpRef.B m' c Cert.UpRefIdeal.main_arg2 = A m c Cert.UpCallIdeal.main_arg2 := a2
  have e3 : UpRef.B m' c Cert.UpRefIdeal.main_arg3 = A m c Cert.UpCallIdeal.main_arg3 := a3
  have e4 : UpRef.B m' c Cert.UpRefIdeal.main_arg4 = A m c Cert.UpCallIdeal.main_arg4 := a4
  have e5 : UpRef.B m' c Cert.UpRefIdeal.main_arg5 = A m c Cert.UpCallIdeal.main_arg5 := a5
  have e6 : UpRef.B m' c Cert.UpRefIdeal.main_arg6 = A m c Cert.UpCallIdeal.main_arg6 := a6
  refine ⟨?_, ?_, ?_, hargs⟩
  · refine h41.trans (Eq.trans ?_ (final7 m c).symm)
    rw [e0, e1, e2, e3, e4, e5, e6]
  · refine h42.trans (Eq.trans ?_ (final8 m c).symm)
    rw [e0, e1, e2, e3, e4, e5, e6]
  · refine h43.trans (Eq.trans ?_ (final9 m c).symm)
    rw [e0, e2, e3, e4, e5]

end Cert.Proof.UpClaim
end
-- ==== Proof.DownBlock.lean ====
/- The feed-forward output projection's backward call: what one grid point leaves in each output block. -/
module

public import proofs.«01_k».proof.Proof.Gen.DownCallIdeal.Value
public import Idealize.ShloMosaic.Lib.Pointwise
public import Idealize.ShloMosaic.Lib.Pipeline.ValueKit
public import proofs.«01_k».proof.Proof.Scalars
public import proofs.«01_k».proof.Proof.Arrays

@[expose] public section

set_option maxRecDepth 16384

noncomputable section

namespace Cert.Proof.Down

open Cert.DownCallIdeal Cert.DownCallIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

variable (d : Vec Ideal S1024x1024 .bf16) (w : Vec Ideal S1408x1024 .bf16) (g u : Vec Ideal S1024x1408 .bf16) (r : Fin 1024) (f : Fin 1408)

variable {n v : Fin 1024 → EReal} {x y : EReal}

/-- The block of the gate branch's gradient, of a row of the cotangent `d` and a row of the weight `w`. -/
theorem out4_apply (hd : ∀ k, d (ix2 r k) = n k) (hw : ∀ k, w (ix2 f k) = v k) (hg : g (ix2 r f) = x) (hu : u (ix2 r f) = y) :
    out0_4 d w g u (ix2 r f) = (∑ k, n k * v k) * y * Ideal.logistic x * (1 + x * (1 - Ideal.logistic x)) := by
  unfold out0_4
  rw [View.canon_unit_zero hz]
  unfold_payloads
  pointwise [hd, hw, hg, hu]
  simp only [Scalars.half_tanh]

/-- The block of the linear branch's gradient. -/
theorem out5_apply (hd : ∀ k, d (ix2 r k) = n k) (hw : ∀ k, w (ix2 f k) = v k) (hg : g (ix2 r f) = x) :
    out0_5 d w g u (ix2 r f) = (∑ k, n k * v k) * x * Ideal.logistic x := by
  unfold out0_5
  rw [View.canon_unit_zero hz]
  unfold_payloads
  pointwise [hd, hw, hg]
  simp only [Scalars.half_tanh]

end Cert.Proof.Down
end
-- ==== Proof.DownArray.lean ====
/- The feed-forward output projection's backward call: what its two result arrays end holding, as functions of the arguments. -/
module

public import proofs.«01_k».proof.Proof.Corner
public import proofs.«01_k».proof.Proof.DownBlock

@[expose] public section

set_option maxRecDepth 16384

noncomputable section

namespace Cert.Proof.Down

open Cert.DownCallIdeal Cert.DownCallIdeal.Gen Idealize.ShloMosaic Idealize.ShloMosaic.TcCoe Idealize.SL.Sem
open Idealize.ShloMosaic.Pipeline (Dat)

/-! ## The mathematics, on the whole arrays -/

section Spec

variable (g u : Vec Ideal S16384x2816 .f32) (w : Vec Ideal S2816x1024 .f32) (d : Vec Ideal S16384x1024 .f32)

/-- The gradient of the hidden activations: the cotangent times the weight's transpose. -/
def dact (i : Fin 16384) (f : Fin 2816) : EReal := ∑ k : Fin 1024, d (ix2 i k) * w (ix2 f k)

/-- The gradient of the gate's branch. -/
def dgate (i : Fin 16384) (f : Fin 2816) : EReal :=
  dact w d i f * u (ix2 i f) * Ideal.logistic (g (ix2 i f)) * (1 + g (ix2 i f) * (1 - Ideal.logistic (g (ix2 i f))))

/-- The gradient of the linear branch. -/
def dlin (i : Fin 16384) (f : Fin 2816) : EReal :=
  dact w d i f * g (ix2 i f) * Ideal.logistic (g (ix2 i f))

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg2 := by unfold_abbrev_sides; after_results; rfl
theorem V_v1 : V m c main_v1 = A m c main_arg3 := by unfold_abbrev_sides; after_results; rfl
theorem V_v2 : V m c main_v2 = A m c main_arg0 := by unfold_abbrev_sides; after_results; rfl
theorem V_v3 : V m c main_v3 = A m c main_arg1 := by unfold_abbrev_sides; after_results; rfl

/-! ## What the windows read -/

/-- Row `r` of point `t`'s block, as a row of the whole array. -/
def row (t : Fin cfg0.N) (r : Fin 1024) : Fin 16384 :=
  ⟨t.val % 16 * 1024 + r.val, by omega⟩

/-- Column `f` of point `t`'s block, as a column of the whole array. -/
def col (t : Fin cfg0.N) (f : Fin 1408) : Fin 2816 :=
  ⟨t.val / 16 * 1408 + f.val, by have h := t.isLt; have hN : cfg0.N = 32 := N_0; have := f.isLt; omega⟩

/-- Where the windows have their blocks at point `t`. -/
theorem corners : ∀ t : Fin grid0.N,
    (win0_0.index t 0 * win0_0.size 0 = t.val % 16 * 1024 ∧ win0_0.index t 1 * win0_0.size 1 = 0)
    ∧ (win0_1.index t 0 * win0_1.size 0 = t.val / 16 * 1408 ∧ win0_1.index t 1 * win0_1.size 1 = 0)
    ∧ (win0_2.index t 0 * win0_2.size 0 = t.val % 16 * 1024 ∧ win0_2.index t 1 * win0_2.size 1 = t.val / 16 * 1408)
    ∧ (win0_3.index t 0 * win0_3.size 0 = t.val % 16 * 1024 ∧ win0_3.index t 1 * win0_3.size 1 = t.val / 16 * 1408)
    ∧ (win0_4.index t 0 * win0_4.size 0 = t.val % 16 * 1024 ∧ win0_4.index t 1 * win0_4.size 1 = t.val / 16 * 1408)
    ∧ (win0_5.index t 0 * win0_5.size 0 = t.val % 16 * 1024 ∧ win0_5.index t 1 * win0_5.size 1 = t.val / 16 * 1408) := by decide +kernel

theorem iblk0 (t : Fin cfg0.N) (r k : Fin 1024) :
    (iblk m c 0 t : Vec Ideal S1024x1024 .bf16) (ix2 r k) = at2 (A m c main_arg3) (row t r) k :=
  entry_at_corner (V := V m c main_v1) (fun i k => congrFun (V_v1 m c) (ix2 i k)) (r := r) (l := k)
    (corners t).1 rfl rfl rfl (Nat.zero_add _).symm

theorem iblk1 (t : Fin cfg0.N) (f : Fin 1408) (k : Fin 1024) :
    (iblk m c 1 t : Vec Ideal S1408x1024 .bf16) (ix2 f k) = at2 (A m c main_arg2) (col t f) k :=
  entry_at_corner (V := V m c main_v0) (fun i k => congrFun (V_v0 m c) (ix2 i k)) (r := f) (l := k)
    (corners t).2.1 rfl rfl rfl (Nat.zero_add _).symm

theorem iblk2 (t : Fin cfg0.N) (r : Fin 1024) (f : Fin 1408) :
    (iblk m c 2 t : Vec Ideal S1024x1408 .bf16) (ix2 r f) = at2 (A m c main_arg0) (row t r) (col t f) :=
  entry_at_corner (V := V m c main_v2) (fun i k => congrFun (V_v2 m c) (ix2 i k)) (r := r) (l := f)
    (corners t).2.2.1 rfl rfl rfl rfl

theorem iblk3 (t : Fin cfg0.N) (r : Fin 1024) (f : Fin 1408) :
    (iblk m c 3 t : Vec Ideal S1024x1408 .bf16) (ix2 r f) = at2 (A m c main_arg1) (row t r) (col t f) :=
  entry_at_corner (V := V m c main_v3) (fun i k => congrFun (V_v3 m c) (ix2 i k)) (r := r) (l := f)
    (corners t).2.2.2.1 rfl rfl rfl rfl

/-! ## What a grid point leaves in its output blocks -/

section Blocks

variable (t : Fin cfg0.N) (r : Fin 1024) (f : Fin 1408)

theorem gate_block : out0_4 (iblk m c 0 t) (iblk m c 1 t) (iblk m c 2 t) (iblk m c 3 t) (ix2 r f)
    = dgate (A m c main_arg0) (A m c main_arg1) (A m c main_arg2) (A m c main_arg3) (row t r) (col t f) :=
  out4_apply _ _ _ _ r f (iblk0 m c t r) (iblk1 m c t f) (iblk2 m c t r f) (iblk3 m c t r f)

theorem lin_block : out0_5 (iblk m c 0 t) (iblk m c 1 t) (iblk m c 2 t) (iblk m c 3 t) (ix2 r f)
    = dlin (A m c main_arg0) (A m c main_arg2) (A m c main_arg3) (row t r) (col t f) :=
  out5_apply _ _ _ _ r f (iblk0 m c t r) (iblk1 m c t f) (iblk2 m c t r f)

end Blocks

/-! ## The result arrays after the run -/

theorem final4 : (dats m 0 c).arrAt 4 cfg0.N = arr2 (dgate (A m c main_arg0) (A m c main_arg1) (A m c main_arg2) (A m c main_arg3)) := by
  refine (dats m 0 c).arrAt_eq_of_covers 4 _ (by decide +kernel) fun t hf y => ?_
  have e := (corners t).2.2.2.2.1
  idx_vars y
  refine (congrFun (after0_4 m c t) (ix2 y0 y1)).trans ((gate_block m c t y0 y1).trans
    (congrArg₂ (dgate (A m c main_arg0) (A m c main_arg1) (A m c main_arg2) (A m c main_arg3)) (Fin.ext ?_) (Fin.ext ?_)))
  · show t.val % 16 * 1024 + y0.val = win0_4.index t 0 * win0_4.size 0 + 1 * y0.val
    rw [e.1]; omega
  · show t.val / 16 * 1408 + y1.val = win0_4.index t 1 * win0_4.size 1 + 1 * y1.val
    rw [e.2]; omega

theorem final5 : (dats m 0 c).arrAt 5 cfg0.N = arr2 (dlin (A m c main_arg0) (A m c main_arg2) (A m c main_arg3)) := by
  refine (dats m 0 c).arrAt_eq_of_covers 5 _ (by decide +kernel) fun t hf y => ?_
  have e := (corners t).2.2.2.2.2
  idx_vars y
  refine (congrFun (after0_5 m c t) (ix2 y0 y1)).trans ((lin_block m c t y0 y1).trans
    (congrArg₂ (dlin (A m c main_arg0) (A m c main_arg2) (A m c main_arg3)) (Fin.ext ?_) (Fin.ext ?_)))
  · show t.val % 16 * 1024 + y0.val = win0_5.index t 0 * win0_5.size 0 + 1 * y0.val
    rw [e.1]; omega
  · show t.val / 16 * 1408 + y1.val = win0_5.index t 1 * win0_5.size 1 + 1 * y1.val
    rw [e.2]; omega

end Cert.Proof.Down
end
-- ==== Proof.DownReference.lean ====
/- The feed-forward output projection's backward reference: its two results, and their agreement with what the kernel's arrays hold. -/
module

public import proofs.«01_k».proof.Proof.Gen.DownRefIdeal.Read
public import proofs.«01_k».proof.Proof.DownArray

@[expose] public section

set_option maxRecDepth 16384

noncomputable section

namespace Cert.Proof.DownRef

open Cert.DownRefIdeal Cert.DownRefIdeal.Gen Cert.DownRefIdeal.Read Idealize.ShloMosaic Idealize.ShloMosaic.TcCoe Idealize.SL.Sem
open Cert.Proof.Down (dact dgate dlin)

variable (x0 x1 : Vec Ideal S16384x2816 .f32) (x2 : Vec Ideal S2816x1024 .f32) (x3 : Vec Ideal S16384x1024 .f32)

/-- The gradient of the gate's branch by the product rule, as the reference has it. -/
def dgateSum (i : Fin 16384) (f : Fin 2816) : EReal :=
  dact x2 x3 i f * x1 (ix2 i f) * Ideal.logistic (x0 (ix2 i f))
    + x0 (ix2 i f) * (dact x2 x3 i f * x1 (ix2 i f)) * (Ideal.logistic (x0 (ix2 i f)) * (1 - Ideal.logistic (x0 (ix2 i f))))

theorem v3_apply (i : Fin 16384) (f : Fin 2816) : val_main_v3 (F := Ideal) x2 x3 (ix2 i f) = dact x2 x3 i f := by
  unfold val_main_v3
  pointwise
  rfl

theorem sigmoid_apply (i : Fin 16384) (f : Fin 2816) : val_main_v0_2 (F := Ideal) x0 (ix2 i f) = Ideal.logistic (x0 (ix2 i f)) := by
  unfold val_main_v0_2 val_main_call0_v3 val_main_call0_v2 val_main_call0_v1 val_main_call0_v0 val_main_call0_cst val_main_call0_v4 val_main_call0_cst_0
  pointwise
  rfl

theorem slope_apply (i : Fin 16384) (f : Fin 2816) :
    val_main_v0_1 (F := Ideal) x0 (ix2 i f) = Ideal.logistic (x0 (ix2 i f)) * (1 - Ideal.logistic (x0 (ix2 i f))) := by
  unfold val_main_v0_1 val_main_call0_v7 val_main_call0_v6 val_main_call0_cst_1
  pointwise [sigmoid_apply]

theorem v7_eq : val_main_v7 (F := Ideal) x0 x1 x2 x3 = arr2 (dgateSum x0 x1 x2 x3) := by
  funext i
  idx_vars i
  unfold val_main_v7 val_main_v6 val_main_call1_v2 val_main_call1_v1 val_main_call1_v0 val_main_v5
  pointwise [v3_apply, sigmoid_apply, slope_apply]
  rfl

theorem v8_eq : val_main_v8 (F := Ideal) x0 x2 x3 = arr2 (dlin x0 x2 x3) := by
  funext i
  idx_vars i
  unfold val_main_v8 val_main_v4 val_main_v0_0
  pointwise [v3_apply, sigmoid_apply]
  exact (mul_comm _ _).trans (mul_assoc _ _ _).symm

/-- Where the linear branch, the weight and the cotangent are real numbers, the product rule's form is the kernel's. -/
theorem dgateSum_eq (h1 : ∀ i f, ∃ r : ℝ, x1 (ix2 i f) = (r : EReal)) (h2 : ∀ f k, ∃ r : ℝ, x2 (ix2 f k) = (r : EReal))
    (h3 : ∀ i k, ∃ r : ℝ, x3 (ix2 i k) = (r : EReal)) : dgateSum x0 x1 x2 x3 = dgate x0 x1 x2 x3 := by
  funext i f
  obtain ⟨p, hp⟩ := Scalars.sum_real (h3 i) (h2 f)
  obtain ⟨q, hq⟩ := h1 i f
  unfold dgateSum dgate dact
  rw [hp, hq, ← EReal.coe_mul]
  exact (Scalars.silu_bwd (p * q) _).symm

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v7) = arr2 (dgateSum (B m c main_arg0) (B m c main_arg1) (B m c main_arg2) (B m c main_arg3))
      ∧ r.2.mem ((c.tc : Thread nD τ).loc main_v8) = arr2 (dlin (B m c main_arg0) (B m c main_arg2) (B m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.DownRefIdeal.Value.run (F := Ideal) m ρ)
  obtain ⟨h7, h8, hargs⟩ := h c
  refine ⟨?_, ?_, hargs⟩
  · exact h7.trans ((val_main_v7_eq _ _ _ _).trans (v7_eq (B m c main_arg0) (B m c main_arg1) (B m c main_arg2) (B m c main_arg3)))
  · exact h8.trans ((val_main_v8_eq _ _ _).trans (v8_eq (B m c main_arg0) (B m c main_arg2) (B m c main_arg3)))

end Cert.Proof.DownRef
end
-- ==== Proof.DownClaim.lean ====
/- The feed-forward output projection's backward call computes the reference's gradients: the equation of the two programs. -/
module

public import proofs.«01_k».proof.Defs
public import proofs.«01_k».proof.Proof.DownReference
public import proofs.«01_k».proof.Proof.Gen.Pre_finite
public import Idealize.ShloMosaic.Lib.Quiescent

@[expose] public section

set_option maxRecDepth 16384

noncomputable section

namespace Cert.Proof.DownClaim

open Idealize.ShloMosaic Idealize.ShloMosaic.TcCoe Idealize.SL.Sem Cert.Proof.Down

/-- The reference leaves its arguments as they were, and every counter at zero. -/
theorem reference_frame : Cert.quiescent_DownRefIdeal (hDownRefIdeal := Cert.DownRefIdeal.Gen.facts) :=
  fun m ρ _ => (θ_run Cert.DownRefIdeal.defs _ _).mono
    (fun r h => ⟨fun c => (h c).2.2, Idealize.ShloMosaic.sem_eq_zero_of_no_sems (by decide) r.2⟩)
    (Cert.DownRefIdeal.Value.run (F := Ideal) m ρ)

/-- The same of finite arguments. -/
theorem reference_frame_finite : Cert.quiescent_DownRefIdeal_pre_finite
    (hDownRefIdeal := Cert.DownRefIdeal.Gen.facts) (hPre_finite := Cert.Pre_finite.Gen.facts) :=
  fun m ρ _ => reference_frame m ρ trivial

/-- An array of which the comparison with the infinity holds everywhere has real entries. -/
theorem real_of_ones {n k : Nat} (x y : FVec Ideal ⟨2, ![n, k]⟩ .f32) (hy : ∀ i f, y (ix2 i f) = Ideal.ofBits .f32 0x7F800000#32)
    (h : cmpf .olt (Host.absf x) y = fun _ => 1#1) (i : Fin n) (f : Fin k) : ∃ r : ℝ, x (ix2 i f) = (r : EReal) := by
  have e := congrFun h (ix2 i f)
  have l : BitVec.ofBool (decide (max (x (ix2 i f)) (-x (ix2 i f)) < y (ix2 i f))) = 1#1 := e
  rw [hy i f] at l
  refine Scalars.real_of_abs_lt (by_contra fun n => ?_)
  rw [decide_eq_false n] at l
  exact absurd l (by decide)

set_option maxHeartbeats 1000000 in
/-- The two result arrays of the kernel are the two of the reference, where the linear branch, the weight and the
cotangent are finite. -/
theorem algebraic : Cert.algebraic_DownCallIdeal_DownRefIdeal_pre_finite
    (hDownCallIdeal := Cert.DownCallIdeal.Gen.facts) (hDownRefIdeal := Cert.DownRefIdeal.Gen.facts)
    (hPre_finite := Cert.Pre_finite.Gen.facts) := by
  intro m g m' g' hpre hagree
  refine ⟨fun c => (Cert.DownCallIdeal.Gen.dats m 0 c).arrAt 4 Cert.DownCallIdeal.cfg0.N,
    fun c => (Cert.DownCallIdeal.Gen.dats m 0 c).arrAt 5 Cert.DownCallIdeal.cfg0.N,
    Cert.DownCallIdeal.Value.run_blocks (F := Ideal) m g, ?_⟩
  refine (θ_run Cert.DownRefIdeal.defs _ _).mono (fun r h c => ?_) (DownRef.run m' g')
  obtain ⟨h7, h8, hargs⟩ := h c
  obtain ⟨a0, a1, a2, a3⟩ := hagree c
  obtain ⟨p1, p2, p3⟩ := hpre c
  have e0 : DownRef.B m' c Cert.DownRefIdeal.main_arg0 = A m c Cert.DownCallIdeal.main_arg0 := a0
  have e1 : DownRef.B m' c Cert.DownRefIdeal.main_arg1 = A m c Cert.DownCallIdeal.main_arg1 := a1
  have e2 : DownRef.B m' c Cert.DownRefIdeal.main_arg2 = A m c Cert.DownCallIdeal.main_arg2 := a2
  have e3 : DownRef.B m' c Cert.DownRefIdeal.main_arg3 = A m c Cert.DownCallIdeal.main_arg3 := a3
  refine ⟨?_, ?_, hargs⟩
  · refine h7.trans (Eq.trans ?_ (final4 m c).symm)
    rw [e0, e1, e2, e3]
    exact congrArg arr2 (DownRef.dgateSum_eq _ _ _ _ (real_of_ones _ _ (fun _ _ => rfl) p1) (real_of_ones _ _ (fun _ _ => rfl) p2)
      (real_of_ones _ _ (fun _ _ => rfl) p3))
  · refine h8.trans (Eq.trans ?_ (final5 m c).symm)
    rw [e0, e2, e3]

end Cert.Proof.DownClaim
end
-- ==== Proof.GateBlock.lean ====
/- The feed-forward projections' forward call: what one grid point leaves in each output block. -/
module

public import proofs.«01_k».proof.Proof.Gen.GateCallIdeal.Value
public import Idealize.ShloMosaic.Lib.Pointwise
public import Idealize.ShloMosaic.Lib.Pipeline.ValueKit
public import proofs.«01_k».proof.Proof.Scalars
public import proofs.«01_k».proof.Proof.Rms
public import proofs.«01_k».proof.Proof.Arrays

@[expose] public section

set_option maxRecDepth 16384

noncomputable section

namespace Cert.Proof.Gate

open Cert.GateCallIdeal Cert.GateCallIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

variable (a : Vec Ideal S1024x1024 .bf16) (wa : Vec Ideal S1024x1408 .bf16) (b : Vec Ideal S1024x1024 .bf16)
  (wb : Vec Ideal S1024x1408 .bf16) (r : Fin 1024) (f : Fin 1408)

variable {n n' w w' : Fin 1024 → EReal}

/-- The block of the gate's branch, of a row of `a` and a column of `wa`. -/
theorem out5_apply (ha : ∀ k, a (ix2 r k) = n k) (hwa : ∀ k, wa (ix2 k f) = w k) : out0_5 a wa b wb (ix2 r f) = ∑ k, n k * w k := by
  unfold out0_5
  rw [View.canon_unit_zero hz]
  unfold_payloads
  pointwise [ha, hwa]

/-- The block of the linear branch, of a row of `b` and a column of `wb`. -/
theorem out6_apply (hb : ∀ k, b (ix2 r k) = n' k) (hwb : ∀ k, wb (ix2 k f) = w' k) : out0_6 a wa b wb (ix2 r f) = ∑ k, n' k * w' k := by
  unfold out0_6
  rw [View.canon_unit_zero hz]
  unfold_payloads
  pointwise [hb, hwb]

/-- The block of the hidden activations. -/
theorem out4_apply (ha : ∀ k, a (ix2 r k) = n k) (hwa : ∀ k, wa (ix2 k f) = w k) (hb : ∀ k, b (ix2 r k) = n' k) (hwb : ∀ k, wb (ix2 k f) = w' k) :
    out0_4 a wa b wb (ix2 r f) = (∑ k, n k * w k) * Ideal.logistic (∑ k, n k * w k) * ∑ k, n' k * w' k := by
  unfold out0_4
  rw [View.canon_unit_zero hz]
  unfold_payloads
  pointwise [ha, hwa, hb, hwb]
  simp only [Scalars.half_tanh]

end Cert.Proof.Gate
end
-- ==== Proof.GateArray.lean ====
/- The feed-forward projections' forward call: what its three result arrays end holding, as functions of the arguments. -/
module

public import proofs.«01_k».proof.Proof.Corner
public import proofs.«01_k».proof.Proof.GateBlock

@[expose] public section

set_option maxRecDepth 16384

noncomputable section

namespace Cert.Proof.Gate

open Cert.GateCallIdeal Cert.GateCallIdeal.Gen Idealize.ShloMosaic Idealize.ShloMosaic.TcCoe Idealize.SL.Sem
open Idealize.ShloMosaic.Pipeline (Dat)

/-! ## The mathematics, on the whole arrays -/

section Spec

variable (x : Vec Ideal S16384x1024 .f32) (g : Vec Ideal S1024 .f32) (wg wu : Vec Ideal S1024x2816 .f32)

/-- The normed rows. -/
def norm (i : Fin 16384) (l : Fin 1024) : EReal := Rms.xhat (at2 x) i l * g (ix1 l)

/-- A branch: the normed rows times a weight. -/
def branch (w : Vec Ideal S1024x2816 .f32) (i : Fin 16384) (f : Fin 2816) : EReal := ∑ k : Fin 1024, norm x g i k * w (ix2 k f)

/-- The hidden activations: the gate's branch, times its sigmoid, times the linear branch. -/
def act (i : Fin 16384) (f : Fin 2816) : EReal :=
  branch x g wg i f * Ideal.logistic (branch x g wg i f) * branch x g wu i f

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg2 := by unfold_abbrev_sides; after_results; rfl
theorem V_v1 : V m c main_v1 = A m c main_arg3 := by unfold_abbrev_sides; after_results; rfl
theorem V_v15 (i : Fin 16384) (l : Fin 1024) : V m c main_v15 (ix2 i l) = norm (A m c main_arg0) (A m c main_arg1) i l := by
  unfold_abbrev_sides; after_results; pointwise; rfl

/-! ## What the windows read -/

/-- Row `r` of point `t`'s block, as a row of the whole array. -/
def row (t : Fin cfg0.N) (r : Fin 1024) : Fin 16384 :=
  ⟨t.val % 16 * 1024 + r.val, by omega⟩

/-- Column `f` of point `t`'s block, as a column of the whole array. -/
def col (t : Fin cfg0.N) (f : Fin 1408) : Fin 2816 :=
  ⟨t.val / 16 * 1408 + f.val, by have h := t.isLt; have hN : cfg0.N = 32 := N_0; have := f.isLt; omega⟩

/-- Where the windows have their blocks at point `t`. -/
theorem corners : ∀ t : Fin grid0.N,
    (win0_0.index t 0 * win0_0.size 0 = t.val % 16 * 1024 ∧ win0_0.index t 1 * win0_0.size 1 = 0)
    ∧ (win0_1.index t 0 * win0_1.size 0 = 0 ∧ win0_1.index t 1 * win0_1.size 1 = t.val / 16 * 1408)
    ∧ (win0_2.index t 0 * win0_2.size 0 = t.val % 16 * 1024 ∧ win0_2.index t 1 * win0_2.size 1 = 0)
    ∧ (win0_3.index t 0 * win0_3.size 0 = 0 ∧ win0_3.index t 1 * win0_3.size 1 = t.val / 16 * 1408)
    ∧ (win0_4.index t 0 * win0_4.size 0 = t.val % 16 * 1024 ∧ win0_4.index t 1 * win0_4.size 1 = t.val / 16 * 1408)
    ∧ (win0_5.index t 0 * win0_5.size 0 = t.val % 16 * 1024 ∧ win0_5.index t 1 * win0_5.size 1 = t.val / 16 * 1408)
    ∧ (win0_6.index t 0 * win0_6.size 0 = t.val % 16 * 1024 ∧ win0_6.index t 1 * win0_6.size 1 = t.val / 16 * 1408) := by decide +kernel

theorem iblk0 (t : Fin cfg0.N) (r l : Fin 1024) :
    (iblk m c 0 t : Vec Ideal S1024x1024 .bf16) (ix2 r l) = norm (A m c main_arg0) (A m c main_arg1) (row t r) l :=
  entry_at_corner (V := V m c main_v15) (V_v15 m c) (r := r) (l := l)
    (corners t).1 rfl rfl rfl (Nat.zero_add _).symm

theorem iblk2 (t : Fin cfg0.N) (r l : Fin 1024) :
    (iblk m c 2 t : Vec Ideal S1024x1024 .bf16) (ix2 r l) = norm (A m c main_arg0) (A m c main_arg1) (row t r) l :=
  entry_at_corner (V := V m c main_v15) (V_v15 m c) (r := r) (l := l)
    (corners t).2.2.1 rfl rfl rfl (Nat.zero_add _).symm

theorem iblk1 (t : Fin cfg0.N) (k : Fin 1024) (f : Fin 1408) :
    (iblk m c 1 t : Vec Ideal S1024x1408 .bf16) (ix2 k f) = at2 (A m c main_arg2) k (col t f) :=
  entry_at_corner (V := V m c main_v0) (fun i k => congrFun (V_v0 m c) (ix2 i k)) (r := k) (l := f)
    (corners t).2.1 rfl rfl (Nat.zero_add _).symm rfl

theorem iblk3 (t : Fin cfg0.N) (k : Fin 1024) (f : Fin 1408) :
    (iblk m c 3 t : Vec Ideal S1024x1408 .bf16) (ix2 k f) = at2 (A m c main_arg3) k (col t f) :=
  entry_at_corner (V := V m c main_v1) (fun i k => congrFun (V_v1 m c) (ix2 i k)) (r := k) (l := f)
    (corners t).2.2.2.1 rfl rfl (Nat.zero_add _).symm rfl

/-! ## What a grid point leaves in its output blocks -/

section Blocks

variable (t : Fin cfg0.N) (r : Fin 1024) (f : Fin 1408)

theorem act_block : out0_4 (iblk m c 0 t) (iblk m c 1 t) (iblk m c 2 t) (iblk m c 3 t) (ix2 r f)
    = act (A m c main_arg0) (A m c main_arg1) (A m c main_arg2) (A m c main_arg3) (row t r) (col t f) :=
  out4_apply _ _ _ _ r f (iblk0 m c t r) (fun k => iblk1 m c t k f) (iblk2 m c t r) (fun k => iblk3 m c t k f)

theorem gate_block : out0_5 (iblk m c 0 t) (iblk m c 1 t) (iblk m c 2 t) (iblk m c 3 t) (ix2 r f)
    = branch (A m c main_arg0) (A m c main_arg1) (A m c main_arg2) (row t r) (col t f) :=
  out5_apply _ _ _ _ r f (iblk0 m c t r) (fun k => iblk1 m c t k f)

theorem up_block : out0_6 (iblk m c 0 t) (iblk m c 1 t) (iblk m c 2 t) (iblk m c 3 t) (ix2 r f)
    = branch (A m c main_arg0) (A m c main_arg1) (A m c main_arg3) (row t r) (col t f) :=
  out6_apply _ _ _ _ r f (iblk2 m c t r) (fun k => iblk3 m c t k f)

end Blocks

/-! ## The result arrays after the run -/

theorem final4 : (dats m 0 c).arrAt 4 cfg0.N = arr2 (act (A m c main_arg0) (A m c main_arg1) (A m c main_arg2) (A m c main_arg3)) := by
  refine (dats m 0 c).arrAt_eq_of_covers 4 _ (by decide +kernel) fun t hf y => ?_
  have e := (corners t).2.2.2.2.1
  idx_vars y
  refine (congrFun (after0_4 m c t) (ix2 y0 y1)).trans ((act_block m c t y0 y1).trans
    (congrArg₂ (act (A m c main_arg0) (A m c main_arg1) (A m c main_arg2) (A m c main_arg3)) (Fin.ext ?_) (Fin.ext ?_)))
  · show t.val % 16 * 1024 + y0.val = win0_4.index t 0 * win0_4.size 0 + 1 * y0.val
    rw [e.1]; omega
  · show t.val / 16 * 1408 + y1.val = win0_4.index t 1 * win0_4.size 1 + 1 * y1.val
    rw [e.2]; omega

theorem final5 : (dats m 0 c).arrAt 5 cfg0.N = arr2 (branch (A m c main_arg0) (A m c main_arg1) (A m c main_arg2)) := by
  refine (dats m 0 c).arrAt_eq_of_covers 5 _ (by decide +kernel) fun t hf y => ?_
  have e := (corners t).2.2.2.2.2.1
  idx_vars y
  refine (congrFun (after0_5 m c t) (ix2 y0 y1)).trans ((gate_block m c t y0 y1).trans
    (congrArg₂ (branch (A m c main_arg0) (A m c main_arg1) (A m c main_arg2)) (Fin.ext ?_) (Fin.ext ?_)))
  · show t.val % 16 * 1024 + y0.val = win0_5.index t 0 * win0_5.size 0 + 1 * y0.val
    rw [e.1]; omega
  · show t.val / 16 * 1408 + y1.val = win0_5.index t 1 * win0_5.size 1 + 1 * y1.val
    rw [e.2]; omega

theorem final6 : (dats m 0 c).arrAt 6 cfg0.N = arr2 (branch (A m c main_arg0) (A m c main_arg1) (A m c main_arg3)) := by
  refine (dats m 0 c).arrAt_eq_of_covers 6 _ (by decide +kernel) fun t hf y => ?_
  have e := (corners t).2.2.2.2.2.2
  idx_vars y
  refine (congrFun (after0_6 m c t) (ix2 y0 y1)).trans ((up_block m c t y0 y1).trans
    (congrArg₂ (branch (A m c main_arg0) (A m c main_arg1) (A m c main_arg3)) (Fin.ext ?_) (Fin.ext ?_)))
  · show t.val % 16 * 1024 + y0.val = win0_6.index t 0 * win0_6.size 0 + 1 * y0.val
    rw [e.1]; omega
  · show t.val / 16 * 1408 + y1.val = win0_6.index t 1 * win0_6.size 1 + 1 * y1.val
    rw [e.2]; omega

end Cert.Proof.Gate
end
-- ==== Proof.GateReference.lean ====
/- The feed-forward projections' forward reference: its three results are the functions the kernel's arrays hold. -/
module

public import proofs.«01_k».proof.Proof.Gen.GateRefIdeal.Read
public import proofs.«01_k».proof.Proof.GateArray

@[expose] public section

set_option maxRecDepth 16384

noncomputable section

namespace Cert.Proof.GateRef

open Cert.GateRefIdeal Cert.GateRefIdeal.Gen Cert.GateRefIdeal.Read Idealize.ShloMosaic Idealize.ShloMosaic.TcCoe Idealize.SL.Sem
open Cert.Proof.Gate (norm branch act)

variable (x0 : Vec Ideal S16384x1024 .f32) (x1 : Vec Ideal S1024 .f32) (x2 x3 : Vec Ideal S1024x2816 .f32)

theorem v12_apply (i : Fin 16384) (l : Fin 1024) : val_main_v12 (F := Ideal) x0 x1 (ix2 i l) = norm x0 x1 i l := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem v13_apply (i : Fin 16384) (f : Fin 2816) : val_main_v13 (F := Ideal) x0 x1 x2 (ix2 i f) = branch x0 x1 x2 i f := by
  unfold val_main_v13
  pointwise [v12_apply]
  rfl

theorem v14_apply (i : Fin 16384) (f : Fin 2816) : val_main_v14 (F := Ideal) x0 x1 x3 (ix2 i f) = branch x0 x1 x3 i f := by
  unfold val_main_v14
  pointwise [v12_apply]
  rfl

theorem v17_eq : val_main_v17 (F := Ideal) x0 x1 x2 x3 = arr2 (act x0 x1 x2 x3) := by
  funext i
  idx_vars i
  unfold val_main_v17 val_main_v16 val_main_v15 val_main_call0_v5 val_main_call0_v4 val_main_call0_v3 val_main_call0_v2 val_main_call0_v1 val_main_call0_v0 val_main_call0_cst val_main_call0_cst_0
  pointwise [v13_apply, v14_apply]
  rfl

theorem v18_eq : val_main_v18 (F := Ideal) x0 x1 x2 = arr2 (branch x0 x1 x2) := by
  funext i
  idx_vars i
  unfold val_main_v18
  pointwise [v13_apply]
  rfl

theorem v19_eq : val_main_v19 (F := Ideal) x0 x1 x3 = arr2 (branch x0 x1 x3) := by
  funext i
  idx_vars i
  unfold val_main_v19
  pointwise [v14_apply]
  rfl

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v17) = arr2 (act (B m c main_arg0) (B m c main_arg1) (B m c main_arg2) (B m c main_arg3))
      ∧ r.2.mem ((c.tc : Thread nD τ).loc main_v18) = arr2 (branch (B m c main_arg0) (B m c main_arg1) (B m c main_arg2))
      ∧ r.2.mem ((c.tc : Thread nD τ).loc main_v19) = arr2 (branch (B m c main_arg0) (B m c main_arg1) (B m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.GateRefIdeal.Value.run (F := Ideal) m ρ)
  obtain ⟨h17, h18, h19, hargs⟩ := h c
  refine ⟨?_, ?_, ?_, hargs⟩
  · exact h17.trans ((val_main_v17_eq _ _ _ _).trans (v17_eq (B m c main_arg0) (B m c main_arg1) (B m c main_arg2) (B m c main_arg3)))
  · exact h18.trans ((val_main_v18_eq _ _ _).trans (v18_eq (B m c main_arg0) (B m c main_arg1) (B m c main_arg2)))
  · exact h19.trans ((val_main_v19_eq _ _ _).trans (v19_eq (B m c main_arg0) (B m c main_arg1) (B m c main_arg3)))

end Cert.Proof.GateRef
end
-- ==== Proof.GateClaim.lean ====
/- The feed-forward projections' forward call computes the reference's activations: the equation of the two programs. -/
module

public import proofs.«01_k».proof.Defs
public import proofs.«01_k».proof.Proof.GateReference
public import Idealize.ShloMosaic.Lib.Quiescent

@[expose] public section

set_option maxRecDepth 16384

noncomputable section

namespace Cert.Proof.GateClaim

open Idealize.ShloMosaic Idealize.ShloMosaic.TcCoe Idealize.SL.Sem Cert.Proof.Gate

/-- The reference leaves its arguments as they were, and every counter at zero. -/
theorem reference_frame : Cert.quiescent_GateRefIdeal (hGateRefIdeal := Cert.GateRefIdeal.Gen.facts) :=
  fun m ρ _ => (θ_run Cert.GateRefIdeal.defs _ _).mono
    (fun r h => ⟨fun c => (h c).2.2.2, Idealize.ShloMosaic.sem_eq_zero_of_no_sems (by decide) r.2⟩)
    (Cert.GateRefIdeal.Value.run (F := Ideal) m ρ)

set_option maxHeartbeats 1000000 in
/-- The three result arrays of the kernel are the three of the reference. -/
theorem algebraic : Cert.algebraic_GateCallIdeal_GateRefIdeal
    (hGateCallIdeal := Cert.GateCallIdeal.Gen.facts) (hGateRefIdeal := Cert.GateRefIdeal.Gen.facts) := by
  intro m g m' g' _ hagree
  refine ⟨fun c => (Cert.GateCallIdeal.Gen.dats m 0 c).arrAt 4 Cert.GateCallIdeal.cfg0.N,
    fun c => (Cert.GateCallIdeal.Gen.dats m 0 c).arrAt 5 Cert.GateCallIdeal.cfg0.N,
    fun c => (Cert.GateCallIdeal.Gen.dats m 0 c).arrAt 6 Cert.GateCallIdeal.cfg0.N,
    Cert.GateCallIdeal.Value.run_blocks (F := Ideal) m g, ?_⟩
  refine (θ_run Cert.GateRefIdeal.defs _ _).mono (fun r h c => ?_) (GateRef.run m' g')
  obtain ⟨h17, h18, h19, hargs⟩ := h c
  obtain ⟨a0, a1, a2, a3⟩ := hagree c
  have e0 : GateRef.B m' c Cert.GateRefIdeal.main_arg0 = A m c Cert.GateCallIdeal.main_arg0 := a0
  have e1 : GateRef.B m' c Cert.GateRefIdeal.main_arg1 = A m c Cert.GateCallIdeal.main_arg1 := a1
  have e2 : GateRef.B m' c Cert.GateRefIdeal.main_arg2 = A m c Cert.GateCallIdeal.main_arg2 := a2
  have e3 : GateRef.B m' c Cert.GateRefIdeal.main_arg3 = A m c Cert.GateCallIdeal.main_arg3 := a3
  refine ⟨?_, ?_, ?_, hargs⟩
  · refine h17.trans (Eq.trans ?_ (final4 m c).symm)
    rw [e0, e1, e2, e3]
  · refine h18.trans (Eq.trans ?_ (final5 m c).symm)
    rw [e0, e1, e2]
  · refine h19.trans (Eq.trans ?_ (final6 m c).symm)
    rw [e0, e1, e3]

end Cert.Proof.GateClaim
end
-- ==== Proof.DwDownBlock.lean ====
/- The gradient of the feed-forward output weight: what the body's payloads are at an index. -/
module

public import proofs.«01_k».proof.Proof.Gen.DwDownCallIdeal.Value
public import Idealize.ShloMosaic.Lib.Pointwise
public import Idealize.ShloMosaic.Lib.Pipeline.ValueKit
public import Idealize.ShloMosaic.Lib.Pipeline.ReadBack
public import proofs.«01_k».proof.Proof.Rms
public import proofs.«01_k».proof.Proof.Arrays

@[expose] public section

set_option maxRecDepth 16384

noncomputable section

namespace Cert.Proof.DwDown

open Cert.DwDownCallIdeal Cert.DwDownCallIdeal.Gen Idealize.ShloMosaic Idealize.ShloMosaic.TcCoe Idealize.SL.Sem
open Idealize.ShloMosaic.Pipeline (Dat)

variable (a : Vec Ideal S2048x1408 .bf16) (b : Vec Ideal S2048x1024 .bf16) (acc : Vec Ideal S1408x1024 .f32) (l : Fin 1408) (f : Fin 1024)

/-- The product of the two blocks over their rows. -/
theorem pay1_apply : k0_pay1 a b (ix2 l f) = ∑ r : Fin 2048, a (ix2 r l) * b (ix2 r f) := by
  unfold k0_pay1
  pointwise

/-- The product added to what the scratch held. -/
theorem pay2_apply : k0_pay2 acc a b (ix2 l f) = acc (ix2 l f) + ∑ r : Fin 2048, a (ix2 r l) * b (ix2 r f) := by
  unfold k0_pay2
  pointwise

/-- The narrower format holds the same number. -/
theorem pay3_apply : k0_pay3 acc (ix2 l f) = acc (ix2 l f) := by
  unfold k0_pay3
  pointwise

end Cert.Proof.DwDown
end
-- ==== Proof.Wgrad.lean ====
/- A weight's gradient, accumulated over blocks of rows: what the scheme leaves in its output block, whatever the shapes. -/
module

public import proofs.«01_k».proof.Proof.Corner
public import proofs.«01_k».proof.Proof.Rms

@[expose] public section

noncomputable section

namespace Cert.Proof.Wgrad

open Idealize.ShloMosaic

/-- The products of the columns of `X` with those of `Y`, summed over all rows. -/
def gw {L K : Nat} (X : Fin 16384 → Fin L → EReal) (Y : Fin 16384 → Fin K → EReal) (l : Fin L) (f : Fin K) : EReal :=
  ∑ i : Fin 16384, X i l * Y i f

/-- The normed rows, with the gain. -/
def norm (x : (⟨2, ![16384, 1024]⟩ : Shape).Idx → EReal) (g : (⟨1, ![1024]⟩ : Shape).Idx → EReal) (i : Fin 16384)
    (l : Fin 1024) : EReal := Rms.xhat (at2 x) i l * g (ix1 l)

/-- Row `r` of point `t`'s block, as a row of the whole array: eight points pass over all rows. -/
def row (t : Nat) (r : Fin 2048) : Fin 16384 := ⟨t % 8 * 2048 + r.val, by omega⟩

/-- The scratch starts anew at the first of every eight points, adds a block's products at each, and is copied out at the
    last: there the output block holds the products summed over all rows. -/
theorem out_block {N L K : Nat} {out scr : (n : Nat) → n < N → (⟨2, ![L, K]⟩ : Shape).Idx → EReal}
    {a : Fin N → (⟨2, ![2048, L]⟩ : Shape).Idx → EReal} {b : Fin N → (⟨2, ![2048, K]⟩ : Shape).Idx → EReal}
    (first : ∀ t : Fin N, t.val % 8 = 0 → ∀ l f, scr t.val t.isLt (ix2 l f) = ∑ r, a t (ix2 r l) * b t (ix2 r f))
    (next : ∀ t : Fin N, ¬t.val % 8 = 0 → ∀ l f, scr t.val t.isLt (ix2 l f)
      = scr (t.val - 1) (Nat.lt_of_le_of_lt (Nat.sub_le _ _) t.isLt) (ix2 l f) + ∑ r, a t (ix2 r l) * b t (ix2 r f))
    (last : ∀ t : Fin N, t.val % 8 = 7 → ∀ l f, out t.val t.isLt (ix2 l f) = scr t.val t.isLt (ix2 l f))
    {X : Fin N → Fin 16384 → Fin L → EReal} {Y : Fin N → Fin 16384 → Fin K → EReal}
    (ha : ∀ s t : Fin N, s.val / 8 = t.val / 8 → ∀ r l, a s (ix2 r l) = X t (row s.val r) l)
    (hb : ∀ s t : Fin N, s.val / 8 = t.val / 8 → ∀ r f, b s (ix2 r f) = Y t (row s.val r) f)
    (t : Fin N) (h : t.val % 8 = 7) (l : Fin L) (f : Fin K) : out t.val t.isLt (ix2 l f) = gw (X t) (Y t) l f := by
  refine (last t h l f).trans ((Pipeline.eq_sum_fin_of_reset_step_apply_of_flush scr 8 (fun _ => (0 : EReal))
    (fun t j => ∑ r, a t (ix2 r (j 0)) * b t (ix2 r (j 1))) (fun t h j => ?_) (fun t h j => ?_) t h (ix2 l f)).trans
    ((zero_add _).trans ?_))
  · exact (congrArg (scr t.val t.isLt) (two_eq rfl rfl)).trans ((first t h (j 0) (j 1)).trans (zero_add _).symm)
  · have e : j = ix2 (j 0) (j 1) := two_eq rfl rfl
    exact (congrArg (scr t.val t.isLt) e).trans ((next t h (j 0) (j 1)).trans (congrArg (fun i => scr _ _ i + _) e.symm))
  · refine Fin.sum_mul_add_congr fun s r hl => ?_
    have g : (8 * (t.val / 8) + s.val) / 8 = t.val / 8 := by have := s.isLt; omega
    have e : row (8 * (t.val / 8) + s.val) r = ⟨s.val * 2048 + r.val, hl⟩ := Fin.ext (by
      show (8 * (t.val / 8) + s.val) % 8 * 2048 + r.val = s.val * 2048 + r.val
      have := s.isLt; omega)
    exact congrArg₂ (· * ·) ((ha _ t g r l).trans (congrArg (X t · l) e)) ((hb _ t g r f).trans (congrArg (Y t · f) e))

/-- The transpose of the product of `Y` with `X`, over the rows, is their gradient. -/
theorem gw_comm {L K : Nat} (X : Fin 16384 → Fin L → EReal) (Y : Fin 16384 → Fin K → EReal) (l : Fin L) (f : Fin K) :
    ∑ i : Fin 16384, Y i f * X i l = gw X Y l f := Finset.sum_congr rfl fun i _ => mul_comm (Y i f) (X i l)

end Cert.Proof.Wgrad
end
-- ==== Proof.DwDownArray.lean ====
/- The gradient of the feed-forward output weight: what the result array ends holding, as a function of the arguments. -/
module

public import proofs.«01_k».proof.Proof.DwDownBlock
public import proofs.«01_k».proof.Proof.Wgrad

@[expose] public section

set_option maxRecDepth 16384

noncomputable section

namespace Cert.Proof.DwDown

open Cert.DwDownCallIdeal Cert.DwDownCallIdeal.Gen Idealize.ShloMosaic Idealize.ShloMosaic.TcCoe Idealize.SL.Sem
open Idealize.ShloMosaic.Pipeline (Dat)
open Wgrad (row)

/-! ## The mathematics, on the whole arrays -/

section Spec

variable (fg fu : Vec Ideal S16384x2816 .f32) (ct : Vec Ideal S16384x1024 .f32)

/-- The hidden activations: the gate's branch, times its sigmoid, times the linear branch. -/
def act (i : Fin 16384) (f : Fin 2816) : EReal := fg (ix2 i f) * Ideal.logistic (fg (ix2 i f)) * fu (ix2 i f)

/-- The weight's gradient: the hidden activations against the cotangent, summed over all rows. -/
abbrev gw : Fin 2816 → Fin 1024 → EReal := Wgrad.gw (act fg fu) (at2 ct)

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v3 : V m c main_v3 = A m c main_arg2 := by
  unfold V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results; rfl

theorem V_v2 (i : Fin 16384) (f : Fin 2816) : V m c main_v2 (ix2 i f) = act (A m c main_arg0) (A m c main_arg1) i f := by
  unfold V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results; pointwise; rfl

/-! ## What the windows read -/

/-- Column `f` of point `t`'s block of the hidden activations, as a column of the whole array. -/
def col (t : Fin cfg0.N) (f : Fin 1408) : Fin 2816 :=
  ⟨t.val / 8 * 1408 + f.val, by have h := t.isLt; have hN : cfg0.N = 16 := N_0; have := f.isLt; omega⟩

/-- Where the windows have their blocks at point `t`. -/
theorem corners : ∀ t : Fin grid0.N,
    (win0_0.index t 0 * win0_0.size 0 = t.val % 8 * 2048 ∧ win0_0.index t 1 * win0_0.size 1 = t.val / 8 * 1408)
    ∧ (win0_1.index t 0 * win0_1.size 0 = t.val % 8 * 2048 ∧ win0_1.index t 1 * win0_1.size 1 = 0)
    ∧ (win0_2.index t 0 * win0_2.size 0 = t.val / 8 * 1408 ∧ win0_2.index t 1 * win0_2.size 1 = 0) := by decide +kernel

theorem iblk0 (s t : Fin cfg0.N) (h : s.val / 8 = t.val / 8) (r : Fin 2048) (f : Fin 1408) :
    (iblk m c 0 s : Vec Ideal S2048x1408 .bf16) (ix2 r f) = act (A m c main_arg0) (A m c main_arg1) (row s.val r) (col t f) :=
  entry_at_corner (V := V m c main_v2) (V_v2 m c) (r := r) (l := f) (corners s).1 rfl rfl rfl
    (congrArg (· * 1408 + f.val) h.symm)

theorem iblk1 (s : Fin cfg0.N) (r : Fin 2048) (l : Fin 1024) :
    (iblk m c 1 s : Vec Ideal S2048x1024 .bf16) (ix2 r l) = at2 (A m c main_arg2) (row s.val r) l :=
  entry_at_corner (V := V m c main_v3) (fun i k => congrFun (V_v3 m c) (ix2 i k)) (r := r) (l := l) (corners s).2.1
    rfl rfl rfl (Nat.zero_add _).symm

/-! ## What the grid points leave in the output block -/

/-- The output block at the last point of a run: the gradient there, summed over all rows. -/
theorem out_block (t : Fin cfg0.N) (h : t.val % 8 = 7) (f : Fin 1408) (l : Fin 1024) :
    (outsAt0 m c t.val t.isLt).1 (ix2 f l) = gw (A m c main_arg0) (A m c main_arg1) (A m c main_arg2) (col t f) l := by
  refine Wgrad.out_block (out := fun n h => (outsAt0 m c n h).1) (scr := fun n h => (outsAt0 m c n h).2)
    (a := fun t => iblk m c 0 t) (b := fun t => iblk m c 1 t) (fun t h f l => ?_) (fun t h f l => ?_) (fun t h f l => ?_)
    (X := fun t i f => act (A m c main_arg0) (A m c main_arg1) i (col t f)) (Y := fun _ => at2 (A m c main_arg2))
    (fun s t h r f => iblk0 m c s t h r f) (fun s _ _ r l => iblk1 m c s r l) t h f l
  · show (outsAt0 m c t.val t.isLt).2 (ix2 f l) = _
    rw [outsAt0_A m c t h (by omega) (by omega)]
    frame_out
    exact pay1_apply (iblk m c 0 t) (iblk m c 1 t) f l
  · show (outsAt0 m c t.val t.isLt).2 (ix2 f l) = _
    by_cases h7 : t.val % 8 = 7
    on_goal 1 => rw [outsAt0_C m c t h (by omega) h7]
    on_goal 2 => rw [outsAt0_B m c t h (by omega) h7]
    all_goals
      frame_out
      simp only [read_unread_whole]
      exact pay2_apply (iblk m c 0 t) (iblk m c 1 t) _ f l
  · show (outsAt0 m c t.val t.isLt).1 (ix2 f l) = (outsAt0 m c t.val t.isLt).2 (ix2 f l)
    rw [outsAt0_C m c t (by omega) (by omega) h]
    frame_out
    exact pay3_apply _ f l

/-! ## The result array after the run -/

theorem final2 : (dats m 0 c).arrAt 2 cfg0.N = arr2 (gw (A m c main_arg0) (A m c main_arg1) (A m c main_arg2)) := by
  refine (dats m 0 c).arrAt_eq_of_covers 2 _ (by decide +kernel) fun t hf y => ?_
  idx_vars y
  exact (congrFun (after0_2 m c t) (ix2 y0 y1)).trans ((out_block m c t ((flush0_2 t).mp hf) y0 y1).trans
    (entry_at_corner (V := arr2 (gw (A m c main_arg0) (A m c main_arg1) (A m c main_arg2))) (fun _ _ => rfl) (r := y0) (l := y1)
      (corners t).2.2 rfl rfl rfl (Nat.zero_add _).symm).symm)

end Cert.Proof.DwDown
end
-- ==== Proof.DwDownReference.lean ====
/- The reference gradient of the feed-forward output weight is the function the kernel's array holds. -/
module

public import proofs.«01_k».proof.Proof.Gen.DwDownRefIdeal.Read
public import proofs.«01_k».proof.Proof.DwDownArray

@[expose] public section

set_option maxRecDepth 16384

noncomputable section

namespace Cert.Proof.DwDownRef

open Cert.DwDownRefIdeal Cert.DwDownRefIdeal.Gen Cert.DwDownRefIdeal.Read Idealize.ShloMosaic Idealize.ShloMosaic.TcCoe Idealize.SL.Sem
open Cert.Proof.DwDown (act gw)

variable (x0 x1 : Vec Ideal S16384x2816 .f32) (x2 : Vec Ideal S16384x1024 .f32)

theorem v2_apply (i : Fin 16384) (f : Fin 2816) : val_main_v2 (F := Ideal) x0 x1 (ix2 i f) = act x0 x1 i f := by
  unfold val_main_v2 val_main_v1 val_main_call0_v5 val_main_call0_v4 val_main_call0_v3 val_main_call0_v2 val_main_call0_v1 val_main_call0_v0 val_main_call0_cst val_main_call0_cst_0
  pointwise
  rfl

theorem v4_apply (l : Fin 1024) (f : Fin 2816) : val_main_v4 (F := Ideal) x0 x1 x2 (ix2 l f) = gw x0 x1 x2 f l := by
  unfold val_main_v4
  pointwise [v2_apply]
  exact Wgrad.gw_comm (act x0 x1) (at2 x2) f l

theorem v6_eq : val_main_v6 (F := Ideal) x0 x1 x2 = arr2 (gw x0 x1 x2) :=
  eq_arr2 fun f l => by unfold val_main_v6 val_main_v5; pointwise [v4_apply]

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its result is the function of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v6) = arr2 (gw (B m c main_arg0) (B m c main_arg1) (B m c main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.DwDownRefIdeal.Value.run (F := Ideal) m ρ)
  obtain ⟨h6, hargs⟩ := h c
  exact ⟨h6.trans ((val_main_v6_eq _ _ _).trans (v6_eq (B m c main_arg0) (B m c main_arg1) (B m c main_arg2))), hargs⟩

end Cert.Proof.DwDownRef
end
-- ==== Proof.DwDownClaim.lean ====
/- The kernel computes the reference's gradient of the feed-forward output weight: the equation of the two programs. -/
module

public import proofs.«01_k».proof.Defs
public import proofs.«01_k».proof.Proof.DwDownReference
public import Idealize.ShloMosaic.Lib.Quiescent

@[expose] public section

set_option maxRecDepth 16384

noncomputable section

namespace Cert.Proof.DwDownClaim

open Idealize.ShloMosaic Idealize.ShloMosaic.TcCoe Idealize.SL.Sem Cert.Proof.DwDown

/-- The reference leaves its arguments as they were, and every counter at zero. -/
theorem reference_frame : Cert.quiescent_DwDownRefIdeal (hDwDownRefIdeal := Cert.DwDownRefIdeal.Gen.facts) :=
  fun m ρ _ => (θ_run Cert.DwDownRefIdeal.defs _ _).mono
    (fun r h => ⟨fun c => (h c).2, Idealize.ShloMosaic.sem_eq_zero_of_no_sems (by decide) r.2⟩)
    (Cert.DwDownRefIdeal.Value.run (F := Ideal) m ρ)

set_option maxHeartbeats 1000000 in
/-- The result array of the kernel is that of the reference. -/
theorem algebraic : Cert.algebraic_DwDownCallIdeal_DwDownRefIdeal
    (hDwDownCallIdeal := Cert.DwDownCallIdeal.Gen.facts) (hDwDownRefIdeal := Cert.DwDownRefIdeal.Gen.facts) := by
  intro m g m' g' _ hagree
  refine ⟨fun c => (Cert.DwDownCallIdeal.Gen.dats m 0 c).arrAt 2 Cert.DwDownCallIdeal.cfg0.N,
    Cert.DwDownCallIdeal.Value.run_blocks (F := Ideal) m g, ?_⟩
  refine (θ_run Cert.DwDownRefIdeal.defs _ _).mono (fun r h c => ?_) (DwDownRef.run m' g')
  obtain ⟨h6, hargs⟩ := h c
  obtain ⟨a0, a1, a2⟩ := hagree c
  have e0 : DwDownRef.B m' c Cert.DwDownRefIdeal.main_arg0 = A m c Cert.DwDownCallIdeal.main_arg0 := a0
  have e1 : DwDownRef.B m' c Cert.DwDownRefIdeal.main_arg1 = A m c Cert.DwDownCallIdeal.main_arg1 := a1
  have e2 : DwDownRef.B m' c Cert.DwDownRefIdeal.main_arg2 = A m c Cert.DwDownCallIdeal.main_arg2 := a2
  refine ⟨?_, hargs⟩
  refine h6.trans (Eq.trans ?_ (final2 m c).symm)
  rw [e0, e1, e2]

end Cert.Proof.DwDownClaim
end
-- ==== Proof.DwGateBlock.lean ====
/- The gradient of the feed-forward gate's weight: what the body's payloads are at an index. -/
module

public import proofs.«01_k».proof.Proof.Gen.DwGateCallIdeal.Value
public import Idealize.ShloMosaic.Lib.Pointwise
public import Idealize.ShloMosaic.Lib.Pipeline.ValueKit
public import Idealize.ShloMosaic.Lib.Pipeline.ReadBack
public import proofs.«01_k».proof.Proof.Rms
public import proofs.«01_k».proof.Proof.Arrays

@[expose] public section

set_option maxRecDepth 16384

noncomputable section

namespace Cert.Proof.DwGate

open Cert.DwGateCallIdeal Cert.DwGateCallIdeal.Gen Idealize.ShloMosaic Idealize.ShloMosaic.TcCoe Idealize.SL.Sem
open Idealize.ShloMosaic.Pipeline (Dat)

variable (a : Vec Ideal S2048x1024 .bf16) (b : Vec Ideal S2048x1408 .bf16) (acc : Vec Ideal S1024x1408 .f32) (l : Fin 1024) (f : Fin 1408)

/-- The product of the two blocks over their rows. -/
theorem pay1_apply : k0_pay1 a b (ix2 l f) = ∑ r : Fin 2048, a (ix2 r l) * b (ix2 r f) := by
  unfold k0_pay1
  pointwise

/-- The product added to what the scratch held. -/
theorem pay2_apply : k0_pay2 acc a b (ix2 l f) = acc (ix2 l f) + ∑ r : Fin 2048, a (ix2 r l) * b (ix2 r f) := by
  unfold k0_pay2
  pointwise

/-- The narrower format holds the same number. -/
theorem pay3_apply : k0_pay3 acc (ix2 l f) = acc (ix2 l f) := by
  unfold k0_pay3
  pointwise

end Cert.Proof.DwGate
end
-- ==== Proof.DwGateArray.lean ====
/- The gradient of the feed-forward gate's weight: what the result array ends holding, as a function of the arguments. -/
module

public import proofs.«01_k».proof.Proof.DwGateBlock
public import proofs.«01_k».proof.Proof.Wgrad

@[expose] public section

set_option maxRecDepth 16384

noncomputable section

namespace Cert.Proof.DwGate

open Cert.DwGateCallIdeal Cert.DwGateCallIdeal.Gen Idealize.ShloMosaic Idealize.ShloMosaic.TcCoe Idealize.SL.Sem
open Idealize.ShloMosaic.Pipeline (Dat)
open Wgrad (norm row)

/-- The weight's gradient: the normed rows against the cotangent, summed over all rows. -/
abbrev gw (x : Vec Ideal S16384x1024 .f32) (g : Vec Ideal S1024 .f32) (ct : Vec Ideal S16384x2816 .f32) :
    Fin 1024 → Fin 2816 → EReal := Wgrad.gw (norm x g) (at2 ct)

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v14 : V m c main_v14 = A m c main_arg2 := by unfold_abbrev_sides; after_results; rfl
theorem V_v13 (i : Fin 16384) (l : Fin 1024) : V m c main_v13 (ix2 i l) = norm (A m c main_arg0) (A m c main_arg1) i l := by
  unfold_abbrev_sides; after_results; pointwise; rfl

/-! ## What the windows read -/

/-- Column `f` of point `t`'s block, as a column of the whole array. -/
def col (t : Fin cfg0.N) (f : Fin 1408) : Fin 2816 :=
  ⟨t.val / 8 * 1408 + f.val, by have h := t.isLt; have hN : cfg0.N = 16 := N_0; have := f.isLt; omega⟩

/-- Where the windows have their blocks at point `t`. -/
theorem corners : ∀ t : Fin grid0.N,
    (win0_0.index t 0 * win0_0.size 0 = t.val % 8 * 2048 ∧ win0_0.index t 1 * win0_0.size 1 = 0)
    ∧ (win0_1.index t 0 * win0_1.size 0 = t.val % 8 * 2048 ∧ win0_1.index t 1 * win0_1.size 1 = t.val / 8 * 1408)
    ∧ (win0_2.index t 0 * win0_2.size 0 = 0 ∧ win0_2.index t 1 * win0_2.size 1 = t.val / 8 * 1408) := by decide +kernel

theorem iblk0 (s : Fin cfg0.N) (r : Fin 2048) (l : Fin 1024) :
    (iblk m c 0 s : Vec Ideal S2048x1024 .bf16) (ix2 r l) = norm (A m c main_arg0) (A m c main_arg1) (row s.val r) l :=
  entry_at_corner (V := V m c main_v13) (V_v13 m c) (r := r) (l := l) (corners s).1 rfl rfl rfl (Nat.zero_add _).symm

theorem iblk1 (s t : Fin cfg0.N) (h : s.val / 8 = t.val / 8) (r : Fin 2048) (f : Fin 1408) :
    (iblk m c 1 s : Vec Ideal S2048x1408 .bf16) (ix2 r f) = at2 (A m c main_arg2) (row s.val r) (col t f) :=
  entry_at_corner (V := V m c main_v14) (fun i k => congrFun (V_v14 m c) (ix2 i k)) (r := r) (l := f) (corners s).2.1 rfl rfl rfl
    (congrArg (· * 1408 + f.val) h.symm)

/-! ## What the grid points leave in the output block -/

/-- The output block at the last point of a run: the gradient there, summed over all rows. -/
theorem out_block (t : Fin cfg0.N) (h : t.val % 8 = 7) (l : Fin 1024) (f : Fin 1408) :
    (outsAt0 m c t.val t.isLt).1 (ix2 l f) = gw (A m c main_arg0) (A m c main_arg1) (A m c main_arg2) l (col t f) := by
  refine Wgrad.out_block (out := fun n h => (outsAt0 m c n h).1) (scr := fun n h => (outsAt0 m c n h).2)
    (a := fun t => iblk m c 0 t) (b := fun t => iblk m c 1 t) (fun t h l f => ?_) (fun t h l f => ?_) (fun t h l f => ?_)
    (X := fun _ => norm (A m c main_arg0) (A m c main_arg1)) (Y := fun t i f => at2 (A m c main_arg2) i (col t f))
    (fun s _ _ r l => iblk0 m c s r l) (fun s t h r f => iblk1 m c s t h r f) t h l f
  · show (outsAt0 m c t.val t.isLt).2 (ix2 l f) = _
    rw [outsAt0_A m c t h (by omega) (by omega)]
    frame_out
    exact pay1_apply (iblk m c 0 t) (iblk m c 1 t) l f
  · show (outsAt0 m c t.val t.isLt).2 (ix2 l f) = _
    by_cases h7 : t.val % 8 = 7
    on_goal 1 => rw [outsAt0_C m c t h (by omega) h7]
    on_goal 2 => rw [outsAt0_B m c t h (by omega) h7]
    all_goals
      frame_out
      simp only [read_unread_whole]
      exact pay2_apply (iblk m c 0 t) (iblk m c 1 t) _ l f
  · show (outsAt0 m c t.val t.isLt).1 (ix2 l f) = (outsAt0 m c t.val t.isLt).2 (ix2 l f)
    rw [outsAt0_C m c t (by omega) (by omega) h]
    frame_out
    exact pay3_apply _ l f

/-! ## The result array after the run -/

theorem final2 : (dats m 0 c).arrAt 2 cfg0.N = arr2 (gw (A m c main_arg0) (A m c main_arg1) (A m c main_arg2)) := by
  refine (dats m 0 c).arrAt_eq_of_covers 2 _ (by decide +kernel) fun t hf y => ?_
  idx_vars y
  exact (congrFun (after0_2 m c t) (ix2 y0 y1)).trans ((out_block m c t ((flush0_2 t).mp hf) y0 y1).trans
    (entry_at_corner (V := arr2 (gw (A m c main_arg0) (A m c main_arg1) (A m c main_arg2))) (fun _ _ => rfl) (r := y0) (l := y1)
      (corners t).2.2 rfl rfl (Nat.zero_add _).symm rfl).symm)

end Cert.Proof.DwGate
end
-- ==== Proof.DwGateReference.lean ====
/- The reference gradient of the feed-forward gate's weight is the function the kernel's array holds. -/
module

public import proofs.«01_k».proof.Proof.Gen.DwGateRefIdeal.Read
public import proofs.«01_k».proof.Proof.DwGateArray

@[expose] public section

set_option maxRecDepth 16384

noncomputable section

namespace Cert.Proof.DwGateRef

open Cert.DwGateRefIdeal Cert.DwGateRefIdeal.Gen Cert.DwGateRefIdeal.Read Idealize.ShloMosaic Idealize.ShloMosaic.TcCoe Idealize.SL.Sem
open Cert.Proof.DwGate (gw)
open Cert.Proof.Wgrad (norm)

variable (x0 : Vec Ideal S16384x1024 .f32) (x1 : Vec Ideal S1024 .f32) (x2 : Vec Ideal S16384x2816 .f32)

theorem v13_apply (i : Fin 16384) (l : Fin 1024) : val_main_v13 (F := Ideal) x0 x1 (ix2 i l) = norm x0 x1 i l := by
  unfold val_main_v13 val_main_v12 val_main_v11 val_main_v10 val_main_v9 val_main_v8 val_main_v7 val_main_v6 val_main_v5 val_main_v4 val_main_v3 val_main_v2 val_main_v1 val_main_cst_0 val_main_cst_1 val_main_cst_2
  pointwise
  rfl

theorem v15_apply (f : Fin 2816) (l : Fin 1024) : val_main_v15 (F := Ideal) x0 x1 x2 (ix2 f l) = gw x0 x1 x2 l f := by
  unfold val_main_v15
  pointwise [v13_apply]
  exact Wgrad.gw_comm (norm x0 x1) (at2 x2) l f

theorem v17_eq : val_main_v17 (F := Ideal) x0 x1 x2 = arr2 (gw x0 x1 x2) :=
  eq_arr2 fun l f => by unfold val_main_v17 val_main_v16; pointwise [v15_apply]

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its result is the function of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v17) = arr2 (gw (B m c main_arg0) (B m c main_arg1) (B m c main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.DwGateRefIdeal.Value.run (F := Ideal) m ρ)
  obtain ⟨h17, hargs⟩ := h c
  exact ⟨h17.trans ((val_main_v17_eq _ _ _).trans (v17_eq (B m c main_arg0) (B m c main_arg1) (B m c main_arg2))), hargs⟩

end Cert.Proof.DwGateRef
end
-- ==== Proof.DwGateClaim.lean ====
/- The kernel computes the reference's gradient of the feed-forward gate's weight: the equation of the two programs. -/
module

public import proofs.«01_k».proof.Defs
public import proofs.«01_k».proof.Proof.DwGateReference
public import Idealize.ShloMosaic.Lib.Quiescent

@[expose] public section

set_option maxRecDepth 16384

noncomputable section

namespace Cert.Proof.DwGateClaim

open Idealize.ShloMosaic Idealize.ShloMosaic.TcCoe Idealize.SL.Sem Cert.Proof.DwGate

/-- The reference leaves its arguments as they were, and every counter at zero. -/
theorem reference_frame : Cert.quiescent_DwGateRefIdeal (hDwGateRefIdeal := Cert.DwGateRefIdeal.Gen.facts) :=
  fun m ρ _ => (θ_run Cert.DwGateRefIdeal.defs _ _).mono
    (fun r h => ⟨fun c => (h c).2, Idealize.ShloMosaic.sem_eq_zero_of_no_sems (by decide) r.2⟩)
    (Cert.DwGateRefIdeal.Value.run (F := Ideal) m ρ)

set_option maxHeartbeats 1000000 in
/-- The result array of the kernel is that of the reference. -/
theorem algebraic : Cert.algebraic_DwGateCallIdeal_DwGateRefIdeal
    (hDwGateCallIdeal := Cert.DwGateCallIdeal.Gen.facts) (hDwGateRefIdeal := Cert.DwGateRefIdeal.Gen.facts) := by
  intro m g m' g' _ hagree
  refine ⟨fun c => (Cert.DwGateCallIdeal.Gen.dats m 0 c).arrAt 2 Cert.DwGateCallIdeal.cfg0.N,
    Cert.DwGateCallIdeal.Value.run_blocks (F := Ideal) m g, ?_⟩
  refine (θ_run Cert.DwGateRefIdeal.defs _ _).mono (fun r h c => ?_) (DwGateRef.run m' g')
  obtain ⟨h17, hargs⟩ := h c
  obtain ⟨a0, a1, a2⟩ := hagree c
  have e0 : DwGateRef.B m' c Cert.DwGateRefIdeal.main_arg0 = A m c Cert.DwGateCallIdeal.main_arg0 := a0
  have e1 : DwGateRef.B m' c Cert.DwGateRefIdeal.main_arg1 = A m c Cert.DwGateCallIdeal.main_arg1 := a1
  have e2 : DwGateRef.B m' c Cert.DwGateRefIdeal.main_arg2 = A m c Cert.DwGateCallIdeal.main_arg2 := a2
  refine ⟨?_, hargs⟩
  refine h17.trans (Eq.trans ?_ (final2 m c).symm)
  rw [e0, e1, e2]

end Cert.Proof.DwGateClaim
end
-- ==== Proof.HeadRun.lean ====
/- The reference of the call with the loss: its operations, their values one by one, and its run. -/
module

public import proofs.«01_k».proof.Proof.Gen.HeadRefIdeal
public import Idealize.ShloMosaic.Lib.StableHlo.Run
public import Idealize.ShloMosaic.PureOps.Ideal

@[expose] public section

noncomputable section

namespace Cert.Proof.HeadRef

open Cert.HeadRefIdeal Cert.HeadRefIdeal.Gen Idealize.ShloMosaic Idealize.ShloMosaic.TcCoe Idealize.SL.Sem Idealize.ShloMosaic.StableHlo

variable {F : FTy → Type} [FloatOps F]

/-- The operations of the reference, the first part. -/
abbrev ops0 : List (HloOp τ sig (Elt F)) :=
  [ binary main_arg1 main_arg3 main_v0 ((fun l r => Host.dotGeneral dot_S16384x2816_S2816x1024_S16384x1024_1_0_0_1_n_n none l r) : (⟨S16384x2816, .f32⟩ : BufTy).Contents (Elt F) → (⟨S2816x1024, .f32⟩ : BufTy).Contents (Elt F) → (⟨S16384x1024, .f32⟩ : BufTy).Contents (Elt F)),
    binary main_arg0 main_v0 main_v1 (addf : (⟨S16384x1024, .f32⟩ : BufTy).Contents (Elt F) → (⟨S16384x1024, .f32⟩ : BufTy).Contents (Elt F) → (⟨S16384x1024, .f32⟩ : BufTy).Contents (Elt F)),
    binary main_arg2 main_arg4 main_v2 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v1 main_arg5 main_v3 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    unary main_v3 main_v4 (Host.negf : (⟨S16384x1024, .f32⟩ : BufTy).Contents (Elt F) → (⟨S16384x1024, .f32⟩ : BufTy).Contents (Elt F)),
    unary main_v4 main_v5 (Host.exp : (⟨S16384x1024, .f32⟩ : BufTy).Contents (Elt F) → (⟨S16384x1024, .f32⟩ : BufTy).Contents (Elt F)),
    nullary main_cst (constant S_ .f32 0x3F800000#32),
    unary main_cst main_v6 (broadcastInDim S16384x1024 ![] bcast_S_S16384x1024 : (⟨S_, .f32⟩ : BufTy).Contents (Elt F) → (⟨S16384x1024, .f32⟩ : BufTy).Contents (Elt F)),
    binary main_v6 main_v5 main_v7 (addf : (⟨S16384x1024, .f32⟩ : BufTy).Contents (Elt F) → (⟨S16384x1024, .f32⟩ : BufTy).Contents (Elt F) → (⟨S16384x1024, .f32⟩ : BufTy).Contents (Elt F)),
    nullary main_cst_0 (constant S_ .f32 0x3F800000#32),
    unary main_cst_0 main_v8 (broadcastInDim S16384x1024 ![] bcast_S_S16384x1024 : (⟨S_, .f32⟩ : BufTy).Contents (Elt F) → (⟨S16384x1024, .f32⟩ : BufTy).Contents (Elt F)),
    binary main_v8 main_v7 main_v9 (Host.divf : (⟨S16384x1024, .f32⟩ : BufTy).Contents (Elt F) → (⟨S16384x1024, .f32⟩ : BufTy).Contents (Elt F) → (⟨S16384x1024, .f32⟩ : BufTy).Contents (Elt F)),
    nullary main_cst_1 (constant S_ .f32 0x3F800000#32),
    unary main_cst_1 main_v10 (broadcastInDim S16384x1024 ![] bcast_S_S16384x1024 : (⟨S_, .f32⟩ : BufTy).Contents (Elt F) → (⟨S16384x1024, .f32⟩ : BufTy).Contents (Elt F)),
    binary main_v10 main_v9 main_v11 (subf : (⟨S16384x1024, .f32⟩ : BufTy).Contents (Elt F) → (⟨S16384x1024, .f32⟩ : BufTy).Contents (Elt F) → (⟨S16384x1024, .f32⟩ : BufTy).Contents (Elt F)),
    binary main_v9 main_v11 main_v12 (mulf : (⟨S16384x1024, .f32⟩ : BufTy).Contents (Elt F) → (⟨S16384x1024, .f32⟩ : BufTy).Contents (Elt F) → (⟨S16384x1024, .f32⟩ : BufTy).Contents (Elt F)),
    binary main_v9 main_v2 main_v13 (mulf : (⟨S16384x1024, .f32⟩ : BufTy).Contents (Elt F) → (⟨S16384x1024, .f32⟩ : BufTy).Contents (Elt F) → (⟨S16384x1024, .f32⟩ : BufTy).Contents (Elt F)),
    binary main_v1 main_v13 main_v14 (addf : (⟨S16384x1024, .f32⟩ : BufTy).Contents (Elt F) → (⟨S16384x1024, .f32⟩ : BufTy).Contents (Elt F) → (⟨S16384x1024, .f32⟩ : BufTy).Contents (Elt F)) ]

/-- The operations of the reference, the second part. -/
abbrev ops1 : List (HloOp τ sig (Elt F)) :=
  [ binary main_v14 main_v14 main_v15 (mulf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x00000000#32),
    binary main_v15 main_cst_2 main_v16 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v16 main_v17 (broadcastInDim S16384x1 ![0] bcast_S16384_S16384x1_0 : (⟨S16384, .f32⟩ : BufTy).Contents (Elt F) → (⟨S16384x1, .f32⟩ : BufTy).Contents (Elt F)),
    nullary main_cst_3 (constant S_ .f32 0x44800000#32),
    unary main_cst_3 main_v18 (broadcastInDim S16384x1 ![] bcast_S_S16384x1 : (⟨S_, .f32⟩ : BufTy).Contents (Elt F) → (⟨S16384x1, .f32⟩ : BufTy).Contents (Elt F)),
    binary main_v17 main_v18 main_v19 (Host.divf : (⟨S16384x1, .f32⟩ : BufTy).Contents (Elt F) → (⟨S16384x1, .f32⟩ : BufTy).Contents (Elt F) → (⟨S16384x1, .f32⟩ : BufTy).Contents (Elt F)),
    nullary main_cst_4 (constant S_ .f32 0x358637BD#32),
    unary main_cst_4 main_v20 (broadcastInDim S16384x1 ![] bcast_S_S16384x1 : (⟨S_, .f32⟩ : BufTy).Contents (Elt F) → (⟨S16384x1, .f32⟩ : BufTy).Contents (Elt F)),
    binary main_v19 main_v20 main_v21 (addf : (⟨S16384x1, .f32⟩ : BufTy).Contents (Elt F) → (⟨S16384x1, .f32⟩ : BufTy).Contents (Elt F) → (⟨S16384x1, .f32⟩ : BufTy).Contents (Elt F)),
    unary main_v21 main_v22 (Host.rsqrt : (⟨S16384x1, .f32⟩ : BufTy).Contents (Elt F) → (⟨S16384x1, .f32⟩ : BufTy).Contents (Elt F)),
    binary main_v22 main_v21 main_v23 (Host.divf : (⟨S16384x1, .f32⟩ : BufTy).Contents (Elt F) → (⟨S16384x1, .f32⟩ : BufTy).Contents (Elt F) → (⟨S16384x1, .f32⟩ : BufTy).Contents (Elt F)),
    nullary main_cst_5 (constant S_ .f32 0xBF000000#32),
    unary main_cst_5 main_v24 (broadcastInDim S16384x1 ![] bcast_S_S16384x1 : (⟨S_, .f32⟩ : BufTy).Contents (Elt F) → (⟨S16384x1, .f32⟩ : BufTy).Contents (Elt F)),
    binary main_v24 main_v23 main_v25 (mulf : (⟨S16384x1, .f32⟩ : BufTy).Contents (Elt F) → (⟨S16384x1, .f32⟩ : BufTy).Contents (Elt F) → (⟨S16384x1, .f32⟩ : BufTy).Contents (Elt F)),
    unary main_v22 main_v26 (broadcastInDim S16384x1024 ![0, 1] bcast_S16384x1_S16384x1024_0_1 : (⟨S16384x1, .f32⟩ : BufTy).Contents (Elt F) → (⟨S16384x1024, .f32⟩ : BufTy).Contents (Elt F)),
    binary main_v14 main_v26 main_v27 (mulf : (⟨S16384x1024, .f32⟩ : BufTy).Contents (Elt F) → (⟨S16384x1024, .f32⟩ : BufTy).Contents (Elt F) → (⟨S16384x1024, .f32⟩ : BufTy).Contents (Elt F)) ]

/-- The operations of the reference, the third part. -/
abbrev ops2 : List (HloOp τ sig (Elt F)) :=
  [ unary main_arg6 main_v28 (broadcastInDim S1x1024 ![1] bcast_S1024_S1x1024_1 : (⟨S1024, .f32⟩ : BufTy).Contents (Elt F) → (⟨S1x1024, .f32⟩ : BufTy).Contents (Elt F)),
    unary main_v28 main_v29 (broadcastInDim S16384x1024 ![0, 1] bcast_S1x1024_S16384x1024_0_1 : (⟨S1x1024, .f32⟩ : BufTy).Contents (Elt F) → (⟨S16384x1024, .f32⟩ : BufTy).Contents (Elt F)),
    binary main_v27 main_v29 main_v30 (mulf : (⟨S16384x1024, .f32⟩ : BufTy).Contents (Elt F) → (⟨S16384x1024, .f32⟩ : BufTy).Contents (Elt F) → (⟨S16384x1024, .f32⟩ : BufTy).Contents (Elt F)),
    binary main_v30 main_arg7 main_v31 (subf : (⟨S16384x1024, .f32⟩ : BufTy).Contents (Elt F) → (⟨S16384x1024, .f32⟩ : BufTy).Contents (Elt F) → (⟨S16384x1024, .f32⟩ : BufTy).Contents (Elt F)),
    binary main_v31 main_v31 main_v32 (mulf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x40000000#32),
    unary main_cst_6 main_v33 (broadcastInDim S16384x1024 ![] bcast_S_S16384x1024 : (⟨S_, .f32⟩ : BufTy).Contents (Elt F) → (⟨S16384x1024, .f32⟩ : BufTy).Contents (Elt F)),
    binary main_v33 main_v31 main_v34 (mulf : (⟨S16384x1024, .f32⟩ : BufTy).Contents (Elt F) → (⟨S16384x1024, .f32⟩ : BufTy).Contents (Elt F) → (⟨S16384x1024, .f32⟩ : BufTy).Contents (Elt F)),
    nullary main_cst_7 (constant S_ .f32 0x00000000#32),
    binary main_v32 main_cst_7 main_v35 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_8 (constant S_ .f32 0x44800000#32),
    unary main_cst_8 main_v36 (broadcastInDim S16384 ![] bcast_S_S16384 : (⟨S_, .f32⟩ : BufTy).Contents (Elt F) → (⟨S16384, .f32⟩ : BufTy).Contents (Elt F)),
    binary main_v35 main_v36 main_v37 (Host.divf : (⟨S16384, .f32⟩ : BufTy).Contents (Elt F) → (⟨S16384, .f32⟩ : BufTy).Contents (Elt F) → (⟨S16384, .f32⟩ : BufTy).Contents (Elt F)),
    nullary main_cst_9 (constant S_ .f32 0x00000000#32),
    binary main_v37 main_cst_9 main_v38 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v38 main_v39 (mulf : (⟨S_, .f32⟩ : BufTy).Contents (Elt F) → (⟨S_, .f32⟩ : BufTy).Contents (Elt F) → (⟨S_, .f32⟩ : BufTy).Contents (Elt F)),
    nullary main_cst_11 (constant S_ .f32 0x3F000000#32),
    nullary main_cst_12 (constant S_ .f32 0x3F800000#32),
    binary main_cst_11 main_cst_12 main_v40 (mulf : (⟨S_, .f32⟩ : BufTy).Contents (Elt F) → (⟨S_, .f32⟩ : BufTy).Contents (Elt F) → (⟨S_, .f32⟩ : BufTy).Contents (Elt F)),
    unary main_v40 main_v41 (broadcastInDim S16384 ![] bcast_S_S16384 : (⟨S_, .f32⟩ : BufTy).Contents (Elt F) → (⟨S16384, .f32⟩ : BufTy).Contents (Elt F)),
    nullary main_cst_13 (constant S_ .f32 0x44800000#32),
    unary main_cst_13 main_v42 (broadcastInDim S16384 ![] bcast_S_S16384 : (⟨S_, .f32⟩ : BufTy).Contents (Elt F) → (⟨S16384, .f32⟩ : BufTy).Contents (Elt F)),
    binary main_v41 main_v42 main_v43 (Host.divf : (⟨S16384, .f32⟩ : BufTy).Contents (Elt F) → (⟨S16384, .f32⟩ : BufTy).Contents (Elt F) → (⟨S16384, .f32⟩ : BufTy).Contents (Elt F)),
    unary main_v43 main_v44 (broadcastInDim S16384x1024 ![0] bcast_S16384_S16384x1024_0 : (⟨S16384, .f32⟩ : BufTy).Contents (Elt F) → (⟨S16384x1024, .f32⟩ : BufTy).Contents (Elt F)),
    binary main_v44 main_v34 main_v45 (mulf : (⟨S16384x1024, .f32⟩ : BufTy).Contents (Elt F) → (⟨S16384x1024, .f32⟩ : BufTy).Contents (Elt F) → (⟨S16384x1024, .f32⟩ : BufTy).Contents (Elt F)) ]

/-- The operations of the reference, the fourth part. -/
abbrev ops3 : List (HloOp τ sig (Elt F)) :=
  [ binary main_v27 main_v45 main_v46 (mulf : (⟨S16384x1024, .f32⟩ : BufTy).Contents (Elt F) → (⟨S16384x1024, .f32⟩ : BufTy).Contents (Elt F) → (⟨S16384x1024, .f32⟩ : BufTy).Contents (Elt F)),
    nullary main_cst_14 (constant S_ .f32 0x00000000#32),
    binary main_v46 main_cst_14 main_v47 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    reshape main_v47 main_v48 (rfl : (.f32 : EltTy) = .f32) shapeCasts_S1024_S1x1024,
    unary main_v28 main_v49 (broadcastInDim S16384x1024 ![0, 1] bcast_S1x1024_S16384x1024_0_1 : (⟨S1x1024, .f32⟩ : BufTy).Contents (Elt F) → (⟨S16384x1024, .f32⟩ : BufTy).Contents (Elt F)),
    binary main_v45 main_v49 main_v50 (mulf : (⟨S16384x1024, .f32⟩ : BufTy).Contents (Elt F) → (⟨S16384x1024, .f32⟩ : BufTy).Contents (Elt F) → (⟨S16384x1024, .f32⟩ : BufTy).Contents (Elt F)),
    nullary main_cst_15 (constant S_ .f32 0x00000000#32),
    binary main_v48 main_cst_15 main_v51 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)) ]

/-- The operations of the reference, the fifth part. -/
abbrev ops4 : List (HloOp τ sig (Elt F)) :=
  [ binary main_v14 main_v50 main_v52 (mulf : (⟨S16384x1024, .f32⟩ : BufTy).Contents (Elt F) → (⟨S16384x1024, .f32⟩ : BufTy).Contents (Elt F) → (⟨S16384x1024, .f32⟩ : BufTy).Contents (Elt F)),
    nullary main_cst_16 (constant S_ .f32 0x00000000#32),
    binary main_v52 main_cst_16 main_v53 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    reshape main_v53 main_v54 (rfl : (.f32 : EltTy) = .f32) shapeCasts_S16384_S16384x1,
    unary main_v22 main_v55 (broadcastInDim S16384x1024 ![0, 1] bcast_S16384x1_S16384x1024_0_1 : (⟨S16384x1, .f32⟩ : BufTy).Contents (Elt F) → (⟨S16384x1024, .f32⟩ : BufTy).Contents (Elt F)),
    binary main_v50 main_v55 main_v56 (mulf : (⟨S16384x1024, .f32⟩ : BufTy).Contents (Elt F) → (⟨S16384x1024, .f32⟩ : BufTy).Contents (Elt F) → (⟨S16384x1024, .f32⟩ : BufTy).Contents (Elt F)),
    binary main_v54 main_v25 main_v57 (mulf : (⟨S16384x1, .f32⟩ : BufTy).Contents (Elt F) → (⟨S16384x1, .f32⟩ : BufTy).Contents (Elt F) → (⟨S16384x1, .f32⟩ : BufTy).Contents (Elt F)),
    nullary main_cst_17 (constant S_ .f32 0x44800000#32),
    unary main_cst_17 main_v58 (broadcastInDim S16384x1 ![] bcast_S_S16384x1 : (⟨S_, .f32⟩ : BufTy).Contents (Elt F) → (⟨S16384x1, .f32⟩ : BufTy).Contents (Elt F)),
    binary main_v57 main_v58 main_v59 (Host.divf : (⟨S16384x1, .f32⟩ : BufTy).Contents (Elt F) → (⟨S16384x1, .f32⟩ : BufTy).Contents (Elt F) → (⟨S16384x1, .f32⟩ : BufTy).Contents (Elt F)),
    nullary main_cst_18 (constant S_ .f32 0x00000000#32),
    binary main_v59 main_cst_18 main_v60 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v60 main_v61 (broadcastInDim S16384x1024 ![0] bcast_S16384_S16384x1024_0 : (⟨S16384, .f32⟩ : BufTy).Contents (Elt F) → (⟨S16384x1024, .f32⟩ : BufTy).Contents (Elt F)),
    binary main_v14 main_v61 main_v62 (mulf : (⟨S16384x1024, .f32⟩ : BufTy).Contents (Elt F) → (⟨S16384x1024, .f32⟩ : BufTy).Contents (Elt F) → (⟨S16384x1024, .f32⟩ : BufTy).Contents (Elt F)),
    binary main_v56 main_v62 main_v63 (addf : (⟨S16384x1024, .f32⟩ : BufTy).Contents (Elt F) → (⟨S16384x1024, .f32⟩ : BufTy).Contents (Elt F) → (⟨S16384x1024, .f32⟩ : BufTy).Contents (Elt F)),
    binary main_v61 main_v14 main_v64 (mulf : (⟨S16384x1024, .f32⟩ : BufTy).Contents (Elt F) → (⟨S16384x1024, .f32⟩ : BufTy).Contents (Elt F) → (⟨S16384x1024, .f32⟩ : BufTy).Contents (Elt F)),
    binary main_v63 main_v64 main_v65 (addf : (⟨S16384x1024, .f32⟩ : BufTy).Contents (Elt F) → (⟨S16384x1024, .f32⟩ : BufTy).Contents (Elt F) → (⟨S16384x1024, .f32⟩ : BufTy).Contents (Elt F)) ]

/-- The operations of the reference, the sixth part. -/
abbrev ops5 : List (HloOp τ sig (Elt F)) :=
  [ binary main_v9 main_v65 main_v66 (mulf : (⟨S16384x1024, .f32⟩ : BufTy).Contents (Elt F) → (⟨S16384x1024, .f32⟩ : BufTy).Contents (Elt F) → (⟨S16384x1024, .f32⟩ : BufTy).Contents (Elt F)),
    binary main_v65 main_v2 main_v67 (mulf : (⟨S16384x1024, .f32⟩ : BufTy).Contents (Elt F) → (⟨S16384x1024, .f32⟩ : BufTy).Contents (Elt F) → (⟨S16384x1024, .f32⟩ : BufTy).Contents (Elt F)),
    binary main_v67 main_v12 main_v68 (mulf : (⟨S16384x1024, .f32⟩ : BufTy).Contents (Elt F) → (⟨S16384x1024, .f32⟩ : BufTy).Contents (Elt F) → (⟨S16384x1024, .f32⟩ : BufTy).Contents (Elt F)),
    binary main_v1 main_arg5 main_v69 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    binary main_v68 main_arg5 main_v70 ((fun l r => Host.dotGeneral dot_S16384x1024_S1024x1024_S16384x1024_1_1_0_0_n_n none l r) : (⟨S16384x1024, .f32⟩ : BufTy).Contents (Elt F) → (⟨S1024x1024, .f32⟩ : BufTy).Contents (Elt F) → (⟨S16384x1024, .f32⟩ : BufTy).Contents (Elt F)),
    binary main_v65 main_v70 main_v71 (addf : (⟨S16384x1024, .f32⟩ : BufTy).Contents (Elt F) → (⟨S16384x1024, .f32⟩ : BufTy).Contents (Elt F) → (⟨S16384x1024, .f32⟩ : BufTy).Contents (Elt F)),
    reshape main_v39 main_v72 (rfl : (.f32 : EltTy) = .f32) shapeCasts_S_S1x1,
    reshape main_v51 main_v73 (rfl : (.f32 : EltTy) = .f32) shapeCasts_S1024_S1x1024,
    unary main_v71 main_v74 ((truncf .bf16 · bitsLt_bf16_f32) : (⟨S16384x1024, .f32⟩ : BufTy).Contents (Elt F) → (⟨S16384x1024, .bf16⟩ : BufTy).Contents (Elt F)),
    unary main_v66 main_v75 ((truncf .bf16 · bitsLt_bf16_f32) : (⟨S16384x1024, .f32⟩ : BufTy).Contents (Elt F) → (⟨S16384x1024, .bf16⟩ : BufTy).Contents (Elt F)),
    unary main_v68 main_v76 ((truncf .bf16 · bitsLt_bf16_f32) : (⟨S16384x1024, .f32⟩ : BufTy).Contents (Elt F) → (⟨S16384x1024, .bf16⟩ : BufTy).Contents (Elt F)),
    unary main_v1 main_v77 ((truncf .bf16 · bitsLt_bf16_f32) : (⟨S16384x1024, .f32⟩ : BufTy).Contents (Elt F) → (⟨S16384x1024, .bf16⟩ : BufTy).Contents (Elt F)) ]

/-- The operations of the reference, in order. -/
abbrev ops : List (HloOp τ sig (Elt F)) := ops0 ++ (ops1 ++ (ops2 ++ (ops3 ++ (ops4 ++ ops5))))

set_option maxRecDepth 8192 in
set_option maxHeartbeats 4000000 in
/-- The reference runs them. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- An operation that reads and writes whole arrays of the reference, and nothing that was not there. -/
def Plain (op : HloOp τ sig (Elt F)) : Prop := op.bufs ⊆ tcRefs τ sig ∧ op.fresh = ∅

set_option maxHeartbeats 2000000 in
/-- All of them are plain. -/
theorem plain : ∀ op ∈ (ops : List (HloOp τ sig (Elt F))), Plain op := by
  refine List.forall_iff_forall_mem.mp ?_
  simp only [ops, ops0, ops1, ops2, ops3, ops4, ops5, List.cons_append, List.nil_append, List.Forall, Plain]
  and_intros
  all_goals first
    | with_reducible exact binary_bufs_sub ..
    | with_reducible exact unary_bufs_sub ..
    | with_reducible exact nullary_bufs_sub ..
    | with_reducible exact reshape_bufs_sub ..
    | rfl

/-- What a line leaves, its first part before its second. -/
theorem after_append (l l' : List (HloOp τ sig (Elt F))) (V : Valuation τ sig (Elt F)) : after (l ++ l') V = after l' (after l V) := by
  induction l generalizing V with
  | nil => rfl
  | cons op l ih => exact ih _

/-! ## The values -/

variable (m : (ℓ : Loc nD τ sig) → Buf (Elt Ideal) ℓ) (c : Dev nD)

def v0 : FVec Ideal S16384x1024 .f32 := Host.dotGeneral (φ₁ := .f32) (φ₂ := .f32) dot_S16384x2816_S2816x1024_S16384x1024_1_0_0_1_n_n none (m ((c.tc : Thread nD τ).loc main_arg1) : FVec Ideal S16384x2816 .f32) (m ((c.tc : Thread nD τ).loc main_arg3) : FVec Ideal S2816x1024 .f32)
def v1 : FVec Ideal S16384x1024 .f32 := addf (m ((c.tc : Thread nD τ).loc main_arg0) : FVec Ideal S16384x1024 .f32) (v0 m c)
def v2 : FVec Ideal S16384x1024 .f32 := Host.dotGeneral (φ₁ := .f32) (φ₂ := .f32) dot_S16384x256_S256x1024_S16384x1024_1_0_0_1_n_n none (m ((c.tc : Thread nD τ).loc main_arg2) : FVec Ideal S16384x256 .f32) (m ((c.tc : Thread nD τ).loc main_arg4) : FVec Ideal S256x1024 .f32)
def v3 : FVec Ideal S16384x1024 .f32 := Host.dotGeneral (φ₁ := .f32) (φ₂ := .f32) dot_S16384x1024_S1024x1024_S16384x1024_1_0_0_1_n_n none (v1 m c) (m ((c.tc : Thread nD τ).loc main_arg5) : FVec Ideal S1024x1024 .f32)
def v4 : FVec Ideal S16384x1024 .f32 := Host.negf (v3 m c)
def v5 : FVec Ideal S16384x1024 .f32 := Host.exp (v4 m c)
def cst : FVec Ideal S_ .f32 := constant (F := Ideal) S_ .f32 0x3F800000#32
def v6 : FVec Ideal S16384x1024 .f32 := broadcastInDim S16384x1024 ![] bcast_S_S16384x1024 cst
def v7 : FVec Ideal S16384x1024 .f32 := addf v6 (v5 m c)
def cst_0 : FVec Ideal S_ .f32 := constant (F := Ideal) S_ .f32 0x3F800000#32
def v8 : FVec Ideal S16384x1024 .f32 := broadcastInDim S16384x1024 ![] bcast_S_S16384x1024 cst_0
def v9 : FVec Ideal S16384x1024 .f32 := Host.divf v8 (v7 m c)
def cst_1 : FVec Ideal S_ .f32 := constant (F := Ideal) S_ .f32 0x3F800000#32
def v10 : FVec Ideal S16384x1024 .f32 := broadcastInDim S16384x1024 ![] bcast_S_S16384x1024 cst_1
def v11 : FVec Ideal S16384x1024 .f32 := subf v10 (v9 m c)
def v12 : FVec Ideal S16384x1024 .f32 := mulf (v9 m c) (v11 m c)
def v13 : FVec Ideal S16384x1024 .f32 := mulf (v9 m c) (v2 m c)
def v14 : FVec Ideal S16384x1024 .f32 := addf (v1 m c) (v13 m c)
def v15 : FVec Ideal S16384x1024 .f32 := mulf (v14 m c) (v14 m c)
def cst_2 : FVec Ideal S_ .f32 := constant (F := Ideal) S_ .f32 0x00000000#32
def v16 : FVec Ideal S16384 .f32 := Host.reduceAdd (v15 m c) cst_2 reducesTo_S16384x1024_S16384_d1 h_S_
def v17 : FVec Ideal S16384x1 .f32 := broadcastInDim S16384x1 ![0] bcast_S16384_S16384x1_0 (v16 m c)
def cst_3 : FVec Ideal S_ .f32 := constant (F := Ideal) S_ .f32 0x44800000#32
def v18 : FVec Ideal S16384x1 .f32 := broadcastInDim S16384x1 ![] bcast_S_S16384x1 cst_3
def v19 : FVec Ideal S16384x1 .f32 := Host.divf (v17 m c) v18
def cst_4 : FVec Ideal S_ .f32 := constant (F := Ideal) S_ .f32 0x358637BD#32
def v20 : FVec Ideal S16384x1 .f32 := broadcastInDim S16384x1 ![] bcast_S_S16384x1 cst_4
def v21 : FVec Ideal S16384x1 .f32 := addf (v19 m c) v20
def v22 : FVec Ideal S16384x1 .f32 := Host.rsqrt (v21 m c)
def v23 : FVec Ideal S16384x1 .f32 := Host.divf (v22 m c) (v21 m c)
def cst_5 : FVec Ideal S_ .f32 := constant (F := Ideal) S_ .f32 0xBF000000#32
def v24 : FVec Ideal S16384x1 .f32 := broadcastInDim S16384x1 ![] bcast_S_S16384x1 cst_5
def v25 : FVec Ideal S16384x1 .f32 := mulf v24 (v23 m c)
def v26 : FVec Ideal S16384x1024 .f32 := broadcastInDim S16384x1024 ![0, 1] bcast_S16384x1_S16384x1024_0_1 (v22 m c)
def v27 : FVec Ideal S16384x1024 .f32 := mulf (v14 m c) (v26 m c)
def v28 : FVec Ideal S1x1024 .f32 := broadcastInDim S1x1024 ![1] bcast_S1024_S1x1024_1 (m ((c.tc : Thread nD τ).loc main_arg6) : FVec Ideal S1024 .f32)
def v29 : FVec Ideal S16384x1024 .f32 := broadcastInDim S16384x1024 ![0, 1] bcast_S1x1024_S16384x1024_0_1 (v28 m c)
def v30 : FVec Ideal S16384x1024 .f32 := mulf (v27 m c) (v29 m c)
def v31 : FVec Ideal S16384x1024 .f32 := subf (v30 m c) (m ((c.tc : Thread nD τ).loc main_arg7) : FVec Ideal S16384x1024 .f32)
def v32 : FVec Ideal S16384x1024 .f32 := mulf (v31 m c) (v31 m c)
def cst_6 : FVec Ideal S_ .f32 := constant (F := Ideal) S_ .f32 0x40000000#32
def v33 : FVec Ideal S16384x1024 .f32 := broadcastInDim S16384x1024 ![] bcast_S_S16384x1024 cst_6
def v34 : FVec Ideal S16384x1024 .f32 := mulf v33 (v31 m c)
def cst_7 : FVec Ideal S_ .f32 := constant (F := Ideal) S_ .f32 0x00000000#32
def v35 : FVec Ideal S16384 .f32 := Host.reduceAdd (v32 m c) cst_7 reducesTo_S16384x1024_S16384_d1 h_S_
def cst_8 : FVec Ideal S_ .f32 := constant (F := Ideal) S_ .f32 0x44800000#32
def v36 : FVec Ideal S16384 .f32 := broadcastInDim S16384 ![] bcast_S_S16384 cst_8
def v37 : FVec Ideal S16384 .f32 := Host.divf (v35 m c) v36
def cst_9 : FVec Ideal S_ .f32 := constant (F := Ideal) S_ .f32 0x00000000#32
def v38 : FVec Ideal S_ .f32 := Host.reduceAdd (v37 m c) cst_9 reducesTo_S16384_S_d0 h_S_
def cst_10 : FVec Ideal S_ .f32 := constant (F := Ideal) S_ .f32 0x3F000000#32
def v39 : FVec Ideal S_ .f32 := mulf cst_10 (v38 m c)
def cst_11 : FVec Ideal S_ .f32 := constant (F := Ideal) S_ .f32 0x3F000000#32
def cst_12 : FVec Ideal S_ .f32 := constant (F := Ideal) S_ .f32 0x3F800000#32
def v40 : FVec Ideal S_ .f32 := mulf cst_11 cst_12
def v41 : FVec Ideal S16384 .f32 := broadcastInDim S16384 ![] bcast_S_S16384 v40
def cst_13 : FVec Ideal S_ .f32 := constant (F := Ideal) S_ .f32 0x44800000#32
def v42 : FVec Ideal S16384 .f32 := broadcastInDim S16384 ![] bcast_S_S16384 cst_13
def v43 : FVec Ideal S16384 .f32 := Host.divf v41 v42
def v44 : FVec Ideal S16384x1024 .f32 := broadcastInDim S16384x1024 ![0] bcast_S16384_S16384x1024_0 v43
def v45 : FVec Ideal S16384x1024 .f32 := mulf v44 (v34 m c)
def v46 : FVec Ideal S16384x1024 .f32 := mulf (v27 m c) (v45 m c)
def cst_14 : FVec Ideal S_ .f32 := constant (F := Ideal) S_ .f32 0x00000000#32
def v47 : FVec Ideal S1024 .f32 := Host.reduceAdd (v46 m c) cst_14 reducesTo_S16384x1024_S1024_d0 h_S_
def v48 : FVec Ideal S1x1024 .f32 := shapeCast _ (v47 m c) shapeCasts_S1024_S1x1024
def v49 : FVec Ideal S16384x1024 .f32 := broadcastInDim S16384x1024 ![0, 1] bcast_S1x1024_S16384x1024_0_1 (v28 m c)
def v50 : FVec Ideal S16384x1024 .f32 := mulf (v45 m c) (v49 m c)
def cst_15 : FVec Ideal S_ .f32 := constant (F := Ideal) S_ .f32 0x00000000#32
def v51 : FVec Ideal S1024 .f32 := Host.reduceAdd (v48 m c) cst_15 reducesTo_S1x1024_S1024_d0 h_S_
def v52 : FVec Ideal S16384x1024 .f32 := mulf (v14 m c) (v50 m c)
def cst_16 : FVec Ideal S_ .f32 := constant (F := Ideal) S_ .f32 0x00000000#32
def v53 : FVec Ideal S16384 .f32 := Host.reduceAdd (v52 m c) cst_16 reducesTo_S16384x1024_S16384_d1 h_S_
def v54 : FVec Ideal S16384x1 .f32 := shapeCast _ (v53 m c) shapeCasts_S16384_S16384x1
def v55 : FVec Ideal S16384x1024 .f32 := broadcastInDim S16384x1024 ![0, 1] bcast_S16384x1_S16384x1024_0_1 (v22 m c)
def v56 : FVec Ideal S16384x1024 .f32 := mulf (v50 m c) (v55 m c)
def v57 : FVec Ideal S16384x1 .f32 := mulf (v54 m c) (v25 m c)
def cst_17 : FVec Ideal S_ .f32 := constant (F := Ideal) S_ .f32 0x44800000#32
def v58 : FVec Ideal S16384x1 .f32 := broadcastInDim S16384x1 ![] bcast_S_S16384x1 cst_17
def v59 : FVec Ideal S16384x1 .f32 := Host.divf (v57 m c) v58
def cst_18 : FVec Ideal S_ .f32 := constant (F := Ideal) S_ .f32 0x00000000#32
def v60 : FVec Ideal S16384 .f32 := Host.reduceAdd (v59 m c) cst_18 reducesTo_S16384x1_S16384_d1 h_S_
def v61 : FVec Ideal S16384x1024 .f32 := broadcastInDim S16384x1024 ![0] bcast_S16384_S16384x1024_0 (v60 m c)
def v62 : FVec Ideal S16384x1024 .f32 := mulf (v14 m c) (v61 m c)
def v63 : FVec Ideal S16384x1024 .f32 := addf (v56 m c) (v62 m c)
def v64 : FVec Ideal S16384x1024 .f32 := mulf (v61 m c) (v14 m c)
def v65 : FVec Ideal S16384x1024 .f32 := addf (v63 m c) (v64 m c)
def v66 : FVec Ideal S16384x1024 .f32 := mulf (v9 m c) (v65 m c)
def v67 : FVec Ideal S16384x1024 .f32 := mulf (v65 m c) (v2 m c)
def v68 : FVec Ideal S16384x1024 .f32 := mulf (v67 m c) (v12 m c)
def v69 : FVec Ideal S16384x1024 .f32 := Host.dotGeneral (φ₁ := .f32) (φ₂ := .f32) dot_S16384x1024_S1024x1024_S16384x1024_1_0_0_1_n_n none (v1 m c) (m ((c.tc : Thread nD τ).loc main_arg5) : FVec Ideal S1024x1024 .f32)
def v70 : FVec Ideal S16384x1024 .f32 := Host.dotGeneral (φ₁ := .f32) (φ₂ := .f32) dot_S16384x1024_S1024x1024_S16384x1024_1_1_0_0_n_n none (v68 m c) (m ((c.tc : Thread nD τ).loc main_arg5) : FVec Ideal S1024x1024 .f32)
def v71 : FVec Ideal S16384x1024 .f32 := addf (v65 m c) (v70 m c)
def v72 : FVec Ideal S1x1 .f32 := shapeCast _ (v39 m c) shapeCasts_S_S1x1
def v73 : FVec Ideal S1x1024 .f32 := shapeCast _ (v51 m c) shapeCasts_S1024_S1x1024
def v74 : FVec Ideal S16384x1024 .bf16 := truncf .bf16 (v71 m c) bitsLt_bf16_f32
def v75 : FVec Ideal S16384x1024 .bf16 := truncf .bf16 (v66 m c) bitsLt_bf16_f32
def v76 : FVec Ideal S16384x1024 .bf16 := truncf .bf16 (v68 m c) bitsLt_bf16_f32
def v77 : FVec Ideal S16384x1024 .bf16 := truncf .bf16 (v1 m c) bitsLt_bf16_f32

/-! ## The arrays after each part -/

variable (V : Valuation τ sig (Elt Ideal))

/-- The arguments are those of the launch. -/
def Kept : Prop :=
  V (Proc.devRef .tc main_arg0) = m ((c.tc : Thread nD τ).loc main_arg0)
  ∧ V (Proc.devRef .tc main_arg1) = m ((c.tc : Thread nD τ).loc main_arg1)
  ∧ V (Proc.devRef .tc main_arg2) = m ((c.tc : Thread nD τ).loc main_arg2)
  ∧ V (Proc.devRef .tc main_arg3) = m ((c.tc : Thread nD τ).loc main_arg3)
  ∧ V (Proc.devRef .tc main_arg4) = m ((c.tc : Thread nD τ).loc main_arg4)
  ∧ V (Proc.devRef .tc main_arg5) = m ((c.tc : Thread nD τ).loc main_arg5)
  ∧ V (Proc.devRef .tc main_arg6) = m ((c.tc : Thread nD τ).loc main_arg6)
  ∧ V (Proc.devRef .tc main_arg7) = m ((c.tc : Thread nD τ).loc main_arg7)

/-- The arrays that are read after the first part. -/
def After0 : Prop :=
  Kept m c V
  ∧ V (Proc.devRef .tc main_v1) = v1 m c
  ∧ V (Proc.devRef .tc main_v2) = v2 m c
  ∧ V (Proc.devRef .tc main_v9) = v9 m c
  ∧ V (Proc.devRef .tc main_v12) = v12 m c
  ∧ V (Proc.devRef .tc main_v14) = v14 m c

/-- The arrays that are read after the second part. -/
def After1 : Prop :=
  Kept m c V
  ∧ V (Proc.devRef .tc main_v1) = v1 m c
  ∧ V (Proc.devRef .tc main_v2) = v2 m c
  ∧ V (Proc.devRef .tc main_v9) = v9 m c
  ∧ V (Proc.devRef .tc main_v12) = v12 m c
  ∧ V (Proc.devRef .tc main_v14) = v14 m c
  ∧ V (Proc.devRef .tc main_v22) = v22 m c
  ∧ V (Proc.devRef .tc main_v25) = v25 m c
  ∧ V (Proc.devRef .tc main_v27) = v27 m c

/-- The arrays that are read after the third part. -/
def After2 : Prop :=
  Kept m c V
  ∧ V (Proc.devRef .tc main_v1) = v1 m c
  ∧ V (Proc.devRef .tc main_v2) = v2 m c
  ∧ V (Proc.devRef .tc main_v9) = v9 m c
  ∧ V (Proc.devRef .tc main_v12) = v12 m c
  ∧ V (Proc.devRef .tc main_v14) = v14 m c
  ∧ V (Proc.devRef .tc main_v22) = v22 m c
  ∧ V (Proc.devRef .tc main_v25) = v25 m c
  ∧ V (Proc.devRef .tc main_v27) = v27 m c
  ∧ V (Proc.devRef .tc main_v28) = v28 m c
  ∧ V (Proc.devRef .tc main_v39) = v39 m c
  ∧ V (Proc.devRef .tc main_v45) = v45 m c

/-- The arrays that are read after the fourth part. -/
def After3 : Prop :=
  Kept m c V
  ∧ V (Proc.devRef .tc main_v1) = v1 m c
  ∧ V (Proc.devRef .tc main_v2) = v2 m c
  ∧ V (Proc.devRef .tc main_v9) = v9 m c
  ∧ V (Proc.devRef .tc main_v12) = v12 m c
  ∧ V (Proc.devRef .tc main_v14) = v14 m c
  ∧ V (Proc.devRef .tc main_v22) = v22 m c
  ∧ V (Proc.devRef .tc main_v25) = v25 m c
  ∧ V (Proc.devRef .tc main_v39) = v39 m c
  ∧ V (Proc.devRef .tc main_v50) = v50 m c
  ∧ V (Proc.devRef .tc main_v51) = v51 m c

/-- The arrays that are read after the fifth part. -/
def After4 : Prop :=
  Kept m c V
  ∧ V (Proc.devRef .tc main_v1) = v1 m c
  ∧ V (Proc.devRef .tc main_v2) = v2 m c
  ∧ V (Proc.devRef .tc main_v9) = v9 m c
  ∧ V (Proc.devRef .tc main_v12) = v12 m c
  ∧ V (Proc.devRef .tc main_v39) = v39 m c
  ∧ V (Proc.devRef .tc main_v51) = v51 m c
  ∧ V (Proc.devRef .tc main_v65) = v65 m c

/-- The arrays that are read after the sixth part. -/
def After5 : Prop :=
  Kept m c V
  ∧ V (Proc.devRef .tc main_v72) = v72 m c
  ∧ V (Proc.devRef .tc main_v73) = v73 m c
  ∧ V (Proc.devRef .tc main_v71) = v71 m c
  ∧ V (Proc.devRef .tc main_v74) = v74 m c
  ∧ V (Proc.devRef .tc main_v75) = v75 m c
  ∧ V (Proc.devRef .tc main_v76) = v76 m c
  ∧ V (Proc.devRef .tc main_v77) = v77 m c

set_option maxHeartbeats 4000000 in
theorem after0 (h : Kept m c V) : After0 m c (after ops0 V) := by
  obtain ⟨a0, a1, a2, a3, a4, a5, a6, a7⟩ := h
  refine ⟨⟨?_, ?_, ?_, ?_, ?_, ?_, ?_, ?_⟩, ?_, ?_, ?_, ?_, ?_⟩ <;> after_results_simp <;>
    simp only [a0, a1, a2, a3, a4, a5, a6, a7] <;> rfl

set_option maxHeartbeats 4000000 in
theorem after1 (h : After0 m c V) : After1 m c (after ops1 V) := by
  obtain ⟨⟨a0, a1, a2, a3, a4, a5, a6, a7⟩, hv1, hv2, hv9, hv12, hv14⟩ := h
  refine ⟨⟨?_, ?_, ?_, ?_, ?_, ?_, ?_, ?_⟩, ?_, ?_, ?_, ?_, ?_, ?_, ?_, ?_⟩ <;> after_results_simp <;>
    simp only [a0, a1, a2, a3, a4, a5, a6, a7, hv1, hv2, hv9, hv12, hv14] <;> rfl

set_option maxHeartbeats 4000000 in
theorem after2 (h : After1 m c V) : After2 m c (after ops2 V) := by
  obtain ⟨⟨a0, a1, a2, a3, a4, a5, a6, a7⟩, hv1, hv2, hv9, hv12, hv14, hv22, hv25, hv27⟩ := h
  refine ⟨⟨?_, ?_, ?_, ?_, ?_, ?_, ?_, ?_⟩, ?_, ?_, ?_, ?_, ?_, ?_, ?_, ?_, ?_, ?_, ?_⟩ <;> after_results_simp <;>
    simp only [a0, a1, a2, a3, a4, a5, a6, a7, hv1, hv2, hv9, hv12, hv14, hv22, hv25, hv27] <;> rfl

set_option maxHeartbeats 4000000 in
theorem after3 (h : After2 m c V) : After3 m c (after ops3 V) := by
  obtain ⟨⟨a0, a1, a2, a3, a4, a5, a6, a7⟩, hv1, hv2, hv9, hv12, hv14, hv22, hv25, hv27, hv28, hv39, hv45⟩ := h
  refine ⟨⟨?_, ?_, ?_, ?_, ?_, ?_, ?_, ?_⟩, ?_, ?_, ?_, ?_, ?_, ?_, ?_, ?_, ?_, ?_⟩ <;> after_results_simp <;>
    simp only [a0, a1, a2, a3, a4, a5, a6, a7, hv1, hv2, hv9, hv12, hv14, hv22, hv25, hv27, hv28, hv39, hv45] <;> rfl

set_option maxHeartbeats 4000000 in
theorem after4 (h : After3 m c V) : After4 m c (after ops4 V) := by
  obtain ⟨⟨a0, a1, a2, a3, a4, a5, a6, a7⟩, hv1, hv2, hv9, hv12, hv14, hv22, hv25, hv39, hv50, hv51⟩ := h
  refine ⟨⟨?_, ?_, ?_, ?_, ?_, ?_, ?_, ?_⟩, ?_, ?_, ?_, ?_, ?_, ?_, ?_⟩ <;> after_results_simp <;>
    simp only [a0, a1, a2, a3, a4, a5, a6, a7, hv1, hv2, hv9, hv12, hv14, hv22, hv25, hv39, hv50, hv51] <;> rfl

set_option maxHeartbeats 4000000 in
theorem after5 (h : After4 m c V) : After5 m c (after ops5 V) := by
  obtain ⟨⟨a0, a1, a2, a3, a4, a5, a6, a7⟩, hv1, hv2, hv9, hv12, hv39, hv51, hv65⟩ := h
  refine ⟨⟨?_, ?_, ?_, ?_, ?_, ?_, ?_, ?_⟩, ?_, ?_, ?_, ?_, ?_, ?_, ?_⟩ <;> after_results_simp <;>
    simp only [a0, a1, a2, a3, a4, a5, a6, a7, hv1, hv2, hv9, hv12, hv39, hv51, hv65] <;> rfl

/-- The run leaves each result at its value, and the arguments as they were. -/
theorem run_values (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = v72 m c
      ∧ r.2.mem ((c.tc : Thread nD τ).loc main_v73) = v73 m c
      ∧ r.2.mem ((c.tc : Thread nD τ).loc main_v71) = v71 m c
      ∧ r.2.mem ((c.tc : Thread nD τ).loc main_v74) = v74 m c
      ∧ r.2.mem ((c.tc : Thread nD τ).loc main_v75) = v75 m c
      ∧ r.2.mem ((c.tc : Thread nD τ).loc main_v76) = v76 m c
      ∧ r.2.mem ((c.tc : Thread nD τ).loc main_v77) = v77 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ?_)
    (run_seq scopedRefs_eq scopedSems_eq (defs (F := Ideal)) main (fun _ => ops) main_eq
      (fun _ => List.forall_iff_forall_mem.mpr fun op hop => (plain op hop).1) m ρ (fun _ op hop => (plain op hop).2))
  have e : After5 m c (after ops (launchContents m c)) := by
    simp only [ops, after_append]
    exact after5 _ _ _ (after4 _ _ _ (after3 _ _ _ (after2 _ _ _ (after1 _ _ _ (after0 _ _ _ ⟨rfl, rfl, rfl, rfl, rfl, rfl, rfl, rfl⟩)))))
  obtain ⟨⟨a0, a1, a2, a3, a4, a5, a6, a7⟩, e72, e73, e71, e74, e75, e76, e77⟩ := e
  exact ⟨(h c main_v72).trans e72, (h c main_v73).trans e73, (h c main_v71).trans e71, (h c main_v74).trans e74,
    (h c main_v75).trans e75, (h c main_v76).trans e76, (h c main_v77).trans e77, (h c main_arg0).trans a0, (h c main_arg1).trans a1,
    (h c main_arg2).trans a2, (h c main_arg3).trans a3, (h c main_arg4).trans a4, (h c main_arg5).trans a5, (h c main_arg6).trans a6,
    (h c main_arg7).trans a7⟩

end Cert.Proof.HeadRef
end
-- ==== Proof.HeadBlock.lean ====
/- The call with the loss: its mathematics, and what the body's payloads are at an index. -/
module

public import proofs.«01_k».proof.Proof.Gen.HeadCallIdeal.Value
public import Idealize.ShloMosaic.Lib.Pointwise
public import Idealize.ShloMosaic.Lib.Pipeline.ValueKit
public import proofs.«01_k».proof.Proof.Rms
public import proofs.«01_k».proof.Proof.Scalars
public import proofs.«01_k».proof.Proof.Arrays

@[expose] public section

set_option maxRecDepth 16384

noncomputable section

namespace Cert.Proof.Head

open Cert.HeadCallIdeal Cert.HeadCallIdeal.Gen Idealize.ShloMosaic Idealize.ShloMosaic.TcCoe Idealize.SL.Sem
open Idealize.ShloMosaic.Pipeline (Dat)

/-! ## The mathematics -/

/-- The call's arguments, of `n` tokens. -/
structure Args (n : Nat) where
  h1 : Fin n → Fin 1024 → EReal
  act : Fin n → Fin 2816 → EReal
  p : Fin n → Fin 256 → EReal
  wfd : Fin 2816 → Fin 1024 → EReal
  wpp : Fin 256 → Fin 1024 → EReal
  wpg : Fin 1024 → Fin 1024 → EReal
  g : Fin 1024 → EReal
  target : Fin n → Fin 1024 → EReal

/-- The reciprocal of the width, as the kernel writes it. -/
abbrev invWidth : EReal := Ideal.ofBits .f32 0x3A800000#32

/-- Half the reciprocal of the width, as the kernel writes it. -/
abbrev halfInvWidth : EReal := Ideal.ofBits .f32 0x3A000000#32

namespace Args

variable {n : Nat} (s : Args n)

/-- The arguments of the tokens `ρ` picks. -/
def rows {k : Nat} (ρ : Fin k → Fin n) : Args k :=
  { s with h1 := fun r => s.h1 (ρ r), act := fun r => s.act (ρ r), p := fun r => s.p (ρ r), target := fun r => s.target (ρ r) }

/-- The residual stream after the channel mixer. -/
def h2 (i : Fin n) (l : Fin 1024) : EReal := (∑ k, s.act i k * s.wfd k l) + s.h1 i l

/-- The projected input embedding. -/
def pp (i : Fin n) (l : Fin 1024) : EReal := ∑ k, s.p i k * s.wpp k l

/-- Its gate. -/
def gate (i : Fin n) (l : Fin 1024) : EReal := Ideal.logistic (∑ k, s.h2 i k * s.wpg k l)

/-- The last residual stream. -/
def h3 (i : Fin n) (l : Fin 1024) : EReal := s.h2 i l + s.gate i l * s.pp i l

/-- The difference of the output and the target. -/
def diff (i : Fin n) (l : Fin 1024) : EReal := Rms.xhat s.h3 i l * s.g l - s.target i l

/-- The output's cotangent. -/
def dout (i : Fin n) (l : Fin 1024) : EReal := s.diff i l * invWidth

/-- The cotangent of the last residual stream. -/
def dh3 (i : Fin n) (l : Fin 1024) : EReal := Rms.dx s.dout s.h3 s.g (fun _ _ => 0) i l

/-- The cotangent of the gate's product. -/
def dpg (i : Fin n) (l : Fin 1024) : EReal := s.dh3 i l * s.pp i l * s.gate i l * (1 - s.gate i l)

/-- The cotangent of the projected input embedding. -/
def dpp (i : Fin n) (l : Fin 1024) : EReal := s.dh3 i l * s.gate i l

/-- The cotangent of the residual stream after the channel mixer. -/
def dh2 (i : Fin n) (l : Fin 1024) : EReal := s.dh3 i l + ∑ k, s.dpg i k * s.wpg l k

/-- The gradient of the last gain. -/
def dg (_ : Fin 1) (l : Fin 1024) : EReal := Rms.dg s.dout s.h3 l

/-- A column's sum of squares. -/
def squares (_ : Fin 1) (l : Fin 1024) : EReal := ∑ i, s.diff i l * s.diff i l

/-- The loss. -/
def loss (o _ : Fin 1) : EReal := halfInvWidth * ∑ l, s.squares o l

variable {k : Nat} (ρ : Fin k → Fin n) (r : Fin k) (l : Fin 1024)

theorem rows_xhat : Rms.xhat (s.rows ρ).h3 r l = Rms.xhat s.h3 (ρ r) l := rfl
theorem rows_diff : (s.rows ρ).diff r l = s.diff (ρ r) l := rfl
theorem rows_dout : (s.rows ρ).dout r l = s.dout (ρ r) l := rfl

end Args

/-! ## The payloads -/

variable (a : Vec Ideal S512x2816 .bf16) (wfd : Vec Ideal S2816x1024 .bf16) (p : Vec Ideal S512x256 .f32)
  (wpp : Vec Ideal S256x1024 .bf16) (h1 : Vec Ideal S512x1024 .f32) (g : Vec Ideal S1x1024 .f32)
  (tgt : Vec Ideal S512x1024 .f32) (wpg : Vec Ideal S1024x1024 .bf16)

/-- The arguments of one block of tokens. -/
def blockArgs : Args 512 := ⟨at2 h1, at2 a, at2 p, at2 wfd, at2 wpp, at2 wpg, at2 g 0, at2 tgt⟩

theorem pay8_apply (r : Fin 512) (l : Fin 1024) : k0_pay8 a wfd h1 (ix2 r l) = (blockArgs a wfd p wpp h1 g tgt wpg).h2 r l := by
  unfold k0_pay8
  pointwise
  rfl

theorem pay9_apply (r : Fin 512) (l : Fin 1024) : k0_pay9 a wfd h1 (ix2 r l) = (blockArgs a wfd p wpp h1 g tgt wpg).h2 r l := by
  unfold k0_pay9
  pointwise [pay8_apply a wfd p wpp h1 g tgt wpg]

theorem pay7_apply (r : Fin 512) (l : Fin 1024) : k0_pay7 p wpp (ix2 r l) = (blockArgs a wfd p wpp h1 g tgt wpg).pp r l := by
  unfold k0_pay7
  pointwise
  rfl

theorem pay10_apply (r : Fin 512) (l : Fin 1024) :
    k0_pay10 a wfd h1 wpg (ix2 r l) = (blockArgs a wfd p wpp h1 g tgt wpg).gate r l := by
  unfold k0_pay10
  pointwise [pay9_apply a wfd p wpp h1 g tgt wpg]
  exact Scalars.half_tanh _

theorem pay11_apply (r : Fin 512) (l : Fin 1024) :
    k0_pay11 a wfd p wpp h1 wpg (ix2 r l) = (blockArgs a wfd p wpp h1 g tgt wpg).h3 r l := by
  unfold k0_pay11
  pointwise [pay8_apply a wfd p wpp h1 g tgt wpg, pay7_apply a wfd p wpp h1 g tgt wpg, pay10_apply a wfd p wpp h1 g tgt wpg]
  rfl

theorem pay12_apply (r : Fin 512) (o : Fin 1) :
    k0_pay12 a wfd p wpp h1 wpg (ix2 r o) = Rms.meanSq (blockArgs a wfd p wpp h1 g tgt wpg).h3 r := by
  unfold k0_pay12
  pointwise [pay11_apply a wfd p wpp h1 g tgt wpg]
  rfl

theorem pay13_apply (r : Fin 512) (o : Fin 1) :
    k0_pay13 (k0_pay12 a wfd p wpp h1 wpg) (ix2 r o) = Rms.rinv (blockArgs a wfd p wpp h1 g tgt wpg).h3 r := by
  unfold k0_pay13
  pointwise [pay12_apply a wfd p wpp h1 g tgt wpg]
  rfl

theorem pay14_apply (r : Fin 512) (l : Fin 1024) :
    k0_pay14 (k0_pay11 a wfd p wpp h1 wpg) (k0_pay12 a wfd p wpp h1 wpg) (ix2 r l) = Rms.xhat (blockArgs a wfd p wpp h1 g tgt wpg).h3 r l := by
  unfold k0_pay14
  pointwise [pay13_apply a wfd p wpp h1 g tgt wpg, pay11_apply a wfd p wpp h1 g tgt wpg]
  rfl

theorem pay15_apply (o : Fin 1) (l : Fin 1024) : k0_pay15 g (ix2 o l) = (blockArgs a wfd p wpp h1 g tgt wpg).g l := by
  unfold k0_pay15
  pointwise
  rw [Fin.eq_zero o]
  rfl

theorem pay16_apply (r : Fin 512) (l : Fin 1024) :
    k0_pay16 (k0_pay11 a wfd p wpp h1 wpg) (k0_pay12 a wfd p wpp h1 wpg) g tgt (ix2 r l) = (blockArgs a wfd p wpp h1 g tgt wpg).diff r l := by
  unfold k0_pay16
  pointwise [pay14_apply a wfd p wpp h1 g tgt wpg, pay15_apply a wfd p wpp h1 g tgt wpg]
  rfl

theorem pay17_apply (r : Fin 512) (l : Fin 1024) :
    k0_pay17 (k0_pay11 a wfd p wpp h1 wpg) (k0_pay12 a wfd p wpp h1 wpg) g tgt (ix2 r l) = (blockArgs a wfd p wpp h1 g tgt wpg).dout r l := by
  unfold k0_pay17
  pointwise [pay16_apply a wfd p wpp h1 g tgt wpg]
  rfl

theorem pay18_apply (r : Fin 512) (l : Fin 1024) :
    k0_pay18 (k0_pay11 a wfd p wpp h1 wpg) (k0_pay12 a wfd p wpp h1 wpg) g tgt (ix2 r l) = (blockArgs a wfd p wpp h1 g tgt wpg).dh3 r l := by
  unfold k0_pay18
  pointwise [pay13_apply a wfd p wpp h1 g tgt wpg, pay14_apply a wfd p wpp h1 g tgt wpg, pay15_apply a wfd p wpp h1 g tgt wpg,
    pay17_apply a wfd p wpp h1 g tgt wpg]
  exact (zero_add _).symm

theorem pay19_apply (r : Fin 512) (l : Fin 1024) :
    k0_pay19 (k0_pay7 p wpp) (k0_pay10 a wfd h1 wpg) (k0_pay11 a wfd p wpp h1 wpg) (k0_pay12 a wfd p wpp h1 wpg) g tgt (ix2 r l) = (blockArgs a wfd p wpp h1 g tgt wpg).dpg r l := by
  unfold k0_pay19
  pointwise [pay7_apply a wfd p wpp h1 g tgt wpg, pay10_apply a wfd p wpp h1 g tgt wpg, pay18_apply a wfd p wpp h1 g tgt wpg]
  rfl

theorem pay20_apply (r : Fin 512) (l : Fin 1024) :
    k0_pay20 (k0_pay7 p wpp) (k0_pay10 a wfd h1 wpg) (k0_pay11 a wfd p wpp h1 wpg) (k0_pay12 a wfd p wpp h1 wpg) g tgt wpg (ix2 r l) = (blockArgs a wfd p wpp h1 g tgt wpg).dh2 r l := by
  unfold k0_pay20
  pointwise [pay18_apply a wfd p wpp h1 g tgt wpg, pay19_apply a wfd p wpp h1 g tgt wpg]
  rfl

theorem pay21_apply (r : Fin 512) (l : Fin 1024) :
    k0_pay21 (k0_pay7 p wpp) (k0_pay10 a wfd h1 wpg) (k0_pay11 a wfd p wpp h1 wpg) (k0_pay12 a wfd p wpp h1 wpg) g tgt wpg (ix2 r l) = (blockArgs a wfd p wpp h1 g tgt wpg).dh2 r l := by
  unfold k0_pay21
  pointwise [pay20_apply a wfd p wpp h1 g tgt wpg]

theorem pay22_apply (r : Fin 512) (l : Fin 1024) :
    k0_pay22 (k0_pay10 a wfd h1 wpg) (k0_pay11 a wfd p wpp h1 wpg) (k0_pay12 a wfd p wpp h1 wpg) g tgt (ix2 r l) = (blockArgs a wfd p wpp h1 g tgt wpg).dpp r l := by
  unfold k0_pay22
  pointwise [pay10_apply a wfd p wpp h1 g tgt wpg, pay18_apply a wfd p wpp h1 g tgt wpg]
  rfl

/-- One block's share of the gain's gradient. -/
theorem pay1_apply (o : Fin 1) (l : Fin 1024) :
    k0_pay1 (k0_pay14 (k0_pay11 a wfd p wpp h1 wpg) (k0_pay12 a wfd p wpp h1 wpg)) (k0_pay17 (k0_pay11 a wfd p wpp h1 wpg) (k0_pay12 a wfd p wpp h1 wpg) g tgt) (ix2 o l) = (blockArgs a wfd p wpp h1 g tgt wpg).dg o l := by
  unfold k0_pay1
  pointwise [pay14_apply a wfd p wpp h1 g tgt wpg, pay17_apply a wfd p wpp h1 g tgt wpg]
  rfl

theorem pay2_apply (acc : Vec Ideal S1x1024 .f32) (o : Fin 1) (l : Fin 1024) :
    k0_pay2 (k0_pay14 (k0_pay11 a wfd p wpp h1 wpg) (k0_pay12 a wfd p wpp h1 wpg)) (k0_pay17 (k0_pay11 a wfd p wpp h1 wpg) (k0_pay12 a wfd p wpp h1 wpg) g tgt) acc (ix2 o l) = acc (ix2 o l) + (blockArgs a wfd p wpp h1 g tgt wpg).dg o l := by
  unfold k0_pay2
  pointwise [pay1_apply a wfd p wpp h1 g tgt wpg]

/-- One block's share of the sums of squares. -/
theorem pay3_apply (o : Fin 1) (l : Fin 1024) :
    k0_pay3 (k0_pay16 (k0_pay11 a wfd p wpp h1 wpg) (k0_pay12 a wfd p wpp h1 wpg) g tgt) (ix2 o l) = (blockArgs a wfd p wpp h1 g tgt wpg).squares o l := by
  unfold k0_pay3
  pointwise [pay16_apply a wfd p wpp h1 g tgt wpg]
  rfl

theorem pay4_apply (o : Fin 1) (l : Fin 1024) :
    k0_pay4 (k0_pay16 (k0_pay11 a wfd p wpp h1 wpg) (k0_pay12 a wfd p wpp h1 wpg) g tgt) (ix2 o l) = (blockArgs a wfd p wpp h1 g tgt wpg).squares o l := by
  unfold k0_pay4
  pointwise [pay3_apply a wfd p wpp h1 g tgt wpg]

theorem pay5_apply (acc : Vec Ideal S1x1024 .f32) (o : Fin 1) (l : Fin 1024) :
    k0_pay5 (k0_pay16 (k0_pay11 a wfd p wpp h1 wpg) (k0_pay12 a wfd p wpp h1 wpg) g tgt) acc (ix2 o l) = acc (ix2 o l) + (blockArgs a wfd p wpp h1 g tgt wpg).squares o l := by
  unfold k0_pay5
  pointwise [pay3_apply a wfd p wpp h1 g tgt wpg]

/-- The loss of the sums of squares. -/
theorem pay6_apply (acc : Vec Ideal S1x1024 .f32) (o o' : Fin 1) : k0_pay6 acc (ix2 o o') = halfInvWidth * ∑ l, acc (ix2 o l) := by
  unfold k0_pay6
  pointwise
  rw [Fin.eq_zero o]

end Cert.Proof.Head
end
-- ==== Proof.HeadArray.lean ====
/- The call with the loss: what its seven result arrays end holding, as functions of the arguments. -/
module

public import proofs.«01_k».proof.Proof.Corner
public import proofs.«01_k».proof.Proof.HeadBlock
public import Idealize.ShloMosaic.Lib.Pipeline.ReadBack

@[expose] public section

set_option maxRecDepth 16384

noncomputable section

namespace Cert.Proof.Head

open Cert.HeadCallIdeal Cert.HeadCallIdeal.Gen Idealize.ShloMosaic Idealize.ShloMosaic.TcCoe Idealize.SL.Sem
open Idealize.ShloMosaic.Pipeline (Dat)

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

/-- The call's arguments, as functions of two coordinates. -/
def args (x0 : Vec Ideal S16384x1024 .f32) (x1 : Vec Ideal S16384x2816 .f32) (x2 : Vec Ideal S16384x256 .f32)
    (x3 : Vec Ideal S2816x1024 .f32) (x4 : Vec Ideal S256x1024 .f32) (x5 : Vec Ideal S1024x1024 .f32) (x6 : Vec Ideal S1024 .f32)
    (x7 : Vec Ideal S16384x1024 .f32) : Args 16384 :=
  ⟨at2 x0, at2 x1, at2 x2, at2 x3, at2 x4, at2 x5, fun l => x6 (ix1 l), at2 x7⟩

/-- Those of device `c`. -/
def own : Args 16384 := args (A m c main_arg0) (A m c main_arg1) (A m c main_arg2) (A m c main_arg3) (A m c main_arg4)
  (A m c main_arg5) (A m c main_arg6) (A m c main_arg7)

theorem V_v0 : V m c main_v0 = A m c main_arg1 := by unfold_abbrev_sides; after_results; rfl
theorem V_v1 : V m c main_v1 = A m c main_arg3 := by unfold_abbrev_sides; after_results; rfl
theorem V_v2 : V m c main_v2 = A m c main_arg4 := by unfold_abbrev_sides; after_results; rfl
theorem V_v3 : V m c main_v3 = A m c main_arg5 := by unfold_abbrev_sides; after_results; rfl
theorem V_v4 (o : Fin 1) (l : Fin 1024) : V m c main_v4 (ix2 o l) = A m c main_arg6 (ix1 l) := by
  unfold_abbrev_sides; after_results; pointwise

/-! ## What the windows read -/

/-- Row `r` of point `t`'s block, as a row of the whole array. -/
def row (t : Fin cfg0.N) (r : Fin 512) : Fin 16384 :=
  ⟨t.val * 512 + r.val, by have h := t.isLt; have hN : cfg0.N = 32 := N_0; have := r.isLt; omega⟩

/-- Where the windows that move with the rows have their blocks at point `t`. -/
theorem at_rows : ∀ t : Fin grid0.N,
    (win0_0.index t 0 * win0_0.size 0 = t.val * 512 ∧ win0_0.index t 1 * win0_0.size 1 = 0)
    ∧ (win0_2.index t 0 * win0_2.size 0 = t.val * 512 ∧ win0_2.index t 1 * win0_2.size 1 = 0)
    ∧ (win0_4.index t 0 * win0_4.size 0 = t.val * 512 ∧ win0_4.index t 1 * win0_4.size 1 = 0)
    ∧ (win0_6.index t 0 * win0_6.size 0 = t.val * 512 ∧ win0_6.index t 1 * win0_6.size 1 = 0) := by decide +kernel

/-- The same of the results' windows. -/
theorem out_rows : ∀ t : Fin grid0.N,
    (win0_10.index t 0 * win0_10.size 0 = t.val * 512 ∧ win0_10.index t 1 * win0_10.size 1 = 0)
    ∧ (win0_11.index t 0 * win0_11.size 0 = t.val * 512 ∧ win0_11.index t 1 * win0_11.size 1 = 0)
    ∧ (win0_12.index t 0 * win0_12.size 0 = t.val * 512 ∧ win0_12.index t 1 * win0_12.size 1 = 0)
    ∧ (win0_13.index t 0 * win0_13.size 0 = t.val * 512 ∧ win0_13.index t 1 * win0_13.size 1 = 0)
    ∧ (win0_14.index t 0 * win0_14.size 0 = t.val * 512 ∧ win0_14.index t 1 * win0_14.size 1 = 0) := by decide +kernel

/-- Where the windows of the weights have theirs: at the origin. -/
theorem at_zero : ∀ t : Fin grid0.N,
    (win0_1.index t 0 * win0_1.size 0 = 0 ∧ win0_1.index t 1 * win0_1.size 1 = 0)
    ∧ (win0_3.index t 0 * win0_3.size 0 = 0 ∧ win0_3.index t 1 * win0_3.size 1 = 0)
    ∧ (win0_5.index t 0 * win0_5.size 0 = 0 ∧ win0_5.index t 1 * win0_5.size 1 = 0)
    ∧ (win0_7.index t 0 * win0_7.size 0 = 0 ∧ win0_7.index t 1 * win0_7.size 1 = 0) := by decide +kernel

theorem iblk0 (t : Fin cfg0.N) (r : Fin 512) (k : Fin 2816) :
    (iblk m c 0 t : Vec Ideal S512x2816 .bf16) (ix2 r k) = at2 (A m c main_arg1) (row t r) k :=
  entry_at_corner (V := V m c main_v0) (fun i k => congrFun (V_v0 m c) (ix2 i k)) (r := r) (l := k) (at_rows t).1
    rfl rfl rfl (Nat.zero_add _).symm

theorem iblk2 (t : Fin cfg0.N) (r : Fin 512) (k : Fin 256) :
    (iblk m c 2 t : Vec Ideal S512x256 .f32) (ix2 r k) = at2 (A m c main_arg2) (row t r) k :=
  entry_at_corner (V := V m c main_arg2) (fun i k => congrFun (V_main_arg2 m c) (ix2 i k)) (r := r) (l := k) (at_rows t).2.1
    rfl rfl rfl (Nat.zero_add _).symm

theorem iblk4 (t : Fin cfg0.N) (r : Fin 512) (k : Fin 1024) :
    (iblk m c 4 t : Vec Ideal S512x1024 .f32) (ix2 r k) = at2 (A m c main_arg0) (row t r) k :=
  entry_at_corner (V := V m c main_arg0) (fun i k => congrFun (V_main_arg0 m c) (ix2 i k)) (r := r) (l := k) (at_rows t).2.2.1
    rfl rfl rfl (Nat.zero_add _).symm

theorem iblk6 (t : Fin cfg0.N) (r : Fin 512) (k : Fin 1024) :
    (iblk m c 6 t : Vec Ideal S512x1024 .f32) (ix2 r k) = at2 (A m c main_arg7) (row t r) k :=
  entry_at_corner (V := V m c main_arg7) (fun i k => congrFun (V_main_arg7 m c) (ix2 i k)) (r := r) (l := k) (at_rows t).2.2.2
    rfl rfl rfl (Nat.zero_add _).symm

theorem iblk1 (t : Fin cfg0.N) (l : Fin 2816) (k : Fin 1024) :
    (iblk m c 1 t : Vec Ideal S2816x1024 .bf16) (ix2 l k) = at2 (A m c main_arg3) l k :=
  entry_at_corner (V := V m c main_v1) (fun i k => congrFun (V_v1 m c) (ix2 i k)) (r := l) (l := k) (at_zero t).1
    rfl rfl (Nat.zero_add _).symm (Nat.zero_add _).symm

theorem iblk3 (t : Fin cfg0.N) (l : Fin 256) (k : Fin 1024) :
    (iblk m c 3 t : Vec Ideal S256x1024 .bf16) (ix2 l k) = at2 (A m c main_arg4) l k :=
  entry_at_corner (V := V m c main_v2) (fun i k => congrFun (V_v2 m c) (ix2 i k)) (r := l) (l := k) (at_zero t).2.1
    rfl rfl (Nat.zero_add _).symm (Nat.zero_add _).symm

theorem iblk7 (t : Fin cfg0.N) (l : Fin 1024) (k : Fin 1024) :
    (iblk m c 7 t : Vec Ideal S1024x1024 .bf16) (ix2 l k) = at2 (A m c main_arg5) l k :=
  entry_at_corner (V := V m c main_v3) (fun i k => congrFun (V_v3 m c) (ix2 i k)) (r := l) (l := k) (at_zero t).2.2.2
    rfl rfl (Nat.zero_add _).symm (Nat.zero_add _).symm

theorem iblk5 (t : Fin cfg0.N) (o : Fin 1) (l : Fin 1024) :
    (iblk m c 5 t : Vec Ideal S1x1024 .f32) (ix2 o l) = A m c main_arg6 (ix1 l) :=
  entry_at_corner (V := V m c main_v4) (G := fun _ l => A m c main_arg6 (ix1 l)) (V_v4 m c) (a := o) (b := l) (r := o) (l := l)
    (at_zero t).2.2.1 rfl rfl (Nat.zero_add _).symm (Nat.zero_add _).symm

/-- The arguments of point `t`'s block. -/
abbrev blk (t : Fin cfg0.N) : Args 512 := blockArgs (iblk m c 0 t) (iblk m c 1 t) (iblk m c 2 t) (iblk m c 3 t) (iblk m c 4 t)
  (iblk m c 5 t) (iblk m c 6 t) (iblk m c 7 t)

/-- They are the arguments of the block's rows. -/
theorem blk_eq (t : Fin cfg0.N) : blk m c t = (own m c).rows (row t) := by
  unfold blk blockArgs own args Args.rows
  congr 1
  · funext r k; exact iblk4 m c t r k
  · funext r k; exact iblk0 m c t r k
  · funext r k; exact iblk2 m c t r k
  · funext r k; exact iblk1 m c t r k
  · funext r k; exact iblk3 m c t r k
  · funext r k; exact iblk7 m c t r k
  · funext l; exact iblk5 m c t 0 l
  · funext r k; exact iblk6 m c t r k

/-! ## What a grid point leaves in its output blocks -/

/-- The last residual stream of point `t`'s block. -/
abbrev x25 (t : Fin cfg0.N) := k0_pay11 (iblk m c 0 t) (iblk m c 1 t) (iblk m c 2 t) (iblk m c 3 t) (iblk m c 4 t) (iblk m c 7 t)

/-- Its mean squares. -/
abbrev x32 (t : Fin cfg0.N) := k0_pay12 (iblk m c 0 t) (iblk m c 1 t) (iblk m c 2 t) (iblk m c 3 t) (iblk m c 4 t) (iblk m c 7 t)

/-- Its projected input embedding. -/
abbrev x9 (t : Fin cfg0.N) := k0_pay7 (iblk m c 2 t) (iblk m c 3 t)

/-- Its gate. -/
abbrev x23 (t : Fin cfg0.N) := k0_pay10 (iblk m c 0 t) (iblk m c 1 t) (iblk m c 4 t) (iblk m c 7 t)

/-- What point `t` leaves in the five blocks that move with the rows. -/
theorem outs_rows (t : Fin cfg0.N) :
    (outsAt0 m c t.val t.isLt).2.2.1 = k0_pay20 (x9 m c t) (x23 m c t) (x25 m c t) (x32 m c t) (iblk m c 5 t) (iblk m c 6 t) (iblk m c 7 t)
    ∧ (outsAt0 m c t.val t.isLt).2.2.2.1 = k0_pay21 (x9 m c t) (x23 m c t) (x25 m c t) (x32 m c t) (iblk m c 5 t) (iblk m c 6 t) (iblk m c 7 t)
    ∧ (outsAt0 m c t.val t.isLt).2.2.2.2.1 = k0_pay22 (x23 m c t) (x25 m c t) (x32 m c t) (iblk m c 5 t) (iblk m c 6 t)
    ∧ (outsAt0 m c t.val t.isLt).2.2.2.2.2.1 = k0_pay19 (x9 m c t) (x23 m c t) (x25 m c t) (x32 m c t) (iblk m c 5 t) (iblk m c 6 t)
    ∧ (outsAt0 m c t.val t.isLt).2.2.2.2.2.2.1 = k0_pay9 (iblk m c 0 t) (iblk m c 1 t) (iblk m c 4 t) := by
  have hN := t.isLt
  have hN' : cfg0.N = 32 := N_0
  by_cases h : t.val % 32 = 0
  · rw [outsAt0_A m c t h (by omega) h (by omega) (by omega)]
    refine ⟨?_, ?_, ?_, ?_, ?_⟩ <;> frame_out
  · by_cases h31 : t.val % 32 = 31
    · rw [outsAt0_C m c t h (by omega) h (by omega) h31]
      refine ⟨?_, ?_, ?_, ?_, ?_⟩ <;> frame_out
    · rw [outsAt0_B m c t h (by omega) h (by omega) h31]
      refine ⟨?_, ?_, ?_, ?_, ?_⟩ <;> frame_out

/-- The gain's gradient after the last point: the sum of the points' shares. -/
theorem outs_gain (t : Fin cfg0.N) (ht : t.val + 1 = cfg0.N) (j : S1x1024.Idx) : (outsAt0 m c t.val t.isLt).2.1 j
    = ∑ p, arr2 (blk m c p).dg j := by
  have hN' : cfg0.N = 32 := N_0
  refine (Pipeline.eq_sum_fin_of_reset_step_apply_last (fun n h => (outsAt0 m c n h).2.1) 32 (fun _ => (0 : EReal))
    (fun p => arr2 (blk m c p).dg) ?_ ?_ hN'.le t ht j).trans (zero_add _)
  · intro t h j
    have hN := t.isLt
    rw [outsAt0_A m c t h (by omega) h (by omega) (by omega)]
    frame_out
    idx_vars j
    exact (pay1_apply (iblk m c 0 t) (iblk m c 1 t) (iblk m c 2 t) (iblk m c 3 t) (iblk m c 4 t) (iblk m c 5 t) (iblk m c 6 t)
      (iblk m c 7 t) j0 j1).trans (zero_add _).symm
  · intro t h j
    have hN := t.isLt
    by_cases h31 : t.val % 32 = 31
    · rw [outsAt0_C m c t h (by omega) h (by omega) h31]
      frame_out
      idx_vars j
      exact pay2_apply (iblk m c 0 t) (iblk m c 1 t) (iblk m c 2 t) (iblk m c 3 t) (iblk m c 4 t) (iblk m c 5 t) (iblk m c 6 t)
        (iblk m c 7 t) _ j0 j1
    · rw [outsAt0_B m c t h (by omega) h (by omega) h31]
      frame_out
      idx_vars j
      exact pay2_apply (iblk m c 0 t) (iblk m c 1 t) (iblk m c 2 t) (iblk m c 3 t) (iblk m c 4 t) (iblk m c 5 t) (iblk m c 6 t)
        (iblk m c 7 t) _ j0 j1

/-- The scratch at the first point. -/
theorem scratch_first (t : Fin cfg0.N) (h : t.val % 32 = 0) (j : S1x1024.Idx) :
    (outsAt0 m c t.val t.isLt).2.2.2.2.2.2.2 j = 0 + arr2 (blk m c t).squares j := by
  have hN := t.isLt
  have hN' : cfg0.N = 32 := N_0
  rw [outsAt0_A m c t h (by omega) h (by omega) (by omega)]
  frame_out
  idx_vars j
  exact (pay4_apply (iblk m c 0 t) (iblk m c 1 t) (iblk m c 2 t) (iblk m c 3 t) (iblk m c 4 t) (iblk m c 5 t) (iblk m c 6 t)
    (iblk m c 7 t) j0 j1).trans (zero_add _).symm

/-- The scratch at a later point. -/
theorem scratch_next (t : Fin cfg0.N) (h : ¬t.val % 32 = 0) (j : S1x1024.Idx) : (outsAt0 m c t.val t.isLt).2.2.2.2.2.2.2 j
    = (outsAt0 m c (t.val - 1) (Nat.lt_of_le_of_lt (Nat.sub_le _ _) t.isLt)).2.2.2.2.2.2.2 j + arr2 (blk m c t).squares j := by
  by_cases h31 : t.val % 32 = 31
  · rw [outsAt0_C m c t h (by omega) h (by omega) h31]
    frame_out
    simp only [read_unread_whole]
    idx_vars j
    exact pay5_apply (iblk m c 0 t) (iblk m c 1 t) (iblk m c 2 t) (iblk m c 3 t) (iblk m c 4 t) (iblk m c 5 t) (iblk m c 6 t)
      (iblk m c 7 t) _ j0 j1
  · rw [outsAt0_B m c t h (by omega) h (by omega) h31]
    frame_out
    simp only [read_unread_whole]
    idx_vars j
    exact pay5_apply (iblk m c 0 t) (iblk m c 1 t) (iblk m c 2 t) (iblk m c 3 t) (iblk m c 4 t) (iblk m c 5 t) (iblk m c 6 t)
      (iblk m c 7 t) _ j0 j1

/-- The loss at the last point: of what the scratch holds. -/
theorem loss_last (t : Fin cfg0.N) (h : t.val % 32 = 31) (o o' : Fin 1) : (outsAt0 m c t.val t.isLt).1 (ix2 o o')
    = halfInvWidth * ∑ l, (outsAt0 m c t.val t.isLt).2.2.2.2.2.2.2 (ix2 o l) := by
  rw [outsAt0_C m c t (by omega) (by omega) (by omega) (by omega) h]
  frame_out
  exact pay6_apply _ o o'

/-! ## The result arrays after the run -/

/-- The row `r` of a block `u` that point `t` leaves, where it is `f` of the block's arguments, is a row of `f` of the whole
    arguments, wherever the window has its block. -/
theorem row_entry (f : {n : Nat} → Args n → Fin n → Fin 1024 → EReal) {p0 p1 : Nat} {t : Fin cfg0.N}
    {u : (⟨2, ![512, 1024]⟩ : Shape).Idx → EReal} {r : Fin 512} {l : Fin 1024} {y : (⟨2, ![16384, 1024]⟩ : Shape).Idx}
    (e : p0 = t.val * 512 ∧ p1 = 0) (hu : u (ix2 r l) = f (blk m c t) r l)
    (hf : f ((own m c).rows (row t)) r l = f (own m c) (row t r) l)
    (h0 : (y 0 : Nat) = p0 + 1 * r.val) (h1 : (y 1 : Nat) = p1 + 1 * l.val) : u (ix2 r l) = arr2 (f (own m c)) y :=
  hu.trans ((congrArg (fun s : Args 512 => f s r l) (blk_eq m c t)).trans (hf.trans
    (entry_at_corner (V := arr2 (f (own m c))) (fun _ _ => rfl) e h0 h1 rfl (Nat.zero_add _).symm).symm))

theorem final10 : (dats m 0 c).arrAt 10 cfg0.N = arr2 (own m c).dh2 := by
  refine (dats m 0 c).arrAt_eq_of_covers 10 _ (by decide +kernel) fun t hf y => ?_
  idx_vars y
  refine (congrFun (after0_10 m c t) (ix2 y0 y1)).trans (row_entry m c Args.dh2 (out_rows t).1 ?_ rfl rfl rfl)
  exact (congrFun (outs_rows m c t).1 (ix2 y0 y1)).trans (pay20_apply _ _ _ _ _ _ _ _ y0 y1)

theorem final11 : (dats m 0 c).arrAt 11 cfg0.N = arr2 (own m c).dh2 := by
  refine (dats m 0 c).arrAt_eq_of_covers 11 _ (by decide +kernel) fun t hf y => ?_
  idx_vars y
  refine (congrFun (after0_11 m c t) (ix2 y0 y1)).trans (row_entry m c Args.dh2 (out_rows t).2.1 ?_ rfl rfl rfl)
  exact (congrFun (outs_rows m c t).2.1 (ix2 y0 y1)).trans (pay21_apply _ _ _ _ _ _ _ _ y0 y1)

theorem final12 : (dats m 0 c).arrAt 12 cfg0.N = arr2 (own m c).dpp := by
  refine (dats m 0 c).arrAt_eq_of_covers 12 _ (by decide +kernel) fun t hf y => ?_
  idx_vars y
  refine (congrFun (after0_12 m c t) (ix2 y0 y1)).trans (row_entry m c Args.dpp (out_rows t).2.2.1 ?_ rfl rfl rfl)
  exact (congrFun (outs_rows m c t).2.2.1 (ix2 y0 y1)).trans (pay22_apply (iblk m c 0 t) (iblk m c 1 t) (iblk m c 2 t) (iblk m c 3 t)
    (iblk m c 4 t) (iblk m c 5 t) (iblk m c 6 t) (iblk m c 7 t) y0 y1)

theorem final13 : (dats m 0 c).arrAt 13 cfg0.N = arr2 (own m c).dpg := by
  refine (dats m 0 c).arrAt_eq_of_covers 13 _ (by decide +kernel) fun t hf y => ?_
  idx_vars y
  refine (congrFun (after0_13 m c t) (ix2 y0 y1)).trans (row_entry m c Args.dpg (out_rows t).2.2.2.1 ?_ rfl rfl rfl)
  exact (congrFun (outs_rows m c t).2.2.2.1 (ix2 y0 y1)).trans (pay19_apply _ _ _ _ _ _ _ _ y0 y1)

theorem final14 : (dats m 0 c).arrAt 14 cfg0.N = arr2 (own m c).h2 := by
  refine (dats m 0 c).arrAt_eq_of_covers 14 _ (by decide +kernel) fun t hf y => ?_
  idx_vars y
  refine (congrFun (after0_14 m c t) (ix2 y0 y1)).trans (row_entry m c Args.h2 (out_rows t).2.2.2.2 ?_ rfl rfl rfl)
  exact (congrFun (outs_rows m c t).2.2.2.2 (ix2 y0 y1)).trans (pay9_apply (iblk m c 0 t) (iblk m c 1 t) (iblk m c 2 t)
    (iblk m c 3 t) (iblk m c 4 t) (iblk m c 5 t) (iblk m c 6 t) (iblk m c 7 t) y0 y1)

/-- The last grid point. -/
def last : Fin cfg0.N := ⟨31, by rw [show cfg0.N = 32 from N_0]; decide⟩

/-- The points' shares of the gain's gradient make up the sum over all rows. -/
theorem sum_dg (o : Fin 1) (l : Fin 1024) : ∑ p, (blk m c p).dg o l = (own m c).dg o l := by
  unfold Args.dg Rms.dg
  refine Fin.sum_mul_add_congr (fun t r hl => ?_) (by rw [show cfg0.N = 32 from N_0])
  rw [blk_eq]
  exact congrArg₂ (· * ·) ((own m c).rows_dout (row t) r l) ((own m c).rows_xhat (row t) r l)

/-- The points' shares of the sums of squares make up the sums over all rows. -/
theorem sum_squares (o : Fin 1) (l : Fin 1024) : ∑ p, (blk m c p).squares o l = (own m c).squares o l := by
  unfold Args.squares
  refine Fin.sum_mul_add_congr (fun t r hl => ?_) (by rw [show cfg0.N = 32 from N_0])
  rw [blk_eq]
  exact congrArg₂ (· * ·) ((own m c).rows_diff (row t) r l) ((own m c).rows_diff (row t) r l)

theorem final9 : (dats m 0 c).arrAt 9 cfg0.N = arr2 (own m c).dg := by
  refine (dats m 0 c).arrAt_eq_of_after_last 9 last (by decide +kernel) _ fun j => ?_
  idx_vars j
  refine (congrFun (after0_9 m c last) (ix2 j0 j1)).trans ((outs_gain m c last (by decide) _).trans ?_)
  refine (sum_dg m c j0 j1).trans (congrArg₂ (own m c).dg (Fin.ext ?_) (Fin.ext ?_))
  · show j0.val = j0.val + 0
    omega
  · rfl

theorem final8 : (dats m 0 c).arrAt 8 cfg0.N = arr2 (own m c).loss := by
  refine (dats m 0 c).arrAt_eq_of_after_last 8 last (by decide +kernel) _ fun j => ?_
  idx_vars j
  refine (congrFun (after0_8 m c last) (ix2 j0 j1)).trans ((loss_last m c last (by decide) j0 j1).trans ?_)
  refine Eq.trans ?_ (show (own m c).loss j0 j1 = _ from congrArg₂ (own m c).loss (Fin.ext ?_) (Fin.ext ?_))
  · refine congrArg (halfInvWidth * ·) (Finset.sum_congr rfl fun l _ => ?_)
    exact ((Pipeline.eq_sum_fin_of_reset_step_apply_last (fun n h => (outsAt0 m c n h).2.2.2.2.2.2.2) 32 (fun _ => (0 : EReal))
      (fun p => arr2 (blk m c p).squares) (scratch_first m c) (scratch_next m c) (le_of_eq N_0) last (by decide) (ix2 j0 l)).trans
      (zero_add _)).trans (sum_squares m c j0 l)
  · show j0.val = j0.val + 0
    omega
  · show j1.val = j1.val + 0
    omega

end Cert.Proof.Head
end
-- ==== Proof.HeadReference.lean ====
/- The reference of the call with the loss: its seven results are the functions the kernel's arrays hold. -/
module

public import proofs.«01_k».proof.Proof.HeadRun
public import proofs.«01_k».proof.Proof.HeadArray

@[expose] public section

set_option maxRecDepth 16384

noncomputable section

namespace Cert.Proof.HeadRef

open Cert.HeadRefIdeal Cert.HeadRefIdeal.Gen Idealize.ShloMosaic Idealize.ShloMosaic.TcCoe Idealize.SL.Sem
open Cert.Proof.Head (Args args invWidth halfInvWidth)

/-! ## The constants -/

theorem invWidth_eq : invWidth = ((1 / 1024 : ℝ) : EReal) := by
  simp [Ideal.ofBits, Ideal.ieee, -EReal.coe_mul]
  norm_num

theorem halfInvWidth_eq : halfInvWidth = ((1 / 2048 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

/-! ## The values -/

variable (m : (ℓ : Loc nD τ sig) → Buf (Elt Ideal) ℓ) (c : Dev nD) (ρ : Dev nD → PrngReg)

/-- Argument `b` of device `c`. -/
abbrev B (b : Ref sig .tc) : Buf (Elt Ideal) ((c : Thread nD τ).loc b) := m ((c : Thread nD τ).loc b)

/-- The arguments of device `c`. -/
def own : Args 16384 := args (B m c main_arg0) (B m c main_arg1) (B m c main_arg2) (B m c main_arg3)
  (B m c main_arg4) (B m c main_arg5) (B m c main_arg6) (B m c main_arg7)

theorem v1_apply (i : Fin 16384) (l : Fin 1024) : v1 m c (ix2 i l) = (own m c).h2 i l := by
  unfold v1 v0
  pointwise
  exact add_comm _ _

theorem v2_apply (i : Fin 16384) (l : Fin 1024) : v2 m c (ix2 i l) = (own m c).pp i l := by
  unfold v2
  pointwise
  rfl

theorem v9_apply (i : Fin 16384) (l : Fin 1024) : v9 m c (ix2 i l) = (own m c).gate i l := by
  unfold v9 v8 v7 v6 v5 v4 v3 cst cst_0
  pointwise [v1_apply m c]
  rfl

theorem v12_apply (i : Fin 16384) (l : Fin 1024) : v12 m c (ix2 i l)
    = (own m c).gate i l * (1 - (own m c).gate i l) := by
  unfold v12 v11 v10 cst_1
  pointwise [v9_apply m c]

theorem v14_apply (i : Fin 16384) (l : Fin 1024) : v14 m c (ix2 i l) = (own m c).h3 i l := by
  unfold v14 v13
  pointwise [v1_apply m c, v2_apply m c, v9_apply m c]
  rfl

theorem v21_apply (i : Fin 16384) (o : Fin 1) : v21 m c (ix2 i o) = Rms.meanSq (own m c).h3 i := by
  unfold v21 v20 v19 v18 v17 v16 v15 cst_2 cst_3 cst_4
  pointwise [v14_apply m c]
  rfl

theorem v22_apply (i : Fin 16384) (o : Fin 1) : v22 m c (ix2 i o) = Rms.rinv (own m c).h3 i := by
  unfold v22
  pointwise [v21_apply m c]
  rfl

theorem v25_apply (i : Fin 16384) (o : Fin 1) : v25 m c (ix2 i o)
    = Rms.minusHalf * Ideal.div (Rms.rinv (own m c).h3 i) (Rms.meanSq (own m c).h3 i) := by
  unfold v25 v24 v23 cst_5
  pointwise [v21_apply m c, v22_apply m c]

theorem v27_apply (i : Fin 16384) (l : Fin 1024) : v27 m c (ix2 i l) = Rms.xhat (own m c).h3 i l := by
  unfold v27 v26
  pointwise [v14_apply m c, v22_apply m c]
  rfl

theorem v31_apply (i : Fin 16384) (l : Fin 1024) : v31 m c (ix2 i l) = (own m c).diff i l := by
  unfold v31 v30 v29 v28
  pointwise [v27_apply m c]
  rfl

theorem v45_apply (i : Fin 16384) (l : Fin 1024) : v45 m c (ix2 i l) = (own m c).dout i l := by
  unfold v45 v44 v43 v42 v41 v40 v34 v33 cst_6
    cst_11 cst_12 cst_13
  pointwise [v31_apply m c]
  unfold Args.dout
  rw [invWidth_eq, Rms.div_width, Scalars.half_eq, two_eq, ← mul_assoc, mul_comm (Args.diff _ _ _)]
  congr 1
  norm_cast
  norm_num

theorem v47_apply (l : Fin 1024) : v47 m c (ix1 l) = Rms.dg (own m c).dout (own m c).h3 l := by
  unfold v47 v46 cst_14
  pointwise [v27_apply m c, v45_apply m c]
  exact Finset.sum_congr rfl fun i _ => mul_comm _ _

theorem v50_apply (i : Fin 16384) (l : Fin 1024) : v50 m c (ix2 i l) = (own m c).dout i l * B m c main_arg6 (ix1 l) := by
  unfold v50 v49 v28
  pointwise [v45_apply m c]

theorem v61_apply (i : Fin 16384) (l : Fin 1024) : v61 m c (ix2 i l)
    = Rms.half (own m c).dout (own m c).h3 (own m c).g i := by
  unfold v61 v60 v59 v58 v57 v54 v53 v52 cst_16
    cst_17 cst_18
  pointwise [v14_apply m c, v25_apply m c, v50_apply m c]
  exact Fin.sum_univ_one _

theorem v65_apply (i : Fin 16384) (l : Fin 1024) : v65 m c (ix2 i l) = (own m c).dh3 i l := by
  unfold v65 v64 v63 v62 v56 v55
  pointwise [v14_apply m c, v22_apply m c, v50_apply m c,
    v61_apply m c]
  refine Eq.trans ?_ (Rms.dx_eq (own m c).dout (own m c).h3 (own m c).g (fun _ _ => 0) i l)
  rw [zero_add]
  rfl

theorem v66_apply (i : Fin 16384) (l : Fin 1024) : v66 m c (ix2 i l) = (own m c).dpp i l := by
  unfold v66
  pointwise [v9_apply m c, v65_apply m c]
  exact mul_comm _ _

theorem v68_apply (i : Fin 16384) (l : Fin 1024) : v68 m c (ix2 i l) = (own m c).dpg i l := by
  unfold v68 v67
  pointwise [v2_apply m c, v12_apply m c, v65_apply m c]
  exact (mul_assoc _ _ _).symm

/-! ## The results -/

theorem v71_eq : v71 m c = arr2 (own m c).dh2 := by
  funext i
  idx_vars i
  unfold v71 v70
  pointwise [v65_apply m c, v68_apply m c]
  rfl

theorem v72_eq : v72 m c = arr2 (own m c).loss := by
  funext i
  idx_vars i
  unfold v72 v39 v38 v37 v36 v35 v32 cst_7 cst_8
    cst_9 cst_10
  pointwise [v31_apply m c]
  show _ = halfInvWidth * ∑ l, ∑ i, (own m c).diff i l * (own m c).diff i l
  rw [Finset.sum_comm, halfInvWidth_eq, Scalars.half_eq]
  simp only [Rms.div_width, mul_comm _ ((1 / 1024 : ℝ) : EReal)]
  rw [Rms.pos_mul_sum _ (by norm_num), ← mul_assoc]
  congr 1
  norm_cast
  norm_num

theorem v73_eq : v73 m c = arr2 (own m c).dg := by
  funext i
  idx_vars i
  unfold v73 v51 v48 cst_15
  pointwise [v47_apply m c]
  exact Fin.sum_univ_one _

theorem v74_eq : v74 m c = arr2 (own m c).dh2 := by
  funext i
  unfold v74
  exact congrFun (v71_eq m c) i

theorem v75_eq : v75 m c = arr2 (own m c).dpp := by
  funext i
  idx_vars i
  unfold v75
  exact v66_apply m c i0 i1

theorem v76_eq : v76 m c = arr2 (own m c).dpg := by
  funext i
  idx_vars i
  unfold v76
  exact v68_apply m c i0 i1

theorem v77_eq : v77 m c = arr2 (own m c).h2 := by
  funext i
  idx_vars i
  unfold v77
  exact v1_apply m c i0 i1

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v72) = arr2 (own m c).loss
      ∧ r.2.mem ((c.tc : Thread nD τ).loc main_v73) = arr2 (own m c).dg
      ∧ r.2.mem ((c.tc : Thread nD τ).loc main_v71) = arr2 (own m c).dh2
      ∧ r.2.mem ((c.tc : Thread nD τ).loc main_v74) = arr2 (own m c).dh2
      ∧ r.2.mem ((c.tc : Thread nD τ).loc main_v75) = arr2 (own m c).dpp
      ∧ r.2.mem ((c.tc : Thread nD τ).loc main_v76) = arr2 (own m c).dpg
      ∧ r.2.mem ((c.tc : Thread nD τ).loc main_v77) = arr2 (own m c).h2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_values m ρ)
  obtain ⟨h72, h73, h71, h74, h75, h76, h77, hargs⟩ := h c
  refine ⟨?_, ?_, ?_, ?_, ?_, ?_, ?_, hargs⟩
  · exact h72.trans (v72_eq m c)
  · exact h73.trans (v73_eq m c)
  · exact h71.trans (v71_eq m c)
  · exact h74.trans (v74_eq m c)
  · exact h75.trans (v75_eq m c)
  · exact h76.trans (v76_eq m c)
  · exact h77.trans (v77_eq m c)

end Cert.Proof.HeadRef
end
-- ==== Proof.HeadClaim.lean ====
/- The call with the loss computes the reference's results: the equation of the two programs. -/
module

public import proofs.«01_k».proof.Defs
public import proofs.«01_k».proof.Proof.HeadReference
public import Idealize.ShloMosaic.Lib.Quiescent

@[expose] public section

set_option maxRecDepth 16384

noncomputable section

namespace Cert.Proof.HeadClaim

open Idealize.ShloMosaic Idealize.ShloMosaic.TcCoe Idealize.SL.Sem Cert.Proof.Head

/-- The reference leaves its arguments as they were, and every counter at zero. -/
theorem reference_frame : Cert.quiescent_HeadRefIdeal (hHeadRefIdeal := Cert.HeadRefIdeal.Gen.facts) :=
  fun m ρ _ => (θ_run Cert.HeadRefIdeal.defs _ _).mono
    (fun r h => ⟨fun c => (h c).2.2.2.2.2.2.2, Idealize.ShloMosaic.sem_eq_zero_of_no_sems (by decide) r.2⟩)
    (HeadRef.run_values m ρ)

set_option maxHeartbeats 1000000 in
/-- The seven result arrays of the kernel are the seven of the reference. -/
theorem algebraic : Cert.algebraic_HeadCallIdeal_HeadRefIdeal
    (hHeadCallIdeal := Cert.HeadCallIdeal.Gen.facts) (hHeadRefIdeal := Cert.HeadRefIdeal.Gen.facts) := by
  intro m g m' g' _ hagree
  refine ⟨fun c => (Cert.HeadCallIdeal.Gen.dats m 0 c).arrAt 8 Cert.HeadCallIdeal.cfg0.N,
    fun c => (Cert.HeadCallIdeal.Gen.dats m 0 c).arrAt 9 Cert.HeadCallIdeal.cfg0.N,
    fun c => (Cert.HeadCallIdeal.Gen.dats m 0 c).arrAt 10 Cert.HeadCallIdeal.cfg0.N,
    fun c => (Cert.HeadCallIdeal.Gen.dats m 0 c).arrAt 11 Cert.HeadCallIdeal.cfg0.N,
    fun c => (Cert.HeadCallIdeal.Gen.dats m 0 c).arrAt 12 Cert.HeadCallIdeal.cfg0.N,
    fun c => (Cert.HeadCallIdeal.Gen.dats m 0 c).arrAt 13 Cert.HeadCallIdeal.cfg0.N,
    fun c => (Cert.HeadCallIdeal.Gen.dats m 0 c).arrAt 14 Cert.HeadCallIdeal.cfg0.N,
    Cert.HeadCallIdeal.Value.run_blocks (F := Ideal) m g, ?_⟩
  refine (θ_run Cert.HeadRefIdeal.defs _ _).mono (fun r h c => ?_) (HeadRef.run m' g')
  obtain ⟨h72, h73, h71, h74, h75, h76, h77, hargs⟩ := h c
  obtain ⟨a0, a1, a2, a3, a4, a5, a6, a7⟩ := hagree c
  have e : HeadRef.own m' c = own m c := by
    have e0 : HeadRef.B m' c Cert.HeadRefIdeal.main_arg0 = A m c Cert.HeadCallIdeal.main_arg0 := a0
    have e1 : HeadRef.B m' c Cert.HeadRefIdeal.main_arg1 = A m c Cert.HeadCallIdeal.main_arg1 := a1
    have e2 : HeadRef.B m' c Cert.HeadRefIdeal.main_arg2 = A m c Cert.HeadCallIdeal.main_arg2 := a2
    have e3 : HeadRef.B m' c Cert.HeadRefIdeal.main_arg3 = A m c Cert.HeadCallIdeal.main_arg3 := a3
    have e4 : HeadRef.B m' c Cert.HeadRefIdeal.main_arg4 = A m c Cert.HeadCallIdeal.main_arg4 := a4
    have e5 : HeadRef.B m' c Cert.HeadRefIdeal.main_arg5 = A m c Cert.HeadCallIdeal.main_arg5 := a5
    have e6 : HeadRef.B m' c Cert.HeadRefIdeal.main_arg6 = A m c Cert.HeadCallIdeal.main_arg6 := a6
    have e7 : HeadRef.B m' c Cert.HeadRefIdeal.main_arg7 = A m c Cert.HeadCallIdeal.main_arg7 := a7
    unfold HeadRef.own own
    rw [e0, e1, e2, e3, e4, e5, e6, e7]
  rw [e] at h72 h73 h71 h74 h75 h76 h77
  exact ⟨h72.trans (final8 m c).symm, h73.trans (final9 m c).symm, h71.trans (final10 m c).symm, h74.trans (final11 m c).symm,
    h75.trans (final12 m c).symm, h76.trans (final13 m c).symm, h77.trans (final14 m c).symm, hargs⟩

end Cert.Proof.HeadClaim
end
-- ==== Proof.DwUpClaim.lean ====
/- The gradient of the other input projection's weight: the same two programs as for the gate's, on another cotangent. -/
module

public import proofs.«01_k».proof.Proof.DwGateClaim
public import proofs.«01_k».proof.Proof.Gen.DwUpCallIdeal
public import proofs.«01_k».proof.Proof.Gen.DwUpRefIdeal

@[expose] public section

set_option maxRecDepth 16384

noncomputable section

namespace Cert.Proof.DwUpClaim

open Idealize.ShloMosaic

/-- The two calls have the same bodies. -/
theorem bodies : Cert.DwUpCallIdeal.defs₀ (F := Ideal) = Cert.DwGateCallIdeal.defs₀ := by
  unfold Cert.DwUpCallIdeal.defs₀ Cert.DwGateCallIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- … and so the same table of bodies, pipelines included. -/
theorem table : Cert.DwUpCallIdeal.defs (F := Ideal) = Cert.DwGateCallIdeal.defs :=
  congrArg (Pipeline.defs Cert.DwGateCallIdeal.pcfgs) bodies

/-- The reference leaves its arguments as they were, and every counter at zero. -/
theorem reference_frame : Cert.quiescent_DwUpRefIdeal (hDwUpRefIdeal := Cert.DwUpRefIdeal.Gen.facts) :=
  DwGateClaim.reference_frame

/-- The result array of the kernel is that of the reference. -/
theorem algebraic : Cert.algebraic_DwUpCallIdeal_DwUpRefIdeal
    (hDwUpCallIdeal := Cert.DwUpCallIdeal.Gen.facts) (hDwUpRefIdeal := Cert.DwUpRefIdeal.Gen.facts) := by
  intro m g m' g' h ha
  have k := DwGateClaim.algebraic m g m' g' h ha
  rw [← table] at k
  exact k

end Cert.Proof.DwUpClaim
end
-- ==== Proof.ZGatesBlock.lean ====
/- The call of the gates' projection: what the body leaves in its output block. -/
module

public import proofs.«01_k».proof.Proof.Gen.ZGatesCallIdeal.Value
public import Idealize.ShloMosaic.Lib.Pointwise
public import Idealize.ShloMosaic.Lib.Pipeline.ValueKit
public import proofs.«01_k».proof.Proof.Rms
public import proofs.«01_k».proof.Proof.Arrays

@[expose] public section

set_option maxRecDepth 16384

noncomputable section

namespace Cert.Proof.ZGates

open Cert.ZGatesCallIdeal Cert.ZGatesCallIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The output block, of a row of `a` and a column of `b`. -/
theorem out2_apply (a b : Vec Ideal S1024x1024 .bf16) (r f : Fin 1024) {n w : Fin 1024 → EReal}
    (ha : ∀ k, a (ix2 r k) = n k) (hb : ∀ k, b (ix2 k f) = w k) : out0_2 a b (ix2 r f) = ∑ k, n k * w k := by
  unfold out0_2
  rw [View.canon_unit_zero hz]
  unfold_payloads
  pointwise [ha, hb]

end Cert.Proof.ZGates
end
-- ==== Proof.ZGatesArray.lean ====
/- The call of the gates' projection: what the result array ends holding, as a function of the arguments. -/
module

public import proofs.«01_k».proof.Proof.Corner
public import proofs.«01_k».proof.Proof.ZGatesBlock

@[expose] public section

set_option maxRecDepth 16384

noncomputable section

namespace Cert.Proof.ZGates

open Cert.ZGatesCallIdeal Cert.ZGatesCallIdeal.Gen Idealize.ShloMosaic Idealize.ShloMosaic.TcCoe Idealize.SL.Sem
open Idealize.ShloMosaic.Pipeline (Dat)

/-! ## The mathematics, on the whole arrays -/

section Spec

variable (x : Vec Ideal S16384x1024 .f32) (g : Vec Ideal S1024 .f32) (w : Vec Ideal S1024x7168 .f32)

/-- The normed rows. -/
def norm (i : Fin 16384) (l : Fin 1024) : EReal := Rms.xhat (at2 x) i l * g (ix1 l)

/-- The gates, before their sigmoid: the normed rows times the weight's last 2048 columns. -/
def gates (i : Fin 16384) (f : Fin 2048) : EReal := ∑ k : Fin 1024, norm x g i k * w (ix2 k ⟨5120 + f.val, by omega⟩)

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_w : V m c main_v0 = A m c main_arg2 := by unfold_abbrev_sides; after_results; rfl
theorem V_n (i : Fin 16384) (l : Fin 1024) : V m c main_v14 (ix2 i l) = norm (A m c main_arg0) (A m c main_arg1) i l := by
  unfold_abbrev_sides; after_results; pointwise; rfl

/-! ## What the windows read -/

/-- Row `r` of point `t`'s block, as a row of the whole array. -/
def row (t : Fin cfg0.N) (r : Fin 1024) : Fin 16384 :=
  ⟨t.val / 2 * 1024 + r.val, by have h := t.isLt; have hN : cfg0.N = 32 := N_0; have := r.isLt; omega⟩

/-- Column `f` of point `t`'s block, as a column of the whole array. -/
def col (t : Fin cfg0.N) (f : Fin 1024) : Fin 2048 := ⟨t.val % 2 * 1024 + f.val, by omega⟩

/-- Where the windows have their blocks at point `t`. -/
theorem corners : ∀ t : Fin grid0.N,
    (win0_0.index t 0 * win0_0.size 0 = t.val / 2 * 1024 ∧ win0_0.index t 1 * win0_0.size 1 = 0)
    ∧ (win0_1.index t 0 * win0_1.size 0 = 0 ∧ win0_1.index t 1 * win0_1.size 1 = 5120 + t.val % 2 * 1024)
    ∧ (win0_2.index t 0 * win0_2.size 0 = t.val / 2 * 1024 ∧ win0_2.index t 1 * win0_2.size 1 = t.val % 2 * 1024) := by decide +kernel

theorem iblk0 (t : Fin cfg0.N) (r l : Fin 1024) :
    (iblk m c 0 t : Vec Ideal S1024x1024 .bf16) (ix2 r l) = norm (A m c main_arg0) (A m c main_arg1) (row t r) l :=
  entry_at_corner (V := V m c main_v14) (V_n m c) (r := r) (l := l)
    (corners t).1 rfl rfl rfl (Nat.zero_add _).symm

theorem iblk1 (t : Fin cfg0.N) (k f : Fin 1024) :
    (iblk m c 1 t : Vec Ideal S1024x1024 .bf16) (ix2 k f) = A m c main_arg2 (ix2 k ⟨5120 + (col t f).val, by omega⟩) := by
  have e := (corners t).2.1
  refine (congrArg (V m c main_v0) (two_eq ?_ ?_)).trans (congrFun (V_w m c) _)
  · show win0_1.index t 0 * win0_1.size 0 + 1 * k.val = k.val
    rw [e.1]; omega
  · show win0_1.index t 1 * win0_1.size 1 + 1 * f.val = 5120 + (t.val % 2 * 1024 + f.val)
    rw [e.2]; omega

/-! ## What a grid point leaves in its output block -/

theorem block (t : Fin cfg0.N) (r f : Fin 1024) : out0_2 (iblk m c 0 t) (iblk m c 1 t) (ix2 r f)
    = gates (A m c main_arg0) (A m c main_arg1) (A m c main_arg2) (row t r) (col t f) :=
  out2_apply _ _ r f (iblk0 m c t r) (fun k => iblk1 m c t k f)

/-! ## The result array after the run -/

theorem final2 : (dats m 0 c).arrAt 2 cfg0.N = arr2 (gates (A m c main_arg0) (A m c main_arg1) (A m c main_arg2)) := by
  refine (dats m 0 c).arrAt_eq_of_covers 2 _ (by decide +kernel) fun t hf y => ?_
  have e := (corners t).2.2
  idx_vars y
  refine (congrFun (after0_2 m c t) (ix2 y0 y1)).trans ((block m c t y0 y1).trans
    (congrArg₂ (gates (A m c main_arg0) (A m c main_arg1) (A m c main_arg2)) (Fin.ext ?_) (Fin.ext ?_)))
  · show t.val / 2 * 1024 + y0.val = win0_2.index t 0 * win0_2.size 0 + 1 * y0.val
    rw [e.1]; omega
  · show t.val % 2 * 1024 + y1.val = win0_2.index t 1 * win0_2.size 1 + 1 * y1.val
    rw [e.2]; omega

end Cert.Proof.ZGates
end
-- ==== Proof.ZGatesReference.lean ====
/- The reference's gates are the function the kernel's array holds. -/
module

public import proofs.«01_k».proof.Proof.Gen.ZGatesRefIdeal.Read
public import proofs.«01_k».proof.Proof.ZGatesArray

@[expose] public section

set_option maxRecDepth 16384

noncomputable section

namespace Cert.Proof.ZGatesRef

open Cert.ZGatesRefIdeal Cert.ZGatesRefIdeal.Gen Cert.ZGatesRefIdeal.Read Idealize.ShloMosaic Idealize.ShloMosaic.TcCoe Idealize.SL.Sem
open Cert.Proof.ZGates (norm gates)

variable (x0 : Vec Ideal S16384x1024 .f32) (x1 : Vec Ideal S1024 .f32) (x2 : Vec Ideal S1024x7168 .f32)

theorem v12_apply (i : Fin 16384) (l : Fin 1024) : val_main_v12 (F := Ideal) x0 x1 (ix2 i l) = norm x0 x1 i l := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem v15_eq : val_main_v15 (F := Ideal) x0 x1 x2 = arr2 (gates x0 x1 x2) := by
  funext i
  idx_vars i
  unfold val_main_v15 val_main_v14 val_main_v13
  pointwise [v12_apply]
  rfl

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its result is the function of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v15) = arr2 (gates (B m c main_arg0) (B m c main_arg1) (B m c main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.ZGatesRefIdeal.Value.run (F := Ideal) m ρ)
  obtain ⟨h17, hargs⟩ := h c
  exact ⟨h17.trans ((val_main_v15_eq _ _ _).trans (v15_eq (B m c main_arg0) (B m c main_arg1) (B m c main_arg2))), hargs⟩

end Cert.Proof.ZGatesRef
end
-- ==== Proof.ZGatesClaim.lean ====
/- The call of the gates' projection computes the reference's gates: the equation of the two programs. -/
module

public import proofs.«01_k».proof.Defs
public import proofs.«01_k».proof.Proof.ZGatesReference
public import Idealize.ShloMosaic.Lib.Quiescent

@[expose] public section

set_option maxRecDepth 16384

noncomputable section

namespace Cert.Proof.ZGatesClaim

open Idealize.ShloMosaic Idealize.ShloMosaic.TcCoe Idealize.SL.Sem Cert.Proof.ZGates

/-- The reference leaves its arguments as they were, and every counter at zero. -/
theorem reference_frame : Cert.quiescent_ZGatesRefIdeal (hZGatesRefIdeal := Cert.ZGatesRefIdeal.Gen.facts) :=
  fun m ρ _ => (θ_run Cert.ZGatesRefIdeal.defs _ _).mono
    (fun r h => ⟨fun c => (h c).2, Idealize.ShloMosaic.sem_eq_zero_of_no_sems (by decide) r.2⟩)
    (Cert.ZGatesRefIdeal.Value.run (F := Ideal) m ρ)

set_option maxHeartbeats 1000000 in
/-- The result array of the kernel is that of the reference. -/
theorem algebraic : Cert.algebraic_ZGatesCallIdeal_ZGatesRefIdeal
    (hZGatesCallIdeal := Cert.ZGatesCallIdeal.Gen.facts) (hZGatesRefIdeal := Cert.ZGatesRefIdeal.Gen.facts) := by
  intro m g m' g' _ hagree
  refine ⟨fun c => (Cert.ZGatesCallIdeal.Gen.dats m 0 c).arrAt 2 Cert.ZGatesCallIdeal.cfg0.N,
    Cert.ZGatesCallIdeal.Value.run_blocks (F := Ideal) m g, ?_⟩
  refine (θ_run Cert.ZGatesRefIdeal.defs _ _).mono (fun r h c => ?_) (ZGatesRef.run m' g')
  obtain ⟨h17, hargs⟩ := h c
  obtain ⟨a0, a1, a2⟩ := hagree c
  have e0 : ZGatesRef.B m' c Cert.ZGatesRefIdeal.main_arg0 = A m c Cert.ZGatesCallIdeal.main_arg0 := a0
  have e1 : ZGatesRef.B m' c Cert.ZGatesRefIdeal.main_arg1 = A m c Cert.ZGatesCallIdeal.main_arg1 := a1
  have e2 : ZGatesRef.B m' c Cert.ZGatesRefIdeal.main_arg2 = A m c Cert.ZGatesCallIdeal.main_arg2 := a2
  refine ⟨?_, hargs⟩
  refine h17.trans (Eq.trans ?_ (final2 m c).symm)
  rw [e0, e1, e2]

end Cert.Proof.ZGatesClaim
end
-- ==== Proof.DwQkvBlock.lean ====
/- The gradient of the input projection's weight, by the queries, keys and values: what the body's payloads are at an index. -/
module

public import proofs.«01_k».proof.Proof.Gen.DwQkvCallIdeal.Value
public import Idealize.ShloMosaic.Lib.Pointwise
public import Idealize.ShloMosaic.Lib.Pipeline.ValueKit
public import Idealize.ShloMosaic.Lib.Pipeline.ReadBack
public import proofs.«01_k».proof.Proof.Rms
public import proofs.«01_k».proof.Proof.Arrays

@[expose] public section

set_option maxRecDepth 16384

noncomputable section

namespace Cert.Proof.DwQkv

open Cert.DwQkvCallIdeal Cert.DwQkvCallIdeal.Gen Idealize.ShloMosaic Idealize.ShloMosaic.TcCoe Idealize.SL.Sem
open Idealize.ShloMosaic.Pipeline (Dat)

variable (a : Vec Ideal S2048x1024 .bf16) (b : Vec Ideal S2048x1536 .bf16) (acc : Vec Ideal S1024x1536 .f32) (l : Fin 1024) (f : Fin 1536)

/-- The product of the two blocks over their rows. -/
theorem pay1_apply : k0_pay1 a b (ix2 l f) = ∑ r : Fin 2048, a (ix2 r l) * b (ix2 r f) := by
  unfold k0_pay1
  pointwise

/-- The product added to what the scratch held. -/
theorem pay2_apply : k0_pay2 acc a b (ix2 l f) = acc (ix2 l f) + ∑ r : Fin 2048, a (ix2 r l) * b (ix2 r f) := by
  unfold k0_pay2
  pointwise

/-- The narrower format holds the same number. -/
theorem pay3_apply : k0_pay3 acc (ix2 l f) = acc (ix2 l f) := by
  unfold k0_pay3
  pointwise

end Cert.Proof.DwQkv
end
-- ==== Proof.DwQkvArray.lean ====
/- The gradient of the input projection's weight, by the queries, keys and values: what the columns the call writes end holding,
   as a function of the arguments. -/
module

public import proofs.«01_k».proof.Proof.DwQkvBlock
public import proofs.«01_k».proof.Proof.Wgrad

@[expose] public section

set_option maxRecDepth 16384

noncomputable section

namespace Cert.Proof.DwQkv

open Cert.DwQkvCallIdeal Cert.DwQkvCallIdeal.Gen Idealize.ShloMosaic Idealize.ShloMosaic.TcCoe Idealize.SL.Sem
open Idealize.ShloMosaic.Pipeline (Dat)
open Wgrad (norm row)

/-! ## The mathematics, on the whole arrays -/

section Spec

variable (x : Vec Ideal S16384x1024 .f32) (g : Vec Ideal S1024 .f32) (ct : Vec Ideal S16384x4608 .f32)

/-- The weight's gradient: the normed rows against the cotangent, summed over all rows. -/
abbrev gw : Fin 1024 → Fin 4608 → EReal := Wgrad.gw (norm x g) (at2 ct)

/-- … on the whole array: in the columns the call does not write, anything (here 0). -/
def wide (l : Fin 1024) (f : Fin 7168) : EReal := if h : f.val < 4608 then gw x g ct l ⟨f.val, h⟩ else 0

theorem wide_of_lt (l : Fin 1024) (f : Fin 7168) (f' : Fin 4608) (h : f.val = f'.val) : wide x g ct l f = gw x g ct l f' := by
  have e : f' = ⟨f.val, h ▸ f'.isLt⟩ := Fin.ext h.symm
  rw [e]
  exact dif_pos _

end Spec

/-! ## The host code before the call -/

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v14 : V m c main_v14 = A m c main_arg2 := by unfold_abbrev_sides; after_results; rfl
theorem V_v13 (i : Fin 16384) (l : Fin 1024) : V m c main_v13 (ix2 i l) = norm (A m c main_arg0) (A m c main_arg1) i l := by
  unfold_abbrev_sides; after_results; pointwise; rfl

/-! ## What the windows read -/

/-- Column `f` of point `t`'s block, as a column of the whole array. -/
def col (t : Fin cfg0.N) (f : Fin 1536) : Fin 4608 :=
  ⟨t.val / 8 * 1536 + f.val, by have h := t.isLt; have hN : cfg0.N = 24 := N_0; have := f.isLt; omega⟩

/-- Where the windows have their blocks at point `t`. -/
theorem corners : ∀ t : Fin grid0.N,
    (win0_0.index t 0 * win0_0.size 0 = t.val % 8 * 2048 ∧ win0_0.index t 1 * win0_0.size 1 = 0)
    ∧ (win0_1.index t 0 * win0_1.size 0 = t.val % 8 * 2048 ∧ win0_1.index t 1 * win0_1.size 1 = t.val / 8 * 1536)
    ∧ (win0_2.index t 0 * win0_2.size 0 = 0 ∧ win0_2.index t 1 * win0_2.size 1 = t.val / 8 * 1536) := by decide +kernel

theorem iblk0 (s : Fin cfg0.N) (r : Fin 2048) (l : Fin 1024) :
    (iblk m c 0 s : Vec Ideal S2048x1024 .bf16) (ix2 r l) = norm (A m c main_arg0) (A m c main_arg1) (row s.val r) l :=
  entry_at_corner (V := V m c main_v13) (V_v13 m c) (r := r) (l := l) (corners s).1 rfl rfl rfl (Nat.zero_add _).symm

theorem iblk1 (s t : Fin cfg0.N) (h : s.val / 8 = t.val / 8) (r : Fin 2048) (f : Fin 1536) :
    (iblk m c 1 s : Vec Ideal S2048x1536 .bf16) (ix2 r f) = at2 (A m c main_arg2) (row s.val r) (col t f) :=
  entry_at_corner (V := V m c main_v14) (fun i k => congrFun (V_v14 m c) (ix2 i k)) (r := r) (l := f) (corners s).2.1 rfl rfl rfl
    (congrArg (· * 1536 + f.val) h.symm)

/-! ## What the grid points leave in the output block -/

/-- The output block at the last point of a run: the gradient there, summed over all rows. -/
theorem out_block (t : Fin cfg0.N) (h : t.val % 8 = 7) (l : Fin 1024) (f : Fin 1536) :
    (outsAt0 m c t.val t.isLt).1 (ix2 l f) = gw (A m c main_arg0) (A m c main_arg1) (A m c main_arg2) l (col t f) := by
  refine Wgrad.out_block (out := fun n h => (outsAt0 m c n h).1) (scr := fun n h => (outsAt0 m c n h).2)
    (a := fun t => iblk m c 0 t) (b := fun t => iblk m c 1 t) (fun t h l f => ?_) (fun t h l f => ?_) (fun t h l f => ?_)
    (X := fun _ => norm (A m c main_arg0) (A m c main_arg1)) (Y := fun t i f => at2 (A m c main_arg2) i (col t f))
    (fun s _ _ r l => iblk0 m c s r l) (fun s t h r f => iblk1 m c s t h r f) t h l f
  · show (outsAt0 m c t.val t.isLt).2 (ix2 l f) = _
    rw [outsAt0_A m c t h (by omega) (by omega)]
    frame_out
    exact pay1_apply (iblk m c 0 t) (iblk m c 1 t) l f
  · show (outsAt0 m c t.val t.isLt).2 (ix2 l f) = _
    by_cases h7 : t.val % 8 = 7
    on_goal 1 => rw [outsAt0_C m c t h (by omega) h7]
    on_goal 2 => rw [outsAt0_B m c t h (by omega) h7]
    all_goals
      frame_out
      simp only [read_unread_whole]
      exact pay2_apply (iblk m c 0 t) (iblk m c 1 t) _ l f
  · show (outsAt0 m c t.val t.isLt).1 (ix2 l f) = (outsAt0 m c t.val t.isLt).2 (ix2 l f)
    rw [outsAt0_C m c t (by omega) (by omega) h]
    frame_out
    exact pay3_apply _ l f

/-! ## The columns of the result array that the call writes, after the run -/

theorem final2 : (dats m 0 c).arrAt 2 cfg0.N = fun i =>
    if (i 1 : Nat) / 1536 < 3 then arr2 (wide (A m c main_arg0) (A m c main_arg1) (A m c main_arg2)) i else (dats m 0 c).A 2 i := by
  refine (dats m 0 c).arrAt_eq_of_coversWhere 2 _ (fun β => β (1 : Fin _) < 3) (by decide +kernel) (fun t hf y => ?_) (fun j => Iff.rfl)
  have e := (corners t).2.2
  let y0 : Fin 1024 := win0_2.xinj (grid0.coords t) y 0
  let y1 : Fin 1536 := win0_2.xinj (grid0.coords t) y 1
  have hy : win0_2.xinj (grid0.coords t) y = ix2 y0 y1 := two_eq rfl rfl
  refine (congrFun (after0_2 m c t) _).trans ((congrArg _ hy).trans ((out_block m c t ((flush0_2 t).mp hf) y0 y1).trans
    ((wide_of_lt _ _ _ _ _ _ ?_).symm.trans
      (congrArg₂ (wide (A m c main_arg0) (A m c main_arg1) (A m c main_arg2)) (Fin.ext ?_) rfl))))
  · show win0_2.index t 1 * win0_2.size 1 + 1 * y1.val = t.val / 8 * 1536 + y1.val
    rw [e.2]; omega
  · show y0.val = win0_2.index t 0 * win0_2.size 0 + 1 * y0.val
    rw [e.1]; omega

theorem final2_apply (i : S1024x7168.Idx) (hi : (i 1).val < 4608) :
    (dats m 0 c).arrAt 2 cfg0.N i = arr2 (wide (A m c main_arg0) (A m c main_arg1) (A m c main_arg2)) i :=
  (congrFun (final2 m c) i).trans (if_pos (by omega))

end Cert.Proof.DwQkv
end
-- ==== Proof.DwQkvReference.lean ====
/- The reference gradient of the input projection's weight is, in the columns of the queries, keys and values, the function
   the kernel's array holds. -/
module

public import proofs.«01_k».proof.Proof.DwGateReference
public import proofs.«01_k».proof.Proof.Gen.DwQkvRefIdeal.Read
public import proofs.«01_k».proof.Proof.DwQkvArray
public import Idealize.ShloMosaic.Lib.KernelVsHost

@[expose] public section

set_option maxRecDepth 16384

noncomputable section

namespace Cert.Proof.DwQkvRef

open Cert.DwQkvRefIdeal Cert.DwQkvRefIdeal.Gen Cert.DwQkvRefIdeal.Read Idealize.ShloMosaic Idealize.ShloMosaic.TcCoe Idealize.SL.Sem
open Cert.Proof.DwQkv (gw wide)
open Cert.Proof.Wgrad (norm)

variable (x0 : Vec Ideal S16384x1024 .f32) (x1 : Vec Ideal S1024 .f32) (x2 : Vec Ideal S16384x4608 .f32)

theorem v13_apply (i : Fin 16384) (l : Fin 1024) : val_main_v13 (F := Ideal) x0 x1 (ix2 i l) = norm x0 x1 i l :=
  DwGateRef.v13_apply x0 x1 i l

/-- The padded cotangent, in a column of the cotangent. -/
theorem v16_apply (i : Fin 16384) (f : Fin 7168) (f' : Fin 4608) (h : f.val = f'.val) :
    val_main_v16 (F := Ideal) x2 (ix2 i f) = x2 (ix2 i f') := by
  unfold val_main_v16
  refine pad_apply_of_inside _ _ _ _ _ _ _ (ix2 i f) (ix2 i f') fun a => ?_
  match a with
  | ⟨0, _⟩ => show i.val = 0 + i.val * 1; omega
  | ⟨1, _⟩ => show f.val = 0 + f'.val * 1; omega

theorem v17_apply (f : Fin 7168) (f' : Fin 4608) (h : f.val = f'.val) (l : Fin 1024) :
    val_main_v17 (F := Ideal) x0 x1 x2 (ix2 f l) = gw x0 x1 x2 l f' := by
  unfold val_main_v17
  pointwise [v13_apply, fun i => v16_apply x2 i f f' h]
  exact Wgrad.gw_comm (norm x0 x1) (at2 x2) l f'

theorem v19_apply (i : S1024x7168.Idx) (hi : (i 1).val < 4608) : val_main_v19 (F := Ideal) x0 x1 x2 i = arr2 (wide x0 x1 x2) i := by
  idx_vars i
  unfold val_main_v19 val_main_v18
  pointwise
  exact (v17_apply x0 x1 x2 i1 ⟨i1.val, hi⟩ rfl i0).trans (DwQkv.wide_of_lt x0 x1 x2 i0 i1 ⟨i1.val, hi⟩ rfl).symm

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its result is, in those columns, the function of the arguments, which it leaves as they were. -/
theorem run : θ_run (defs (F := Ideal)) (onTc (τ := τ) (main (F := Ideal))) ⟨m, fun _ => 0, ρ⟩ fun r => ∀ c : Dev nD,
      (∀ i : S1024x7168.Idx, (i 1).val < 4608 → r.2.mem ((c.tc : Thread nD τ).loc main_v19) i
        = arr2 (wide (B m c main_arg0) (B m c main_arg1) (B m c main_arg2)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.DwQkvRefIdeal.Value.run (F := Ideal) m ρ)
  obtain ⟨h19, hargs⟩ := h c
  exact ⟨fun i hi => (congrFun (h19.trans (val_main_v19_eq _ _ _)) i).trans
    (v19_apply (B m c main_arg0) (B m c main_arg1) (B m c main_arg2) i hi), hargs⟩

end Cert.Proof.DwQkvRef
end
-- ==== Proof.DwQkvClaim.lean ====
/- The kernel computes the reference's gradient of the input projection's weight in the columns of the queries, keys and
   values: the equation of the two programs. -/
module

public import proofs.«01_k».proof.Defs
public import proofs.«01_k».proof.Proof.DwQkvReference
public import proofs.«01_k».proof.Proof.Gen.On_qkv_columns
public import Idealize.ShloMosaic.Lib.Quiescent
public import Idealize.ShloMosaic.Lib.DynamicIndex

@[expose] public section

set_option maxRecDepth 16384

noncomputable section

namespace Cert.Proof.DwQkvClaim

open Idealize.ShloMosaic Idealize.ShloMosaic.TcCoe Idealize.SL.Sem Cert.Proof.DwQkv

/-- The reference leaves its arguments as they were, and every counter at zero. -/
theorem reference_frame : Cert.quiescent_DwQkvRefIdeal (hDwQkvRefIdeal := Cert.DwQkvRefIdeal.Gen.facts) :=
  fun m ρ _ => (θ_run Cert.DwQkvRefIdeal.defs _ _).mono
    (fun r h => ⟨fun c => (h c).2, Idealize.ShloMosaic.sem_eq_zero_of_no_sems (by decide) r.2⟩)
    (Cert.DwQkvRefIdeal.Value.run (F := Ideal) m ρ)

/-- The mask, at an index: it is set in the columns before the 4608th. -/
theorem lt_of_mask (x : Vec Ideal Cert.DwQkvCallIdeal.S16384x1024 .f32) (g : Vec Ideal Cert.DwQkvCallIdeal.S1024 .f32)
    (ct : Vec Ideal Cert.DwQkvCallIdeal.S16384x4608 .f32) (i : Cert.On_qkv_columns.S1024x7168.Idx)
    (h : (letI := Cert.On_qkv_columns.Gen.facts; Cert.On_qkv_columns.fn (F := Ideal) x g ct) i = 1#1) : (i 1).val < 4608 := by
  have h' : IntOp.cmpi .slt (BitVec.ofNat 32 (i 1).val) 4608#32 = 1#1 := h
  have hi : (i 1).val < 7168 := (i 1).isLt
  revert h'
  generalize (i 1).val = n at hi
  intro h'
  by_contra hn
  have e : IntOp.cmpi .slt (BitVec.ofNat 32 n) 4608#32 = 0#1 := by
    have : (BitVec.ofNat 32 n).slt 4608#32 = false := by
      have h1 : (BitVec.ofNat 32 n).toInt = n := toInt_ofNat_of_lt (by omega)
      simp only [BitVec.slt, h1, decide_eq_false_iff_not]
      show ¬((n : Int) < 4608)
      omega
    exact congrArg BitVec.ofBool this
  rw [e] at h'
  exact absurd h' (by decide)

set_option maxHeartbeats 1000000 in
/-- In the columns the mask names, the result array of the kernel is that of the reference. -/
theorem algebraic : Cert.algebraic_DwQkvCallIdeal_DwQkvRefIdeal_on_qkv_columns
    (hDwQkvCallIdeal := Cert.DwQkvCallIdeal.Gen.facts) (hDwQkvRefIdeal := Cert.DwQkvRefIdeal.Gen.facts)
    (hOn_qkv_columns := Cert.On_qkv_columns.Gen.facts) := by
  intro m g m' g' _ hagree
  refine ⟨fun c => arr2 (wide (A m c Cert.DwQkvCallIdeal.main_arg0) (A m c Cert.DwQkvCallIdeal.main_arg1)
    (A m c Cert.DwQkvCallIdeal.main_arg2)), ?_, ?_⟩
  · refine (θ_run Cert.DwQkvCallIdeal.defs _ _).mono (fun r h c => ?_) (Cert.DwQkvCallIdeal.Value.run_blocks (F := Ideal) m g)
    obtain ⟨h2, hargs⟩ := h c
    exact ⟨fun i hi => (congrFun h2 i).trans (final2_apply m c i (lt_of_mask _ _ _ i hi)), hargs⟩
  refine (θ_run Cert.DwQkvRefIdeal.defs _ _).mono (fun r h c => ?_) (DwQkvRef.run m' g')
  obtain ⟨h19, hargs⟩ := h c
  obtain ⟨a0, a1, a2⟩ := hagree c
  have e0 : DwQkvRef.B m' c Cert.DwQkvRefIdeal.main_arg0 = A m c Cert.DwQkvCallIdeal.main_arg0 := a0
  have e1 : DwQkvRef.B m' c Cert.DwQkvRefIdeal.main_arg1 = A m c Cert.DwQkvCallIdeal.main_arg1 := a1
  have e2 : DwQkvRef.B m' c Cert.DwQkvRefIdeal.main_arg2 = A m c Cert.DwQkvCallIdeal.main_arg2 := a2
  refine ⟨fun i hi => (h19 i (lt_of_mask _ _ _ i hi)).trans ?_, hargs⟩
  rw [e0, e1, e2]

end Cert.Proof.DwQkvClaim
end
-- ==== Proof.GluBlock.lean ====
/- The merge of the two branches: what the body's four output blocks are at an index. -/
module

public import proofs.«01_k».proof.Proof.Gen.GluCallIdeal.Value
public import Idealize.ShloMosaic.Lib.Pointwise
public import Idealize.ShloMosaic.Lib.Pipeline.ValueKit
public import proofs.«01_k».proof.Proof.Scalars
public import proofs.«01_k».proof.Proof.Rms
public import proofs.«01_k».proof.Proof.Arrays

@[expose] public section

set_option maxRecDepth 16384

noncomputable section

namespace Cert.Proof.Glu

open Cert.GluCallIdeal Cert.GluCallIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

variable (y : Vec Ideal S1024x512 .bf16) (wa : Vec Ideal S512x1024 .bf16) (y' : Vec Ideal S1024x512 .bf16)
  (wb : Vec Ideal S512x1024 .bf16) (at' : Vec Ideal S1024x512 .bf16) (wp : Vec Ideal S512x1024 .bf16)
  (za zs : Vec Ideal S1024x1024 .bf16) (r l : Fin 1024)

variable {n n' q u v w : Fin 512 → EReal} {a s : EReal}

/-- The block of the linear unit's value. -/
theorem out9_apply (hy : ∀ k, y (ix2 r k) = n k) (ha : ∀ k, wa (ix2 k l) = u k) :
    out0_9 y wa y' wb at' wp za zs (ix2 r l) = ∑ k, n k * u k := by
  unfold out0_9
  rw [View.canon_unit_zero hz]
  unfold_payloads
  pointwise [hy, ha]

/-- The block of the linear unit's gate before its sigmoid. -/
theorem out10_apply (hy : ∀ k, y' (ix2 r k) = n' k) (hb : ∀ k, wb (ix2 k l) = v k) :
    out0_10 y wa y' wb at' wp za zs (ix2 r l) = ∑ k, n' k * v k := by
  unfold out0_10
  rw [View.canon_unit_zero hz]
  unfold_payloads
  pointwise [hy, hb]

/-- The block of the attention branch's projection. -/
theorem out11_apply (hq : ∀ k, at' (ix2 r k) = q k) (hp : ∀ k, wp (ix2 k l) = w k) :
    out0_11 y wa y' wb at' wp za zs (ix2 r l) = ∑ k, q k * w k := by
  unfold out0_11
  rw [View.canon_unit_zero hz]
  unfold_payloads
  pointwise [hq, hp]

/-- The block of the merge: each branch times its gate. -/
theorem out8_apply (hy : ∀ k, y (ix2 r k) = n k) (ha : ∀ k, wa (ix2 k l) = u k) (hy' : ∀ k, y' (ix2 r k) = n' k)
    (hb : ∀ k, wb (ix2 k l) = v k) (hq : ∀ k, at' (ix2 r k) = q k) (hp : ∀ k, wp (ix2 k l) = w k)
    (hza : za (ix2 r l) = a) (hzs : zs (ix2 r l) = s) :
    out0_8 y wa y' wb at' wp za zs (ix2 r l)
      = Ideal.logistic a * (∑ k, q k * w k)
        + Ideal.logistic s * ((∑ k, n k * u k) * Ideal.logistic (∑ k, n' k * v k)) := by
  unfold out0_8
  rw [View.canon_unit_zero hz]
  unfold_payloads
  pointwise [hy, ha, hy', hb, hq, hp, hza, hzs]
  simp only [Scalars.half_tanh]

end Cert.Proof.Glu
end
-- ==== Proof.GluArray.lean ====
/- The merge of the two branches: what its four result arrays end holding, as functions of the arguments. -/
module

public import proofs.«01_k».proof.Proof.Corner
public import proofs.«01_k».proof.Proof.GluBlock

@[expose] public section

set_option maxRecDepth 16384

noncomputable section

namespace Cert.Proof.Glu

open Cert.GluCallIdeal Cert.GluCallIdeal.Gen Idealize.ShloMosaic Idealize.ShloMosaic.TcCoe Idealize.SL.Sem
open Idealize.ShloMosaic.Pipeline (Dat)

section Spec

variable (zg : Vec Ideal S16384x2048 .f32) (y attn : Vec Ideal S16384x512 .f32) (wa wb wp : Vec Ideal S512x1024 .f32)

/-- A branch projected to the model width. -/
def proj (a : Vec Ideal S16384x512 .f32) (w : Vec Ideal S512x1024 .f32) (i : Fin 16384) (l : Fin 1024) : EReal :=
  ∑ k : Fin 512, a (ix2 i k) * w (ix2 k l)

/-- Each branch times its gate: the attention's projection, and the gated linear unit of the state-space branch. -/
def merge (i : Fin 16384) (l : Fin 1024) : EReal :=
  Ideal.logistic (zg (ix2 i ⟨l.val, by omega⟩)) * proj attn wp i l
    + Ideal.logistic (zg (ix2 i ⟨1024 + l.val, by omega⟩)) * (proj y wa i l * Ideal.logistic (proj y wb i l))

end Spec

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg0 := by unfold_abbrev_sides; after_results; rfl
theorem V_v1 : V m c main_v1 = A m c main_arg1 := by unfold_abbrev_sides; after_results; rfl
theorem V_v2 : V m c main_v2 = A m c main_arg2 := by unfold_abbrev_sides; after_results; rfl
theorem V_v3 : V m c main_v3 = A m c main_arg3 := by unfold_abbrev_sides; after_results; rfl
theorem V_v4 : V m c main_v4 = A m c main_arg4 := by unfold_abbrev_sides; after_results; rfl
theorem V_v5 : V m c main_v5 = A m c main_arg5 := by unfold_abbrev_sides; after_results; rfl

/-- Row `r` of point `t`'s block, as a row of the whole array. -/
def row (t : Fin cfg0.N) (r : Fin 1024) : Fin 16384 :=
  ⟨t.val * 1024 + r.val, by have h := t.isLt; have hN : cfg0.N = 16 := N_0; have := r.isLt; omega⟩

/-- Where the row windows have their blocks at point `t`: the activations', the gate's two halves', the results'. -/
theorem rows : ∀ t : Fin grid0.N,
    (win0_0.index t 0 * win0_0.size 0 = t.val * 1024 ∧ win0_0.index t 1 * win0_0.size 1 = 0)
    ∧ (win0_2.index t 0 * win0_2.size 0 = t.val * 1024 ∧ win0_2.index t 1 * win0_2.size 1 = 0)
    ∧ (win0_4.index t 0 * win0_4.size 0 = t.val * 1024 ∧ win0_4.index t 1 * win0_4.size 1 = 0)
    ∧ (win0_6.index t 0 * win0_6.size 0 = t.val * 1024 ∧ win0_6.index t 1 * win0_6.size 1 = 0)
    ∧ (win0_7.index t 0 * win0_7.size 0 = t.val * 1024 ∧ win0_7.index t 1 * win0_7.size 1 = 1024)
    ∧ (win0_8.index t 0 * win0_8.size 0 = t.val * 1024 ∧ win0_8.index t 1 * win0_8.size 1 = 0)
    ∧ (win0_9.index t 0 * win0_9.size 0 = t.val * 1024 ∧ win0_9.index t 1 * win0_9.size 1 = 0)
    ∧ (win0_10.index t 0 * win0_10.size 0 = t.val * 1024 ∧ win0_10.index t 1 * win0_10.size 1 = 0)
    ∧ (win0_11.index t 0 * win0_11.size 0 = t.val * 1024 ∧ win0_11.index t 1 * win0_11.size 1 = 0) := by decide +kernel

/-- The weights' windows stay at the corner. -/
theorem weights : ∀ t : Fin grid0.N,
    (win0_1.index t 0 * win0_1.size 0 = 0 ∧ win0_1.index t 1 * win0_1.size 1 = 0)
    ∧ (win0_3.index t 0 * win0_3.size 0 = 0 ∧ win0_3.index t 1 * win0_3.size 1 = 0)
    ∧ (win0_5.index t 0 * win0_5.size 0 = 0 ∧ win0_5.index t 1 * win0_5.size 1 = 0) := by decide +kernel

section Windows

variable (t : Fin cfg0.N) (r l : Fin 1024) (k : Fin 512)

theorem iblk0 : (iblk m c 0 t : Vec Ideal S1024x512 .bf16) (ix2 r k) = at2 (A m c main_arg1) (row t r) k :=
  entry_at_corner (V := V m c main_v1) (fun i k => congrFun (V_v1 m c) (ix2 i k)) (r := r) (l := k) (rows t).1
    rfl rfl rfl (Nat.zero_add _).symm

theorem iblk2 : (iblk m c 2 t : Vec Ideal S1024x512 .bf16) (ix2 r k) = at2 (A m c main_arg1) (row t r) k :=
  entry_at_corner (V := V m c main_v1) (fun i k => congrFun (V_v1 m c) (ix2 i k)) (r := r) (l := k) (rows t).2.1
    rfl rfl rfl (Nat.zero_add _).symm

theorem iblk4 : (iblk m c 4 t : Vec Ideal S1024x512 .bf16) (ix2 r k) = at2 (A m c main_arg2) (row t r) k :=
  entry_at_corner (V := V m c main_v2) (fun i k => congrFun (V_v2 m c) (ix2 i k)) (r := r) (l := k) (rows t).2.2.1
    rfl rfl rfl (Nat.zero_add _).symm

theorem iblk6 : (iblk m c 6 t : Vec Ideal S1024x1024 .bf16) (ix2 r l) = at2 (A m c main_arg0) (row t r) ⟨l.val, by omega⟩ :=
  entry_at_corner (V := V m c main_v0) (fun i k => congrFun (V_v0 m c) (ix2 i k)) (r := r) (l := l) (b := ⟨l.val, by omega⟩)
    (rows t).2.2.2.1 rfl rfl rfl (Nat.zero_add _).symm

theorem iblk7 : (iblk m c 7 t : Vec Ideal S1024x1024 .bf16) (ix2 r l) = at2 (A m c main_arg0) (row t r) ⟨1024 + l.val, by omega⟩ :=
  entry_at_corner (V := V m c main_v0) (fun i k => congrFun (V_v0 m c) (ix2 i k)) (r := r) (l := l) (b := ⟨1024 + l.val, by omega⟩)
    (rows t).2.2.2.2.1 rfl rfl rfl rfl

theorem iblk1 : (iblk m c 1 t : Vec Ideal S512x1024 .bf16) (ix2 k l) = at2 (A m c main_arg3) k l :=
  entry_at_corner (V := V m c main_v3) (fun i k => congrFun (V_v3 m c) (ix2 i k)) (r := k) (l := l) (weights t).1
    rfl rfl (Nat.zero_add _).symm (Nat.zero_add _).symm

theorem iblk3 : (iblk m c 3 t : Vec Ideal S512x1024 .bf16) (ix2 k l) = at2 (A m c main_arg4) k l :=
  entry_at_corner (V := V m c main_v4) (fun i k => congrFun (V_v4 m c) (ix2 i k)) (r := k) (l := l) (weights t).2.1
    rfl rfl (Nat.zero_add _).symm (Nat.zero_add _).symm

theorem iblk5 : (iblk m c 5 t : Vec Ideal S512x1024 .bf16) (ix2 k l) = at2 (A m c main_arg5) k l :=
  entry_at_corner (V := V m c main_v5) (fun i k => congrFun (V_v5 m c) (ix2 i k)) (r := k) (l := l) (weights t).2.2
    rfl rfl (Nat.zero_add _).symm (Nat.zero_add _).symm

end Windows

/-- The merged branches, after the run. -/
theorem final8 : (dats m 0 c).arrAt 8 cfg0.N = arr2 (merge (A m c main_arg0) (A m c main_arg1) (A m c main_arg2)
    (A m c main_arg3) (A m c main_arg4) (A m c main_arg5)) := by
  refine (dats m 0 c).arrAt_eq_of_covers 8 _ (by decide +kernel) fun t hf y => ?_
  idx_vars y
  exact (congrFun (after0_8 m c t) (ix2 y0 y1)).trans ((out8_apply _ _ _ _ _ _ _ _ y0 y1 (fun k => iblk0 m c t y0 k)
    (fun k => iblk1 m c t y1 k) (fun k => iblk2 m c t y0 k) (fun k => iblk3 m c t y1 k) (fun k => iblk4 m c t y0 k)
    (fun k => iblk5 m c t y1 k) (iblk6 m c t y0 y1) (iblk7 m c t y0 y1)).trans
    (entry_at_corner (V := arr2 (merge (A m c main_arg0) (A m c main_arg1) (A m c main_arg2)
      (A m c main_arg3) (A m c main_arg4) (A m c main_arg5))) (fun _ _ => rfl) (r := y0) (l := y1) (a := row t y0) (b := y1)
      (rows t).2.2.2.2.2.1 rfl rfl rfl (Nat.zero_add _).symm).symm)

/-- The linear unit's value, after the run. -/
theorem final9 : (dats m 0 c).arrAt 9 cfg0.N = arr2 (proj (A m c main_arg1) (A m c main_arg3)) := by
  refine (dats m 0 c).arrAt_eq_of_covers 9 _ (by decide +kernel) fun t hf y => ?_
  idx_vars y
  exact (congrFun (after0_9 m c t) (ix2 y0 y1)).trans ((out9_apply _ _ _ _ _ _ _ _ y0 y1 (fun k => iblk0 m c t y0 k)
    (fun k => iblk1 m c t y1 k)).trans
    (entry_at_corner (V := arr2 (proj (A m c main_arg1) (A m c main_arg3))) (fun _ _ => rfl) (r := y0) (l := y1)
      (a := row t y0) (b := y1) (rows t).2.2.2.2.2.2.1 rfl rfl rfl (Nat.zero_add _).symm).symm)

/-- The linear unit's gate before its sigmoid, after the run. -/
theorem final10 : (dats m 0 c).arrAt 10 cfg0.N = arr2 (proj (A m c main_arg1) (A m c main_arg4)) := by
  refine (dats m 0 c).arrAt_eq_of_covers 10 _ (by decide +kernel) fun t hf y => ?_
  idx_vars y
  exact (congrFun (after0_10 m c t) (ix2 y0 y1)).trans ((out10_apply _ _ _ _ _ _ _ _ y0 y1 (fun k => iblk2 m c t y0 k)
    (fun k => iblk3 m c t y1 k)).trans
    (entry_at_corner (V := arr2 (proj (A m c main_arg1) (A m c main_arg4))) (fun _ _ => rfl) (r := y0) (l := y1)
      (a := row t y0) (b := y1) (rows t).2.2.2.2.2.2.2.1 rfl rfl rfl (Nat.zero_add _).symm).symm)

/-- The attention branch's projection, after the run. -/
theorem final11 : (dats m 0 c).arrAt 11 cfg0.N = arr2 (proj (A m c main_arg2) (A m c main_arg5)) := by
  refine (dats m 0 c).arrAt_eq_of_covers 11 _ (by decide +kernel) fun t hf y => ?_
  idx_vars y
  exact (congrFun (after0_11 m c t) (ix2 y0 y1)).trans ((out11_apply _ _ _ _ _ _ _ _ y0 y1 (fun k => iblk4 m c t y0 k)
    (fun k => iblk5 m c t y1 k)).trans
    (entry_at_corner (V := arr2 (proj (A m c main_arg2) (A m c main_arg5))) (fun _ _ => rfl) (r := y0) (l := y1)
      (a := row t y0) (b := y1) (rows t).2.2.2.2.2.2.2.2 rfl rfl rfl (Nat.zero_add _).symm).symm)

end Cert.Proof.Glu
end
-- ==== Proof.GluReference.lean ====
/- The reference merge of the two branches: its four results are the functions the kernel's arrays hold. -/
module

public import proofs.«01_k».proof.Proof.Gen.GluRefIdeal.Read
public import proofs.«01_k».proof.Proof.GluArray

@[expose] public section

set_option maxRecDepth 16384

noncomputable section

namespace Cert.Proof.GluRef

open Cert.GluRefIdeal Cert.GluRefIdeal.Gen Cert.GluRefIdeal.Read Idealize.ShloMosaic Idealize.ShloMosaic.TcCoe Idealize.SL.Sem
open Cert.Proof.Glu (proj merge)

variable (x0 : Vec Ideal S16384x2048 .f32) (x1 x2 : Vec Ideal S16384x512 .f32) (x3 x4 x5 : Vec Ideal S512x1024 .f32)

/-- A product on the host is the projection. -/
theorem v0_apply (i : Fin 16384) (l : Fin 1024) : val_main_v0 (F := Ideal) x2 x5 (ix2 i l) = proj x2 x5 i l := by
  unfold val_main_v0; pointwise; rfl

/-- The other two products are the same operation, on other arguments. -/
theorem v1_apply (i : Fin 16384) (l : Fin 1024) : val_main_v1 (F := Ideal) x1 x3 (ix2 i l) = proj x1 x3 i l := v0_apply x1 x3 i l
theorem v2_apply (i : Fin 16384) (l : Fin 1024) : val_main_v2 (F := Ideal) x1 x4 (ix2 i l) = proj x1 x4 i l := v0_apply x1 x4 i l

/-- The reference spells the sigmoids as quotients. -/
theorem v27_eq : val_main_v27 (F := Ideal) x0 x1 x2 x3 x4 x5 = arr2 (merge x0 x1 x2 x3 x4 x5) :=
  eq_arr2 fun i l => by
    unfold val_main_v27 val_main_v26 val_main_v25 val_main_v24 val_main_v23 val_main_v22 val_main_v21 val_main_v20
      val_main_v19 val_main_v18 val_main_v17 val_main_v16 val_main_v15 val_main_v14 val_main_v13 val_main_v12 val_main_v11
      val_main_v10 val_main_v9 val_main_v8 val_main_v7 val_main_v6 val_main_v5 val_main_v4 val_main_v3
      val_main_cst_4 val_main_cst_3 val_main_cst_2 val_main_cst_1 val_main_cst_0 val_main_cst
    pointwise [v0_apply, v1_apply, v2_apply]
    rfl

/-- The narrower format holds the same projection. -/
theorem v28_eq : val_main_v28 (F := Ideal) x1 x3 = arr2 (proj x1 x3) :=
  eq_arr2 fun i l => by unfold val_main_v28; pointwise [v1_apply]

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v27) = arr2 (merge (B m c main_arg0) (B m c main_arg1) (B m c main_arg2)
        (B m c main_arg3) (B m c main_arg4) (B m c main_arg5))
      ∧ r.2.mem ((c.tc : Thread nD τ).loc main_v28) = arr2 (proj (B m c main_arg1) (B m c main_arg3))
      ∧ r.2.mem ((c.tc : Thread nD τ).loc main_v29) = arr2 (proj (B m c main_arg1) (B m c main_arg4))
      ∧ r.2.mem ((c.tc : Thread nD τ).loc main_v30) = arr2 (proj (B m c main_arg2) (B m c main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.GluRefIdeal.Value.run (F := Ideal) m ρ)
  obtain ⟨h27, h28, h29, h30, hargs⟩ := h c
  refine ⟨?_, ?_, ?_, ?_, hargs⟩
  · exact h27.trans ((val_main_v27_eq _ _ _ _ _ _).trans (v27_eq (B m c main_arg0) (B m c main_arg1) (B m c main_arg2)
      (B m c main_arg3) (B m c main_arg4) (B m c main_arg5)))
  · exact h28.trans ((val_main_v28_eq _ _).trans (v28_eq (B m c main_arg1) (B m c main_arg3)))
  · exact h29.trans ((val_main_v29_eq _ _).trans (v28_eq (B m c main_arg1) (B m c main_arg4)))
  · exact h30.trans ((val_main_v30_eq _ _).trans (v28_eq (B m c main_arg2) (B m c main_arg5)))

end Cert.Proof.GluRef
end
-- ==== Proof.GluClaim.lean ====
/- The kernel computes the reference's merge of the two branches: the equation of the two programs. -/
module

public import proofs.«01_k».proof.Defs
public import proofs.«01_k».proof.Proof.GluReference
public import Idealize.ShloMosaic.Lib.Quiescent

@[expose] public section

set_option maxRecDepth 16384

noncomputable section

namespace Cert.Proof.GluClaim

open Idealize.ShloMosaic Idealize.ShloMosaic.TcCoe Idealize.SL.Sem Cert.Proof.Glu

/-- The reference leaves its arguments as they were, and every counter at zero. -/
theorem reference_frame : Cert.quiescent_GluRefIdeal (hGluRefIdeal := Cert.GluRefIdeal.Gen.facts) :=
  fun m ρ _ => (θ_run Cert.GluRefIdeal.defs _ _).mono
    (fun r h => ⟨fun c => (h c).2.2.2.2, Idealize.ShloMosaic.sem_eq_zero_of_no_sems (by decide) r.2⟩)
    (Cert.GluRefIdeal.Value.run (F := Ideal) m ρ)

set_option maxHeartbeats 1000000 in
/-- The four result arrays of the kernel are the four of the reference. -/
theorem algebraic : Cert.algebraic_GluCallIdeal_GluRefIdeal
    (hGluCallIdeal := Cert.GluCallIdeal.Gen.facts) (hGluRefIdeal := Cert.GluRefIdeal.Gen.facts) := by
  intro m g m' g' _ hagree
  refine ⟨fun c => (Cert.GluCallIdeal.Gen.dats m 0 c).arrAt 8 Cert.GluCallIdeal.cfg0.N,
    fun c => (Cert.GluCallIdeal.Gen.dats m 0 c).arrAt 9 Cert.GluCallIdeal.cfg0.N,
    fun c => (Cert.GluCallIdeal.Gen.dats m 0 c).arrAt 10 Cert.GluCallIdeal.cfg0.N,
    fun c => (Cert.GluCallIdeal.Gen.dats m 0 c).arrAt 11 Cert.GluCallIdeal.cfg0.N,
    Cert.GluCallIdeal.Value.run_blocks (F := Ideal) m g, ?_⟩
  refine (θ_run Cert.GluRefIdeal.defs _ _).mono (fun r h c => ?_) (GluRef.run m' g')
  obtain ⟨h27, h28, h29, h30, hargs⟩ := h c
  obtain ⟨a0, a1, a2, a3, a4, a5⟩ := hagree c
  have e0 : GluRef.B m' c Cert.GluRefIdeal.main_arg0 = A m c Cert.GluCallIdeal.main_arg0 := a0
  have e1 : GluRef.B m' c Cert.GluRefIdeal.main_arg1 = A m c Cert.GluCallIdeal.main_arg1 := a1
  have e2 : GluRef.B m' c Cert.GluRefIdeal.main_arg2 = A m c Cert.GluCallIdeal.main_arg2 := a2
  have e3 : GluRef.B m' c Cert.GluRefIdeal.main_arg3 = A m c Cert.GluCallIdeal.main_arg3 := a3
  have e4 : GluRef.B m' c Cert.GluRefIdeal.main_arg4 = A m c Cert.GluCallIdeal.main_arg4 := a4
  have e5 : GluRef.B m' c Cert.GluRefIdeal.main_arg5 = A m c Cert.GluCallIdeal.main_arg5 := a5
  refine ⟨h27.trans (Eq.trans ?_ (final8 m c).symm), h28.trans (Eq.trans ?_ (final9 m c).symm),
    h29.trans (Eq.trans ?_ (final10 m c).symm), h30.trans (Eq.trans ?_ (final11 m c).symm), hargs⟩
  · rw [e0, e1, e2, e3, e4, e5]
  · rw [e1, e3]
  · rw [e1, e4]
  · rw [e2, e5]

end Cert.Proof.GluClaim
end
-- ==== Proof.OutProjBlock.lean ====
/- The output projection: what the body's two output blocks are at an index. -/
module

public import proofs.«01_k».proof.Proof.Gen.OutProjCallIdeal.Value
public import Idealize.ShloMosaic.Lib.Pointwise
public import Idealize.ShloMosaic.Lib.Pipeline.ValueKit
public import proofs.«01_k».proof.Proof.Rms
public import proofs.«01_k».proof.Proof.Arrays

@[expose] public section

set_option maxRecDepth 16384

noncomputable section

namespace Cert.Proof.OutProj

open Cert.OutProjCallIdeal Cert.OutProjCallIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

variable (a : Vec Ideal S1024x1024 .bf16) (w : Vec Ideal S1024x1024 .bf16) (x : Vec Ideal S1024x1024 .f32)
  (g : Vec Ideal S1x1024 .f32) (r l : Fin 1024)

/-- The residual added to the product. -/
def resid (l : Fin 1024) : EReal := x (ix2 r l) + ∑ k : Fin 1024, a (ix2 r k) * w (ix2 k l)

theorem pay1_apply : k0_pay1 a w x (ix2 r l) = resid a w x r l := by
  unfold k0_pay1
  pointwise
  exact add_comm _ _

/-- A load of a whole block is the block. -/
theorem whole {e : EltTy} (v : Vec Ideal S1024x1024 e) : View.ld v r0_0 = v := View.ld_unit_zero hz _ v

/-- The block of the residual stream. -/
theorem out4_apply : out0_4 a w x g (ix2 r l) = resid a w x r l := by
  unfold out0_4
  rw [View.canon_unit_zero hz]
  simp only [whole]
  exact pay1_apply a w x r l

/-- The block of its norm. -/
theorem out5_apply : out0_5 a w x g (ix2 r l) = Rms.xhat (resid a w x) r l * g (ix2 0 l) := by
  unfold out0_5
  rw [View.canon_unit_zero hz]
  simp only [whole]
  unfold k0_pay2
  pointwise [pay1_apply]
  rfl

end Cert.Proof.OutProj
end
-- ==== Proof.OutProjArray.lean ====
/- The output projection: what its two result arrays end holding, as functions of the arguments. -/
module

public import proofs.«01_k».proof.Proof.Corner
public import proofs.«01_k».proof.Proof.OutProjBlock

@[expose] public section

set_option maxRecDepth 16384

noncomputable section

namespace Cert.Proof.OutProj

open Cert.OutProjCallIdeal Cert.OutProjCallIdeal.Gen Idealize.ShloMosaic Idealize.ShloMosaic.TcCoe Idealize.SL.Sem
open Idealize.ShloMosaic.Pipeline (Dat)

section Spec

variable (a x : Vec Ideal S16384x1024 .f32) (w : Vec Ideal S1024x1024 .f32) (g : Vec Ideal S1024 .f32)

/-- The residual stream after the branches. -/
def h (i : Fin 16384) (l : Fin 1024) : EReal := x (ix2 i l) + ∑ k : Fin 1024, a (ix2 i k) * w (ix2 k l)

/-- Its norm, the feed-forward's input. -/
def n2 (i : Fin 16384) (l : Fin 1024) : EReal := Rms.xhat (h a x w) i l * g (ix1 l)

end Spec

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg0 := by unfold_abbrev_sides; after_results; rfl
theorem V_v1 : V m c main_v1 = A m c main_arg2 := by unfold_abbrev_sides; after_results; rfl
theorem V_arg1 : V m c main_arg1 = A m c main_arg1 := by unfold_abbrev_sides; after_results
theorem V_v2 (o : Fin 1) (l : Fin 1024) : V m c main_v2 (ix2 o l) = A m c main_arg3 (ix1 l) := by
  unfold_abbrev_sides; after_results; pointwise

/-- Row `r` of point `t`'s block, as a row of the whole array. -/
def row (t : Fin cfg0.N) (r : Fin 1024) : Fin 16384 :=
  ⟨t.val * 1024 + r.val, by have h := t.isLt; have hN : cfg0.N = 16 := N_0; have := r.isLt; omega⟩

/-- Where the windows have their blocks at point `t`. -/
theorem corners : ∀ t : Fin grid0.N,
    (win0_0.index t 0 * win0_0.size 0 = t.val * 1024 ∧ win0_0.index t 1 * win0_0.size 1 = 0)
    ∧ (win0_1.index t 0 * win0_1.size 0 = 0 ∧ win0_1.index t 1 * win0_1.size 1 = 0)
    ∧ (win0_2.index t 0 * win0_2.size 0 = t.val * 1024 ∧ win0_2.index t 1 * win0_2.size 1 = 0)
    ∧ (win0_3.index t 0 * win0_3.size 0 = 0 ∧ win0_3.index t 1 * win0_3.size 1 = 0)
    ∧ (win0_4.index t 0 * win0_4.size 0 = t.val * 1024 ∧ win0_4.index t 1 * win0_4.size 1 = 0)
    ∧ (win0_5.index t 0 * win0_5.size 0 = t.val * 1024 ∧ win0_5.index t 1 * win0_5.size 1 = 0) := by decide +kernel

section Windows

variable (t : Fin cfg0.N) (r l k : Fin 1024)

theorem iblk0 : (iblk m c 0 t : Vec Ideal S1024x1024 .bf16) (ix2 r k) = at2 (A m c main_arg0) (row t r) k :=
  entry_at_corner (V := V m c main_v0) (fun i k => congrFun (V_v0 m c) (ix2 i k)) (r := r) (l := k) (corners t).1
    rfl rfl rfl (Nat.zero_add _).symm

theorem iblk1 : (iblk m c 1 t : Vec Ideal S1024x1024 .bf16) (ix2 k l) = at2 (A m c main_arg2) k l :=
  entry_at_corner (V := V m c main_v1) (fun i k => congrFun (V_v1 m c) (ix2 i k)) (r := k) (l := l) (corners t).2.1
    rfl rfl (Nat.zero_add _).symm (Nat.zero_add _).symm

theorem iblk2 : (iblk m c 2 t : Vec Ideal S1024x1024 .f32) (ix2 r l) = at2 (A m c main_arg1) (row t r) l :=
  entry_at_corner (V := V m c main_arg1) (fun i k => congrFun (V_arg1 m c) (ix2 i k)) (r := r) (l := l) (corners t).2.2.1
    rfl rfl rfl (Nat.zero_add _).symm

theorem iblk3 : (iblk m c 3 t : Vec Ideal S1x1024 .f32) (ix2 0 l) = A m c main_arg3 (ix1 l) :=
  entry_at_corner (V := V m c main_v2) (V_v2 m c) (r := (0 : Fin 1)) (l := l) (a := 0) (b := l) (corners t).2.2.2.1
    rfl rfl (Nat.zero_add _).symm (Nat.zero_add _).symm

/-- A row of a block's residual stream is a row of the whole one. -/
theorem resid_eq : resid (iblk m c 0 t) (iblk m c 1 t) (iblk m c 2 t) r l
    = h (A m c main_arg0) (A m c main_arg1) (A m c main_arg2) (row t r) l := by
  unfold resid h
  simp only [iblk0, iblk1, iblk2]

end Windows

/-- The residual stream, after the run. -/
theorem final4 : (dats m 0 c).arrAt 4 cfg0.N = arr2 (h (A m c main_arg0) (A m c main_arg1) (A m c main_arg2)) := by
  refine (dats m 0 c).arrAt_eq_of_covers 4 _ (by decide +kernel) fun t hf y => ?_
  idx_vars y
  exact (congrFun (after0_4 m c t) (ix2 y0 y1)).trans ((out4_apply _ _ _ _ y0 y1).trans ((resid_eq m c t y0 y1).trans
    (entry_at_corner (V := arr2 (h (A m c main_arg0) (A m c main_arg1) (A m c main_arg2))) (fun _ _ => rfl) (r := y0) (l := y1)
      (a := row t y0) (b := y1) (corners t).2.2.2.2.1 rfl rfl rfl (Nat.zero_add _).symm).symm))

/-- Its norm, after the run. -/
theorem final5 : (dats m 0 c).arrAt 5 cfg0.N
    = arr2 (n2 (A m c main_arg0) (A m c main_arg1) (A m c main_arg2) (A m c main_arg3)) := by
  refine (dats m 0 c).arrAt_eq_of_covers 5 _ (by decide +kernel) fun t hf y => ?_
  idx_vars y
  exact (congrFun (after0_5 m c t) (ix2 y0 y1)).trans ((out5_apply _ _ _ _ y0 y1).trans
    ((congrArg₂ (· * ·) (Rms.xhat_congr (resid_eq m c t y0) y1) (iblk3 m c t y1)).trans
    (entry_at_corner (V := arr2 (n2 (A m c main_arg0) (A m c main_arg1) (A m c main_arg2) (A m c main_arg3)))
      (fun _ _ => rfl) (r := y0) (l := y1) (a := row t y0) (b := y1) (corners t).2.2.2.2.2 rfl rfl rfl
      (Nat.zero_add _).symm).symm))

end Cert.Proof.OutProj
end
-- ==== Proof.OutProjReference.lean ====
/- The reference output projection: its two results are the functions the kernel's arrays hold. -/
module

public import proofs.«01_k».proof.Proof.Gen.OutProjRefIdeal.Read
public import proofs.«01_k».proof.Proof.OutProjArray

@[expose] public section

set_option maxRecDepth 16384

noncomputable section

namespace Cert.Proof.OutProjRef

open Cert.OutProjRefIdeal Cert.OutProjRefIdeal.Gen Cert.OutProjRefIdeal.Read Idealize.ShloMosaic Idealize.ShloMosaic.TcCoe Idealize.SL.Sem
open Cert.Proof.OutProj (n2)

variable (x0 x1 : Vec Ideal S16384x1024 .f32) (x2 : Vec Ideal S1024x1024 .f32) (x3 : Vec Ideal S1024 .f32)

theorem v1_apply (i : Fin 16384) (l : Fin 1024) : val_main_v1 (F := Ideal) x0 x1 x2 (ix2 i l) = OutProj.h x0 x1 x2 i l := by
  unfold val_main_v1 val_main_v0
  pointwise
  rfl

theorem v15_eq : val_main_v15 (F := Ideal) x0 x1 x2 x3 = arr2 (n2 x0 x1 x2 x3) :=
  eq_arr2 fun i l => by
    unfold val_main_v15 val_main_v14 val_main_v13 val_main_v12 val_main_v11 val_main_v10 val_main_v9 val_main_v8 val_main_v7
      val_main_v6 val_main_v5 val_main_v4 val_main_v3 val_main_v2 val_main_cst val_main_cst_0 val_main_cst_1
    pointwise [v1_apply]
    rfl

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its results are the functions of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v1) = arr2 (OutProj.h (B m c main_arg0) (B m c main_arg1) (B m c main_arg2))
      ∧ r.2.mem ((c.tc : Thread nD τ).loc main_v15)
        = arr2 (n2 (B m c main_arg0) (B m c main_arg1) (B m c main_arg2) (B m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.OutProjRefIdeal.Value.run (F := Ideal) m ρ)
  obtain ⟨h1, h15, hargs⟩ := h c
  refine ⟨?_, ?_, hargs⟩
  · exact h1.trans ((val_main_v1_eq _ _ _).trans (eq_arr2 (v1_apply (B m c main_arg0) (B m c main_arg1) (B m c main_arg2))))
  · exact h15.trans ((val_main_v15_eq _ _ _ _).trans
      (v15_eq (B m c main_arg0) (B m c main_arg1) (B m c main_arg2) (B m c main_arg3)))

end Cert.Proof.OutProjRef
end
-- ==== Proof.OutProjClaim.lean ====
/- The kernel computes the reference's output projection and its norm: the equation of the two programs. -/
module

public import proofs.«01_k».proof.Defs
public import proofs.«01_k».proof.Proof.OutProjReference
public import Idealize.ShloMosaic.Lib.Quiescent

@[expose] public section

set_option maxRecDepth 16384

noncomputable section

namespace Cert.Proof.OutProjClaim

open Idealize.ShloMosaic Idealize.ShloMosaic.TcCoe Idealize.SL.Sem Cert.Proof.OutProj

/-- The reference leaves its arguments as they were, and every counter at zero. -/
theorem reference_frame : Cert.quiescent_OutProjRefIdeal (hOutProjRefIdeal := Cert.OutProjRefIdeal.Gen.facts) :=
  fun m ρ _ => (θ_run Cert.OutProjRefIdeal.defs _ _).mono
    (fun r h => ⟨fun c => (h c).2.2, Idealize.ShloMosaic.sem_eq_zero_of_no_sems (by decide) r.2⟩)
    (Cert.OutProjRefIdeal.Value.run (F := Ideal) m ρ)

set_option maxHeartbeats 1000000 in
/-- The two result arrays of the kernel are the two of the reference. -/
theorem algebraic : Cert.algebraic_OutProjCallIdeal_OutProjRefIdeal
    (hOutProjCallIdeal := Cert.OutProjCallIdeal.Gen.facts) (hOutProjRefIdeal := Cert.OutProjRefIdeal.Gen.facts) := by
  intro m g m' g' _ hagree
  refine ⟨fun c => (Cert.OutProjCallIdeal.Gen.dats m 0 c).arrAt 4 Cert.OutProjCallIdeal.cfg0.N,
    fun c => (Cert.OutProjCallIdeal.Gen.dats m 0 c).arrAt 5 Cert.OutProjCallIdeal.cfg0.N,
    Cert.OutProjCallIdeal.Value.run_blocks (F := Ideal) m g, ?_⟩
  refine (θ_run Cert.OutProjRefIdeal.defs _ _).mono (fun r h c => ?_) (OutProjRef.run m' g')
  obtain ⟨h1, h15, hargs⟩ := h c
  obtain ⟨a0, a1, a2, a3⟩ := hagree c
  have e0 : OutProjRef.B m' c Cert.OutProjRefIdeal.main_arg0 = A m c Cert.OutProjCallIdeal.main_arg0 := a0
  have e1 : OutProjRef.B m' c Cert.OutProjRefIdeal.main_arg1 = A m c Cert.OutProjCallIdeal.main_arg1 := a1
  have e2 : OutProjRef.B m' c Cert.OutProjRefIdeal.main_arg2 = A m c Cert.OutProjCallIdeal.main_arg2 := a2
  have e3 : OutProjRef.B m' c Cert.OutProjRefIdeal.main_arg3 = A m c Cert.OutProjCallIdeal.main_arg3 := a3
  refine ⟨h1.trans (Eq.trans ?_ (final4 m c).symm), h15.trans (Eq.trans ?_ (final5 m c).symm), hargs⟩
  · rw [e0, e1, e2]
  · rw [e0, e1, e2, e3]

end Cert.Proof.OutProjClaim
end
-- ==== Proof.DwOutArray.lean ====
/- The gradient of the output projection: what the result array ends holding, as a function of the arguments. -/
module

public import proofs.«01_k».proof.Proof.Gen.DwOutCallIdeal.Value
public import Idealize.ShloMosaic.Lib.Pointwise
public import Idealize.ShloMosaic.Lib.Pipeline.ValueKit
public import Idealize.ShloMosaic.Lib.Pipeline.ReadBack
public import proofs.«01_k».proof.Proof.Wgrad

@[expose] public section

set_option maxRecDepth 16384

noncomputable section

namespace Cert.Proof.DwOut

open Cert.DwOutCallIdeal Cert.DwOutCallIdeal.Gen Idealize.ShloMosaic Idealize.ShloMosaic.TcCoe Idealize.SL.Sem
open Idealize.ShloMosaic.Pipeline (Dat)
open Wgrad (gw row)

section Block

variable (a b : Vec Ideal S2048x1024 .bf16) (acc : Vec Ideal S1024x1024 .f32) (l f : Fin 1024)

/-- The product of the two blocks over their rows. -/
theorem pay1_apply : k0_pay1 a b (ix2 l f) = ∑ r : Fin 2048, a (ix2 r l) * b (ix2 r f) := by unfold k0_pay1; pointwise

/-- The product added to what the scratch held. -/
theorem pay2_apply : k0_pay2 acc a b (ix2 l f) = acc (ix2 l f) + ∑ r : Fin 2048, a (ix2 r l) * b (ix2 r f) := by
  unfold k0_pay2; pointwise

/-- The narrower format holds the same number. -/
theorem pay3_apply : k0_pay3 acc (ix2 l f) = acc (ix2 l f) := by unfold k0_pay3; pointwise

end Block

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg0 := by unfold_abbrev_sides; after_results; rfl
theorem V_v1 : V m c main_v1 = A m c main_arg1 := by unfold_abbrev_sides; after_results; rfl

/-- Where the windows have their blocks at point `t`. -/
theorem corners : ∀ t : Fin grid0.N,
    (win0_0.index t 0 * win0_0.size 0 = t.val % 8 * 2048 ∧ win0_0.index t 1 * win0_0.size 1 = 0)
    ∧ (win0_1.index t 0 * win0_1.size 0 = t.val % 8 * 2048 ∧ win0_1.index t 1 * win0_1.size 1 = 0)
    ∧ (win0_2.index t 0 * win0_2.size 0 = 0 ∧ win0_2.index t 1 * win0_2.size 1 = 0) := by decide +kernel

theorem iblk0 (s : Fin cfg0.N) (r : Fin 2048) (l : Fin 1024) :
    (iblk m c 0 s : Vec Ideal S2048x1024 .bf16) (ix2 r l) = at2 (A m c main_arg0) (row s.val r) l :=
  entry_at_corner (V := V m c main_v0) (fun i k => congrFun (V_v0 m c) (ix2 i k)) (r := r) (l := l) (corners s).1
    rfl rfl rfl (Nat.zero_add _).symm

theorem iblk1 (s : Fin cfg0.N) (r : Fin 2048) (f : Fin 1024) :
    (iblk m c 1 s : Vec Ideal S2048x1024 .bf16) (ix2 r f) = at2 (A m c main_arg1) (row s.val r) f :=
  entry_at_corner (V := V m c main_v1) (fun i k => congrFun (V_v1 m c) (ix2 i k)) (r := r) (l := f) (corners s).2.1
    rfl rfl rfl (Nat.zero_add _).symm

/-- The output block at the last point: the gradient, summed over all rows. -/
theorem out_block (t : Fin cfg0.N) (h : t.val % 8 = 7) (l f : Fin 1024) :
    (outsAt0 m c t.val t.isLt).1 (ix2 l f) = gw (at2 (A m c main_arg0)) (at2 (A m c main_arg1)) l f := by
  refine Wgrad.out_block (out := fun n h => (outsAt0 m c n h).1) (scr := fun n h => (outsAt0 m c n h).2)
    (a := fun t => iblk m c 0 t) (b := fun t => iblk m c 1 t) (fun t h l f => ?_) (fun t h l f => ?_) (fun t h l f => ?_)
    (X := fun _ => at2 (A m c main_arg0)) (Y := fun _ => at2 (A m c main_arg1))
    (fun s _ _ r l => iblk0 m c s r l) (fun s _ _ r f => iblk1 m c s r f) t h l f
  · show (outsAt0 m c t.val t.isLt).2 (ix2 l f) = _
    have hN : cfg0.N = 8 := N_0
    rw [outsAt0_A m c t h (by have := t.isLt; omega) (by omega)]
    frame_out
    exact pay1_apply (iblk m c 0 t) (iblk m c 1 t) l f
  · show (outsAt0 m c t.val t.isLt).2 (ix2 l f) = _
    by_cases h7 : t.val % 8 = 7
    on_goal 1 => rw [outsAt0_C m c t h (by omega) h7]
    on_goal 2 => rw [outsAt0_B m c t h (by omega) h7]
    all_goals
      frame_out
      simp only [read_unread_whole]
      exact pay2_apply (iblk m c 0 t) (iblk m c 1 t) _ l f
  · show (outsAt0 m c t.val t.isLt).1 (ix2 l f) = (outsAt0 m c t.val t.isLt).2 (ix2 l f)
    rw [outsAt0_C m c t (by omega) (by omega) h]
    frame_out
    exact pay3_apply _ l f

/-- The result array after the run. -/
theorem final2 : (dats m 0 c).arrAt 2 cfg0.N = arr2 (gw (at2 (A m c main_arg0)) (at2 (A m c main_arg1))) := by
  refine (dats m 0 c).arrAt_eq_of_covers 2 _ (by decide +kernel) fun t hf y => ?_
  idx_vars y
  exact (congrFun (after0_2 m c t) (ix2 y0 y1)).trans ((out_block m c t ((flush0_2 t).mp hf) y0 y1).trans
    (entry_at_corner (V := arr2 (gw (at2 (A m c main_arg0)) (at2 (A m c main_arg1)))) (fun _ _ => rfl) (r := y0) (l := y1)
      (corners t).2.2 rfl rfl (Nat.zero_add _).symm (Nat.zero_add _).symm).symm)

end Cert.Proof.DwOut
end
-- ==== Proof.DwOutReference.lean ====
/- The reference gradient of the output projection is the function the kernel's array holds. -/
module

public import proofs.«01_k».proof.Proof.Gen.DwOutRefIdeal.Read
public import proofs.«01_k».proof.Proof.DwOutArray

@[expose] public section

set_option maxRecDepth 16384

noncomputable section

namespace Cert.Proof.DwOutRef

open Cert.DwOutRefIdeal Cert.DwOutRefIdeal.Gen Cert.DwOutRefIdeal.Read Idealize.ShloMosaic Idealize.ShloMosaic.TcCoe Idealize.SL.Sem
open Wgrad (gw)

variable (x0 x1 : Vec Ideal S16384x1024 .f32)

theorem v2_apply (f l : Fin 1024) : val_main_v2 (F := Ideal) x0 x1 (ix2 f l) = gw (at2 x0) (at2 x1) l f := by
  unfold val_main_v2
  pointwise
  exact Wgrad.gw_comm (at2 x0) (at2 x1) l f

theorem v4_eq : val_main_v4 (F := Ideal) x0 x1 = arr2 (gw (at2 x0) (at2 x1)) :=
  eq_arr2 fun l f => by unfold val_main_v4 val_main_v3; pointwise [v2_apply]

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its result is the function of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v4) = arr2 (gw (at2 (B m c main_arg0)) (at2 (B m c main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.DwOutRefIdeal.Value.run (F := Ideal) m ρ)
  obtain ⟨h4, hargs⟩ := h c
  exact ⟨h4.trans ((val_main_v4_eq _ _).trans (v4_eq (B m c main_arg0) (B m c main_arg1))), hargs⟩

end Cert.Proof.DwOutRef
end
-- ==== Proof.DwOutClaim.lean ====
/- The kernel computes the reference's gradient of the output projection: the equation of the two programs. -/
module

public import proofs.«01_k».proof.Defs
public import proofs.«01_k».proof.Proof.DwOutReference
public import Idealize.ShloMosaic.Lib.Quiescent

@[expose] public section

set_option maxRecDepth 16384

noncomputable section

namespace Cert.Proof.DwOutClaim

open Idealize.ShloMosaic Idealize.ShloMosaic.TcCoe Idealize.SL.Sem Cert.Proof.DwOut

/-- The reference leaves its arguments as they were, and every counter at zero. -/
theorem reference_frame : Cert.quiescent_DwOutRefIdeal (hDwOutRefIdeal := Cert.DwOutRefIdeal.Gen.facts) :=
  fun m ρ _ => (θ_run Cert.DwOutRefIdeal.defs _ _).mono
    (fun r h => ⟨fun c => (h c).2, Idealize.ShloMosaic.sem_eq_zero_of_no_sems (by decide) r.2⟩)
    (Cert.DwOutRefIdeal.Value.run (F := Ideal) m ρ)

set_option maxHeartbeats 1000000 in
/-- The result array of the kernel is that of the reference. -/
theorem algebraic : Cert.algebraic_DwOutCallIdeal_DwOutRefIdeal
    (hDwOutCallIdeal := Cert.DwOutCallIdeal.Gen.facts) (hDwOutRefIdeal := Cert.DwOutRefIdeal.Gen.facts) := by
  intro m g m' g' _ hagree
  refine ⟨fun c => (Cert.DwOutCallIdeal.Gen.dats m 0 c).arrAt 2 Cert.DwOutCallIdeal.cfg0.N,
    Cert.DwOutCallIdeal.Value.run_blocks (F := Ideal) m g, ?_⟩
  refine (θ_run Cert.DwOutRefIdeal.defs _ _).mono (fun r h c => ?_) (DwOutRef.run m' g')
  obtain ⟨h4, hargs⟩ := h c
  obtain ⟨a0, a1⟩ := hagree c
  have e0 : DwOutRef.B m' c Cert.DwOutRefIdeal.main_arg0 = A m c Cert.DwOutCallIdeal.main_arg0 := a0
  have e1 : DwOutRef.B m' c Cert.DwOutRefIdeal.main_arg1 = A m c Cert.DwOutCallIdeal.main_arg1 := a1
  refine ⟨h4.trans (Eq.trans ?_ (final2 m c).symm), hargs⟩
  rw [e0, e1]

end Cert.Proof.DwOutClaim
end
-- ==== Proof.DwPgClaim.lean ====
/- The gradient of the weight of the input embedding's gate: the same two programs as for the output projection's, on another pair of arrays. -/
module

public import proofs.«01_k».proof.Proof.DwOutClaim
public import proofs.«01_k».proof.Proof.Gen.DwPgCallIdeal
public import proofs.«01_k».proof.Proof.Gen.DwPgRefIdeal

@[expose] public section

set_option maxRecDepth 16384

noncomputable section

namespace Cert.Proof.DwPgClaim

open Idealize.ShloMosaic

/-- The two calls have the same bodies. -/
theorem bodies : Cert.DwPgCallIdeal.defs₀ (F := Ideal) = Cert.DwOutCallIdeal.defs₀ := by
  unfold Cert.DwPgCallIdeal.defs₀ Cert.DwOutCallIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- … and so the same table of bodies, pipelines included. -/
theorem table : Cert.DwPgCallIdeal.defs (F := Ideal) = Cert.DwOutCallIdeal.defs :=
  congrArg (Pipeline.defs Cert.DwOutCallIdeal.pcfgs) bodies

/-- The reference leaves its arguments as they were, and every counter at zero. -/
theorem reference_frame : Cert.quiescent_DwPgRefIdeal (hDwPgRefIdeal := Cert.DwPgRefIdeal.Gen.facts) :=
  DwOutClaim.reference_frame

/-- The result array of the kernel is that of the reference. -/
theorem algebraic : Cert.algebraic_DwPgCallIdeal_DwPgRefIdeal
    (hDwPgCallIdeal := Cert.DwPgCallIdeal.Gen.facts) (hDwPgRefIdeal := Cert.DwPgRefIdeal.Gen.facts) := by
  intro m g m' g' h ha
  have k := DwOutClaim.algebraic m g m' g' h ha
  rw [← table] at k
  exact k

end Cert.Proof.DwPgClaim
end
-- ==== Proof.DwGaArray.lean ====
/- The gradient of a projection from the state-space width: what the result array ends holding, as a function of the arguments. -/
module

public import proofs.«01_k».proof.Proof.Gen.DwGaCallIdeal.Value
public import Idealize.ShloMosaic.Lib.Pointwise
public import Idealize.ShloMosaic.Lib.Pipeline.ValueKit
public import Idealize.ShloMosaic.Lib.Pipeline.ReadBack
public import proofs.«01_k».proof.Proof.Wgrad

@[expose] public section

set_option maxRecDepth 16384

noncomputable section

namespace Cert.Proof.DwGa

open Cert.DwGaCallIdeal Cert.DwGaCallIdeal.Gen Idealize.ShloMosaic Idealize.ShloMosaic.TcCoe Idealize.SL.Sem
open Idealize.ShloMosaic.Pipeline (Dat)
open Wgrad (gw row)

section Block

variable (a : Vec Ideal S2048x512 .bf16) (b : Vec Ideal S2048x1024 .bf16) (acc : Vec Ideal S512x1024 .f32) (l : Fin 512)
  (f : Fin 1024)

/-- The product of the two blocks over their rows. -/
theorem pay1_apply : k0_pay1 a b (ix2 l f) = ∑ r : Fin 2048, a (ix2 r l) * b (ix2 r f) := by unfold k0_pay1; pointwise

/-- The product added to what the scratch held. -/
theorem pay2_apply : k0_pay2 acc a b (ix2 l f) = acc (ix2 l f) + ∑ r : Fin 2048, a (ix2 r l) * b (ix2 r f) := by
  unfold k0_pay2; pointwise

/-- The narrower format holds the same number. -/
theorem pay3_apply : k0_pay3 acc (ix2 l f) = acc (ix2 l f) := by unfold k0_pay3; pointwise

end Block

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v0 : V m c main_v0 = A m c main_arg0 := by unfold_abbrev_sides; after_results; rfl
theorem V_v1 : V m c main_v1 = A m c main_arg1 := by unfold_abbrev_sides; after_results; rfl

/-- Where the windows have their blocks at point `t`. -/
theorem corners : ∀ t : Fin grid0.N,
    (win0_0.index t 0 * win0_0.size 0 = t.val % 8 * 2048 ∧ win0_0.index t 1 * win0_0.size 1 = 0)
    ∧ (win0_1.index t 0 * win0_1.size 0 = t.val % 8 * 2048 ∧ win0_1.index t 1 * win0_1.size 1 = 0)
    ∧ (win0_2.index t 0 * win0_2.size 0 = 0 ∧ win0_2.index t 1 * win0_2.size 1 = 0) := by decide +kernel

theorem iblk0 (s : Fin cfg0.N) (r : Fin 2048) (l : Fin 512) :
    (iblk m c 0 s : Vec Ideal S2048x512 .bf16) (ix2 r l) = at2 (A m c main_arg0) (row s.val r) l :=
  entry_at_corner (V := V m c main_v0) (fun i k => congrFun (V_v0 m c) (ix2 i k)) (r := r) (l := l) (corners s).1
    rfl rfl rfl (Nat.zero_add _).symm

theorem iblk1 (s : Fin cfg0.N) (r : Fin 2048) (f : Fin 1024) :
    (iblk m c 1 s : Vec Ideal S2048x1024 .bf16) (ix2 r f) = at2 (A m c main_arg1) (row s.val r) f :=
  entry_at_corner (V := V m c main_v1) (fun i k => congrFun (V_v1 m c) (ix2 i k)) (r := r) (l := f) (corners s).2.1
    rfl rfl rfl (Nat.zero_add _).symm

/-- The output block at the last point: the gradient, summed over all rows. -/
theorem out_block (t : Fin cfg0.N) (h : t.val % 8 = 7) (l : Fin 512) (f : Fin 1024) :
    (outsAt0 m c t.val t.isLt).1 (ix2 l f) = gw (at2 (A m c main_arg0)) (at2 (A m c main_arg1)) l f := by
  refine Wgrad.out_block (out := fun n h => (outsAt0 m c n h).1) (scr := fun n h => (outsAt0 m c n h).2)
    (a := fun t => iblk m c 0 t) (b := fun t => iblk m c 1 t) (fun t h l f => ?_) (fun t h l f => ?_) (fun t h l f => ?_)
    (X := fun _ => at2 (A m c main_arg0)) (Y := fun _ => at2 (A m c main_arg1))
    (fun s _ _ r l => iblk0 m c s r l) (fun s _ _ r f => iblk1 m c s r f) t h l f
  · show (outsAt0 m c t.val t.isLt).2 (ix2 l f) = _
    have hN : cfg0.N = 8 := N_0
    rw [outsAt0_A m c t h (by have := t.isLt; omega) (by omega)]
    frame_out
    exact pay1_apply (iblk m c 0 t) (iblk m c 1 t) l f
  · show (outsAt0 m c t.val t.isLt).2 (ix2 l f) = _
    by_cases h7 : t.val % 8 = 7
    on_goal 1 => rw [outsAt0_C m c t h (by omega) h7]
    on_goal 2 => rw [outsAt0_B m c t h (by omega) h7]
    all_goals
      frame_out
      simp only [read_unread_whole]
      exact pay2_apply (iblk m c 0 t) (iblk m c 1 t) _ l f
  · show (outsAt0 m c t.val t.isLt).1 (ix2 l f) = (outsAt0 m c t.val t.isLt).2 (ix2 l f)
    rw [outsAt0_C m c t (by omega) (by omega) h]
    frame_out
    exact pay3_apply _ l f

/-- The result array after the run. -/
theorem final2 : (dats m 0 c).arrAt 2 cfg0.N = arr2 (gw (at2 (A m c main_arg0)) (at2 (A m c main_arg1))) := by
  refine (dats m 0 c).arrAt_eq_of_covers 2 _ (by decide +kernel) fun t hf y => ?_
  idx_vars y
  exact (congrFun (after0_2 m c t) (ix2 y0 y1)).trans ((out_block m c t ((flush0_2 t).mp hf) y0 y1).trans
    (entry_at_corner (V := arr2 (gw (at2 (A m c main_arg0)) (at2 (A m c main_arg1)))) (fun _ _ => rfl) (r := y0) (l := y1)
      (corners t).2.2 rfl rfl (Nat.zero_add _).symm (Nat.zero_add _).symm).symm)

end Cert.Proof.DwGa
end
-- ==== Proof.DwGaReference.lean ====
/- The reference gradient of a projection from the state-space width is the function the kernel's array holds. -/
module

public import proofs.«01_k».proof.Proof.Gen.DwGaRefIdeal.Read
public import proofs.«01_k».proof.Proof.DwGaArray

@[expose] public section

set_option maxRecDepth 16384

noncomputable section

namespace Cert.Proof.DwGaRef

open Cert.DwGaRefIdeal Cert.DwGaRefIdeal.Gen Cert.DwGaRefIdeal.Read Idealize.ShloMosaic Idealize.ShloMosaic.TcCoe Idealize.SL.Sem
open Wgrad (gw)

variable (x0 : Vec Ideal S16384x512 .f32) (x1 : Vec Ideal S16384x1024 .f32)

theorem v2_apply (f : Fin 1024) (l : Fin 512) : val_main_v2 (F := Ideal) x0 x1 (ix2 f l) = gw (at2 x0) (at2 x1) l f := by
  unfold val_main_v2
  pointwise
  exact Wgrad.gw_comm (at2 x0) (at2 x1) l f

theorem v4_eq : val_main_v4 (F := Ideal) x0 x1 = arr2 (gw (at2 x0) (at2 x1)) :=
  eq_arr2 fun l f => by unfold val_main_v4 val_main_v3; pointwise [v2_apply]

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its result is the function of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v4) = arr2 (gw (at2 (B m c main_arg0)) (at2 (B m c main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.DwGaRefIdeal.Value.run (F := Ideal) m ρ)
  obtain ⟨h4, hargs⟩ := h c
  exact ⟨h4.trans ((val_main_v4_eq _ _).trans (v4_eq (B m c main_arg0) (B m c main_arg1))), hargs⟩

end Cert.Proof.DwGaRef
end
-- ==== Proof.DwGaClaim.lean ====
/- The kernel computes the reference's gradient of the linear unit's value projection: the equation of the two programs. -/
module

public import proofs.«01_k».proof.Defs
public import proofs.«01_k».proof.Proof.DwGaReference
public import Idealize.ShloMosaic.Lib.Quiescent

@[expose] public section

set_option maxRecDepth 16384

noncomputable section

namespace Cert.Proof.DwGaClaim

open Idealize.ShloMosaic Idealize.ShloMosaic.TcCoe Idealize.SL.Sem Cert.Proof.DwGa

/-- The reference leaves its arguments as they were, and every counter at zero. -/
theorem reference_frame : Cert.quiescent_DwGaRefIdeal (hDwGaRefIdeal := Cert.DwGaRefIdeal.Gen.facts) :=
  fun m ρ _ => (θ_run Cert.DwGaRefIdeal.defs _ _).mono
    (fun r h => ⟨fun c => (h c).2, Idealize.ShloMosaic.sem_eq_zero_of_no_sems (by decide) r.2⟩)
    (Cert.DwGaRefIdeal.Value.run (F := Ideal) m ρ)

set_option maxHeartbeats 1000000 in
/-- The result array of the kernel is that of the reference. -/
theorem algebraic : Cert.algebraic_DwGaCallIdeal_DwGaRefIdeal
    (hDwGaCallIdeal := Cert.DwGaCallIdeal.Gen.facts) (hDwGaRefIdeal := Cert.DwGaRefIdeal.Gen.facts) := by
  intro m g m' g' _ hagree
  refine ⟨fun c => (Cert.DwGaCallIdeal.Gen.dats m 0 c).arrAt 2 Cert.DwGaCallIdeal.cfg0.N,
    Cert.DwGaCallIdeal.Value.run_blocks (F := Ideal) m g, ?_⟩
  refine (θ_run Cert.DwGaRefIdeal.defs _ _).mono (fun r h c => ?_) (DwGaRef.run m' g')
  obtain ⟨h4, hargs⟩ := h c
  obtain ⟨a0, a1⟩ := hagree c
  have e0 : DwGaRef.B m' c Cert.DwGaRefIdeal.main_arg0 = A m c Cert.DwGaCallIdeal.main_arg0 := a0
  have e1 : DwGaRef.B m' c Cert.DwGaRefIdeal.main_arg1 = A m c Cert.DwGaCallIdeal.main_arg1 := a1
  refine ⟨h4.trans (Eq.trans ?_ (final2 m c).symm), hargs⟩
  rw [e0, e1]

end Cert.Proof.DwGaClaim
end
-- ==== Proof.DwGbClaim.lean ====
/- The gradient of the linear unit's gate projection: the same two programs as for its value's, on another cotangent. -/
module

public import proofs.«01_k».proof.Proof.DwGaClaim
public import proofs.«01_k».proof.Proof.Gen.DwGbCallIdeal
public import proofs.«01_k».proof.Proof.Gen.DwGbRefIdeal

@[expose] public section

set_option maxRecDepth 16384

noncomputable section

namespace Cert.Proof.DwGbClaim

open Idealize.ShloMosaic

/-- The two calls have the same bodies. -/
theorem bodies : Cert.DwGbCallIdeal.defs₀ (F := Ideal) = Cert.DwGaCallIdeal.defs₀ := by
  unfold Cert.DwGbCallIdeal.defs₀ Cert.DwGaCallIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- … and so the same table of bodies, pipelines included. -/
theorem table : Cert.DwGbCallIdeal.defs (F := Ideal) = Cert.DwGaCallIdeal.defs :=
  congrArg (Pipeline.defs Cert.DwGaCallIdeal.pcfgs) bodies

/-- The reference leaves its arguments as they were, and every counter at zero. -/
theorem reference_frame : Cert.quiescent_DwGbRefIdeal (hDwGbRefIdeal := Cert.DwGbRefIdeal.Gen.facts) :=
  DwGaClaim.reference_frame

/-- The result array of the kernel is that of the reference. -/
theorem algebraic : Cert.algebraic_DwGbCallIdeal_DwGbRefIdeal
    (hDwGbCallIdeal := Cert.DwGbCallIdeal.Gen.facts) (hDwGbRefIdeal := Cert.DwGbRefIdeal.Gen.facts) := by
  intro m g m' g' h ha
  have k := DwGaClaim.algebraic m g m' g' h ha
  rw [← table] at k
  exact k

end Cert.Proof.DwGbClaim
end
-- ==== Proof.DwApClaim.lean ====
/- The gradient of the attention branch's projection: the same two programs as for the linear unit's value, on other arrays. -/
module

public import proofs.«01_k».proof.Proof.DwGaClaim
public import proofs.«01_k».proof.Proof.Gen.DwApCallIdeal
public import proofs.«01_k».proof.Proof.Gen.DwApRefIdeal

@[expose] public section

set_option maxRecDepth 16384

noncomputable section

namespace Cert.Proof.DwApClaim

open Idealize.ShloMosaic

/-- The two calls have the same bodies. -/
theorem bodies : Cert.DwApCallIdeal.defs₀ (F := Ideal) = Cert.DwGaCallIdeal.defs₀ := by
  unfold Cert.DwApCallIdeal.defs₀ Cert.DwGaCallIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- … and so the same table of bodies, pipelines included. -/
theorem table : Cert.DwApCallIdeal.defs (F := Ideal) = Cert.DwGaCallIdeal.defs :=
  congrArg (Pipeline.defs Cert.DwGaCallIdeal.pcfgs) bodies

/-- The reference leaves its arguments as they were, and every counter at zero. -/
theorem reference_frame : Cert.quiescent_DwApRefIdeal (hDwApRefIdeal := Cert.DwApRefIdeal.Gen.facts) :=
  DwGaClaim.reference_frame

/-- The result array of the kernel is that of the reference. -/
theorem algebraic : Cert.algebraic_DwApCallIdeal_DwApRefIdeal
    (hDwApCallIdeal := Cert.DwApCallIdeal.Gen.facts) (hDwApRefIdeal := Cert.DwApRefIdeal.Gen.facts) := by
  intro m g m' g' h ha
  have k := DwGaClaim.algebraic m g m' g' h ha
  rw [← table] at k
  exact k

end Cert.Proof.DwApClaim
end
-- ==== Proof.DwInGArray.lean ====
/- The gates' part of the gradient of the input projection: what the result array ends holding, as a function of the arguments. -/
module

public import proofs.«01_k».proof.Proof.Gen.DwInGCallIdeal.Value
public import Idealize.ShloMosaic.Lib.Pointwise
public import Idealize.ShloMosaic.Lib.Pipeline.ValueKit
public import Idealize.ShloMosaic.Lib.Pipeline.ReadBack
public import proofs.«01_k».proof.Proof.Wgrad

@[expose] public section

set_option maxRecDepth 16384

noncomputable section

namespace Cert.Proof.DwInG

open Cert.DwInGCallIdeal Cert.DwInGCallIdeal.Gen Idealize.ShloMosaic Idealize.ShloMosaic.TcCoe Idealize.SL.Sem
open Idealize.ShloMosaic.Pipeline (Dat)
open Wgrad (norm row)

section Spec

variable (x : Vec Ideal S16384x1024 .f32) (g : Vec Ideal S1024 .f32) (ct : Vec Ideal S16384x2048 .f32)
  (dw : Vec Ideal S1024x7168 .f32)

/-- The gradient of the gates' columns: the normed rows against the cotangent, summed over all rows. -/
abbrev gw : Fin 1024 → Fin 2048 → EReal := Wgrad.gw (norm x g) (at2 ct)

/-- The whole gradient: in the gates' columns computed, in the others as given. -/
def wide (l : Fin 1024) (f : Fin 7168) : EReal :=
  if h : 5120 ≤ f.val then gw x g ct l ⟨f.val - 5120, by omega⟩ else dw (ix2 l f)

theorem wide_of_ge (l : Fin 1024) (f : Fin 7168) (f' : Fin 2048) (h : f.val = 5120 + f'.val) :
    wide x g ct dw l f = gw x g ct l f' := by
  have e : f' = ⟨f.val - 5120, by omega⟩ := Fin.ext (by show f'.val = f.val - 5120; omega)
  rw [e]
  exact dif_pos (by omega)

theorem wide_of_lt (l : Fin 1024) (f : Fin 7168) (h : ¬5120 ≤ f.val) : wide x g ct dw l f = dw (ix2 l f) := dif_neg h

end Spec

/-! ## What the body's payloads are at an index -/

section Block

variable (a b : Vec Ideal S2048x1024 .bf16) (acc : Vec Ideal S1024x1024 .f32) (l f : Fin 1024)

/-- The product of the two blocks over their rows. -/
theorem pay1_apply : k0_pay1 a b (ix2 l f) = ∑ r : Fin 2048, a (ix2 r l) * b (ix2 r f) := by unfold k0_pay1; pointwise

/-- The product added to what the scratch held. -/
theorem pay2_apply : k0_pay2 acc a b (ix2 l f) = acc (ix2 l f) + ∑ r : Fin 2048, a (ix2 r l) * b (ix2 r f) := by
  unfold k0_pay2; pointwise

/-- The narrower format holds the same number. -/
theorem pay3_apply : k0_pay3 acc (ix2 l f) = acc (ix2 l f) := by unfold k0_pay3; pointwise

end Block

variable (m : (ℓ : Loc nD τ sig) → Buf (Elt Ideal) ℓ) (c : Dev nD)

/-- Argument `b` of device `c`. -/
abbrev A (b : Ref sig .tc) : Buf (Elt Ideal) ((c : Thread nD τ).loc b) := m ((c : Thread nD τ).loc b)

theorem V_v14 : V m c main_v14 = A m c main_arg2 := by unfold_abbrev_sides; after_results; rfl
theorem V_v16 : V m c main_v16 = A m c main_arg3 := by unfold_abbrev_sides; after_results; rfl
theorem V_v13 (i : Fin 16384) (l : Fin 1024) : V m c main_v13 (ix2 i l) = norm (A m c main_arg0) (A m c main_arg1) i l := by
  unfold_abbrev_sides; after_results; pointwise; rfl

/-- Column `f` of point `t`'s block, as a column of the cotangent. -/
def col (t : Fin cfg0.N) (f : Fin 1024) : Fin 2048 :=
  ⟨t.val / 8 * 1024 + f.val, by have h := t.isLt; have hN : cfg0.N = 16 := N_0; have := f.isLt; omega⟩

/-- Where the windows have their blocks at point `t`. -/
theorem corners : ∀ t : Fin grid0.N,
    (win0_0.index t 0 * win0_0.size 0 = t.val % 8 * 2048 ∧ win0_0.index t 1 * win0_0.size 1 = 0)
    ∧ (win0_1.index t 0 * win0_1.size 0 = t.val % 8 * 2048 ∧ win0_1.index t 1 * win0_1.size 1 = t.val / 8 * 1024)
    ∧ (win0_2.index t 0 * win0_2.size 0 = 0 ∧ win0_2.index t 1 * win0_2.size 1 = 5120 + t.val / 8 * 1024) := by decide +kernel

theorem iblk0 (s : Fin cfg0.N) (r : Fin 2048) (l : Fin 1024) :
    (iblk m c 0 s : Vec Ideal S2048x1024 .bf16) (ix2 r l) = norm (A m c main_arg0) (A m c main_arg1) (row s.val r) l :=
  entry_at_corner (V := V m c main_v13) (V_v13 m c) (r := r) (l := l) (corners s).1 rfl rfl rfl (Nat.zero_add _).symm

theorem iblk1 (s t : Fin cfg0.N) (h : s.val / 8 = t.val / 8) (r : Fin 2048) (f : Fin 1024) :
    (iblk m c 1 s : Vec Ideal S2048x1024 .bf16) (ix2 r f) = at2 (A m c main_arg2) (row s.val r) (col t f) :=
  entry_at_corner (V := V m c main_v14) (fun i k => congrFun (V_v14 m c) (ix2 i k)) (r := r) (l := f) (corners s).2.1 rfl rfl rfl
    (congrArg (· * 1024 + f.val) h.symm)

/-- The output block at the last point of a run: the gradient there, summed over all rows. -/
theorem out_block (t : Fin cfg0.N) (h : t.val % 8 = 7) (l f : Fin 1024) :
    (outsAt0 m c t.val t.isLt).1 (ix2 l f) = gw (A m c main_arg0) (A m c main_arg1) (A m c main_arg2) l (col t f) := by
  refine Wgrad.out_block (out := fun n h => (outsAt0 m c n h).1) (scr := fun n h => (outsAt0 m c n h).2)
    (a := fun t => iblk m c 0 t) (b := fun t => iblk m c 1 t) (fun t h l f => ?_) (fun t h l f => ?_) (fun t h l f => ?_)
    (X := fun _ => norm (A m c main_arg0) (A m c main_arg1)) (Y := fun t i f => at2 (A m c main_arg2) i (col t f))
    (fun s _ _ r l => iblk0 m c s r l) (fun s t h r f => iblk1 m c s t h r f) t h l f
  · show (outsAt0 m c t.val t.isLt).2 (ix2 l f) = _
    rw [outsAt0_A m c t h (by omega) (by omega)]
    frame_out
    exact pay1_apply (iblk m c 0 t) (iblk m c 1 t) l f
  · show (outsAt0 m c t.val t.isLt).2 (ix2 l f) = _
    by_cases h7 : t.val % 8 = 7
    on_goal 1 => rw [outsAt0_C m c t h (by omega) h7]
    on_goal 2 => rw [outsAt0_B m c t h (by omega) h7]
    all_goals
      frame_out
      simp only [read_unread_whole]
      exact pay2_apply (iblk m c 0 t) (iblk m c 1 t) _ l f
  · show (outsAt0 m c t.val t.isLt).1 (ix2 l f) = (outsAt0 m c t.val t.isLt).2 (ix2 l f)
    rw [outsAt0_C m c t (by omega) (by omega) h]
    frame_out
    exact pay3_apply _ l f

/-- The whole gradient of this device's arguments. -/
abbrev G : Fin 1024 → Fin 7168 → EReal := wide (A m c main_arg0) (A m c main_arg1) (A m c main_arg2) (A m c main_arg3)

/-- The result array by its blocks: the gates' written, the others as the call found them. -/
theorem final2_blocks : (dats m 0 c).arrAt 2 cfg0.N = fun i =>
    if 5 ≤ (i 1 : Nat) / 1024 then arr2 (G m c) i else (dats m 0 c).A 2 i := by
  refine (dats m 0 c).arrAt_eq_of_coversWhere 2 _ (fun β => 5 ≤ β (1 : Fin _)) (by decide +kernel) (fun t hf y => ?_) (fun j => Iff.rfl)
  have e := (corners t).2.2
  let y0 : Fin 1024 := win0_2.xinj (grid0.coords t) y 0
  let y1 : Fin 1024 := win0_2.xinj (grid0.coords t) y 1
  have hy : win0_2.xinj (grid0.coords t) y = ix2 y0 y1 := two_eq rfl rfl
  refine (congrFun (after0_2 m c t) _).trans ((congrArg _ hy).trans ((out_block m c t ((flush0_2 t).mp hf) y0 y1).trans
    ((wide_of_ge _ _ _ (A m c main_arg3) _ _ _ ?_).symm.trans (congrArg₂ (G m c) (Fin.ext ?_) rfl))))
  · show win0_2.index t 1 * win0_2.size 1 + 1 * y1.val = 5120 + (t.val / 8 * 1024 + y1.val)
    rw [e.2]; omega
  · show y0.val = win0_2.index t 0 * win0_2.size 0 + 1 * y0.val
    rw [e.1]; omega

/-- The result array after the run. -/
theorem final2 : (dats m 0 c).arrAt 2 cfg0.N = arr2 (G m c) := by
  rw [final2_blocks]
  refine eq_arr2 fun l f => ?_
  by_cases h : 5120 ≤ f.val
  · exact if_pos (show 5 ≤ f.val / 1024 by omega)
  · exact (if_neg (show ¬ 5 ≤ f.val / 1024 by omega)).trans ((congrFun (V_v16 m c) (ix2 l f)).trans (wide_of_lt _ _ _ _ l f h).symm)

end Cert.Proof.DwInG
end
-- ==== Proof.DwInGReference.lean ====
/- The reference gradient of the input projection, the gates' columns computed, is the function the kernel's array holds. -/
module

public import proofs.«01_k».proof.Proof.Gen.DwInGRefIdeal.Read
public import proofs.«01_k».proof.Proof.DwGateReference
public import proofs.«01_k».proof.Proof.DwInGArray

@[expose] public section

set_option maxRecDepth 16384

noncomputable section

namespace Cert.Proof.DwInGRef

open Cert.DwInGRefIdeal Cert.DwInGRefIdeal.Gen Cert.DwInGRefIdeal.Read Idealize.ShloMosaic Idealize.ShloMosaic.TcCoe Idealize.SL.Sem
open Cert.Proof.DwInG (gw wide)
open Cert.Proof.Wgrad (norm)

variable (x0 : Vec Ideal S16384x1024 .f32) (x1 : Vec Ideal S1024 .f32) (x2 : Vec Ideal S16384x2048 .f32)
  (x3 : Vec Ideal S1024x7168 .f32)

/-- The norm is the one of the other gradients' reference. -/
theorem v13_apply (i : Fin 16384) (l : Fin 1024) : val_main_v13 (F := Ideal) x0 x1 (ix2 i l) = norm x0 x1 i l :=
  DwGateRef.v13_apply x0 x1 i l

theorem v16_apply (l : Fin 1024) (f : Fin 2048) : val_main_v16 (F := Ideal) x0 x1 x2 (ix2 l f) = gw x0 x1 x2 l f := by
  unfold val_main_v16 val_main_v15
  pointwise [v13_apply]
  exact Wgrad.gw_comm (norm x0 x1) (at2 x2) l f

theorem v19_eq : val_main_v19 (F := Ideal) x0 x1 x2 x3 = arr2 (wide x0 x1 x2 x3) :=
  eq_arr2 fun l f => by
    unfold val_main_v19 val_main_v18 val_main_v17
    pointwise [v16_apply]
    by_cases h : f.val < 5120
    · exact (dif_pos h).trans (DwInG.wide_of_lt x0 x1 x2 x3 l f (by omega)).symm
    · exact (dif_neg h).trans (DwInG.wide_of_ge x0 x1 x2 x3 l f ⟨f.val - 5120, by omega⟩ (by show f.val = 5120 + (f.val - 5120); omega)).symm

variable (m : (ℓ : Loc nD τ sig) → Buf (Elt Ideal) ℓ) (ρ : Dev nD → PrngReg)

/-- Argument `b` of device `c`. -/
abbrev B (c : Dev nD) (b : Ref sig .tc) : Buf (Elt Ideal) ((c : Thread nD τ).loc b) := m ((c : Thread nD τ).loc b)

/-- The reference's run, read: its result is the function of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v19)
        = arr2 (wide (B m c main_arg0) (B m c main_arg1) (B m c main_arg2) (B m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.DwInGRefIdeal.Value.run (F := Ideal) m ρ)
  obtain ⟨h19, hargs⟩ := h c
  exact ⟨h19.trans ((val_main_v19_eq _ _ _ _).trans
    (v19_eq (B m c main_arg0) (B m c main_arg1) (B m c main_arg2) (B m c main_arg3))), hargs⟩

end Cert.Proof.DwInGRef
end
-- ==== Proof.DwInGClaim.lean ====
/- The kernel computes the reference's gradient of the input projection, in the gates' columns: the equation of the two programs. -/
module

public import proofs.«01_k».proof.Defs
public import proofs.«01_k».proof.Proof.DwInGReference
public import Idealize.ShloMosaic.Lib.Quiescent

@[expose] public section

set_option maxRecDepth 16384

noncomputable section

namespace Cert.Proof.DwInGClaim

open Idealize.ShloMosaic Idealize.ShloMosaic.TcCoe Idealize.SL.Sem Cert.Proof.DwInG

/-- The reference leaves its arguments as they were, and every counter at zero. -/
theorem reference_frame : Cert.quiescent_DwInGRefIdeal (hDwInGRefIdeal := Cert.DwInGRefIdeal.Gen.facts) :=
  fun m ρ _ => (θ_run Cert.DwInGRefIdeal.defs _ _).mono
    (fun r h => ⟨fun c => (h c).2, Idealize.ShloMosaic.sem_eq_zero_of_no_sems (by decide) r.2⟩)
    (Cert.DwInGRefIdeal.Value.run (F := Ideal) m ρ)

set_option maxHeartbeats 1000000 in
/-- The result array of the kernel is that of the reference. -/
theorem algebraic : Cert.algebraic_DwInGCallIdeal_DwInGRefIdeal
    (hDwInGCallIdeal := Cert.DwInGCallIdeal.Gen.facts) (hDwInGRefIdeal := Cert.DwInGRefIdeal.Gen.facts) := by
  intro m g m' g' _ hagree
  refine ⟨fun c => (Cert.DwInGCallIdeal.Gen.dats m 0 c).arrAt 2 Cert.DwInGCallIdeal.cfg0.N,
    Cert.DwInGCallIdeal.Value.run_blocks (F := Ideal) m g, ?_⟩
  refine (θ_run Cert.DwInGRefIdeal.defs _ _).mono (fun r h c => ?_) (DwInGRef.run m' g')
  obtain ⟨h19, hargs⟩ := h c
  obtain ⟨a0, a1, a2, a3⟩ := hagree c
  have e0 : DwInGRef.B m' c Cert.DwInGRefIdeal.main_arg0 = A m c Cert.DwInGCallIdeal.main_arg0 := a0
  have e1 : DwInGRef.B m' c Cert.DwInGRefIdeal.main_arg1 = A m c Cert.DwInGCallIdeal.main_arg1 := a1
  have e2 : DwInGRef.B m' c Cert.DwInGRefIdeal.main_arg2 = A m c Cert.DwInGCallIdeal.main_arg2 := a2
  have e3 : DwInGRef.B m' c Cert.DwInGRefIdeal.main_arg3 = A m c Cert.DwInGCallIdeal.main_arg3 := a3
  refine ⟨h19.trans (Eq.trans ?_ (final2 m c).symm), hargs⟩
  rw [e0, e1, e2, e3]

end Cert.Proof.DwInGClaim
end
-- ==== Proof.lean ====
/- The proof of the claims: of each call, its frames and its value, from the modules that prove them. -/
module

public import proofs.«01_k».proof.Defs
public import proofs.«01_k».proof.Proof.MergeClaim
public import proofs.«01_k».proof.Proof.InClaim
public import proofs.«01_k».proof.Proof.UpClaim
public import proofs.«01_k».proof.Proof.DownClaim
public import proofs.«01_k».proof.Proof.GateClaim
public import proofs.«01_k».proof.Proof.DwDownClaim
public import proofs.«01_k».proof.Proof.DwGateClaim
public import proofs.«01_k».proof.Proof.HeadClaim
public import proofs.«01_k».proof.Proof.DwUpClaim
public import proofs.«01_k».proof.Proof.ZGatesClaim
public import proofs.«01_k».proof.Proof.DwQkvClaim
public import proofs.«01_k».proof.Proof.GluClaim
public import proofs.«01_k».proof.Proof.OutProjClaim
public import proofs.«01_k».proof.Proof.DwOutClaim
public import proofs.«01_k».proof.Proof.DwPgClaim
public import proofs.«01_k».proof.Proof.DwGaClaim
public import proofs.«01_k».proof.Proof.DwGbClaim
public import proofs.«01_k».proof.Proof.DwApClaim
public import proofs.«01_k».proof.Proof.DwInGClaim
public import proofs.«01_k».proof.Proof.Gen.MergeBwd.Frame
public import proofs.«01_k».proof.Proof.Gen.MergeBwdIdeal.Frame
public import proofs.«01_k».proof.Proof.Gen.InCall.Frame
public import proofs.«01_k».proof.Proof.Gen.InCallIdeal.Frame
public import proofs.«01_k».proof.Proof.Gen.UpCall.Frame
public import proofs.«01_k».proof.Proof.Gen.UpCallIdeal.Frame
public import proofs.«01_k».proof.Proof.Gen.DownCall.Frame
public import proofs.«01_k».proof.Proof.Gen.DownCallIdeal.Frame
public import proofs.«01_k».proof.Proof.Gen.GateCall.Frame
public import proofs.«01_k».proof.Proof.Gen.GateCallIdeal.Frame
public import proofs.«01_k».proof.Proof.Gen.DwDownCall.Frame
public import proofs.«01_k».proof.Proof.Gen.DwDownCallIdeal.Frame
public import proofs.«01_k».proof.Proof.Gen.DwGateCall.Frame
public import proofs.«01_k».proof.Proof.Gen.DwGateCallIdeal.Frame
public import proofs.«01_k».proof.Proof.Gen.HeadCall.Frame
public import proofs.«01_k».proof.Proof.Gen.HeadCallIdeal.Frame
public import proofs.«01_k».proof.Proof.Gen.DwUpCall.Frame
public import proofs.«01_k».proof.Proof.Gen.DwUpCallIdeal.Frame
public import proofs.«01_k».proof.Proof.Gen.ZGatesCall.Frame
public import proofs.«01_k».proof.Proof.Gen.ZGatesCallIdeal.Frame
public import proofs.«01_k».proof.Proof.Gen.DwQkvCall.Frame
public import proofs.«01_k».proof.Proof.Gen.DwQkvCallIdeal.Frame
public import proofs.«01_k».proof.Proof.Gen.GluCall.Frame
public import proofs.«01_k».proof.Proof.Gen.GluCallIdeal.Frame
public import proofs.«01_k».proof.Proof.Gen.OutProjCall.Frame
public import proofs.«01_k».proof.Proof.Gen.OutProjCallIdeal.Frame
public import proofs.«01_k».proof.Proof.Gen.DwOutCall.Frame
public import proofs.«01_k».proof.Proof.Gen.DwOutCallIdeal.Frame
public import proofs.«01_k».proof.Proof.Gen.DwPgCall.Frame
public import proofs.«01_k».proof.Proof.Gen.DwPgCallIdeal.Frame
public import proofs.«01_k».proof.Proof.Gen.DwGaCall.Frame
public import proofs.«01_k».proof.Proof.Gen.DwGaCallIdeal.Frame
public import proofs.«01_k».proof.Proof.Gen.DwGbCall.Frame
public import proofs.«01_k».proof.Proof.Gen.DwGbCallIdeal.Frame
public import proofs.«01_k».proof.Proof.Gen.DwApCall.Frame
public import proofs.«01_k».proof.Proof.Gen.DwApCallIdeal.Frame
public import proofs.«01_k».proof.Proof.Gen.DwInGCall.Frame
public import proofs.«01_k».proof.Proof.Gen.DwInGCallIdeal.Frame
public import proofs.«01_k».proof.Proof.Gen.Pre_finite
public import proofs.«01_k».proof.Proof.Gen.On_qkv_columns
public import Idealize.ShloMosaic.Adequacy
public import Idealize.ShloMosaic.Init

@[expose] public section

noncomputable section

namespace Cert.Proof

open Idealize.ShloMosaic Idealize.SL.Sem

/-- Every claim of the statement. -/
theorem claim : Cert.Claim := ⟨
  Cert.MergeBwd.Gen.facts, Cert.MergeBwdIdeal.Gen.facts, Cert.MergeRefIdeal.Gen.facts, Cert.InCall.Gen.facts,
  Cert.InCallIdeal.Gen.facts, Cert.InRefIdeal.Gen.facts, Cert.UpCall.Gen.facts, Cert.UpCallIdeal.Gen.facts,
  Cert.UpRefIdeal.Gen.facts, Cert.DownCall.Gen.facts, Cert.DownCallIdeal.Gen.facts, Cert.DownRefIdeal.Gen.facts,
  Cert.GateCall.Gen.facts, Cert.GateCallIdeal.Gen.facts, Cert.GateRefIdeal.Gen.facts, Cert.DwDownCall.Gen.facts,
  Cert.DwDownCallIdeal.Gen.facts, Cert.DwDownRefIdeal.Gen.facts, Cert.DwGateCall.Gen.facts, Cert.DwGateCallIdeal.Gen.facts,
  Cert.DwGateRefIdeal.Gen.facts, Cert.HeadCall.Gen.facts, Cert.HeadCallIdeal.Gen.facts, Cert.HeadRefIdeal.Gen.facts,
  Cert.DwUpCall.Gen.facts, Cert.DwUpCallIdeal.Gen.facts, Cert.DwUpRefIdeal.Gen.facts, Cert.ZGatesCall.Gen.facts,
  Cert.ZGatesCallIdeal.Gen.facts, Cert.ZGatesRefIdeal.Gen.facts, Cert.DwQkvCall.Gen.facts, Cert.DwQkvCallIdeal.Gen.facts,
  Cert.DwQkvRefIdeal.Gen.facts, Cert.GluCall.Gen.facts, Cert.GluCallIdeal.Gen.facts, Cert.GluRefIdeal.Gen.facts,
  Cert.OutProjCall.Gen.facts, Cert.OutProjCallIdeal.Gen.facts, Cert.OutProjRefIdeal.Gen.facts, Cert.DwOutCall.Gen.facts,
  Cert.DwOutCallIdeal.Gen.facts, Cert.DwOutRefIdeal.Gen.facts, Cert.DwPgCall.Gen.facts, Cert.DwPgCallIdeal.Gen.facts,
  Cert.DwPgRefIdeal.Gen.facts, Cert.DwGaCall.Gen.facts, Cert.DwGaCallIdeal.Gen.facts, Cert.DwGaRefIdeal.Gen.facts,
  Cert.DwGbCall.Gen.facts, Cert.DwGbCallIdeal.Gen.facts, Cert.DwGbRefIdeal.Gen.facts, Cert.DwApCall.Gen.facts,
  Cert.DwApCallIdeal.Gen.facts, Cert.DwApRefIdeal.Gen.facts, Cert.DwInGCall.Gen.facts, Cert.DwInGCallIdeal.Gen.facts,
  Cert.DwInGRefIdeal.Gen.facts, Cert.Pre_finite.Gen.facts, Cert.On_qkv_columns.Gen.facts,
  fun m ρ _ => Cert.MergeBwd.Gen.frame m ρ, fun m ρ _ => Cert.MergeBwdIdeal.Gen.frame m ρ, MergeClaim.reference_frame,
  fun m ρ _ => Cert.InCall.Gen.frame m ρ, fun m ρ _ => Cert.InCallIdeal.Gen.frame m ρ, InClaim.reference_frame,
  fun m ρ _ => Cert.UpCall.Gen.frame m ρ, fun m ρ _ => Cert.UpCallIdeal.Gen.frame m ρ, UpClaim.reference_frame,
  fun m ρ _ => Cert.DownCall.Gen.frame m ρ, fun m ρ _ => Cert.DownCallIdeal.Gen.frame m ρ,
  fun m ρ _ => Cert.DownCallIdeal.Gen.frame m ρ, DownClaim.reference_frame, DownClaim.reference_frame_finite,
  fun m ρ _ => Cert.GateCall.Gen.frame m ρ, fun m ρ _ => Cert.GateCallIdeal.Gen.frame m ρ, GateClaim.reference_frame,
  fun m ρ _ => Cert.DwDownCall.Gen.frame m ρ, fun m ρ _ => Cert.DwDownCallIdeal.Gen.frame m ρ, DwDownClaim.reference_frame,
  fun m ρ _ => Cert.DwGateCall.Gen.frame m ρ, fun m ρ _ => Cert.DwGateCallIdeal.Gen.frame m ρ, DwGateClaim.reference_frame,
  fun m ρ _ => Cert.HeadCall.Gen.frame m ρ, fun m ρ _ => Cert.HeadCallIdeal.Gen.frame m ρ, HeadClaim.reference_frame,
  fun m ρ _ => Cert.DwUpCall.Gen.frame m ρ, fun m ρ _ => Cert.DwUpCallIdeal.Gen.frame m ρ, DwUpClaim.reference_frame,
  fun m ρ _ => Cert.ZGatesCall.Gen.frame m ρ, fun m ρ _ => Cert.ZGatesCallIdeal.Gen.frame m ρ, ZGatesClaim.reference_frame,
  fun m ρ _ => Cert.DwQkvCall.Gen.frame m ρ, fun m ρ _ => Cert.DwQkvCallIdeal.Gen.frame m ρ, DwQkvClaim.reference_frame,
  fun m ρ _ => Cert.GluCall.Gen.frame m ρ, fun m ρ _ => Cert.GluCallIdeal.Gen.frame m ρ, GluClaim.reference_frame,
  fun m ρ _ => Cert.OutProjCall.Gen.frame m ρ, fun m ρ _ => Cert.OutProjCallIdeal.Gen.frame m ρ, OutProjClaim.reference_frame,
  fun m ρ _ => Cert.DwOutCall.Gen.frame m ρ, fun m ρ _ => Cert.DwOutCallIdeal.Gen.frame m ρ, DwOutClaim.reference_frame,
  fun m ρ _ => Cert.DwPgCall.Gen.frame m ρ, fun m ρ _ => Cert.DwPgCallIdeal.Gen.frame m ρ, DwPgClaim.reference_frame,
  fun m ρ _ => Cert.DwGaCall.Gen.frame m ρ, fun m ρ _ => Cert.DwGaCallIdeal.Gen.frame m ρ, DwGaClaim.reference_frame,
  fun m ρ _ => Cert.DwGbCall.Gen.frame m ρ, fun m ρ _ => Cert.DwGbCallIdeal.Gen.frame m ρ, DwGbClaim.reference_frame,
  fun m ρ _ => Cert.DwApCall.Gen.frame m ρ, fun m ρ _ => Cert.DwApCallIdeal.Gen.frame m ρ, DwApClaim.reference_frame,
  fun m ρ _ => Cert.DwInGCall.Gen.frame m ρ, fun m ρ _ => Cert.DwInGCallIdeal.Gen.frame m ρ, DwInGClaim.reference_frame,
  trivial, MergeClaim.algebraic, trivial, InClaim.algebraic, trivial, UpClaim.algebraic, trivial, DownClaim.algebraic, trivial,
  GateClaim.algebraic, trivial, DwDownClaim.algebraic, trivial, DwGateClaim.algebraic, trivial, HeadClaim.algebraic, trivial,
  DwUpClaim.algebraic, trivial, ZGatesClaim.algebraic, trivial, DwQkvClaim.algebraic, trivial, GluClaim.algebraic, trivial,
  OutProjClaim.algebraic, trivial, DwOutClaim.algebraic, trivial, DwPgClaim.algebraic, trivial, DwGaClaim.algebraic, trivial,
  DwGbClaim.algebraic, trivial, DwApClaim.algebraic, trivial, DwInGClaim.algebraic⟩

end Cert.Proof

end
